-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)) (v3 : (c : Dev Cert.Kernel4Ideal.nD) → Buf (Elt Ideal) ((c.tc : Thread Cert.Kernel4Ideal.nD Cert.Kernel4Ideal.τ).loc Cert.Kernel4Ideal.main_v40_3)) (v4 : (c : Dev Cert.Kernel4Ideal.nD) → Buf (Elt Ideal) ((c.tc : Thread Cert.Kernel4Ideal.nD Cert.Kernel4Ideal.τ).loc Cert.Kernel4Ideal.main_v40_4)) (v5 : (c : Dev Cert.Kernel4Ideal.nD) → Buf (Elt Ideal) ((c.tc : Thread Cert.Kernel4Ideal.nD Cert.Kernel4Ideal.τ).loc Cert.Kernel4Ideal.main_v40_5)) (v6 : (c : Dev Cert.Kernel4Ideal.nD) → Buf (Elt Ideal) ((c.tc : Thread Cert.Kernel4Ideal.nD Cert.Kernel4Ideal.τ).loc Cert.Kernel4Ideal.main_v40_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_v40_3) = v3 c
          ∧ r.2.mem ((c.tc : Thread Cert.Kernel4Ideal.nD Cert.Kernel4Ideal.τ).loc Cert.Kernel4Ideal.main_v40_4) = v4 c
          ∧ r.2.mem ((c.tc : Thread Cert.Kernel4Ideal.nD Cert.Kernel4Ideal.τ).loc Cert.Kernel4Ideal.main_v40_5) = v5 c
          ∧ r.2.mem ((c.tc : Thread Cert.Kernel4Ideal.nD Cert.Kernel4Ideal.τ).loc Cert.Kernel4Ideal.main_v40_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v76) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v78) = v5 c
          ∧ r.2.mem ((c.tc : Thread Cert.Reference4Ideal.nD Cert.Reference4Ideal.τ).loc Cert.Reference4Ideal.main_v79) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v70_0)) (v1 : (c : Dev Cert.Kernel5Ideal.nD) → Buf (Elt Ideal) ((c.tc : Thread Cert.Kernel5Ideal.nD Cert.Kernel5Ideal.τ).loc Cert.Kernel5Ideal.main_v70_1)) (v2 : (c : Dev Cert.Kernel5Ideal.nD) → Buf (Elt Ideal) ((c.tc : Thread Cert.Kernel5Ideal.nD Cert.Kernel5Ideal.τ).loc Cert.Kernel5Ideal.main_v70_2)) (v3 : (c : Dev Cert.Kernel5Ideal.nD) → Buf (Elt Ideal) ((c.tc : Thread Cert.Kernel5Ideal.nD Cert.Kernel5Ideal.τ).loc Cert.Kernel5Ideal.main_v70_3)) (v4 : (c : Dev Cert.Kernel5Ideal.nD) → Buf (Elt Ideal) ((c.tc : Thread Cert.Kernel5Ideal.nD Cert.Kernel5Ideal.τ).loc Cert.Kernel5Ideal.main_v70_4)) (v5 : (c : Dev Cert.Kernel5Ideal.nD) → Buf (Elt Ideal) ((c.tc : Thread Cert.Kernel5Ideal.nD Cert.Kernel5Ideal.τ).loc Cert.Kernel5Ideal.main_v70_5)) (v6 : (c : Dev Cert.Kernel5Ideal.nD) → Buf (Elt Ideal) ((c.tc : Thread Cert.Kernel5Ideal.nD Cert.Kernel5Ideal.τ).loc Cert.Kernel5Ideal.main_v70_6)) (v7 : (c : Dev Cert.Kernel5Ideal.nD) → Buf (Elt Ideal) ((c.tc : Thread Cert.Kernel5Ideal.nD Cert.Kernel5Ideal.τ).loc Cert.Kernel5Ideal.main_v70_7)) (v8 : (c : Dev Cert.Kernel5Ideal.nD) → Buf (Elt Ideal) ((c.tc : Thread Cert.Kernel5Ideal.nD Cert.Kernel5Ideal.τ).loc Cert.Kernel5Ideal.main_v70_8)) (v9 : (c : Dev Cert.Kernel5Ideal.nD) → Buf (Elt Ideal) ((c.tc : Thread Cert.Kernel5Ideal.nD Cert.Kernel5Ideal.τ).loc Cert.Kernel5Ideal.main_v70_9)) (v10 : (c : Dev Cert.Kernel5Ideal.nD) → Buf (Elt Ideal) ((c.tc : Thread Cert.Kernel5Ideal.nD Cert.Kernel5Ideal.τ).loc Cert.Kernel5Ideal.main_v70_10)) (v11 : (c : Dev Cert.Kernel5Ideal.nD) → Buf (Elt Ideal) ((c.tc : Thread Cert.Kernel5Ideal.nD Cert.Kernel5Ideal.τ).loc Cert.Kernel5Ideal.main_v70_11)) (v12 : (c : Dev Cert.Kernel5Ideal.nD) → Buf (Elt Ideal) ((c.tc : Thread Cert.Kernel5Ideal.nD Cert.Kernel5Ideal.τ).loc Cert.Kernel5Ideal.main_v70_12)) (v13 : (c : Dev Cert.Kernel5Ideal.nD) → Buf (Elt Ideal) ((c.tc : Thread Cert.Kernel5Ideal.nD Cert.Kernel5Ideal.τ).loc Cert.Kernel5Ideal.main_v70_13)) (v14 : (c : Dev Cert.Kernel5Ideal.nD) → Buf (Elt Ideal) ((c.tc : Thread Cert.Kernel5Ideal.nD Cert.Kernel5Ideal.τ).loc Cert.Kernel5Ideal.main_v70_14)) (v15 : (c : Dev Cert.Kernel5Ideal.nD) → Buf (Elt Ideal) ((c.tc : Thread Cert.Kernel5Ideal.nD Cert.Kernel5Ideal.τ).loc Cert.Kernel5Ideal.main_v70_15)) (v16 : (c : Dev Cert.Kernel5Ideal.nD) → Buf (Elt Ideal) ((c.tc : Thread Cert.Kernel5Ideal.nD Cert.Kernel5Ideal.τ).loc Cert.Kernel5Ideal.main_v70_16)) (v17 : (c : Dev Cert.Kernel5Ideal.nD) → Buf (Elt Ideal) ((c.tc : Thread Cert.Kernel5Ideal.nD Cert.Kernel5Ideal.τ).loc Cert.Kernel5Ideal.main_v70_17)) (v18 : (c : Dev Cert.Kernel5Ideal.nD) → Buf (Elt Ideal) ((c.tc : Thread Cert.Kernel5Ideal.nD Cert.Kernel5Ideal.τ).loc Cert.Kernel5Ideal.main_v70_18)) (v19 : (c : Dev Cert.Kernel5Ideal.nD) → Buf (Elt Ideal) ((c.tc : Thread Cert.Kernel5Ideal.nD Cert.Kernel5Ideal.τ).loc Cert.Kernel5Ideal.main_v70_19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v70_0) = v0 c
          ∧ r.2.mem ((c.tc : Thread Cert.Kernel5Ideal.nD Cert.Kernel5Ideal.τ).loc Cert.Kernel5Ideal.main_v70_1) = v1 c
          ∧ r.2.mem ((c.tc : Thread Cert.Kernel5Ideal.nD Cert.Kernel5Ideal.τ).loc Cert.Kernel5Ideal.main_v70_2) = v2 c
          ∧ r.2.mem ((c.tc : Thread Cert.Kernel5Ideal.nD Cert.Kernel5Ideal.τ).loc Cert.Kernel5Ideal.main_v70_3) = v3 c
          ∧ r.2.mem ((c.tc : Thread Cert.Kernel5Ideal.nD Cert.Kernel5Ideal.τ).loc Cert.Kernel5Ideal.main_v70_4) = v4 c
          ∧ r.2.mem ((c.tc : Thread Cert.Kernel5Ideal.nD Cert.Kernel5Ideal.τ).loc Cert.Kernel5Ideal.main_v70_5) = v5 c
          ∧ r.2.mem ((c.tc : Thread Cert.Kernel5Ideal.nD Cert.Kernel5Ideal.τ).loc Cert.Kernel5Ideal.main_v70_6) = v6 c
          ∧ r.2.mem ((c.tc : Thread Cert.Kernel5Ideal.nD Cert.Kernel5Ideal.τ).loc Cert.Kernel5Ideal.main_v70_7) = v7 c
          ∧ r.2.mem ((c.tc : Thread Cert.Kernel5Ideal.nD Cert.Kernel5Ideal.τ).loc Cert.Kernel5Ideal.main_v70_8) = v8 c
          ∧ r.2.mem ((c.tc : Thread Cert.Kernel5Ideal.nD Cert.Kernel5Ideal.τ).loc Cert.Kernel5Ideal.main_v70_9) = v9 c
          ∧ r.2.mem ((c.tc : Thread Cert.Kernel5Ideal.nD Cert.Kernel5Ideal.τ).loc Cert.Kernel5Ideal.main_v70_10) = v10 c
          ∧ r.2.mem ((c.tc : Thread Cert.Kernel5Ideal.nD Cert.Kernel5Ideal.τ).loc Cert.Kernel5Ideal.main_v70_11) = v11 c
          ∧ r.2.mem ((c.tc : Thread Cert.Kernel5Ideal.nD Cert.Kernel5Ideal.τ).loc Cert.Kernel5Ideal.main_v70_12) = v12 c
          ∧ r.2.mem ((c.tc : Thread Cert.Kernel5Ideal.nD Cert.Kernel5Ideal.τ).loc Cert.Kernel5Ideal.main_v70_13) = v13 c
          ∧ r.2.mem ((c.tc : Thread Cert.Kernel5Ideal.nD Cert.Kernel5Ideal.τ).loc Cert.Kernel5Ideal.main_v70_14) = v14 c
          ∧ r.2.mem ((c.tc : Thread Cert.Kernel5Ideal.nD Cert.Kernel5Ideal.τ).loc Cert.Kernel5Ideal.main_v70_15) = v15 c
          ∧ r.2.mem ((c.tc : Thread Cert.Kernel5Ideal.nD Cert.Kernel5Ideal.τ).loc Cert.Kernel5Ideal.main_v70_16) = v16 c
          ∧ r.2.mem ((c.tc : Thread Cert.Kernel5Ideal.nD Cert.Kernel5Ideal.τ).loc Cert.Kernel5Ideal.main_v70_17) = v17 c
          ∧ r.2.mem ((c.tc : Thread Cert.Kernel5Ideal.nD Cert.Kernel5Ideal.τ).loc Cert.Kernel5Ideal.main_v70_18) = v18 c
          ∧ r.2.mem ((c.tc : Thread Cert.Kernel5Ideal.nD Cert.Kernel5Ideal.τ).loc Cert.Kernel5Ideal.main_v70_19) = v19 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_v134) = v2 c
          ∧ r.2.mem ((c.tc : Thread Cert.Reference5Ideal.nD Cert.Reference5Ideal.τ).loc Cert.Reference5Ideal.main_v135) = v3 c
          ∧ r.2.mem ((c.tc : Thread Cert.Reference5Ideal.nD Cert.Reference5Ideal.τ).loc Cert.Reference5Ideal.main_v136) = v4 c
          ∧ r.2.mem ((c.tc : Thread Cert.Reference5Ideal.nD Cert.Reference5Ideal.τ).loc Cert.Reference5Ideal.main_v159) = v5 c
          ∧ r.2.mem ((c.tc : Thread Cert.Reference5Ideal.nD Cert.Reference5Ideal.τ).loc Cert.Reference5Ideal.main_v180) = v6 c
          ∧ r.2.mem ((c.tc : Thread Cert.Reference5Ideal.nD Cert.Reference5Ideal.τ).loc Cert.Reference5Ideal.main_v181) = v7 c
          ∧ r.2.mem ((c.tc : Thread Cert.Reference5Ideal.nD Cert.Reference5Ideal.τ).loc Cert.Reference5Ideal.main_v204) = v8 c
          ∧ r.2.mem ((c.tc : Thread Cert.Reference5Ideal.nD Cert.Reference5Ideal.τ).loc Cert.Reference5Ideal.main_v205) = v9 c
          ∧ r.2.mem ((c.tc : Thread Cert.Reference5Ideal.nD Cert.Reference5Ideal.τ).loc Cert.Reference5Ideal.main_v206) = v10 c
          ∧ r.2.mem ((c.tc : Thread Cert.Reference5Ideal.nD Cert.Reference5Ideal.τ).loc Cert.Reference5Ideal.main_v207) = v11 c
          ∧ r.2.mem ((c.tc : Thread Cert.Reference5Ideal.nD Cert.Reference5Ideal.τ).loc Cert.Reference5Ideal.main_v227) = v12 c
          ∧ r.2.mem ((c.tc : Thread Cert.Reference5Ideal.nD Cert.Reference5Ideal.τ).loc Cert.Reference5Ideal.main_v89) = v13 c
          ∧ r.2.mem ((c.tc : Thread Cert.Reference5Ideal.nD Cert.Reference5Ideal.τ).loc Cert.Reference5Ideal.main_v250) = v14 c
          ∧ r.2.mem ((c.tc : Thread Cert.Reference5Ideal.nD Cert.Reference5Ideal.τ).loc Cert.Reference5Ideal.main_v251) = v15 c
          ∧ r.2.mem ((c.tc : Thread Cert.Reference5Ideal.nD Cert.Reference5Ideal.τ).loc Cert.Reference5Ideal.main_v252) = v16 c
          ∧ r.2.mem ((c.tc : Thread Cert.Reference5Ideal.nD Cert.Reference5Ideal.τ).loc Cert.Reference5Ideal.main_v253) = v17 c
          ∧ r.2.mem ((c.tc : Thread Cert.Reference5Ideal.nD Cert.Reference5Ideal.τ).loc Cert.Reference5Ideal.main_v273) = v18 c
          ∧ r.2.mem ((c.tc : Thread Cert.Reference5Ideal.nD Cert.Reference5Ideal.τ).loc Cert.Reference5Ideal.main_v92) = v19 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_idx_in_rows : Cert.Pre_idx_in_rows.Facts) (hPre_routed : Cert.Pre_routed.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Reference (hReference := hReference) (hPre_idx_in_rows := hPre_idx_in_rows)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_idx_in_rows.lean ====
abbrev S2x147968x256 : Shape := ⟨3, ![2, 147968, 256]⟩
abbrev S4x2x16384 : Shape := ⟨3, ![4, 2, 16384]⟩
abbrev S_ : Shape := ⟨0, ![]⟩

class Facts : Prop where
  bcast_S_S4x2x16384 : S_.BroadcastsInDim S4x2x16384 (![] : Fin 0 → Fin S4x2x16384.rank)

variable [Facts]

def fn {F : FTy → Type} [FloatOps F] (main_arg0 : IVec S2x147968x256 32) (main_arg1 : IVec S4x2x16384 32) : IVec S4x2x16384 1 :=
  let main_c : IVec S_ 32 := constantI S_ 32 0#32
  let main_v0 : IVec S4x2x16384 32 := broadcastInDim S4x2x16384 ![] bcast_S_S4x2x16384 main_c
  let main_v1 : IVec S4x2x16384 1 := cmpi .sge main_arg1 main_v0
  let main_c_0 : IVec S_ 32 := constantI S_ 32 295936#32
  let main_v2 : IVec S4x2x16384 32 := broadcastInDim S4x2x16384 ![] bcast_S_S4x2x16384 main_c_0
  let main_v3 : IVec S4x2x16384 1 := cmpi .slt main_arg1 main_v2
  let main_v4 : IVec S4x2x16384 1 := andi main_v1 main_v3
  main_v4
-- ==== Pre_routed.lean ====
abbrev S2x147968x256 : Shape := ⟨3, ![2, 147968, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S289 : Shape := ⟨1, ![289]⟩

class Facts : Prop where
  bcast_S_S288 : S_.BroadcastsInDim S288 (![] : Fin 0 → Fin S288.rank)
  bcast_S_S1 : S_.BroadcastsInDim S1 (![] : Fin 0 → Fin S1.rank)
  concatenates_S288_S1_S289_d0 : Shape.Concatenates [S288, S1] S289 0

variable [Facts]

def fn {F : FTy → Type} [FloatOps F] (main_arg0 : IVec S2x147968x256 32) (main_arg1 : IVec S288 32) (main_arg2 : IVec S1 32) (main_arg3 : FVec F S4x32x1024x2048 .f32) (main_arg4 : FVec F S4x32x2048 .f32) (main_arg5 : FVec F S4x32x1024x1024 .f32) (main_arg6 : FVec F S4x32x1024 .f32) : IVec S289 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_c_2 : IVec S_ 32 := constantI S_ 32 288#32
  let main_v7 : IVec S1 32 := broadcastInDim S1 ![] bcast_S_S1 main_c_2
  let main_v8 : IVec S1 1 := cmpi .sle main_arg2 main_v7
  let main_v9 : IVec S1 1 := andi main_v6 main_v8
  let main_v10 : IVec S289 1 := (fun a b => concatenate S289 0 [⟨S288, a⟩, ⟨S1, b⟩] concatenates_S288_S1_S289_d0) main_v4 main_v9
  main_v10
-- ==== Kernel.lean ====
abbrev S2x147968x256 : Shape := ⟨3, ![2, 147968, 256]⟩
abbrev S4x2x16384 : Shape := ⟨3, ![4, 2, 16384]⟩
abbrev S295936x2x128 : Shape := ⟨3, ![295936, 2, 128]⟩
abbrev S1x131072 : Shape := ⟨2, ![1, 131072]⟩
abbrev S131072x2x128 : Shape := ⟨3, ![131072, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S4x2x16384x256 : Shape := ⟨4, ![4, 2, 16384, 256]⟩

abbrev nBuf : Table → Nat
  | .hbm => 6
  | .local .scVector .vmem => 2
  | _ => 0

abbrev bufTy : (tb : Table) → Fin (nBuf tb) → BufTy
  | .hbm, ⟨0, _⟩ => ⟨S2x147968x256, .i32⟩
  | .hbm, ⟨1, _⟩ => ⟨S4x2x16384, .i32⟩
  | .hbm, ⟨2, _⟩ => ⟨S295936x2x128, .i32⟩
  | .hbm, ⟨3, _⟩ => ⟨S1x131072, .i32⟩
  | .hbm, ⟨4, _⟩ => ⟨S131072x2x128, .i32⟩
  | .hbm, ⟨5, _⟩ => ⟨S4x2x16384x256, .i32⟩
  | .local .scVector .vmem, ⟨0, _⟩ => ⟨S2x1x128, .i32⟩
  | .local .scVector .vmem, ⟨1, _⟩ => ⟨S2x128x2x128, .i32⟩
  | _, _ => ⟨S2x147968x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_72_r0 : BitVec 32 := 31#32
  let v83_r0 : BitVec 1 := Scalar.cmpi .sge arg5_r0 c31_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_59_r0 : BitVec 32 := 31#32
  let v65_r0 : BitVec 1 := Scalar.cmpi .eq arg5_r0 c31_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S131072x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S131072x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S131072x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S131072x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S131072x2x128.size a)
theorem k0_off19_inb : ∀ (i : grid0.Coords) (v33_4_r0 : BitVec 32) (k0_hw5 : k0_chk5 i v33_4_r0), ∀ a, (k0_off19 i v33_4_r0) a + S128x2x128.size a ≤ S131072x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x147968x256 : Shape := ⟨3, ![2, 147968, 256]⟩
abbrev S4x2x16384 : Shape := ⟨3, ![4, 2, 16384]⟩
abbrev S295936x256 : Shape := ⟨2, ![295936, 256]⟩
abbrev S_ : Shape := ⟨0, ![]⟩
abbrev S4x2x16384x1 : Shape := ⟨4, ![4, 2, 16384, 1]⟩
abbrev S4x2x16384x256 : Shape := ⟨4, ![4, 2, 16384, 256]⟩

abbrev nBuf : Space → Nat
  | .hbm => 12
  | .vmem => 0
  | .smem => 0
  | _ => 0

abbrev bufTy : (tb : Table) → Fin (tcTables nBuf tb) → BufTy
  | .hbm, ⟨0, _⟩ => ⟨S2x147968x256, .i32⟩
  | .hbm, ⟨1, _⟩ => ⟨S4x2x16384, .i32⟩
  | .hbm, ⟨2, _⟩ => ⟨S295936x256, .i32⟩
  | .hbm, ⟨3, _⟩ => ⟨S_, .i32⟩
  | .hbm, ⟨4, _⟩ => ⟨S4x2x16384, .i32⟩
  | .hbm, ⟨5, _⟩ => ⟨S4x2x16384, .i1⟩
  | .hbm, ⟨6, _⟩ => ⟨S_, .i32⟩
  | .hbm, ⟨7, _⟩ => ⟨S4x2x16384, .i32⟩
  | .hbm, ⟨8, _⟩ => ⟨S4x2x16384, .i32⟩
  | .hbm, ⟨9, _⟩ => ⟨S4x2x16384, .i32⟩
  | .hbm, ⟨10, _⟩ => ⟨S4x2x16384x1, .i32⟩
  | .hbm, ⟨11, _⟩ => ⟨S4x2x16384x256, .i32⟩
  | _, _ => ⟨S2x147968x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S2x147968x256 : Shape := ⟨3, ![2, 147968, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S2x147968x512 : Shape := ⟨3, ![2, 147968, 512]⟩
abbrev S_ : Shape := ⟨0, ![]⟩
abbrev S4x32x1x2048 : Shape := ⟨4, ![4, 32, 1, 2048]⟩
abbrev S4x32x1x1024 : Shape := ⟨4, ![4, 32, 1, 1024]⟩
abbrev S2x512x256 : Shape := ⟨3, ![2, 512, 256]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S2x512x512 : Shape := ⟨3, ![2, 512, 512]⟩
abbrev S1024x2048 : Shape := ⟨2, ![1024, 2048]⟩
abbrev S1024x1024 : Shape := ⟨2, ![1024, 1024]⟩
abbrev S1x512x256 : Shape := ⟨3, ![1, 512, 256]⟩
abbrev S512x256 : Shape := ⟨2, ![512, 256]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S512x512 : Shape := ⟨2, ![512, 512]⟩
abbrev S1x512x512 : Shape := ⟨3, ![1, 512, 512]⟩

abbrev nBuf : Space → Nat
  | .hbm => 17
  | .vmem => 14
  | .smem => 2
  | _ => 0

abbrev bufTy : (tb : Table) → Fin (tcTables nBuf tb) → BufTy
  | .hbm, ⟨0, _⟩ => ⟨S2x147968x256, .i32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S2x147968x512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2x147968x512, .i32⟩
  | .hbm, ⟨10, _⟩ => ⟨S2x147968x512, .i1⟩
  | .hbm, ⟨11, _⟩ => ⟨S_, .bf16⟩
  | .hbm, ⟨12, _⟩ => ⟨S2x147968x512, .bf16⟩
  | .hbm, ⟨13, _⟩ => ⟨S4x32x1x2048, .f32⟩
  | .hbm, ⟨14, _⟩ => ⟨S4x32x1x1024, .f32⟩
  | .hbm, ⟨15, _⟩ => ⟨S2x147968x512, .bf16⟩
  | .hbm, ⟨16, _⟩ => ⟨S2x147968x512, .bf16⟩
  | .local _ .vmem, ⟨0, _⟩ => ⟨S2x512x256, .i32⟩
  | .local _ .vmem, ⟨1, _⟩ => ⟨S2x512x256, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S2x512x512, .bf16⟩
  | .local _ .vmem, ⟨11, _⟩ => ⟨S2x512x512, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S2x147968x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x147968x256 : Shape := ⟨3, ![2, 147968, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1x147968x256 : Shape := ⟨3, ![1, 147968, 256]⟩
abbrev S147968x256 : Shape := ⟨2, ![147968, 256]⟩
abbrev S147968x1024 : Shape := ⟨2, ![147968, 1024]⟩
abbrev S288x512 : Shape := ⟨2, ![288, 512]⟩
abbrev S147456 : Shape := ⟨1, ![147456]⟩
abbrev S512 : Shape := ⟨1, ![512]⟩
abbrev S147968 : Shape := ⟨1, ![147968]⟩
abbrev S1x32x1024x2048 : Shape := ⟨4, ![1, 32, 1024, 2048]⟩
abbrev S32x1024x2048 : Shape := ⟨3, ![32, 1024, 2048]⟩
abbrev S147968x1 : Shape := ⟨2, ![147968, 1]⟩
abbrev S147968x1024x2048 : Shape := ⟨3, ![147968, 1024, 2048]⟩
abbrev S147968x2048 : Shape := ⟨2, ![147968, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S147968x1024x1024 : Shape := ⟨3, ![147968, 1024, 1024]⟩
abbrev S1x32x1024 : Shape := ⟨3, ![1, 32, 1024]⟩
abbrev S32x1024 : Shape := ⟨2, ![32, 1024]⟩
abbrev S147968x512 : Shape := ⟨2, ![147968, 512]⟩
abbrev S1x147968x512 : Shape := ⟨3, ![1, 147968, 512]⟩
abbrev S2x147968x512 : Shape := ⟨3, ![2, 147968, 512]⟩

abbrev nBuf : Space → Nat
  | .hbm => 124
  | .vmem => 0
  | .smem => 0
  | _ => 0

abbrev bufTy : (tb : Table) → Fin (tcTables nBuf tb) → BufTy
  | .hbm, ⟨0, _⟩ => ⟨S2x147968x256, .i32⟩
  | .hbm, ⟨1, _⟩ => ⟨S288, .i32⟩
  | .hbm, ⟨2, _⟩ => ⟨S1, .i32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S_, .i32⟩
  | .hbm, ⟨8, _⟩ => ⟨S2x147968x256, .i32⟩
  | .hbm, ⟨9, _⟩ => ⟨S2x147968x256, .i32⟩
  | .hbm, ⟨10, _⟩ => ⟨S2x147968x256, .f32⟩
  | .hbm, ⟨11, _⟩ => ⟨S_, .i32⟩
  | .hbm, ⟨12, _⟩ => ⟨S2x147968x256, .i32⟩
  | .hbm, ⟨13, _⟩ => ⟨S2x147968x256, .i32⟩
  | .hbm, ⟨14, _⟩ => ⟨S2x147968x256, .f32⟩
  | .hbm, ⟨15, _⟩ => ⟨S1x147968x256, .f32⟩
  | .hbm, ⟨16, _⟩ => ⟨S147968x256, .f32⟩
  | .hbm, ⟨17, _⟩ => ⟨S1x147968x256, .f32⟩
  | .hbm, ⟨18, _⟩ => ⟨S147968x256, .f32⟩
  | .hbm, ⟨19, _⟩ => ⟨S1x147968x256, .f32⟩
  | .hbm, ⟨20, _⟩ => ⟨S147968x256, .f32⟩
  | .hbm, ⟨21, _⟩ => ⟨S1x147968x256, .f32⟩
  | .hbm, ⟨22, _⟩ => ⟨S147968x256, .f32⟩
  | .hbm, ⟨23, _⟩ => ⟨S147968x1024, .f32⟩
  | .hbm, ⟨24, _⟩ => ⟨S288x512, .i32⟩
  | .hbm, ⟨25, _⟩ => ⟨S147456, .i32⟩
  | .hbm, ⟨26, _⟩ => ⟨S_, .i32⟩
  | .hbm, ⟨27, _⟩ => ⟨S512, .i32⟩
  | .hbm, ⟨28, _⟩ => ⟨S147968, .i32⟩
  | .hbm, ⟨29, _⟩ => ⟨S1x32x1024x2048, .f32⟩
  | .hbm, ⟨30, _⟩ => ⟨S32x1024x2048, .f32⟩
  | .hbm, ⟨31, _⟩ => ⟨S_, .i32⟩
  | .hbm, ⟨32, _⟩ => ⟨S147968, .i32⟩
  | .hbm, ⟨33, _⟩ => ⟨S147968, .i1⟩
  | .hbm, ⟨34, _⟩ => ⟨S_, .i32⟩
  | .hbm, ⟨35, _⟩ => ⟨S147968, .i32⟩
  | .hbm, ⟨36, _⟩ => ⟨S147968, .i32⟩
  | .hbm, ⟨37, _⟩ => ⟨S147968, .i32⟩
  | .hbm, ⟨38, _⟩ => ⟨S147968x1, .i32⟩
  | .hbm, ⟨39, _⟩ => ⟨S147968x1024x2048, .f32⟩
  | .hbm, ⟨40, _⟩ => ⟨S147968x2048, .f32⟩
  | .hbm, ⟨41, _⟩ => ⟨S1x32x2048, .f32⟩
  | .hbm, ⟨42, _⟩ => ⟨S32x2048, .f32⟩
  | .hbm, ⟨43, _⟩ => ⟨S_, .i32⟩
  | .hbm, ⟨44, _⟩ => ⟨S147968, .i32⟩
  | .hbm, ⟨45, _⟩ => ⟨S147968, .i1⟩
  | .hbm, ⟨46, _⟩ => ⟨S_, .i32⟩
  | .hbm, ⟨47, _⟩ => ⟨S147968, .i32⟩
  | .hbm, ⟨48, _⟩ => ⟨S147968, .i32⟩
  | .hbm, ⟨49, _⟩ => ⟨S147968, .i32⟩
  | .hbm, ⟨50, _⟩ => ⟨S147968x1, .i32⟩
  | .hbm, ⟨51, _⟩ => ⟨S147968x2048, .f32⟩
  | .hbm, ⟨52, _⟩ => ⟨S147968x2048, .f32⟩
  | .hbm, ⟨53, _⟩ => ⟨S147968x1024, .f32⟩
  | .hbm, ⟨54, _⟩ => ⟨S_, .f32⟩
  | .hbm, ⟨55, _⟩ => ⟨S147968x1024, .f32⟩
  | .hbm, ⟨56, _⟩ => ⟨S147968x1024, .f32⟩
  | .hbm, ⟨57, _⟩ => ⟨S147968x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S147968x1024, .f32⟩
  | .hbm, ⟨62, _⟩ => ⟨S147968x1024, .f32⟩
  | .hbm, ⟨63, _⟩ => ⟨S_, .f32⟩
  | .hbm, ⟨64, _⟩ => ⟨S147968x1024, .f32⟩
  | .hbm, ⟨65, _⟩ => ⟨S147968x1024, .f32⟩
  | .hbm, ⟨66, _⟩ => ⟨S_, .f32⟩
  | .hbm, ⟨67, _⟩ => ⟨S147968x1024, .f32⟩
  | .hbm, ⟨68, _⟩ => ⟨S147968x1024, .f32⟩
  | .hbm, ⟨69, _⟩ => ⟨S147968x1024, .f32⟩
  | .hbm, ⟨70, _⟩ => ⟨S_, .f32⟩
  | .hbm, ⟨71, _⟩ => ⟨S147968x1024, .f32⟩
  | .hbm, ⟨72, _⟩ => ⟨S147968x1024, .f32⟩
  | .hbm, ⟨73, _⟩ => ⟨S147968x1024, .f32⟩
  | .hbm, ⟨74, _⟩ => ⟨S147968x1024, .f32⟩
  | .hbm, ⟨75, _⟩ => ⟨S_, .f32⟩
  | .hbm, ⟨76, _⟩ => ⟨S147968x1024, .f32⟩
  | .hbm, ⟨77, _⟩ => ⟨S147968x1024, .f32⟩
  | .hbm, ⟨78, _⟩ => ⟨S_, .f32⟩
  | .hbm, ⟨79, _⟩ => ⟨S147968x1024, .f32⟩
  | .hbm, ⟨80, _⟩ => ⟨S147968x1024, .f32⟩
  | .hbm, ⟨81, _⟩ => ⟨S147968x1024, .f32⟩
  | .hbm, ⟨82, _⟩ => ⟨S1x32x1024x1024, .f32⟩
  | .hbm, ⟨83, _⟩ => ⟨S32x1024x1024, .f32⟩
  | .hbm, ⟨84, _⟩ => ⟨S_, .i32⟩
  | .hbm, ⟨85, _⟩ => ⟨S147968, .i32⟩
  | .hbm, ⟨86, _⟩ => ⟨S147968, .i1⟩
  | .hbm, ⟨87, _⟩ => ⟨S_, .i32⟩
  | .hbm, ⟨88, _⟩ => ⟨S147968, .i32⟩
  | .hbm, ⟨89, _⟩ => ⟨S147968, .i32⟩
  | .hbm, ⟨90, _⟩ => ⟨S147968, .i32⟩
  | .hbm, ⟨91, _⟩ => ⟨S147968x1, .i32⟩
  | .hbm, ⟨92, _⟩ => ⟨S147968x1024x1024, .f32⟩
  | .hbm, ⟨93, _⟩ => ⟨S147968x1024, .f32⟩
  | .hbm, ⟨94, _⟩ => ⟨S1x32x1024, .f32⟩
  | .hbm, ⟨95, _⟩ => ⟨S32x1024, .f32⟩
  | .hbm, ⟨96, _⟩ => ⟨S_, .i32⟩
  | .hbm, ⟨97, _⟩ => ⟨S147968, .i32⟩
  | .hbm, ⟨98, _⟩ => ⟨S147968, .i1⟩
  | .hbm, ⟨99, _⟩ => ⟨S_, .i32⟩
  | .hbm, ⟨100, _⟩ => ⟨S147968, .i32⟩
  | .hbm, ⟨101, _⟩ => ⟨S147968, .i32⟩
  | .hbm, ⟨102, _⟩ => ⟨S147968, .i32⟩
  | .hbm, ⟨103, _⟩ => ⟨S147968x1, .i32⟩
  | .hbm, ⟨104, _⟩ => ⟨S147968x1024, .f32⟩
  | .hbm, ⟨105, _⟩ => ⟨S147968x1024, .f32⟩
  | .hbm, ⟨106, _⟩ => ⟨S147968, .i32⟩
  | .hbm, ⟨107, _⟩ => ⟨S147968x1, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S147968x1, .i32⟩
  | .hbm, ⟨112, _⟩ => ⟨S147968x1, .i1⟩
  | .hbm, ⟨113, _⟩ => ⟨S_, .f32⟩
  | .hbm, ⟨114, _⟩ => ⟨S_, .f32⟩
  | .hbm, ⟨115, _⟩ => ⟨S147968x1024, .i1⟩
  | .hbm, ⟨116, _⟩ => ⟨S147968x1024, .f32⟩
  | .hbm, ⟨117, _⟩ => ⟨S147968x1024, .f32⟩
  | .hbm, ⟨118, _⟩ => ⟨S147968x1024, .bf16⟩
  | .hbm, ⟨119, _⟩ => ⟨S147968x512, .bf16⟩
  | .hbm, ⟨120, _⟩ => ⟨S147968x512, .bf16⟩
  | .hbm, ⟨121, _⟩ => ⟨S1x147968x512, .bf16⟩
  | .hbm, ⟨122, _⟩ => ⟨S1x147968x512, .bf16⟩
  | .hbm, ⟨123, _⟩ => ⟨S2x147968x512, .bf16⟩
  | _, _ => ⟨S2x147968x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]
-- ==== Kernel3.lean ====
abbrev S32768x1024 : Shape := ⟨2, ![32768, 1024]⟩
abbrev S4x2x32768x256 : Shape := ⟨4, ![4, 2, 32768, 256]⟩
abbrev S4x32768 : Shape := ⟨2, ![4, 32768]⟩
abbrev S1024 : Shape := ⟨1, ![1024]⟩
abbrev S1x1024 : Shape := ⟨2, ![1, 1024]⟩
abbrev S512x1024 : Shape := ⟨2, ![512, 1024]⟩
abbrev S4x2x512x256 : Shape := ⟨4, ![4, 2, 512, 256]⟩
abbrev S4x512 : Shape := ⟨2, ![4, 512]⟩
abbrev S512x4 : Shape := ⟨2, ![512, 4]⟩
abbrev S1x1x512x256 : Shape := ⟨4, ![1, 1, 512, 256]⟩
abbrev S512x256 : Shape := ⟨2, ![512, 256]⟩
abbrev S512x1 : Shape := ⟨2, ![512, 1]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x2x32768x256, .i32⟩
  | .hbm, ⟨2, _⟩ => ⟨S4x32768, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x2x512x256, .i32⟩
  | .local _ .vmem, ⟨3, _⟩ => ⟨S4x2x512x256, .i32⟩
  | .local _ .vmem, ⟨4, _⟩ => ⟨S4x512, .f32⟩
  | .local _ .vmem, ⟨5, _⟩ => ⟨S4x512, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S4x2x32768x256 : Shape := ⟨4, ![4, 2, 32768, 256]⟩
abbrev S4x32768 : Shape := ⟨2, ![4, 32768]⟩
abbrev S1024 : Shape := ⟨1, ![1024]⟩
abbrev S_ : Shape := ⟨0, ![]⟩
abbrev S4x1x32768x256 : Shape := ⟨4, ![4, 1, 32768, 256]⟩
abbrev S4x32768x256 : Shape := ⟨3, ![4, 32768, 256]⟩
abbrev S4x32768x1024 : Shape := ⟨3, ![4, 32768, 1024]⟩
abbrev S4x32768x1 : Shape := ⟨3, ![4, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x2x32768x256, .i32⟩
  | .hbm, ⟨2, _⟩ => ⟨S4x32768, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S4x2x32768x256, .i32⟩
  | .hbm, ⟨7, _⟩ => ⟨S4x2x32768x256, .i32⟩
  | .hbm, ⟨8, _⟩ => ⟨S4x2x32768x256, .f32⟩
  | .hbm, ⟨9, _⟩ => ⟨S_, .i32⟩
  | .hbm, ⟨10, _⟩ => ⟨S4x2x32768x256, .i32⟩
  | .hbm, ⟨11, _⟩ => ⟨S4x2x32768x256, .i32⟩
  | .hbm, ⟨12, _⟩ => ⟨S4x2x32768x256, .f32⟩
  | .hbm, ⟨13, _⟩ => ⟨S4x1x32768x256, .f32⟩
  | .hbm, ⟨14, _⟩ => ⟨S4x32768x256, .f32⟩
  | .hbm, ⟨15, _⟩ => ⟨S4x1x32768x256, .f32⟩
  | .hbm, ⟨16, _⟩ => ⟨S4x32768x256, .f32⟩
  | .hbm, ⟨17, _⟩ => ⟨S4x1x32768x256, .f32⟩
  | .hbm, ⟨18, _⟩ => ⟨S4x32768x256, .f32⟩
  | .hbm, ⟨19, _⟩ => ⟨S4x1x32768x256, .f32⟩
  | .hbm, ⟨20, _⟩ => ⟨S4x32768x256, .f32⟩
  | .hbm, ⟨21, _⟩ => ⟨S4x32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S4x32768x1, .f32⟩
  | .hbm, ⟨26, _⟩ => ⟨S4x32768x1024, .f32⟩
  | .hbm, ⟨27, _⟩ => ⟨S4x32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x1024x2816 : Shape := ⟨3, ![2, 1024, 2816]⟩
abbrev S2x2816 : Shape := ⟨2, ![2, 2816]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S32768x1024 : Shape := ⟨2, ![32768, 1024]⟩
abbrev S1x2816 : Shape := ⟨2, ![1, 2816]⟩
abbrev S2816 : Shape := ⟨1, ![2816]⟩
abbrev S32768x512 : Shape := ⟨2, ![32768, 512]⟩
abbrev S32768x128 : Shape := ⟨2, ![32768, 128]⟩
abbrev S1024x1024 : Shape := ⟨2, ![1024, 1024]⟩
abbrev S1x1024x2816 : Shape := ⟨3, ![1, 1024, 2816]⟩
abbrev S1024x128 : Shape := ⟨2, ![1024, 128]⟩
abbrev S1024x512 : Shape := ⟨2, ![1024, 512]⟩
abbrev S1x1024x512 : Shape := ⟨3, ![1, 1024, 512]⟩
abbrev S1x512 : Shape := ⟨2, ![1, 512]⟩
abbrev S1x1024x768 : Shape := ⟨3, ![1, 1024, 768]⟩
abbrev S1024x768 : Shape := ⟨2, ![1024, 768]⟩
abbrev S1x768 : Shape := ⟨2, ![1, 768]⟩

abbrev nBuf : Space → Nat
  | .hbm => 58
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S2x1024x2816, .f32⟩
  | .hbm, ⟨2, _⟩ => ⟨S2x2816, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x8, .f32⟩
  | .hbm, ⟨33, _⟩ => ⟨S8192x64, .f32⟩
  | .hbm, ⟨34, _⟩ => ⟨S8192x8, .f32⟩
  | .hbm, ⟨35, _⟩ => ⟨S8192x64, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S32768x1024, .f32⟩
  | .hbm, ⟨47, _⟩ => ⟨S2x1024x2816, .bf16⟩
  | .hbm, ⟨48, _⟩ => ⟨S1x2816, .f32⟩
  | .hbm, ⟨49, _⟩ => ⟨S2816, .f32⟩
  | .hbm, ⟨50, _⟩ => ⟨S1x2816, .f32⟩
  | .hbm, ⟨51, _⟩ => ⟨S32768x512, .bf16⟩
  | .hbm, ⟨52, _⟩ => ⟨S32768x128, .bf16⟩
  | .hbm, ⟨53, _⟩ => ⟨S32768x128, .bf16⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024x2816, .bf16⟩
  | .local _ .vmem, ⟨3, _⟩ => ⟨S1x2816, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev main_v40_3 : Ref sig .tc := ⟨.hbm, 54, rfl⟩
abbrev main_v40_4 : Ref sig .tc := ⟨.hbm, 55, rfl⟩
abbrev main_v40_5 : Ref sig .tc := ⟨.hbm, 56, rfl⟩
abbrev main_v40_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4x8192x1024 : Shape := ⟨3, ![4, 8192, 1024]⟩
abbrev S2x1024x2816 : Shape := ⟨3, ![2, 1024, 2816]⟩
abbrev S2x2816 : Shape := ⟨2, ![2, 2816]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816 : Shape := ⟨2, ![1, 2816]⟩
abbrev S2816 : Shape := ⟨1, ![2816]⟩
abbrev S1x1x2816 : Shape := ⟨3, ![1, 1, 2816]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S1x8192x1x8 : Shape := ⟨4, ![1, 8192, 1, 8]⟩
abbrev S4x8192x8x8 : Shape := ⟨4, ![4, 8192, 8, 8]⟩
abbrev S4x8192x8x48 : Shape := ⟨4, ![4, 8192, 8, 48]⟩
abbrev S4x8192x2x64 : Shape := ⟨4, ![4, 8192, 2, 64]⟩
abbrev S4x8192x2x8 : Shape := ⟨4, ![4, 8192, 2, 8]⟩
abbrev S4x8192x2x48 : Shape := ⟨4, ![4, 8192, 2, 48]⟩
abbrev S32768x512 : Shape := ⟨2, ![32768, 512]⟩
abbrev S32768x128 : Shape := ⟨2, ![32768, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x2816, .f32⟩
  | .hbm, ⟨2, _⟩ => ⟨S2x2816, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S1x1024x2816, .f32⟩
  | .hbm, ⟨28, _⟩ => ⟨S1024x2816, .f32⟩
  | .hbm, ⟨29, _⟩ => ⟨S4x8192x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x8192x2816, .f32⟩
  | .hbm, ⟨34, _⟩ => ⟨S4x8192x2816, .f32⟩
  | .hbm, ⟨35, _⟩ => ⟨S4x8192x512, .f32⟩
  | .hbm, ⟨36, _⟩ => ⟨S4x8192x128, .f32⟩
  | .hbm, ⟨37, _⟩ => ⟨S4x8192x128, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x8x64, .f32⟩
  | .hbm, ⟨43, _⟩ => ⟨S1x8192x1x8, .f32⟩
  | .hbm, ⟨44, _⟩ => ⟨S1x8192x1x8, .f32⟩
  | .hbm, ⟨45, _⟩ => ⟨S4x8192x8x8, .f32⟩
  | .hbm, ⟨46, _⟩ => ⟨S4x8192x8x8, .f32⟩
  | .hbm, ⟨47, _⟩ => ⟨S4x8192x8x48, .f32⟩
  | .hbm, ⟨48, _⟩ => ⟨S4x8192x8x8, .f32⟩
  | .hbm, ⟨49, _⟩ => ⟨S4x8192x8x8, .f32⟩
  | .hbm, ⟨50, _⟩ => ⟨S4x8192x8x8, .f32⟩
  | .hbm, ⟨51, _⟩ => ⟨S4x8192x8x8, .f32⟩
  | .hbm, ⟨52, _⟩ => ⟨S4x8192x8x8, .f32⟩
  | .hbm, ⟨53, _⟩ => ⟨S4x8192x8x8, .f32⟩
  | .hbm, ⟨54, _⟩ => ⟨S4x8192x8x8, .f32⟩
  | .hbm, ⟨55, _⟩ => ⟨S4x8192x8x8, .f32⟩
  | .hbm, ⟨56, _⟩ => ⟨S4x8192x8x8, .f32⟩
  | .hbm, ⟨57, _⟩ => ⟨S4x8192x8x8, .f32⟩
  | .hbm, ⟨58, _⟩ => ⟨S4x8192x8x64, .f32⟩
  | .hbm, ⟨59, _⟩ => ⟨S_, .f32⟩
  | .hbm, ⟨60, _⟩ => ⟨S4x8192x8x64, .f32⟩
  | .hbm, ⟨61, _⟩ => ⟨S4x8192x8x64, .f32⟩
  | .hbm, ⟨62, _⟩ => ⟨S4x8192x2x64, .f32⟩
  | .hbm, ⟨63, _⟩ => ⟨S1x8192x1x8, .f32⟩
  | .hbm, ⟨64, _⟩ => ⟨S1x8192x1x8, .f32⟩
  | .hbm, ⟨65, _⟩ => ⟨S4x8192x2x8, .f32⟩
  | .hbm, ⟨66, _⟩ => ⟨S4x8192x2x8, .f32⟩
  | .hbm, ⟨67, _⟩ => ⟨S4x8192x2x48, .f32⟩
  | .hbm, ⟨68, _⟩ => ⟨S4x8192x2x8, .f32⟩
  | .hbm, ⟨69, _⟩ => ⟨S4x8192x2x8, .f32⟩
  | .hbm, ⟨70, _⟩ => ⟨S4x8192x2x8, .f32⟩
  | .hbm, ⟨71, _⟩ => ⟨S4x8192x2x8, .f32⟩
  | .hbm, ⟨72, _⟩ => ⟨S4x8192x2x8, .f32⟩
  | .hbm, ⟨73, _⟩ => ⟨S4x8192x2x8, .f32⟩
  | .hbm, ⟨74, _⟩ => ⟨S4x8192x2x8, .f32⟩
  | .hbm, ⟨75, _⟩ => ⟨S4x8192x2x8, .f32⟩
  | .hbm, ⟨76, _⟩ => ⟨S4x8192x2x8, .f32⟩
  | .hbm, ⟨77, _⟩ => ⟨S4x8192x2x8, .f32⟩
  | .hbm, ⟨78, _⟩ => ⟨S4x8192x2x64, .f32⟩
  | .hbm, ⟨79, _⟩ => ⟨S32768x512, .f32⟩
  | .hbm, ⟨80, _⟩ => ⟨S32768x512, .bf16⟩
  | .hbm, ⟨81, _⟩ => ⟨S32768x128, .f32⟩
  | .hbm, ⟨82, _⟩ => ⟨S32768x128, .bf16⟩
  | .hbm, ⟨83, _⟩ => ⟨S32768x128, .f32⟩
  | .hbm, ⟨84, _⟩ => ⟨S32768x128, .bf16⟩
  | .hbm, ⟨85, _⟩ => ⟨S32768x512, .f32⟩
  | .hbm, ⟨86, _⟩ => ⟨S32768x512, .f32⟩
  | .hbm, ⟨87, _⟩ => ⟨S32768x512, .f32⟩
  | .hbm, ⟨88, _⟩ => ⟨S32768x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== Kernel5.lean ====
abbrev S32768x1024 : Shape := ⟨2, ![32768, 1024]⟩
abbrev S4x2x32768x256 : Shape := ⟨4, ![4, 2, 32768, 256]⟩
abbrev S4x32768 : Shape := ⟨2, ![4, 32768]⟩
abbrev S1024 : Shape := ⟨1, ![1024]⟩
abbrev S2x1024x3840 : Shape := ⟨3, ![2, 1024, 3840]⟩
abbrev S2x3840 : Shape := ⟨2, ![2, 3840]⟩
abbrev S8 : Shape := ⟨1, ![8]⟩
abbrev S_ : Shape := ⟨0, ![]⟩
abbrev S31 : Shape := ⟨1, ![31]⟩
abbrev S1 : Shape := ⟨1, ![1]⟩
abbrev S32 : Shape := ⟨1, ![32]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x32 : Shape := ⟨2, ![1, 32]⟩
abbrev S8192x32 : Shape := ⟨2, ![8192, 32]⟩
abbrev S8192x0 : Shape := ⟨2, ![8192, 0]⟩
abbrev S1x3840 : Shape := ⟨2, ![1, 3840]⟩
abbrev S3840 : Shape := ⟨1, ![3840]⟩
abbrev S1x1024 : Shape := ⟨2, ![1, 1024]⟩
abbrev S32768x256 : Shape := ⟨2, ![32768, 256]⟩
abbrev S32768x512 : Shape := ⟨2, ![32768, 512]⟩
abbrev S32768x128 : Shape := ⟨2, ![32768, 128]⟩
abbrev S512x1024 : Shape := ⟨2, ![512, 1024]⟩
abbrev S4x2x512x256 : Shape := ⟨4, ![4, 2, 512, 256]⟩
abbrev S4x512 : Shape := ⟨2, ![4, 512]⟩
abbrev S1x1024x3840 : Shape := ⟨3, ![1, 1024, 3840]⟩
abbrev S512x128 : Shape := ⟨2, ![512, 128]⟩
abbrev S512x256 : Shape := ⟨2, ![512, 256]⟩
abbrev S512x512 : Shape := ⟨2, ![512, 512]⟩
abbrev S512x4 : Shape := ⟨2, ![512, 4]⟩
abbrev S1x1x512x256 : Shape := ⟨4, ![1, 1, 512, 256]⟩
abbrev S512x1 : Shape := ⟨2, ![512, 1]⟩
abbrev S512 : Shape := ⟨1, ![512]⟩
abbrev S1x1024x512 : Shape := ⟨3, ![1, 1024, 512]⟩
abbrev S1024x512 : Shape := ⟨2, ![1024, 512]⟩
abbrev S1x512 : Shape := ⟨2, ![1, 512]⟩
abbrev S1x1024x256 : Shape := ⟨3, ![1, 1024, 256]⟩
abbrev S1024x256 : Shape := ⟨2, ![1024, 256]⟩
abbrev S1x256 : Shape := ⟨2, ![1, 256]⟩

abbrev nBuf : Space → Nat
  | .hbm => 132
  | .vmem => 62
  | .smem => 0
  | _ => 0

abbrev hbmTy0_0 (i : Nat) : BufTy := match i % 128 with
  | 0 => ⟨S32768x1024, .f32⟩
  | 1 => ⟨S4x2x32768x256, .i32⟩
  | 2 => ⟨S4x32768, .f32⟩
  | 3 => ⟨S1024, .f32⟩
  | 4 => ⟨S1024, .f32⟩
  | 5 => ⟨S2x1024x3840, .f32⟩
  | 6 => ⟨S2x3840, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S31, .f32⟩
  | 31 => ⟨S_, .f32⟩
  | 32 => ⟨S31, .f32⟩
  | 33 => ⟨S31, .f32⟩
  | 34 => ⟨S1, .f32⟩
  | 35 => ⟨S_, .f32⟩
  | 36 => ⟨S31, .f32⟩
  | 37 => ⟨S31, .f32⟩
  | 38 => ⟨S31, .f32⟩
  | 39 => ⟨S31, .f32⟩
  | 40 => ⟨S1, .f32⟩
  | 41 => ⟨S31, .f32⟩
  | 42 => ⟨S31, .f32⟩
  | 43 => ⟨S31, .f32⟩
  | 44 => ⟨S1, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x8, .f32⟩
  | 55 => ⟨S8192x8, .f32⟩
  | 56 => ⟨S8192x8, .f32⟩
  | 57 => ⟨S8192x8, .f32⟩
  | 58 => ⟨S8192x8, .f32⟩
  | 59 => ⟨S8192x8, .f32⟩
  | 60 => ⟨S_, .f32⟩
  | 61 => ⟨S8192x48, .f32⟩
  | 62 => ⟨S_, .f32⟩
  | 63 => ⟨S8192x48, .f32⟩
  | 64 => ⟨S_, .f32⟩
  | 65 => ⟨S8192x8, .f32⟩
  | 66 => ⟨S8192x64, .f32⟩
  | 67 => ⟨S8192x8, .f32⟩
  | 68 => ⟨S8192x64, .f32⟩
  | 69 => ⟨S8192x64, .f32⟩
  | 70 => ⟨S1x8192x1x64, .f32⟩
  | 71 => ⟨S1x8192x2x64, .f32⟩
  | 72 => ⟨S8192x128, .f32⟩
  | 73 => ⟨S1x8192x1x64, .f32⟩
  | 74 => ⟨S1x8192x2x64, .f32⟩
  | 75 => ⟨S8192x128, .f32⟩
  | 76 => ⟨S1x8192x1x64, .f32⟩
  | 77 => ⟨S1x8192x2x64, .f32⟩
  | 78 => ⟨S8192x128, .f32⟩
  | 79 => ⟨S8192, .f32⟩
  | 80 => ⟨S8192x1, .f32⟩
  | 81 => ⟨S1x32, .f32⟩
  | 82 => ⟨S8192x32, .f32⟩
  | 83 => ⟨S8192x32, .f32⟩
  | 84 => ⟨S8192x32, .f32⟩
  | 85 => ⟨S8192x32, .f32⟩
  | 86 => ⟨S8192x32, .f32⟩
  | 87 => ⟨S_, .f32⟩
  | 88 => ⟨S8192x0, .f32⟩
  | 89 => ⟨S_, .f32⟩
  | 90 => ⟨S8192x0, .f32⟩
  | 91 => ⟨S_, .f32⟩
  | 92 => ⟨S8192x32, .f32⟩
  | 93 => ⟨S8192x64, .f32⟩
  | 94 => ⟨S8192x32, .f32⟩
  | 95 => ⟨S8192x64, .f32⟩
  | 96 => ⟨S8192x64, .f32⟩
  | 97 => ⟨S1x8192x1x64, .f32⟩
  | 98 => ⟨S1x8192x2x64, .f32⟩
  | 99 => ⟨S8192x128, .f32⟩
  | 100 => ⟨S1x8192x1x64, .f32⟩
  | 101 => ⟨S1x8192x2x64, .f32⟩
  | 102 => ⟨S8192x128, .f32⟩
  | 103 => ⟨S1x8192x1x64, .f32⟩
  | 104 => ⟨S1x8192x2x64, .f32⟩
  | 105 => ⟨S8192x128, .f32⟩
  | 106 => ⟨S2x1024x3840, .bf16⟩
  | 107 => ⟨S1x3840, .f32⟩
  | 108 => ⟨S3840, .f32⟩
  | 109 => ⟨S1x1024, .f32⟩
  | 110 => ⟨S1x1024, .f32⟩
  | 111 => ⟨S1x3840, .f32⟩
  | 112 => ⟨S32768x1024, .f32⟩
  | 113 => ⟨S32768x256, .bf16⟩
  | 114 => ⟨S32768x256, .bf16⟩
  | 115 => ⟨S32768x512, .bf16⟩
  | 116 => ⟨S32768x512, .bf16⟩
  | 117 => ⟨S32768x512, .bf16⟩
  | 118 => ⟨S32768x128, .bf16⟩
  | 119 => ⟨S32768x128, .bf16⟩
  | 120 => ⟨S32768x128, .f32⟩
  | 121 => ⟨S32768x128, .f32⟩
  | 122 => ⟨S32768x128, .f32⟩
  | 123 => ⟨S32768x128, .f32⟩
  | 124 => ⟨S32768x128, .f32⟩
  | 125 => ⟨S32768x128, .f32⟩
  | 126 => ⟨S32768x128, .f32⟩
  | 127 => ⟨S32768x128, .f32⟩
  | _ => ⟨S32768x1024, .f32⟩

abbrev hbmTy0_1 (i : Nat) : BufTy := match i % 128 with
  | 0 => ⟨S32768x128, .f32⟩
  | 1 => ⟨S32768x128, .f32⟩
  | 2 => ⟨S32768x128, .f32⟩
  | 3 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S4x2x512x256, .i32⟩
  | .local _ .vmem, ⟨3, _⟩ => ⟨S4x2x512x256, .i32⟩
  | .local _ .vmem, ⟨4, _⟩ => ⟨S4x512, .f32⟩
  | .local _ .vmem, ⟨5, _⟩ => ⟨S4x512, .f32⟩
  | .local _ .vmem, ⟨6, _⟩ => ⟨S1x1024, .f32⟩
  | .local _ .vmem, ⟨7, _⟩ => ⟨S1x1024, .f32⟩
  | .local _ .vmem, ⟨8, _⟩ => ⟨S1x1024x3840, .bf16⟩
  | .local _ .vmem, ⟨9, _⟩ => ⟨S1x3840, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1024, .f32⟩
  | .local _ .vmem, ⟨23, _⟩ => ⟨S512x1024, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S512x128, .f32⟩
  | .local _ .vmem, ⟨52, _⟩ => ⟨S512x128, .f32⟩
  | .local _ .vmem, ⟨53, _⟩ => ⟨S512x128, .f32⟩
  | .local _ .vmem, ⟨54, _⟩ => ⟨S512x128, .f32⟩
  | .local _ .vmem, ⟨55, _⟩ => ⟨S512x128, .f32⟩
  | .local _ .vmem, ⟨56, _⟩ => ⟨S512x128, .f32⟩
  | .local _ .vmem, ⟨57, _⟩ => ⟨S512x128, .f32⟩
  | .local _ .vmem, ⟨58, _⟩ => ⟨S512x128, .f32⟩
  | .local _ .vmem, ⟨59, _⟩ => ⟨S512x128, .f32⟩
  | .local _ .vmem, ⟨60, _⟩ => ⟨S512x128, .f32⟩
  | .local _ .vmem, ⟨61, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_cst_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_v11 : Ref sig .tc := ⟨.hbm, 45, rfl⟩
abbrev main_cst_6 : Ref sig .tc := ⟨.hbm, 46, rfl⟩
abbrev main_v12 : Ref sig .tc := ⟨.hbm, 47, rfl⟩
abbrev main_v13 : Ref sig .tc := ⟨.hbm, 48, rfl⟩
abbrev main_cst_7 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_8 : Ref sig .tc := ⟨.hbm, 60, rfl⟩
abbrev main_v24 : Ref sig .tc := ⟨.hbm, 61, rfl⟩
abbrev main_cst_9 : Ref sig .tc := ⟨.hbm, 62, rfl⟩
abbrev main_v25 : Ref sig .tc := ⟨.hbm, 63, rfl⟩
abbrev main_cst_10 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_11 : Ref sig .tc := ⟨.hbm, 87, rfl⟩
abbrev main_v48 : Ref sig .tc := ⟨.hbm, 88, rfl⟩
abbrev main_cst_12 : Ref sig .tc := ⟨.hbm, 89, rfl⟩
abbrev main_v49 : Ref sig .tc := ⟨.hbm, 90, rfl⟩
abbrev main_cst_13 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70_0 : Ref sig .tc := ⟨.hbm, 112, rfl⟩
abbrev main_v70_1 : Ref sig .tc := ⟨.hbm, 113, rfl⟩
abbrev main_v70_2 : Ref sig .tc := ⟨.hbm, 114, rfl⟩
abbrev main_v70_3 : Ref sig .tc := ⟨.hbm, 115, rfl⟩
abbrev main_v70_4 : Ref sig .tc := ⟨.hbm, 116, rfl⟩
abbrev main_v70_5 : Ref sig .tc := ⟨.hbm, 117, rfl⟩
abbrev main_v70_6 : Ref sig .tc := ⟨.hbm, 118, rfl⟩
abbrev main_v70_7 : Ref sig .tc := ⟨.hbm, 119, rfl⟩
abbrev main_v70_8 : Ref sig .tc := ⟨.hbm, 120, rfl⟩
abbrev main_v70_9 : Ref sig .tc := ⟨.hbm, 121, rfl⟩
abbrev main_v70_10 : Ref sig .tc := ⟨.hbm, 122, rfl⟩
abbrev main_v70_11 : Ref sig .tc := ⟨.hbm, 123, rfl⟩
abbrev main_v70_12 : Ref sig .tc := ⟨.hbm, 124, rfl⟩
abbrev main_v70_13 : Ref sig .tc := ⟨.hbm, 125, rfl⟩
abbrev main_v70_14 : Ref sig .tc := ⟨.hbm, 126, rfl⟩
abbrev main_v70_15 : Ref sig .tc := ⟨.hbm, 127, rfl⟩
abbrev main_v70_16 : Ref sig .tc := ⟨.hbm, 128, rfl⟩
abbrev main_v70_17 : Ref sig .tc := ⟨.hbm, 129, rfl⟩
abbrev main_v70_18 : Ref sig .tc := ⟨.hbm, 130, rfl⟩
abbrev main_v70_19 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg27_1 : Ref sig .tc := ⟨.vmem, 51, rfl⟩
abbrev cc0_stg28_0 : Ref sig .tc := ⟨.vmem, 52, rfl⟩
abbrev cc0_stg28_1 : Ref sig .tc := ⟨.vmem, 53, rfl⟩
abbrev cc0_stg29_0 : Ref sig .tc := ⟨.vmem, 54, rfl⟩
abbrev cc0_stg29_1 : Ref sig .tc := ⟨.vmem, 55, rfl⟩
abbrev cc0_stg30_0 : Ref sig .tc := ⟨.vmem, 56, rfl⟩
abbrev cc0_stg30_1 : Ref sig .tc := ⟨.vmem, 57, rfl⟩
abbrev cc0_stg31_0 : Ref sig .tc := ⟨.vmem, 58, rfl⟩
abbrev cc0_stg31_1 : Ref sig .tc := ⟨.vmem, 59, rfl⟩
abbrev cc0_stg32_0 : Ref sig .tc := ⟨.vmem, 60, rfl⟩
abbrev cc0_stg32_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51
abbrev cc0_sem28_0 : DmaSem sig := 52
abbrev cc0_sem28_1 : DmaSem sig := 53
abbrev cc0_sem29_0 : DmaSem sig := 54
abbrev cc0_sem29_1 : DmaSem sig := 55
abbrev cc0_sem30_0 : DmaSem sig := 56
abbrev cc0_sem30_1 : DmaSem sig := 57
abbrev cc0_sem31_0 : DmaSem sig := 58
abbrev cc0_sem31_1 : DmaSem sig := 59
abbrev cc0_sem32_0 : DmaSem sig := 60
abbrev cc0_sem32_1 : DmaSem sig := 61

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c16_i32 : BitVec 32 := 16#32
  let c0_i32_0 : BitVec 32 := 0#32
  let v1 : BitVec 1 := Scalar.cmpi .eq c16_i32 c0_i32_0
  let c1_i32 : BitVec 32 := 1#32
  let v2 : BitVec 32 := Scalar.select v1 c1_i32 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_19 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_20 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_21 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_22 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_23 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_24 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_25 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_26 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_27 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_28 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_29 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_30 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_31 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_32 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== Reference5Ideal.lean ====
abbrev S32768x1024 : Shape := ⟨2, ![32768, 1024]⟩
abbrev S4x2x32768x256 : Shape := ⟨4, ![4, 2, 32768, 256]⟩
abbrev S4x32768 : Shape := ⟨2, ![4, 32768]⟩
abbrev S1024 : Shape := ⟨1, ![1024]⟩
abbrev S2x1024x3840 : Shape := ⟨3, ![2, 1024, 3840]⟩
abbrev S2x3840 : Shape := ⟨2, ![2, 3840]⟩
abbrev S8192 : Shape := ⟨1, ![8192]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S31 : Shape := ⟨1, ![31]⟩
abbrev S1 : Shape := ⟨1, ![1]⟩
abbrev S32 : Shape := ⟨1, ![32]⟩
abbrev S1x32 : Shape := ⟨2, ![1, 32]⟩
abbrev S8192x32 : Shape := ⟨2, ![8192, 32]⟩
abbrev S4x1x32768x256 : Shape := ⟨4, ![4, 1, 32768, 256]⟩
abbrev S4x32768x256 : Shape := ⟨3, ![4, 32768, 256]⟩
abbrev S4x32768x1024 : Shape := ⟨3, ![4, 32768, 1024]⟩
abbrev S4x32768x1 : Shape := ⟨3, ![4, 32768, 1]⟩
abbrev S32768 : Shape := ⟨1, ![32768]⟩
abbrev S32768x1 : Shape := ⟨2, ![32768, 1]⟩
abbrev S1x1024 : Shape := ⟨2, ![1, 1024]⟩
abbrev S1x1024x3840 : Shape := ⟨3, ![1, 1024, 3840]⟩
abbrev S1024x3840 : Shape := ⟨2, ![1024, 3840]⟩
abbrev S32768x3840 : Shape := ⟨2, ![32768, 3840]⟩
abbrev S1x3840 : Shape := ⟨2, ![1, 3840]⟩
abbrev S3840 : Shape := ⟨1, ![3840]⟩
abbrev S32768x256 : Shape := ⟨2, ![32768, 256]⟩
abbrev S32768x512 : Shape := ⟨2, ![32768, 512]⟩
abbrev S32768x128 : Shape := ⟨2, ![32768, 128]⟩
abbrev S4x8192x4x64 : Shape := ⟨4, ![4, 8192, 4, 64]⟩
abbrev S1x8192x1x32 : Shape := ⟨4, ![1, 8192, 1, 32]⟩
abbrev S4x8192x4x32 : Shape := ⟨4, ![4, 8192, 4, 32]⟩
abbrev S4x8192x4x0 : Shape := ⟨4, ![4, 8192, 4, 0]⟩
abbrev S4x8192x8x64 : Shape := ⟨4, ![4, 8192, 8, 64]⟩
abbrev S1x8192x1x8 : Shape := ⟨4, ![1, 8192, 1, 8]⟩
abbrev S4x8192x8x8 : Shape := ⟨4, ![4, 8192, 8, 8]⟩
abbrev S4x8192x8x48 : Shape := ⟨4, ![4, 8192, 8, 48]⟩
abbrev S4x8192x2x64 : Shape := ⟨4, ![4, 8192, 2, 64]⟩
abbrev S4x8192x2x8 : Shape := ⟨4, ![4, 8192, 2, 8]⟩
abbrev S4x8192x2x48 : Shape := ⟨4, ![4, 8192, 2, 48]⟩

abbrev nBuf : Space → Nat
  | .hbm => 322
  | .vmem => 0
  | .smem => 0
  | _ => 0

abbrev hbmTy0_0 (i : Nat) : BufTy := match i % 128 with
  | 0 => ⟨S32768x1024, .f32⟩
  | 1 => ⟨S4x2x32768x256, .i32⟩
  | 2 => ⟨S4x32768, .f32⟩
  | 3 => ⟨S1024, .f32⟩
  | 4 => ⟨S1024, .f32⟩
  | 5 => ⟨S2x1024x3840, .f32⟩
  | 6 => ⟨S2x3840, .f32⟩
  | 7 => ⟨S8192, .f32⟩
  | 8 => ⟨S8192x1, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S1x8, .f32⟩
  | 26 => ⟨S8192x8, .f32⟩
  | 27 => ⟨S8192x8, .f32⟩
  | 28 => ⟨S8192x8, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S31, .f32⟩
  | 37 => ⟨S_, .f32⟩
  | 38 => ⟨S31, .f32⟩
  | 39 => ⟨S31, .f32⟩
  | 40 => ⟨S1, .f32⟩
  | 41 => ⟨S_, .f32⟩
  | 42 => ⟨S31, .f32⟩
  | 43 => ⟨S31, .f32⟩
  | 44 => ⟨S31, .f32⟩
  | 45 => ⟨S31, .f32⟩
  | 46 => ⟨S1, .f32⟩
  | 47 => ⟨S31, .f32⟩
  | 48 => ⟨S31, .f32⟩
  | 49 => ⟨S31, .f32⟩
  | 50 => ⟨S1, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S1x32, .f32⟩
  | 59 => ⟨S8192x32, .f32⟩
  | 60 => ⟨S8192x32, .f32⟩
  | 61 => ⟨S8192x32, .f32⟩
  | 62 => ⟨S_, .i32⟩
  | 63 => ⟨S4x2x32768x256, .i32⟩
  | 64 => ⟨S4x2x32768x256, .i32⟩
  | 65 => ⟨S4x2x32768x256, .f32⟩
  | 66 => ⟨S_, .i32⟩
  | 67 => ⟨S4x2x32768x256, .i32⟩
  | 68 => ⟨S4x2x32768x256, .i32⟩
  | 69 => ⟨S4x2x32768x256, .f32⟩
  | 70 => ⟨S4x1x32768x256, .f32⟩
  | 71 => ⟨S4x32768x256, .f32⟩
  | 72 => ⟨S4x1x32768x256, .f32⟩
  | 73 => ⟨S4x32768x256, .f32⟩
  | 74 => ⟨S4x1x32768x256, .f32⟩
  | 75 => ⟨S4x32768x256, .f32⟩
  | 76 => ⟨S4x1x32768x256, .f32⟩
  | 77 => ⟨S4x32768x256, .f32⟩
  | 78 => ⟨S4x32768x1024, .f32⟩
  | 79 => ⟨S_, .f32⟩
  | 80 => ⟨S32768x1024, .f32⟩
  | 81 => ⟨S32768x1024, .f32⟩
  | 82 => ⟨S4x32768x1, .f32⟩
  | 83 => ⟨S4x32768x1024, .f32⟩
  | 84 => ⟨S4x32768x1024, .f32⟩
  | 85 => ⟨S_, .f32⟩
  | 86 => ⟨S32768x1024, .f32⟩
  | 87 => ⟨S32768x1024, .f32⟩
  | 88 => ⟨S_, .f32⟩
  | 89 => ⟨S32768, .f32⟩
  | 90 => ⟨S32768x1, .f32⟩
  | 91 => ⟨S_, .f32⟩
  | 92 => ⟨S32768x1, .f32⟩
  | 93 => ⟨S32768x1, .f32⟩
  | 94 => ⟨S32768x1024, .f32⟩
  | 95 => ⟨S32768x1024, .f32⟩
  | 96 => ⟨S32768x1024, .f32⟩
  | 97 => ⟨S_, .f32⟩
  | 98 => ⟨S32768, .f32⟩
  | 99 => ⟨S32768x1, .f32⟩
  | 100 => ⟨S_, .f32⟩
  | 101 => ⟨S32768x1, .f32⟩
  | 102 => ⟨S32768x1, .f32⟩
  | 103 => ⟨S32768x1024, .f32⟩
  | 104 => ⟨S32768x1024, .f32⟩
  | 105 => ⟨S_, .f32⟩
  | 106 => ⟨S32768x1, .f32⟩
  | 107 => ⟨S32768x1, .f32⟩
  | 108 => ⟨S32768x1, .f32⟩
  | 109 => ⟨S32768x1024, .f32⟩
  | 110 => ⟨S32768x1024, .f32⟩
  | 111 => ⟨S1x1024, .f32⟩
  | 112 => ⟨S32768x1024, .f32⟩
  | 113 => ⟨S32768x1024, .f32⟩
  | 114 => ⟨S1x1024, .f32⟩
  | 115 => ⟨S32768x1024, .f32⟩
  | 116 => ⟨S32768x1024, .f32⟩
  | 117 => ⟨S1x1024x3840, .f32⟩
  | 118 => ⟨S1024x3840, .f32⟩
  | 119 => ⟨S32768x3840, .f32⟩
  | 120 => ⟨S1x3840, .f32⟩
  | 121 => ⟨S3840, .f32⟩
  | 122 => ⟨S1x3840, .f32⟩
  | 123 => ⟨S32768x3840, .f32⟩
  | 124 => ⟨S32768x3840, .f32⟩
  | 125 => ⟨S32768x256, .f32⟩
  | 126 => ⟨S32768x256, .f32⟩
  | 127 => ⟨S32768x512, .f32⟩
  | _ => ⟨S32768x1024, .f32⟩

abbrev hbmTy0_1 (i : Nat) : BufTy := match i % 128 with
  | 0 => ⟨S32768x512, .f32⟩
  | 1 => ⟨S32768x512, .f32⟩
  | 2 => ⟨S32768x128, .f32⟩
  | 3 => ⟨S32768x128, .f32⟩
  | 4 => ⟨S32768x512, .f32⟩
  | 5 => ⟨S32768x128, .f32⟩
  | 6 => ⟨S32768x128, .f32⟩
  | 7 => ⟨S32768x512, .f32⟩
  | 8 => ⟨S32768x128, .f32⟩
  | 9 => ⟨S32768x128, .f32⟩
  | 10 => ⟨S4x8192x4x64, .f32⟩
  | 11 => ⟨S8192x32, .f32⟩
  | 12 => ⟨S8192x32, .f32⟩
  | 13 => ⟨S1x8192x1x32, .f32⟩
  | 14 => ⟨S1x8192x1x32, .f32⟩
  | 15 => ⟨S4x8192x4x32, .f32⟩
  | 16 => ⟨S4x8192x4x32, .f32⟩
  | 17 => ⟨S4x8192x4x0, .f32⟩
  | 18 => ⟨S4x8192x4x32, .f32⟩
  | 19 => ⟨S4x8192x4x32, .f32⟩
  | 20 => ⟨S4x8192x4x32, .f32⟩
  | 21 => ⟨S4x8192x4x32, .f32⟩
  | 22 => ⟨S4x8192x4x32, .f32⟩
  | 23 => ⟨S4x8192x4x32, .f32⟩
  | 24 => ⟨S4x8192x4x32, .f32⟩
  | 25 => ⟨S4x8192x4x32, .f32⟩
  | 26 => ⟨S4x8192x4x32, .f32⟩
  | 27 => ⟨S4x8192x4x32, .f32⟩
  | 28 => ⟨S4x8192x4x64, .f32⟩
  | 29 => ⟨S32768x256, .f32⟩
  | 30 => ⟨S32768x256, .bf16⟩
  | 31 => ⟨S4x8192x4x64, .f32⟩
  | 32 => ⟨S8192x32, .f32⟩
  | 33 => ⟨S8192x32, .f32⟩
  | 34 => ⟨S1x8192x1x32, .f32⟩
  | 35 => ⟨S1x8192x1x32, .f32⟩
  | 36 => ⟨S4x8192x4x32, .f32⟩
  | 37 => ⟨S4x8192x4x32, .f32⟩
  | 38 => ⟨S4x8192x4x0, .f32⟩
  | 39 => ⟨S4x8192x4x32, .f32⟩
  | 40 => ⟨S4x8192x4x32, .f32⟩
  | 41 => ⟨S4x8192x4x32, .f32⟩
  | 42 => ⟨S4x8192x4x32, .f32⟩
  | 43 => ⟨S4x8192x4x32, .f32⟩
  | 44 => ⟨S4x8192x4x32, .f32⟩
  | 45 => ⟨S4x8192x4x32, .f32⟩
  | 46 => ⟨S4x8192x4x32, .f32⟩
  | 47 => ⟨S4x8192x4x32, .f32⟩
  | 48 => ⟨S4x8192x4x32, .f32⟩
  | 49 => ⟨S4x8192x4x64, .f32⟩
  | 50 => ⟨S32768x256, .f32⟩
  | 51 => ⟨S32768x256, .bf16⟩
  | 52 => ⟨S32768x512, .bf16⟩
  | 53 => ⟨S32768x512, .bf16⟩
  | 54 => ⟨S4x8192x8x64, .f32⟩
  | 55 => ⟨S8192x8, .f32⟩
  | 56 => ⟨S8192x8, .f32⟩
  | 57 => ⟨S1x8192x1x8, .f32⟩
  | 58 => ⟨S1x8192x1x8, .f32⟩
  | 59 => ⟨S4x8192x8x8, .f32⟩
  | 60 => ⟨S4x8192x8x8, .f32⟩
  | 61 => ⟨S4x8192x8x48, .f32⟩
  | 62 => ⟨S4x8192x8x8, .f32⟩
  | 63 => ⟨S4x8192x8x8, .f32⟩
  | 64 => ⟨S4x8192x8x8, .f32⟩
  | 65 => ⟨S4x8192x8x8, .f32⟩
  | 66 => ⟨S4x8192x8x8, .f32⟩
  | 67 => ⟨S4x8192x8x8, .f32⟩
  | 68 => ⟨S4x8192x8x8, .f32⟩
  | 69 => ⟨S4x8192x8x8, .f32⟩
  | 70 => ⟨S4x8192x8x8, .f32⟩
  | 71 => ⟨S4x8192x8x8, .f32⟩
  | 72 => ⟨S4x8192x8x64, .f32⟩
  | 73 => ⟨S_, .f32⟩
  | 74 => ⟨S4x8192x8x64, .f32⟩
  | 75 => ⟨S4x8192x8x64, .f32⟩
  | 76 => ⟨S32768x512, .f32⟩
  | 77 => ⟨S32768x512, .bf16⟩
  | 78 => ⟨S4x8192x2x64, .f32⟩
  | 79 => ⟨S8192x8, .f32⟩
  | 80 => ⟨S8192x8, .f32⟩
  | 81 => ⟨S1x8192x1x8, .f32⟩
  | 82 => ⟨S1x8192x1x8, .f32⟩
  | 83 => ⟨S4x8192x2x8, .f32⟩
  | 84 => ⟨S4x8192x2x8, .f32⟩
  | 85 => ⟨S4x8192x2x48, .f32⟩
  | 86 => ⟨S4x8192x2x8, .f32⟩
  | 87 => ⟨S4x8192x2x8, .f32⟩
  | 88 => ⟨S4x8192x2x8, .f32⟩
  | 89 => ⟨S4x8192x2x8, .f32⟩
  | 90 => ⟨S4x8192x2x8, .f32⟩
  | 91 => ⟨S4x8192x2x8, .f32⟩
  | 92 => ⟨S4x8192x2x8, .f32⟩
  | 93 => ⟨S4x8192x2x8, .f32⟩
  | 94 => ⟨S4x8192x2x8, .f32⟩
  | 95 => ⟨S4x8192x2x8, .f32⟩
  | 96 => ⟨S4x8192x2x64, .f32⟩
  | 97 => ⟨S32768x128, .f32⟩
  | 98 => ⟨S32768x128, .bf16⟩
  | 99 => ⟨S32768x128, .bf16⟩
  | 100 => ⟨S4x8192x8x64, .f32⟩
  | 101 => ⟨S8192x8, .f32⟩
  | 102 => ⟨S8192x8, .f32⟩
  | 103 => ⟨S1x8192x1x8, .f32⟩
  | 104 => ⟨S1x8192x1x8, .f32⟩
  | 105 => ⟨S4x8192x8x8, .f32⟩
  | 106 => ⟨S4x8192x8x8, .f32⟩
  | 107 => ⟨S4x8192x8x48, .f32⟩
  | 108 => ⟨S4x8192x8x8, .f32⟩
  | 109 => ⟨S4x8192x8x8, .f32⟩
  | 110 => ⟨S4x8192x8x8, .f32⟩
  | 111 => ⟨S4x8192x8x8, .f32⟩
  | 112 => ⟨S4x8192x8x8, .f32⟩
  | 113 => ⟨S4x8192x8x8, .f32⟩
  | 114 => ⟨S4x8192x8x8, .f32⟩
  | 115 => ⟨S4x8192x8x8, .f32⟩
  | 116 => ⟨S4x8192x8x8, .f32⟩
  | 117 => ⟨S4x8192x8x8, .f32⟩
  | 118 => ⟨S4x8192x8x64, .f32⟩
  | 119 => ⟨S_, .f32⟩
  | 120 => ⟨S4x8192x8x64, .f32⟩
  | 121 => ⟨S4x8192x8x64, .f32⟩
  | 122 => ⟨S32768x512, .f32⟩
  | 123 => ⟨S32768x128, .f32⟩
  | 124 => ⟨S32768x128, .f32⟩
  | 125 => ⟨S32768x128, .f32⟩
  | 126 => ⟨S32768x128, .f32⟩
  | 127 => ⟨S4x8192x2x64, .f32⟩
  | _ => ⟨S32768x1024, .f32⟩

abbrev hbmTy0_2 (i : Nat) : BufTy := match i % 128 with
  | 0 => ⟨S8192x8, .f32⟩
  | 1 => ⟨S8192x8, .f32⟩
  | 2 => ⟨S1x8192x1x8, .f32⟩
  | 3 => ⟨S1x8192x1x8, .f32⟩
  | 4 => ⟨S4x8192x2x8, .f32⟩
  | 5 => ⟨S4x8192x2x8, .f32⟩
  | 6 => ⟨S4x8192x2x48, .f32⟩
  | 7 => ⟨S4x8192x2x8, .f32⟩
  | 8 => ⟨S4x8192x2x8, .f32⟩
  | 9 => ⟨S4x8192x2x8, .f32⟩
  | 10 => ⟨S4x8192x2x8, .f32⟩
  | 11 => ⟨S4x8192x2x8, .f32⟩
  | 12 => ⟨S4x8192x2x8, .f32⟩
  | 13 => ⟨S4x8192x2x8, .f32⟩
  | 14 => ⟨S4x8192x2x8, .f32⟩
  | 15 => ⟨S4x8192x2x8, .f32⟩
  | 16 => ⟨S4x8192x2x8, .f32⟩
  | 17 => ⟨S4x8192x2x64, .f32⟩
  | 18 => ⟨S32768x128, .f32⟩
  | 19 => ⟨S4x8192x8x64, .f32⟩
  | 20 => ⟨S8192x8, .f32⟩
  | 21 => ⟨S8192x8, .f32⟩
  | 22 => ⟨S1x8192x1x8, .f32⟩
  | 23 => ⟨S1x8192x1x8, .f32⟩
  | 24 => ⟨S4x8192x8x8, .f32⟩
  | 25 => ⟨S4x8192x8x8, .f32⟩
  | 26 => ⟨S4x8192x8x48, .f32⟩
  | 27 => ⟨S4x8192x8x8, .f32⟩
  | 28 => ⟨S4x8192x8x8, .f32⟩
  | 29 => ⟨S4x8192x8x8, .f32⟩
  | 30 => ⟨S4x8192x8x8, .f32⟩
  | 31 => ⟨S4x8192x8x8, .f32⟩
  | 32 => ⟨S4x8192x8x8, .f32⟩
  | 33 => ⟨S4x8192x8x8, .f32⟩
  | 34 => ⟨S4x8192x8x8, .f32⟩
  | 35 => ⟨S4x8192x8x8, .f32⟩
  | 36 => ⟨S4x8192x8x8, .f32⟩
  | 37 => ⟨S4x8192x8x64, .f32⟩
  | 38 => ⟨S_, .f32⟩
  | 39 => ⟨S4x8192x8x64, .f32⟩
  | 40 => ⟨S4x8192x8x64, .f32⟩
  | 41 => ⟨S32768x512, .f32⟩
  | 42 => ⟨S32768x128, .f32⟩
  | 43 => ⟨S32768x128, .f32⟩
  | 44 => ⟨S32768x128, .f32⟩
  | 45 => ⟨S32768x128, .f32⟩
  | 46 => ⟨S4x8192x2x64, .f32⟩
  | 47 => ⟨S8192x8, .f32⟩
  | 48 => ⟨S8192x8, .f32⟩
  | 49 => ⟨S1x8192x1x8, .f32⟩
  | 50 => ⟨S1x8192x1x8, .f32⟩
  | 51 => ⟨S4x8192x2x8, .f32⟩
  | 52 => ⟨S4x8192x2x8, .f32⟩
  | 53 => ⟨S4x8192x2x48, .f32⟩
  | 54 => ⟨S4x8192x2x8, .f32⟩
  | 55 => ⟨S4x8192x2x8, .f32⟩
  | 56 => ⟨S4x8192x2x8, .f32⟩
  | 57 => ⟨S4x8192x2x8, .f32⟩
  | 58 => ⟨S4x8192x2x8, .f32⟩
  | 59 => ⟨S4x8192x2x8, .f32⟩
  | 60 => ⟨S4x8192x2x8, .f32⟩
  | 61 => ⟨S4x8192x2x8, .f32⟩
  | 62 => ⟨S4x8192x2x8, .f32⟩
  | 63 => ⟨S4x8192x2x8, .f32⟩
  | 64 => ⟨S4x8192x2x64, .f32⟩
  | 65 => ⟨S32768x128, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_cst : Ref sig .tc := ⟨.hbm, 34, rfl⟩
abbrev main_call0_v3 : Ref sig .tc := ⟨.hbm, 35, rfl⟩
abbrev main_call0_v4 : Ref sig .tc := ⟨.hbm, 36, rfl⟩
abbrev main_call0_cst_0 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_v17 : Ref sig .tc := ⟨.hbm, 51, rfl⟩
abbrev main_cst_6 : Ref sig .tc := ⟨.hbm, 52, rfl⟩
abbrev main_v18 : Ref sig .tc := ⟨.hbm, 53, rfl⟩
abbrev main_v19 : Ref sig .tc := ⟨.hbm, 54, rfl⟩
abbrev main_cst_7 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_cst_11 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_cst_14 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_15 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_16 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_17 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_cst_18 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩

abbrev nD : Nat := 1
abbrev τ : Topo := Topo.v7x

variable {F : FTy → Type} [FloatOps F]
-- ==== Proof.Words.lean ====
/-
  The words the gather's tile computes, in closed form: at the tile at coordinates `i` and at trip `k` of its
  thirty-two, which slot of each ring a transfer names, which block of the row numbers and of the result, and which of
  the guarded transfers the trip makes. Each is evaluated over the 2 × 16 tiles and the thirty-two trips.
-/
module

public import proofs.«01_k».proof.Defs
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The word of a number. -/
abbrev w32 (k : ℕ) : BitVec 32 := BitVec.ofNat 32 k

/-- The first block of the tile at coordinates `i`: its thirty-two blocks follow one another. -/
def base (i : grid0.Coords) : ℕ := 32 * ((i 1).val + 16 * (i 0).val)

theorem trips_eq : k0_t1_loop.trips = 32 := by decide +kernel

/-- Trip `k` as the loop numbers it. -/
abbrev trip (k : Fin 32) : Fin k0_t1_loop.trips := Fin.cast trips_eq.symm k

theorem off2_at : ∀ i : grid0.Coords, k0_off2 i = ![0, 128 * base i] := by decide +kernel
theorem off4_at : ∀ k : Fin 32, k0_off4 (w32 (k.val + 1)) = ![(k.val + 1) % 2, 0, 0] := by decide +kernel
theorem off6_at : ∀ k : Fin 32, k0_off6 (w32 (k.val + 1)) = ![(k.val + 1) % 2] := by decide +kernel
theorem off7_at : ∀ k : Fin 32, k0_off7 (w32 k.val) = ![k.val % 2, 0, 0] := by decide +kernel
theorem off9_at : ∀ k : Fin 32, k0_off9 (w32 k.val) = ![k.val % 2] := by decide +kernel
theorem off10_at : ∀ k : Fin 32, k0_off10 (w32 k.val) = ![k.val % 2, 0, 0, 0] := by decide +kernel
theorem off11_at : ∀ k : Fin 32, k0_off11 (w32 k.val) = ![k.val % 2, 0, 0] := by decide +kernel
theorem off12_at : ∀ k : Fin 32, k0_off12 (w32 k.val) = ![k.val % 2, 0, 0, 0] := by decide +kernel
theorem off14_at : ∀ k : Fin 32, k0_off14 (w32 k.val) = ![k.val % 2] := by decide +kernel
theorem off15_at : ∀ k : Fin 32, k0_off15 (w32 (k.val - 1)) = ![(k.val - 1) % 2, 0, 0, 0] := by decide +kernel
theorem off17_at : ∀ k : Fin 32, k0_off17 (w32 (k.val - 1)) = ![(k.val - 1) % 2] := by decide +kernel
theorem off5_at : ∀ (i : grid0.Coords) (k : Fin 32), k.val < 31 → k0_off5 i (w32 k.val) = ![0, 128 * (base i + (k.val + 1))] := by decide +kernel
theorem off8_at : ∀ (i : grid0.Coords) (k : Fin 32), k0_off8 i (w32 k.val) = ![0, 128 * (base i + k.val)] := by decide +kernel
theorem off13_at : ∀ (i : grid0.Coords) (k : Fin 32), k0_off13 i (w32 k.val) = ![128 * (base i + k.val), 0, 0] := by decide +kernel
theorem off16_at : ∀ (i : grid0.Coords) (k : Fin 32), 0 < k.val → k0_off16 i (w32 k.val) = ![128 * (base i + (k.val - 1)), 0, 0] := by decide +kernel
theorem off18_at : k0_off18 (w32 31) = ![1, 0, 0, 0] := by decide +kernel
theorem off19_at : ∀ i : grid0.Coords, k0_off19 i (w32 0) = ![128 * (base i + 31), 0, 0] := by decide +kernel
theorem off20_at : k0_off20 (w32 31) = ![1] := by decide +kernel
theorem off21_at : k0_off21 (w32 31) = ![1, 0, 0, 0] := by decide +kernel

theorem cond1_at : ∀ (i : grid0.Coords) (k : Fin 32), (k0_cond1 i (trip k) (w32 k.val) = 1#1 ↔ k.val < 31) := by decide +kernel
theorem cond2_at : ∀ (i : grid0.Coords) (k : Fin 32), k0_cond2 i (trip k) (w32 k.val) = 1#1 := by decide +kernel
theorem cond5_at : ∀ (i : grid0.Coords) (k : Fin 32), k0_cond5 i (trip k) (w32 k.val) = 1#1 := by decide +kernel
theorem cond7_at : ∀ (i : grid0.Coords) (k : Fin 32), (k0_cond7 i (trip k) (w32 k.val) = 1#1 ↔ 0 < k.val) := by decide +kernel

theorem chk1_at : ∀ (i : grid0.Coords) (k : Fin 32),
    k0_chk1 i (trip k) (w32 (k.val + 1)) (w32 k.val) (w32 k.val) (w32 (k.val - 1)) (w32 k.val) := by decide +kernel
theorem chk2_at : ∀ k : Fin 32, k0_chk2 (w32 k.val) := by decide +kernel
theorem chk3_at : ∀ k : Fin 32, k0_chk3 (w32 k.val) := by decide +kernel
theorem chk4_at : k0_chk4 (w32 31) := by decide +kernel
theorem chk5_at : ∀ i : grid0.Coords, k0_chk5 i (w32 0) := by decide +kernel

/-- The loop's five carried words before trip `k`. -/
def st (k : ℕ) : BitVec 32 × BitVec 32 × BitVec 32 × BitVec 32 × BitVec 32 :=
  if k < 32 then (w32 (k + 1), w32 k, w32 k, w32 (k - 1), w32 k) else (w32 32, w32 32, w32 32, w32 31, w32 0)

/-- The block the trip works on, the one before it and the one after it, as words. -/
def curW (i : grid0.Coords) (k : ℕ) : BitVec 32 :=
  Scalar.addi (w32 k) (Scalar.muli (Scalar.addi (Scalar.addi 0#32 (Scalar.muli (BitVec.ofNat 32 (i 1).val) 1#32)) (Scalar.muli (BitVec.ofNat 32 (i 0).val) 16#32)) 32#32)

end Cert.Proof.Words

end
-- ==== Proof.Tile.lean ====
/-
  One tile of the gather, transfer by transfer: the memory each transfer of its two pipelined streams and of its
  indirect copy names, at a slot of the ring and at a block of the arrays, and a rule for each transfer's issue and wait.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.Pointwise.Index
public import proofs.«01_k».proof.Proof.Words

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UU : Type := URounds (GSem nD τ sig) ℕ × Counters
/-- The resources a proof of one launch speaks of. -/
abbrev Res (F : FTy → Type) := MT nD τ sig (HIx 1) (Elt F) ℕ UU ℕ

/-! ## The arrays and the tile's memory -/

abbrev yV : Memref sig .scVector .hbm S295936x2x128 .i32 := Memref.whole main_v0_scv
abbrev iV : Memref sig .scVector .hbm S1x131072 .i32 := Memref.whole main_v1_scv
abbrev oV : Memref sig .scVector .hbm S131072x2x128 .i32 := Memref.whole main_v2_scv
abbrev sV : Memref sig .scVector .vmem S2x1x128 .i32 := Memref.whole cc0_scoped0
abbrev rV : Memref sig .scVector .vmem S2x128x2x128 .i32 := Memref.whole cc0_scoped2

/-- A slot of the row numbers' ring, one of the rows' ring, and the stretch of 128 row numbers and of 128 result rows at an offset. -/
abbrev idxSlotO (o : Fin 3 → ℕ) (h : ∀ a, o a + S1x1x128.size a ≤ S2x1x128.size a) : Memref sig .scVector .vmem S1x128 .i32 :=
  (sV.slice (Rect.unit (s := S2x1x128) o S1x1x128.size h) (fun _ => rfl)).squeeze S1x128 squeezes_S1x1x128_S1x128
abbrev rowSlotO (o : Fin 4 → ℕ) (h : ∀ a, o a + S1x128x2x128.size a ≤ S2x128x2x128.size a) : Memref sig .scVector .vmem S128x2x128 .i32 :=
  (rV.slice (Rect.unit (s := S2x128x2x128) o S1x128x2x128.size h) (fun _ => rfl)).squeeze S128x2x128 squeezes_S1x128x2x128_S128x2x128
abbrev idxBlkO (o : Fin 2 → ℕ) (h : ∀ a, o a + S1x128.size a ≤ S1x131072.size a) : Memref sig .scVector .hbm S1x128 .i32 :=
  iV.slice (Rect.unit (s := S1x131072) o S1x128.size h) (fun _ => rfl)
abbrev outBlkO (o : Fin 3 → ℕ) (h : ∀ a, o a + S128x2x128.size a ≤ S131072x2x128.size a) : Memref sig .scVector .hbm S128x2x128 .i32 :=
  oV.slice (Rect.unit (s := S131072x2x128) o S128x2x128.size h) (fun _ => rfl)
/-- The list of row numbers as the indirect copy reads it, and all of the rows. -/
abbrev offsO (o : Fin 3 → ℕ) (h : ∀ a, o a + S1x1x128.size a ≤ S2x1x128.size a) : Memref sig .scVector .vmem S128 .i32 :=
  ((idxSlotO o h).slice (Rect.unit (s := S1x128) ![0, 0] S1x128.size inb_S1x128_S1x128_0_0) (fun _ => rfl)).squeeze S128 squeezes_S1x128_S128
abbrev yAll : Memref sig .scVector .hbm S295936x2x128 .i32 :=
  yV.slice (Rect.unit (s := S295936x2x128) ![0, 0, 0] S295936x2x128.size inb_S295936x2x128_S295936x2x128_0_0_0) (fun _ => rfl)
abbrev semInO (o : Fin 1 → ℕ) (h : ∀ a, o a + S1.size a ≤ S2.size a) : DmaSem sig :=
  ((cc0_scoped1.slice (Rect.unit (s := S2) o S1.size h)).squeeze S_ squeezes_S1_S_).sem
abbrev semOutO (o : Fin 1 → ℕ) (h : ∀ a, o a + S1.size a ≤ S2.size a) : DmaSem sig :=
  ((cc0_scoped3.slice (Rect.unit (s := S2) o S1.size h)).squeeze S_ squeezes_S1_S_).sem
abbrev semG : DmaSem sig := cc0_scoped4.sem

theorem idxSlot_inb : ∀ b : Fin 2, ∀ a, (![b.val, 0, 0] : Fin 3 → ℕ) a + S1x1x128.size a ≤ S2x1x128.size a := by decide
theorem rowSlot_inb : ∀ b : Fin 2, ∀ a, (![b.val, 0, 0, 0] : Fin 4 → ℕ) a + S1x128x2x128.size a ≤ S2x128x2x128.size a := by decide
theorem sem_inb : ∀ b : Fin 2, ∀ a, (![b.val] : Fin 1 → ℕ) a + S1.size a ≤ S2.size a := by decide
theorem idxBlk_inb (n : Fin 1024) : ∀ a, (![0, 128 * n.val] : Fin 2 → ℕ) a + S1x128.size a ≤ S1x131072.size a := by
  have := n.isLt
  intro a
  match a with
  | 0 => show 0 + 1 ≤ 1; omega
  | 1 => show 128 * n.val + 128 ≤ 131072; omega
theorem outBlk_inb (n : Fin 1024) : ∀ a, (![128 * n.val, 0, 0] : Fin 3 → ℕ) a + S128x2x128.size a ≤ S131072x2x128.size a := by
  have := n.isLt
  intro a
  match a with
  | 0 => show 128 * n.val + 128 ≤ 131072; omega
  | 1 => show 0 + 2 ≤ 2; omega
  | 2 => show 0 + 128 ≤ 128; omega

abbrev idxSlot (b : Fin 2) := idxSlotO ![b.val, 0, 0] (idxSlot_inb b)
abbrev rowSlot (b : Fin 2) := rowSlotO ![b.val, 0, 0, 0] (rowSlot_inb b)
abbrev offs (b : Fin 2) := offsO ![b.val, 0, 0] (idxSlot_inb b)
abbrev semIn (b : Fin 2) : DmaSem sig := semInO ![b.val] (sem_inb b)
abbrev semOut (b : Fin 2) : DmaSem sig := semOutO ![b.val] (sem_inb b)
abbrev idxBlk (n : Fin 1024) := idxBlkO ![0, 128 * n.val] (idxBlk_inb n)
abbrev outBlk (n : Fin 1024) := outBlkO ![128 * n.val, 0, 0] (outBlk_inb n)

/-! ## The thread and the array contents -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What the gather leaves: row `x 0` of the result is the row of `fy` that entry `x 0` of `fi` names. -/
def gathered (fy : S295936x2x128.Idx → Elt F .i32) (fi : S1x131072.Idx → Elt F .i32) : S131072x2x128.Idx → Elt F .i32 :=
  fun x => fy (ix3 (n0 := 295936) (n1 := 2) (n2 := 128) ⟨(fi (ix2 (n0 := 1) (n1 := 131072) 0 (x 0))).toNat % 295936, Nat.mod_lt _ (by omega)⟩ (x 1) (x 2))

variable (d : Dev nD) (L : grid0.Coords)
variable (fy : S295936x2x128.Idx → Elt F .i32) (fi : S1x131072.Idx → Elt F .i32) (fo : S131072x2x128.Idx → Elt F .i32)

theorem set_offs (o : Fin 3 → ℕ) (h : ∀ a, o a + S1x1x128.size a ≤ S2x1x128.size a) : (offsO o h).view.set = (idxSlotO o h).view.set := by
  show (((idxSlotO o h).view.slice (Rect.unit (s := S1x128) ![0, 0] S1x128.size inb_S1x128_S1x128_0_0)).reshape S128 squeezes_S1x128_S128.numel_eq).set = _
  rw [View.set_reshape, View.set_slice]
  have hr : (Rect.unit (s := S1x128) ![0, 0] S1x128.size inb_S1x128_S1x128_0_0).set = Finset.univ := by
    refine Finset.eq_univ_iff_forall.mpr fun x => Rect.mem_set_unit.mpr fun a => ?_
    match a with
    | 0 => exact ⟨Nat.zero_le _, by have := (x 0).isLt; show (x 0).val < 0 + 1; exact (by simpa using this)⟩
    | 1 => exact ⟨Nat.zero_le _, by have := (x 1).isLt; show (x 1).val < 0 + 128; exact (by simpa using this)⟩
  rw [hr]; rfl

/-- The list the indirect copy reads, once block `n` of the row numbers has landed in the slot: entry `x` is row number `128 n + x`. -/
theorem offs_read (b : Fin 2) (n : Fin 1024) (fd : Buf (Elt F) ((idxSlot b).view.loc (thr d L))) (x : S128.Idx) :
    (offs b).view.read (Elt F) ((idxSlot b).view.write (Elt F) fd ((idxBlk n).view.read (Elt F) fi) Finset.univ) x
      = fi (ix2 (n0 := 1) (n1 := 131072) 0 ⟨128 * n.val + (x 0).val, by have := n.isLt; have : (x 0).val < 128 := (x 0).isLt; omega⟩) := by
  have he : (offs b).view.emb x = (idxSlot b).view.emb ((Rect.unit (s := S1x128) ![0, 0] S1x128.size inb_S1x128_S1x128_0_0).emb (Shape.reshapeEquiv squeezes_S1x128_S128.numel_eq x)) := rfl
  rw [View.read_apply, he, View.write_emb_of_mem _ _ (Finset.mem_univ _)]
  have hx : Shape.reshapeEquiv squeezes_S1x128_S128.numel_eq x = (Fin.cons ⟨0, Nat.one_pos⟩ x : S1x128.Idx) :=
    Shape.reshapeEquiv_cons_one (n := 1) (d := ![128]) squeezes_S1x128_S128.numel_eq x
  rw [cast_cast, cast_eq, View.read_apply, cast_eq]
  congr 1
  funext a
  match a with
  | 0 => exact Subsingleton.elim (α := Fin 1) _ _
  | 1 =>
    apply Fin.ext
    rw [hx]
    show 128 * n.val + 1 * (0 + 1 * (x 0).val) = 128 * n.val + (x 0).val
    omega

theorem payload_eq (hpre : ∀ j, (fi j).toNat < 295936) (b : Fin 2) (n : Fin 1024) (fd : Buf (Elt F) ((idxSlot b).view.loc (thr d L)))
    (hin : ∀ x, ((offs b).view.read (Elt F) ((idxSlot b).view.write (Elt F) fd ((idxBlk n).view.read (Elt F) fi) Finset.univ) x).toNat
      < S295936x2x128.size gathers_S295936x2x128_S128x2x128.axis) :
    SparseCore.gatherPayload gathers_S295936x2x128_S128x2x128 (yAll.view.read (Elt F) fy)
        (SparseCore.rows (o := S128x2x128.size gathers_S295936x2x128_S128x2x128.axis') ((offs b).view.read (Elt F) ((idxSlot b).view.write (Elt F) fd ((idxBlk n).view.read (Elt F) fi) Finset.univ)) rfl hin)
      = (outBlk n).view.read (Elt F) (gathered fy fi) := by
  funext y
  unfold SparseCore.gatherPayload
  rw [View.read_apply, cast_eq, View.read_apply, cast_eq]
  unfold gathered
  congr 1
  funext a
  match a with
  | 0 =>
    apply Fin.ext
    show 0 + 1 * (Shape.Gathers.idx gathers_S295936x2x128_S128x2x128 _ y gathers_S295936x2x128_S128x2x128.axis).val = _
    rw [Shape.Gathers.idx_axis, Nat.zero_add, Nat.one_mul]
    show ((offs b).view.read (Elt F) _ (S128.rowMajor.symm (Fin.cast _ (y 0)))).toNat = _
    rw [offs_read]
    have hz : ((S128.rowMajor.symm (Fin.cast (by rfl) (y 0) : Fin S128.numel)) 0).val = (y 0).val := by
      have := Shape.rowMajor_val_one (d := ![128]) (S128.rowMajor.symm (Fin.cast (by rfl) (y 0) : Fin S128.numel))
      rw [← this]
      show (S128.rowMajor (S128.rowMajor.symm _)).val = _
      rw [Equiv.apply_symm_apply]; rfl
    have hlt : ∀ j, (fi j).toNat < 295936 := hpre
    refine Eq.trans ?_ (Nat.mod_eq_of_lt (hlt _)).symm
    refine congrArg BitVec.toNat (congrArg fi ?_)
    refine congrArg (ix2 (n0 := 1) (n1 := 131072) 0) ?_
    apply Fin.ext
    show 128 * n.val + _ = 128 * n.val + 1 * (y 0).val
    rw [hz, Nat.one_mul]
  | 1 =>
    apply Fin.ext
    show 0 + 1 * (Shape.Gathers.idx gathers_S295936x2x128_S128x2x128 _ y 1).val = 0 + 1 * (y 1).val
    rw [Shape.Gathers.idx_of_ne _ _ _ _ (by decide)]; rfl
  | 2 =>
    apply Fin.ext
    show 0 + 1 * (Shape.Gathers.idx gathers_S295936x2x128_S128x2x128 _ y 2).val = 0 + 1 * (y 2).val
    rw [Shape.Gathers.idx_of_ne _ _ _ _ (by decide)]; rfl

/-! ## The transfers' rules -/

abbrev cE : UEmb Counters (Res F) := countersEmb

variable (q qi : PosShare TreeShare)
variable {O : CellTallies nD τ sig (HIx 1)} {W : Waits sig (HIx 1)}

/-- The task may wait for its own transfers, and what it owes. -/
abbrev Lv (F : FTy → Type) : sProp (Res F) := levAts (K (F := F)).L (K (F := F)).lev
def Owe (O : CellTallies nD τ sig (HIx 1)) (W : Waits sig (HIx 1)) : sProp (Res F) :=
  iprop(∃ W', ⌜∀ p ∈ W', p ∈ W ∨ p.2 = none⌝ ∗ owes (thr d L) O W')

/-- A slot of the row numbers' ring at rest, with a share of the row numbers to fetch from. -/
def FreeIn (b : Fin 2) : sProp (Res F) :=
  iprop((∃ f, (idxSlot b).view.loc (thr d L) ↦[(idxSlot b).view.set]{fullShare} f) ∗ semVal (thr d L, .dma (semIn b)) 0
    ∗ ((iV).view.loc (thr d L) ↦{qi} fi))
/-- Block `n` of the row numbers on its way into the slot. -/
def InFl (b : Fin 2) (n : Fin 1024) : sProp (Res F) :=
  iprop(∃ f, Transfers.Flight (cE (F := F)) (thr d L) (.dma (semIn b)) (default : HIx 1) (idxSlot b).view.dmaCredit
      iprop(((idxSlot b).view.loc (thr d L) ↦[(idxSlot b).view.set]{fullShare} (idxSlot b).view.write (Elt F) f ((idxBlk n).view.read (Elt F) fi) Finset.univ)
        ∗ ((idxBlk n).view.loc (thr d L) ↦[(idxBlk n).view.set]{qi} fi))
    ∗ ((iV).view.loc (thr d L) ↦[Finset.univ \ (idxBlk n).view.set]{qi} fi))
/-- Block `n` of the row numbers in the slot. -/
def RdyIn (b : Fin 2) (n : Fin 1024) : sProp (Res F) :=
  iprop((∃ f, (idxSlot b).view.loc (thr d L) ↦[(idxSlot b).view.set]{fullShare} (idxSlot b).view.write (Elt F) f ((idxBlk n).view.read (Elt F) fi) Finset.univ)
    ∗ semVal (thr d L, .dma (semIn b)) 0 ∗ ((iV).view.loc (thr d L) ↦{qi} fi))

def FreeRow (b : Fin 2) : sProp (Res F) := iprop(∃ f, (rowSlot b).view.loc (thr d L) ↦[(rowSlot b).view.set]{fullShare} f)
/-- The rows of block `n` in the slot. -/
def RowRdy (b : Fin 2) (n : Fin 1024) : sProp (Res F) :=
  iprop(∃ f, (rowSlot b).view.loc (thr d L) ↦[(rowSlot b).view.set]{fullShare}
    (rowSlot b).view.write (Elt F) f ((outBlk n).view.read (Elt F) (gathered fy fi)) Finset.univ)
abbrev OutAt (n : Fin 1024) (f : S131072x2x128.Idx → Elt F .i32) : sProp (Res F) := ((outBlk n).view.loc (thr d L) ↦[(outBlk n).view.set]{fullShare} f)
/-- The rows of block `n` on their way to the result. -/
def OutFl (b : Fin 2) (n : Fin 1024) : sProp (Res F) :=
  iprop(∃ f, Transfers.Flight (cE (F := F)) (thr d L) (.dma (semOut b)) (default : HIx 1) (outBlk n).view.dmaCredit
      iprop(OutAt d L n (gathered fy fi) ∗ ((rowSlot b).view.loc (thr d L) ↦[(rowSlot b).view.set]{fullShare} f)))
/-- The indirect copy under way: rows of block `n` into row slot `b'`, listed in slot `b`. -/
def GFl (b b' : Fin 2) (n : Fin 1024) : sProp (Res F) :=
  iprop(∃ f g, Transfers.Flight (cE (F := F)) (thr d L) (.dma semG) (default : HIx 1) (rowSlot b').view.dmaCredit
      iprop(((rowSlot b').view.loc (thr d L) ↦[(rowSlot b').view.set]{fullShare}
              (rowSlot b').view.write (Elt F) f ((outBlk n).view.read (Elt F) (gathered fy fi)) Finset.univ)
        ∗ ((yAll).view.loc (thr d L) ↦[(yAll).view.set]{q} fy)
        ∗ ((offs b).view.loc (thr d L) ↦[(offs b).view.set]{fullShare} g))
    ∗ ((yV).view.loc (thr d L) ↦[Finset.univ \ (yAll).view.set]{q} fy)
    ∗ semVal (thr d L, .dma (semIn b)) 0 ∗ ((iV).view.loc (thr d L) ↦{qi} fi))

variable [FloatOps F]

abbrev wpT {α : Type} (p : Prog (TpuEff nD τ sig (Elt F) Λ₀ (thr d L).2) α) (Q : α → sProp (Res F)) : sProp (Res F) :=
  wp frame (wpE (defs₀ (F := F)) 𝒱₀ (thr d L) none) Set.univ p Q

theorem idxCredit_pos (b : Fin 2) : 0 < (idxSlot b).view.dmaCredit := View.dmaCredit_pos _ (by decide)
theorem outCredit_pos (n : Fin 1024) : 0 < (outBlk n).view.dmaCredit := View.dmaCredit_pos _ (by decide)

set_option maxHeartbeats 1000000 in
/-- Issuing the fetch of block `n` of the row numbers into slot `b`. -/
theorem enq_in (b : Fin 2) (n : Fin 1024) {o₁ : Fin 3 → ℕ} {h₁} (e₁ : o₁ = ![b.val, 0, 0]) {o₂ : Fin 2 → ℕ} {h₂} (e₂ : o₂ = ![0, 128 * n.val])
    {o₃ : Fin 1 → ℕ} {h₃} (e₃ : o₃ = ![b.val]) {ha hb hc} {Q : PUnit → sProp (Res F)} :
    FreeIn (F := F) d L fi qi b ⊢ iprop((InFl (F := F) d L fi qi b n -∗ Q ⟨⟩)
      -∗ wpT d L (Prog.lift (.enqueueDma (idxBlkO o₂ h₂) (.here (idxSlotO o₁ h₁)) (.dma (semInO o₃ h₃)) ha hb hc)) Q) := by
  subst e₁ e₂ e₃
  unfold FreeIn
  iintro ⟨⟨%f, Hs⟩, Hv, Hi⟩ HQ
  ihave Hi2 := (pointsTo_split_subset (ℓ := (iV).view.loc (thr d L)) (q := qi) (f := fi) (S := Finset.univ) (Finset.subset_univ (idxBlk n).view.set)).1 $$ Hi
  icases Hi2 with ⟨Hi, Hr⟩
  iapply (Transfers.wp_dmaLocal (cE (F := F)) 𝒱₀ (thr d L) none (src := idxBlk n) (dst := idxSlot b) (q := qi) (fs := fi) (default : HIx 1)
    (idxSlot b).view.dmaCredit rfl (idxCredit_pos b) (Finset.Subset.refl _)) $$ [Hs Hv Hi]
  · isplitl [Hi]; · iexact Hi
    isplitl [Hs]; · iexact Hs
    iexact Hv
  iintro Hfl
  rw [wp_ret]; imodintro
  iapply HQ
  unfold InFl
  iexists f
  isplitl [Hfl]; · iexact Hfl
  iexact Hr

/-- The record of a task's waits after one more of its own. -/
theorem owe_insert {O : CellTallies nD τ sig (HIx 1)} {W W' : Waits sig (HIx 1)} (s : SemLoc sig) (h : ∀ p ∈ W', p ∈ W ∨ p.2 = none) :
    (owes (thr d L) O (insert (s, (default : HIx 1)) W') : sProp (Res F)) ⊢ iprop(∃ W', ⌜∀ p ∈ W', p ∈ W ∨ p.2 = none⌝ ∗ owes (thr d L) O W') := by
  iintro H
  iexists _; isplitr
  swap; · iexact H
  ipureintro; intro p hp
  rcases Finset.mem_insert.mp hp with hp | hp
  · exact .inr (hp ▸ rfl)
  · exact h p hp

set_option maxHeartbeats 1000000 in
/-- Waiting for block `n` of the row numbers in slot `b`. -/
theorem wait_in (hO : ∀ g, O g none = 0) (b : Fin 2) (n : Fin 1024) {o₁ : Fin 3 → ℕ} {h₁} (e₁ : o₁ = ![b.val, 0, 0]) {o₂ : Fin 2 → ℕ} {h₂} (e₂ : o₂ = ![0, 128 * n.val])
    {o₃ : Fin 1 → ℕ} {h₃} (e₃ : o₃ = ![b.val]) {ha hb} {Q : PUnit → sProp (Res F)} :
    iprop(Lv F ∗ InFl (F := F) d L fi qi b n ∗ Owe d L O W) ⊢ iprop((iprop(RdyIn (F := F) d L fi qi b n ∗ Owe d L O W) -∗ Q ⟨⟩)
      -∗ wpT d L (Prog.lift (.waitDma2 (semInO o₃ h₃) (idxBlkO o₂ h₂) (idxSlotO o₁ h₁) ha hb)) Q) := by
  subst e₁ e₂ e₃
  unfold InFl Owe
  iintro ⟨#Hlv, ⟨%f, Hfl, Hr⟩, %W', %hW', HO⟩ HQ
  ihave Hmw := (show levAts (K (F := F)).L (K (F := F)).lev ⊢ Transfers.MayWaits (thr d L) (default : HIx 1) O from
    (K (F := F)).mayWaits_none (thr := thr d L) hO) $$ Hlv
  iapply (Transfers.wp_waitLocalO (cE (F := F)) 𝒱₀ (thr d L) none (srcw := idxBlk n) (dstw := idxSlot b) (default : HIx 1) rfl) $$ [Hfl HO]
  · isplitl [Hfl]; · iexact Hfl
    isplitl [HO]; · iexact HO
    iapply (Transfers.MayWaits.elim (SemLoc.dma (semIn b))) $$ Hmw
  iintro ⟨⟨Hs, Hi⟩, Hv, HO⟩
  rw [wp_ret]; imodintro
  iapply HQ
  isplitl [Hs Hv Hi Hr]
  · unfold RdyIn
    isplitl [Hs]; · iexists f; iexact Hs
    isplitl [Hv]; · iexact Hv
    iapply (pointsTo_split_subset (ℓ := (iV).view.loc (thr d L)) (q := qi) (f := fi) (S := Finset.univ) (Finset.subset_univ (idxBlk n).view.set)).2
    isplitl [Hi]; · iexact Hi
    iexact Hr
  · iapply (owe_insert (F := F) d L _ hW') $$ HO

set_option maxHeartbeats 2000000 in
/-- Issuing the indirect copy of block `n`'s rows. -/
theorem enq_gather (hpre : ∀ j, (fi j).toNat < 295936) (b b' : Fin 2) (n : Fin 1024) {o₁ : Fin 3 → ℕ} {h₁} (e₁ : o₁ = ![b.val, 0, 0])
    {o₂ : Fin 4 → ℕ} {h₂} (e₂ : o₂ = ![b'.val, 0, 0, 0]) {hg : S295936x2x128.Gathers 0 S128x2x128} {hn hp hs he hsp hr} {Q : PUnit → sProp (Res F)} :
    iprop(RdyIn (F := F) d L fi qi b n ∗ FreeRow (F := F) d L b' ∗ semVal (thr d L, .dma semG) 0 ∗ ((yV).view.loc (thr d L) ↦{q} fy))
      ⊢ iprop((GFl (F := F) d L fy fi q qi b b' n -∗ Q ⟨⟩)
      -∗ wpT d L (SparseCore.enqueueIndirectGather hp yAll (rowSlotO o₂ h₂) hg (offsO o₁ h₁) hn semG hs he hsp hr) Q) := by
  subst e₁ e₂
  unfold RdyIn FreeRow
  iintro ⟨⟨⟨%f, Hs⟩, Hv, Hi⟩, ⟨%g, Hg⟩, HG, Hy⟩ HQ
  ihave Hy2 := (pointsTo_split_subset (ℓ := (yV).view.loc (thr d L)) (q := q) (f := fy) (S := Finset.univ) (Finset.subset_univ (yAll).view.set)).1 $$ Hy
  icases Hy2 with ⟨Hy, Hyr⟩
  ihave Hs := (Entails.of_eq (show (((idxSlot b).view.loc (thr d L) ↦[(idxSlot b).view.set]{fullShare} (idxSlot b).view.write (Elt F) f ((idxBlk n).view.read (Elt F) fi) Finset.univ) : sProp (Res F))
      = ((offs b).view.loc (thr d L) ↦[(offs b).view.set]{fullShare} (idxSlot b).view.write (Elt F) f ((idxBlk n).view.read (Elt F) fi) Finset.univ) by rw [set_offs])) $$ Hs
  have hin : ∀ x, ((offs b).view.read (Elt F) ((idxSlot b).view.write (Elt F) f ((idxBlk n).view.read (Elt F) fi) Finset.univ) x).toNat
      < S295936x2x128.size gathers_S295936x2x128_S128x2x128.axis := fun x => by rw [offs_read d L]; exact hpre _
  have hN : ∑ j, ((rowSlot b').slice (S128x2x128.rowRect gathers_S295936x2x128_S128x2x128.axis' j) (S128x2x128.stride_rowRect gathers_S295936x2x128_S128x2x128.axis' j)).view.dmaCredit
      = (rowSlot b').view.dmaCredit := by
    fin_cases b' <;> decide
  have hb := SparseCore.wp_indirectGatherLocal (F := F) (defs := defs₀ (F := F)) (cE (F := F)) 𝒱₀ (thr d L) none (src := yAll) (dst := rowSlot b') (hg := gathers_S295936x2x128_S128x2x128)
    (offs := offs b) (hn := hn) (sem := semG) (hp := hp) (hsrc := hs) (he := he) (hsp := hsp) (hr := hr) (k := pure) (Q := Q) (q := q) (qo := fullShare) (fs := fy) (fd := g)
    (fo := (idxSlot b).view.write (Elt F) f ((idxBlk n).view.read (Elt F) fi) Finset.univ) (default : HIx 1) (rowSlot b').view.dmaCredit hN (by decide) hin
  rw [payload_eq d L fy fi hpre b n f hin] at hb
  rw [Prog.bind_pure] at hb
  iapply hb $$ [Hs Hy Hg HG]
  · isplitl [Hy]; · iexact Hy
    isplitl [Hg]; · iexact Hg
    isplitl [Hs]; · iexact Hs
    iexact HG
  iintro Hfl
  rw [wp_pure]; imodintro
  iapply HQ
  unfold GFl
  iexists g, _
  isplitl [Hfl]; · iexact Hfl
  isplitl [Hyr]; · iexact Hyr
  isplitl [Hv]; · iexact Hv
  iexact Hi

set_option maxHeartbeats 1000000 in
/-- Waiting for the indirect copy of block `n`'s rows. -/
theorem wait_gather (hO : ∀ g, O g none = 0) (b b' : Fin 2) (n : Fin 1024) {o₂ : Fin 4 → ℕ} {h₂} (e₂ : o₂ = ![b'.val, 0, 0, 0]) {ha hb} {Q : PUnit → sProp (Res F)} :
    iprop(Lv F ∗ GFl (F := F) d L fy fi q qi b b' n ∗ Owe d L O W)
      ⊢ iprop((iprop(FreeIn (F := F) d L fi qi b ∗ RowRdy (F := F) d L fy fi b' n ∗ semVal (thr d L, .dma semG) 0 ∗ ((yV).view.loc (thr d L) ↦{q} fy) ∗ Owe d L O W) -∗ Q ⟨⟩)
      -∗ wpT d L (SparseCore.waitIndirectGather semG yAll (rowSlotO o₂ h₂) ha hb) Q) := by
  subst e₂
  unfold GFl Owe
  iintro ⟨#Hlv, ⟨%f, %g, Hfl, Hyr, Hv, Hi⟩, %W', %hW', HO⟩ HQ
  ihave Hmw := (show levAts (K (F := F)).L (K (F := F)).lev ⊢ Transfers.MayWaits (thr d L) (default : HIx 1) O from
    (K (F := F)).mayWaits_none (thr := thr d L) hO) $$ Hlv
  unfold SparseCore.waitIndirectGather
  iapply (Transfers.wp_waitLocalO (cE (F := F)) 𝒱₀ (thr d L) none (srcw := yAll) (dstw := rowSlot b') (default : HIx 1) rfl) $$ [Hfl HO]
  · isplitl [Hfl]; · iexact Hfl
    isplitl [HO]; · iexact HO
    iapply (Transfers.MayWaits.elim (SemLoc.dma semG)) $$ Hmw
  iintro ⟨⟨Hs, Hy, Hg⟩, HG, HO⟩
  rw [wp_ret]; imodintro
  iapply HQ
  isplitl [Hg Hv Hi]
  · unfold FreeIn
    isplitl [Hg]
    · iexists g
      iapply (Entails.of_eq (show (((offs b).view.loc (thr d L) ↦[(offs b).view.set]{fullShare} g) : sProp (Res F))
        = ((idxSlot b).view.loc (thr d L) ↦[(idxSlot b).view.set]{fullShare} g) by rw [set_offs])) $$ Hg
    isplitl [Hv]; · iexact Hv
    iexact Hi
  isplitl [Hs]
  · unfold RowRdy
    iexists f; iexact Hs
  isplitl [HG]; · iexact HG
  isplitl [Hy Hyr]
  · iapply (pointsTo_split_subset (ℓ := (yV).view.loc (thr d L)) (q := q) (f := fy) (S := Finset.univ) (Finset.subset_univ (yAll).view.set)).2
    isplitl [Hy]; · iexact Hy
    iexact Hyr
  · iapply (owe_insert (F := F) d L _ hW') $$ HO

/-- The result block written with the slot's rows holds the gathered rows. -/
theorem out_landed (b : Fin 2) (n : Fin 1024) (f : Buf (Elt F) ((rowSlot b).view.loc (thr d L))) :
    (((outBlk n).view.loc (thr d L) ↦[(outBlk n).view.set]{fullShare} (outBlk n).view.write (Elt F) fo
        ((rowSlot b).view.read (Elt F) ((rowSlot b).view.write (Elt F) f ((outBlk n).view.read (Elt F) (gathered fy fi)) Finset.univ)) Finset.univ) : sProp (Res F))
      = OutAt d L n (gathered fy fi) := by
  rw [View.read_write_univ]
  refine pointsTo_congr fun x hx => ?_
  obtain ⟨y, -, rfl⟩ := Finset.mem_map.mp hx
  rw [View.write_emb_of_mem _ _ (Finset.mem_univ _), View.read_apply, cast_cast, cast_eq]

set_option maxHeartbeats 1000000 in
/-- Issuing the write of slot `b`'s rows to block `n` of the result. -/
theorem enq_out (b : Fin 2) (n : Fin 1024) {o₁ : Fin 4 → ℕ} {h₁} (e₁ : o₁ = ![b.val, 0, 0, 0]) {o₂ : Fin 3 → ℕ} {h₂} (e₂ : o₂ = ![128 * n.val, 0, 0])
    {o₃ : Fin 1 → ℕ} {h₃} (e₃ : o₃ = ![b.val]) {ha hb hc} {Q : PUnit → sProp (Res F)} :
    iprop(RowRdy (F := F) d L fy fi b n ∗ semVal (thr d L, .dma (semOut b)) 0 ∗ OutAt d L n fo) ⊢ iprop((OutFl (F := F) d L fy fi b n -∗ Q ⟨⟩)
      -∗ wpT d L (Prog.lift (.enqueueDma (rowSlotO o₁ h₁) (.here (outBlkO o₂ h₂)) (.dma (semOutO o₃ h₃)) ha hb hc)) Q) := by
  subst e₁ e₂ e₃
  unfold RowRdy
  iintro ⟨⟨%f, Hs⟩, Hv, Ho⟩ HQ
  have hd := Transfers.wp_dmaLocal (defs := defs₀ (F := F)) (cE (F := F)) 𝒱₀ (thr d L) none (src := rowSlot b) (via := .same) (dst := outBlk n) (sm := .dma (semOut b)) (hsrc := ha) (hdst := hb) (hsem := hc)
    (k := Prog.ret) (Q := Q) (q := fullShare)
    (fs := (rowSlot b).view.write (Elt F) f ((outBlk n).view.read (Elt F) (gathered fy fi)) Finset.univ) (fd := fo) (default : HIx 1)
    (outBlk n).view.dmaCredit rfl (outCredit_pos n) (Finset.Subset.refl _)
  rw [show ∀ w : S128x2x128.Idx → Elt F .i32, (ReadAs.same : ReadAs (Elt F) _ _ _ _).apply w = w from fun _ => rfl, out_landed] at hd
  iapply hd $$ [Hs Hv Ho]
  · isplitl [Hs]; · iexact Hs
    isplitl [Ho]; · iexact Ho
    iexact Hv
  iintro Hfl
  rw [wp_ret]; imodintro
  iapply HQ
  unfold OutFl
  iexists _
  iexact Hfl

set_option maxHeartbeats 1000000 in
/-- Waiting for the write of slot `b`'s rows to block `n` of the result. -/
theorem wait_out (hO : ∀ g, O g none = 0) (b : Fin 2) (n : Fin 1024) {o₁ : Fin 4 → ℕ} {h₁} (e₁ : o₁ = ![b.val, 0, 0, 0]) {o₂ : Fin 3 → ℕ} {h₂} (e₂ : o₂ = ![128 * n.val, 0, 0])
    {o₃ : Fin 1 → ℕ} {h₃} (e₃ : o₃ = ![b.val]) {ha hb} {Q : PUnit → sProp (Res F)} :
    iprop(Lv F ∗ OutFl (F := F) d L fy fi b n ∗ Owe d L O W)
      ⊢ iprop((iprop(FreeRow (F := F) d L b ∗ semVal (thr d L, .dma (semOut b)) 0 ∗ OutAt d L n (gathered fy fi) ∗ Owe d L O W) -∗ Q ⟨⟩)
      -∗ wpT d L (Prog.lift (.waitDma2 (semOutO o₃ h₃) (rowSlotO o₁ h₁) (outBlkO o₂ h₂) ha hb)) Q) := by
  subst e₁ e₂ e₃
  unfold OutFl Owe
  iintro ⟨#Hlv, ⟨%f, Hfl⟩, %W', %hW', HO⟩ HQ
  ihave Hmw := (show levAts (K (F := F)).L (K (F := F)).lev ⊢ Transfers.MayWaits (thr d L) (default : HIx 1) O from
    (K (F := F)).mayWaits_none (thr := thr d L) hO) $$ Hlv
  iapply (Transfers.wp_waitLocalO (cE (F := F)) 𝒱₀ (thr d L) none (srcw := rowSlot b) (dstw := outBlk n) (default : HIx 1) rfl) $$ [Hfl HO]
  · isplitl [Hfl]; · iexact Hfl
    isplitl [HO]; · iexact HO
    iapply (Transfers.MayWaits.elim (SemLoc.dma (semOut b))) $$ Hmw
  iintro ⟨⟨Ho, Hs⟩, Hv, HO⟩
  rw [wp_ret]; imodintro
  iapply HQ
  isplitl [Hs]
  · unfold FreeRow; iexists f; iexact Hs
  isplitl [Hv]; · iexact Hv
  isplitl [Ho]; · iexact Ho
  iapply (owe_insert (F := F) d L _ hW') $$ HO

end Cert.Proof.Gather

end
-- ==== Proof.Trip.lean ====
/-
  One trip of the tile's loop, and the loop: between trips, one block of row numbers is on its way in, one block of rows
  is on its way out, and every earlier block of the result holds its gathered rows.
-/
module

public import proofs.«01_k».proof.Proof.Tile

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The slot of trip `k`, and block `j` of the tile at `L`. -/
def par (k : ℕ) : Fin 2 := ⟨k % 2, Nat.mod_lt _ (by omega)⟩
def bk (L : grid0.Coords) (j : ℕ) : Fin 1024 := ⟨(base L + j) % 1024, Nat.mod_lt _ (by omega)⟩

theorem base_le : ∀ L : grid0.Coords, base L ≤ 992 := by decide +kernel
theorem bk_val (L : grid0.Coords) {j : ℕ} (h : j < 32) : (bk L j).val = base L + j := by
  have := base_le L
  exact Nat.mod_eq_of_lt (by omega)
theorem par_add_two (k : ℕ) : par (k + 2) = par k := Fin.ext (Nat.add_mod_right k 2)
theorem par_pred {k : ℕ} (h : 0 < k) : par (k - 1) = par (k + 1) := Fin.ext (by show (k - 1) % 2 = (k + 1) % 2; omega)

variable (d : Dev nD) (L : grid0.Coords)
variable (fy : S295936x2x128.Idx → Elt F .i32) (fi : S1x131072.Idx → Elt F .i32) (fo : S131072x2x128.Idx → Elt F .i32)
variable (q : PosShare TreeShare) (qi : Fin 2 → PosShare TreeShare)
variable (O : CellTallies nD τ sig (HIx 1)) (W : Waits sig (HIx 1))

def InPart (k : ℕ) : sProp (Res F) :=
  if k < 32 then InFl (F := F) d L fi (qi (par k)) (par k) (bk L k) else FreeIn (F := F) d L fi (qi (par k)) (par k)
def OutPart (k : ℕ) : sProp (Res F) :=
  if k = 0 then iprop(FreeRow (F := F) d L (par (k + 1)) ∗ semVal (thr d L, .dma (semOut (par (k + 1)))) 0)
  else OutFl (F := F) d L fy fi (par (k + 1)) (bk L (k - 1))

/-- What the tile holds before trip `k`. -/
def Inv (k : ℕ) (acc : BitVec 32 × BitVec 32 × BitVec 32 × BitVec 32 × BitVec 32) : sProp (Res F) :=
  iprop(⌜acc = st k⌝ ∗ Lv F ∗ InPart (F := F) d L fi qi k ∗ FreeIn (F := F) d L fi (qi (par (k + 1))) (par (k + 1))
    ∗ FreeRow (F := F) d L (par k) ∗ semVal (thr d L, .dma (semOut (par k))) 0
    ∗ OutPart (F := F) d L fy fi k
    ∗ bigSep (Finset.range (k - 1)) (fun j => OutAt (F := F) d L (bk L j) (gathered fy fi))
    ∗ bigSep (Finset.Ico k 32) (fun j => OutAt (F := F) d L (bk L j) fo)
    ∗ semVal (thr d L, .dma semG) 0 ∗ ((yV).view.loc (thr d L) ↦{q} fy) ∗ Owe (F := F) d L O W)

variable [FloatOps F]

/-- The first block's word, as the tile computes it. -/
def v4W (L : grid0.Coords) : BitVec 32 :=
  Scalar.muli (Scalar.addi (Scalar.addi 0#32 (Scalar.muli (BitVec.ofNat 32 (L 1).val) 1#32)) (Scalar.muli (BitVec.ofNat 32 (L 0).val) 16#32)) 32#32

abbrev bodyT (k : Fin k0_t1_loop.trips) (acc : BitVec 32 × BitVec 32 × BitVec 32 × BitVec 32 × BitVec 32) :=
  k0_t1_body (F := F) L yV (Memref.isWhole_whole _) iV (Memref.isWhole_whole _) oV (Memref.isWhole_whole _)
    sV (Memref.isWhole_whole _) cc0_scoped1 rV (Memref.isWhole_whole _) cc0_scoped3 cc0_scoped4 (v4W L) k acc

/-- The words the first part of trip `k` hands on: the trip's number and whether it is the first or the last, the block,
    the one before and the one after, the next fetch's slot counter, and whether the block is new. -/
abbrev R1 (L : grid0.Coords) (k : Fin 32) : Type :=
  Σ' (_ : k0_chk3 (w32 k.val)) (_ : k0_chk2 (w32 k.val)) (_ : k0_chk1 L (trip k) (w32 (k.val + 1)) (w32 k.val) (w32 k.val) (w32 (k.val - 1)) (w32 k.val))
    (_ : BitVec 32) (_ : BitVec 1) (_ : BitVec 1) (_ : BitVec 32) (_ : BitVec 32) (_ : BitVec 32) (_ : BitVec 32), BitVec 1
def ivW (k : Fin 32) : BitVec 32 := Scf.iv 0#32 1#32 (trip k)
def curW' (L : grid0.Coords) (k : Fin 32) : BitVec 32 := Scalar.addi (w32 k.val) (v4W L)
def prevW (L : grid0.Coords) (k : Fin 32) : BitVec 32 :=
  Scalar.addi (Scalar.select (Scalar.cmpi .eq (Scalar.select 1#1 (Scalar.subi (w32 k.val) 1#32) (w32 k.val)) 4294967295#32) 31#32
    (Scalar.select 1#1 (Scalar.subi (w32 k.val) 1#32) (w32 k.val))) (v4W L)
def nextW (L : grid0.Coords) (k : Fin 32) : BitVec 32 :=
  Scalar.addi (Scalar.select (Scalar.cmpi .eq (Scalar.select 1#1 (Scalar.addi (w32 k.val) 1#32) (w32 k.val)) 32#32) 0#32
    (Scalar.select 1#1 (Scalar.addi (w32 k.val) 1#32) (w32 k.val))) (v4W L)
def y91 (L : grid0.Coords) (k : Fin 32) : BitVec 32 :=
  Scalar.select (Scalar.andi (Scalar.andi (Scalar.cmpi .ne (curW' L k) (nextW L k)) (Scalar.xori (Scalar.cmpi .sge (ivW k) 31#32) 1#1)) 1#1)
    (Scalar.addi (w32 (k.val + 1)) 1#32) (w32 (k.val + 1))
def r1 (L : grid0.Coords) (k : Fin 32) : R1 L k :=
  ⟨chk3_at k, chk2_at k, chk1_at L k, ivW k, Scalar.cmpi .eq (ivW k) 0#32, Scalar.cmpi .eq (ivW k) 31#32,
    curW' L k, prevW L k, nextW L k, y91 L k, Scalar.cmpi .ne (curW' L k) (prevW L k)⟩

set_option maxHeartbeats 4000000 in
theorem part1_rule (k : Fin 32) {Q : R1 L k → sProp (Res F)} :
    FreeIn (F := F) d L fi (qi (par (k.val + 1))) (par (k.val + 1))
      ⊢ iprop((InPart (F := F) d L fi qi (k.val + 1) -∗ Q (r1 L k))
        -∗ wpT d L (k0_part1 (F := F) L yV (Memref.isWhole_whole _) iV (Memref.isWhole_whole _) oV (Memref.isWhole_whole _)
            sV (Memref.isWhole_whole _) cc0_scoped1 rV (Memref.isWhole_whole _) cc0_scoped3 cc0_scoped4 (v4W L) 0#32 1#32 (trip k)
            (w32 (k.val + 1)) (w32 k.val) (w32 k.val) (w32 (k.val - 1)) (w32 k.val)) Q) := by
  rw [k0_part1_eq_skeleton]
  unfold k0_part1_skel
  simp only [Prog.bind_lift, wp_assume_of 𝒱₀ (thr d L) none Set.univ (chk3_at k), wp_assume_of 𝒱₀ (thr d L) none Set.univ (chk2_at k), wp_assume_of 𝒱₀ (thr d L) none Set.univ (chk1_at L k)]
  by_cases h : k.val < 31
  · rw [dif_pos ((cond1_at L k).mpr h)]
    rw [← Prog.bind_lift, wp_bind]
    simp only [wp_pure]
    rw [InPart, if_pos (by omega : k.val + 1 < 32)]
    unfold r1 y91 curW' prevW nextW ivW
    iintro HF Hq
    iapply (enq_in (F := F) d L fi (qi (par (k.val + 1))) (par (k.val + 1)) (bk L (k.val + 1)) (off4_at k)
      ((off5_at L k h).trans (by rw [bk_val L (by omega)])) (off6_at k)) $$ HF
    iintro HF
    imodintro
    iapply Hq $$ HF
  · rw [dif_neg (fun hc => h ((cond1_at L k).mp hc))]
    rw [wp_pure, InPart, if_neg (by omega : ¬ k.val + 1 < 32)]
    unfold r1 y91 curW' prevW nextW ivW
    iintro HF Hq
    imodintro
    iapply Hq $$ HF

variable {O W}

set_option maxHeartbeats 4000000 in
theorem part2_rule (hO : ∀ g, O g none = 0) (hpre : ∀ j, (fi j).toNat < 295936) (k : Fin 32) (a5 : BitVec 32) (a64 a65 : BitVec 1)
    (a66 a71 a76 : BitVec 32) (a96 : BitVec 1) {Q : (Σ' (_ : BitVec 1) (_ : BitVec 32), BitVec 32) → sProp (Res F)} :
    iprop(Lv F ∗ InFl (F := F) d L fi (qi (par k.val)) (par k.val) (bk L k.val) ∗ FreeRow (F := F) d L (par k.val)
        ∗ semVal (thr d L, .dma semG) 0 ∗ ((yV).view.loc (thr d L) ↦{q} fy) ∗ Owe (F := F) d L O W)
      ⊢ iprop((iprop(FreeIn (F := F) d L fi (qi (par k.val)) (par k.val) ∗ RowRdy (F := F) d L fy fi (par k.val) (bk L k.val)
          ∗ semVal (thr d L, .dma semG) 0 ∗ ((yV).view.loc (thr d L) ↦{q} fy) ∗ Owe (F := F) d L O W)
            -∗ Q ⟨Scalar.ori (Scalar.cmpi .ne a66 a76) a65, Scalar.extui (Scalar.ori (Scalar.cmpi .ne a66 a76) a65), 0#32⟩)
        -∗ wpT d L (k0_part2 (F := F) L yV (Memref.isWhole_whole _) iV (Memref.isWhole_whole _) oV (Memref.isWhole_whole _)
            sV (Memref.isWhole_whole _) cc0_scoped1 rV (Memref.isWhole_whole _) cc0_scoped3 cc0_scoped4 (trip k)
            (w32 (k.val + 1)) (w32 k.val) (w32 k.val) (w32 (k.val - 1)) (w32 k.val) (chk3_at k) (chk2_at k) (chk1_at L k)
            a5 a64 a65 a66 a71 a76 a96) Q) := by
  rw [k0_part2_eq_skeleton]
  unfold k0_part2_skel
  simp only [wp_bind, dif_pos (cond2_at L k), ite_self, wp_pure]
  iintro ⟨#Hlv, Hin, Hrow, Hg, Hy, HO⟩ Hq
  iapply (wait_in (F := F) d L fi (qi (par k.val)) hO (par k.val) (bk L k.val) (off7_at k)
      ((off8_at L k).trans (by rw [bk_val L k.isLt])) (off9_at k)) $$ [Hin HO]
  · isplitr; · iexact Hlv
    isplitl [Hin]; · iexact Hin
    iexact HO
  iintro ⟨Hin, HO⟩
  iapply (enq_gather (F := F) d L fy fi q (qi (par k.val)) hpre (par k.val) (par k.val) (bk L k.val) (off11_at k) (off10_at k)) $$ [Hin Hrow Hg Hy]
  · isplitl [Hin]; · iexact Hin
    isplitl [Hrow]; · iexact Hrow
    isplitl [Hg]; · iexact Hg
    iexact Hy
  iintro Hfl
  iapply (wait_gather (F := F) d L fy fi q (qi (par k.val)) hO (par k.val) (par k.val) (bk L k.val) (off10_at k)) $$ [Hfl HO]
  · isplitr; · iexact Hlv
    isplitl [Hfl]; · iexact Hfl
    iexact HO
  iintro H
  imodintro
  iapply Hq $$ H

theorem OutPart_zero {k : ℕ} (h : ¬ 0 < k) :
    OutPart (F := F) d L fy fi k = iprop(FreeRow (F := F) d L (par (k + 1)) ∗ semVal (thr d L, .dma (semOut (par (k + 1)))) 0) :=
  if_pos (by omega)
theorem OutPart_pos {k : ℕ} (h : 0 < k) :
    OutPart (F := F) d L fy fi k = OutFl (F := F) d L fy fi (par (k - 1)) (bk L (k - 1)) := by
  rw [OutPart, if_neg (by omega), par_pred h]
theorem OutPart_succ (k : ℕ) : OutPart (F := F) d L fy fi (k + 1) = OutFl (F := F) d L fy fi (par k) (bk L k) := by
  rw [OutPart_pos (F := F) d L fy fi (by omega)]; rfl
theorem done_succ (f : ℕ → sProp (Res F)) {k : ℕ} (h : 0 < k) : bigSep (Finset.range (k + 1 - 1)) f = iprop(f (k - 1) ∗ bigSep (Finset.range (k - 1)) f) := by
  rw [show k + 1 - 1 = (k - 1) + 1 by omega, Finset.range_add_one, SparseCore.bigSep_insert' (by simp)]

/-- What trip `k` yields is what trip `k + 1` starts from. -/
theorem yield_eq : ∀ (L : grid0.Coords) (k : Fin 32),
    (y91 L k,
      Scalar.select (Scalar.ori (Scalar.cmpi .ne (curW' L k) (nextW L k)) (Scalar.cmpi .eq (ivW k) 31#32)) (Scalar.addi (w32 k.val) 1#32) (w32 k.val),
      Scalar.select (Scalar.andi (Scalar.ori (Scalar.cmpi .ne (curW' L k) (nextW L k)) (Scalar.cmpi .eq (ivW k) 31#32)) 1#1) (Scalar.addi (w32 k.val) 1#32) (w32 k.val),
      Scalar.select (Scalar.andi (Scalar.andi (Scalar.cmpi .ne (curW' L k) (prevW L k)) (Scalar.xori (Scalar.cmpi .eq (ivW k) 0#32) 1#1)) 1#1) (Scalar.addi (w32 (k.val - 1)) 1#32) (w32 (k.val - 1)),
      Scalar.select (Scalar.cmpi .eq (Scalar.select 1#1 (Scalar.addi (w32 k.val) 1#32) (w32 k.val)) 32#32) 0#32 (Scalar.select 1#1 (Scalar.addi (w32 k.val) 1#32) (w32 k.val)))
      = st (k.val + 1) := by
  decide +kernel

set_option maxHeartbeats 8000000 in
theorem trip_step (hO : ∀ g, O g none = 0) (hpre : ∀ j, (fi j).toNat < 295936) (k : Fin 32) :
    Inv (F := F) d L fy fi fo q qi O W k.val (st k.val)
      ⊢ wpT d L (bodyT (F := F) L (trip k) (st k.val)) (Inv (F := F) d L fy fi fo q qi O W (k.val + 1)) := by
  have hst : st k.val = (w32 (k.val + 1), w32 k.val, w32 k.val, w32 (k.val - 1), w32 k.val) := if_pos k.isLt
  have hIco : Finset.Ico k.val 32 = insert k.val (Finset.Ico (k.val + 1) 32) := (Finset.insert_Ico_add_one_left_eq_Ico k.isLt).symm
  unfold bodyT
  rw [hst]
  unfold k0_t1_body Inv
  simp only [wp_bind]
  rw [hIco, SparseCore.bigSep_insert' (by simp), InPart, if_pos k.isLt, par_add_two k.val, OutPart_succ]
  iintro ⟨-, #Hlv, Hin, Hfree, Hrow, Hso, Hout, Hdone, ⟨Hblk, Htodo⟩, Hg, Hy, HO⟩
  iapply (part1_rule (F := F) d L fi qi k) $$ Hfree
  iintro Hnext
  iapply (part2_rule (F := F) d L fy fi q qi hO hpre k) $$ [Hin Hrow Hg Hy HO]
  · isplitr; · iexact Hlv
    isplitl [Hin]; · iexact Hin
    isplitl [Hrow]; · iexact Hrow
    isplitl [Hg]; · iexact Hg
    isplitl [Hy]; · iexact Hy
    iexact HO
  iintro ⟨Hfree, Hrow, Hg, Hy, HO⟩
  simp only [dif_pos (cond5_at L k), ite_self, wp_pure, wp_bind]
  simp only [r1, yield_eq L k]
  iapply (enq_out (F := F) d L fy fi fo (par k.val) (bk L k.val) (off12_at k)
      ((off13_at L k).trans (by rw [bk_val L k.isLt])) (off14_at k)) $$ [Hrow Hso Hblk]
  · isplitl [Hrow]; · iexact Hrow
    isplitl [Hso]; · iexact Hso
    iexact Hblk
  iintro Hfl
  by_cases h : 0 < k.val
  · ihave Hout := (show OutPart (F := F) d L fy fi k.val ⊢ OutFl (F := F) d L fy fi (par (k.val - 1)) (bk L (k.val - 1)) from
      (BIBase.Entails.of_eq (OutPart_pos (F := F) d L fy fi h))) $$ Hout
    simp only [dif_pos ((cond7_at L k).mpr h), wp_bind, wp_pure, done_succ _ h, ← par_pred h]
    iapply (wait_out (F := F) d L fy fi hO (par (k.val - 1)) (bk L (k.val - 1)) (off15_at k)
        ((off16_at L k h).trans (by rw [bk_val L (by omega)])) (off17_at k)) $$ [Hout HO]
    · isplitr; · iexact Hlv
      isplitl [Hout]; · iexact Hout
      iexact HO
    iintro ⟨Hr, Hs, Hb, HO⟩
    imodintro
    isplitr; · ipureintro; trivial
    isplitr; · iexact Hlv
    isplitl [Hnext]; · iexact Hnext
    isplitl [Hfree]; · iexact Hfree
    isplitl [Hr]; · iexact Hr
    isplitl [Hs]; · iexact Hs
    isplitl [Hfl]; · iexact Hfl
    isplitl [Hb Hdone]
    · isplitl [Hb]; · iexact Hb
      iexact Hdone
    isplitl [Htodo]; · iexact Htodo
    isplitl [Hg]; · iexact Hg
    isplitl [Hy]; · iexact Hy
    iexact HO
  · ihave Hout := (show OutPart (F := F) d L fy fi k.val ⊢ iprop(FreeRow (F := F) d L (par (k.val + 1)) ∗ semVal (thr d L, .dma (semOut (par (k.val + 1)))) 0) from
      (BIBase.Entails.of_eq (OutPart_zero (F := F) d L fy fi h))) $$ Hout
    simp only [dif_neg (fun hc => h ((cond7_at L k).mp hc)), wp_pure, show k.val + 1 - 1 = k.val - 1 by omega]
    icases Hout with ⟨Hr, Hs⟩
    imodintro
    isplitr; · ipureintro; trivial
    isplitr; · iexact Hlv
    isplitl [Hnext]; · iexact Hnext
    isplitl [Hfree]; · iexact Hfree
    isplitl [Hr]; · iexact Hr
    isplitl [Hs]; · iexact Hs
    isplitl [Hfl]; · iexact Hfl
    isplitl [Hdone]; · iexact Hdone
    isplitl [Htodo]; · iexact Htodo
    isplitl [Hg]; · iexact Hg
    isplitl [Hy]; · iexact Hy
    iexact HO

end Cert.Proof.Gather

end
-- ==== Proof.TileRun.lean ====
/-
  The tile's whole program: the first fetch, the thirty-two trips, and the wait for the last block's copy out.
-/
module

public import proofs.«01_k».proof.Proof.Trip

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (d : Dev nD) (L : grid0.Coords)
variable (fy : S295936x2x128.Idx → Elt F .i32) (fi : S1x131072.Idx → Elt F .i32) (fo : S131072x2x128.Idx → Elt F .i32)
variable (q : PosShare TreeShare) (qi : Fin 2 → PosShare TreeShare)
variable {O : CellTallies nD τ sig (HIx 1)} {W : Waits sig (HIx 1)}

/-- What the tile holds before and after its program: both slots of each ring free, its thirty-two blocks of the result
    at `f`, its share of the rows, and its record of waits. -/
def Held (O : CellTallies nD τ sig (HIx 1)) (W : Waits sig (HIx 1)) (f : S131072x2x128.Idx → Elt F .i32) : sProp (Res F) :=
  iprop(FreeIn (F := F) d L fi (qi 0) 0 ∗ FreeIn (F := F) d L fi (qi 1) 1
    ∗ FreeRow (F := F) d L 0 ∗ FreeRow (F := F) d L 1
    ∗ semVal (thr d L, .dma (semOut 0)) 0 ∗ semVal (thr d L, .dma (semOut 1)) 0
    ∗ bigSep (Finset.range 32) (fun j => OutAt (F := F) d L (bk L j) f)
    ∗ semVal (thr d L, .dma semG) 0 ∗ ((yV).view.loc (thr d L) ↦{q} fy) ∗ Owe (F := F) d L O W)

variable [FloatOps F]

abbrev tileProg :=
  cc0_moe_gather (F := F) L yV (Memref.isWhole_whole _) iV (Memref.isWhole_whole _) oV (Memref.isWhole_whole _)
    sV (Memref.isWhole_whole _) cc0_scoped1 rV (Memref.isWhole_whole _) cc0_scoped3 cc0_scoped4

theorem st_zero : (Scalar.addi 0#32 1#32, 0#32, 0#32, 0#32, 0#32) = st 0 := by decide +kernel

theorem trips_body (hO : ∀ g, O g none = 0) (hpre : ∀ j, (fi j).toNat < 295936) (k : Fin k0_t1_loop.trips)
    (acc : BitVec 32 × BitVec 32 × BitVec 32 × BitVec 32 × BitVec 32) :
    Inv (F := F) d L fy fi fo q qi O W k.val acc
      ⊢ wpT d L (bodyT (F := F) L k acc) (Inv (F := F) d L fy fi fo q qi O W (k.val + 1)) := by
  have hk : k.val < 32 := lt_of_lt_of_eq k.isLt trips_eq
  iintro H
  iapply (show Inv (F := F) d L fy fi fo q qi O W k.val acc ⊢ wpT d L (bodyT (F := F) L k acc) (Inv (F := F) d L fy fi fo q qi O W (k.val + 1)) from by
    by_cases ha : acc = st k.val
    · subst ha
      exact trip_step (F := F) d L fy fi fo q qi hO hpre ⟨k.val, hk⟩
    · unfold Inv
      iintro ⟨%h, H⟩
      exact absurd h ha) $$ H

/-- After the last trip: both slots of row numbers free, one slot of rows free, the last block on its way out. -/
theorem inv_end (acc : BitVec 32 × BitVec 32 × BitVec 32 × BitVec 32 × BitVec 32) :
    Inv (F := F) d L fy fi fo q qi O W (Scf.trips k0_t1_loop.lb k0_t1_loop.ub k0_t1_loop.st) acc
      ⊢ iprop(⌜acc = (w32 32, w32 32, w32 32, w32 31, w32 0)⌝ ∗ FreeIn (F := F) d L fi (qi 0) 0 ∗ FreeIn (F := F) d L fi (qi 1) 1
        ∗ FreeRow (F := F) d L 0 ∗ semVal (thr d L, .dma (semOut 0)) 0 ∗ OutFl (F := F) d L fy fi 1 (bk L 31)
        ∗ bigSep (Finset.range 31) (fun j => OutAt (F := F) d L (bk L j) (gathered fy fi))
        ∗ semVal (thr d L, .dma semG) 0 ∗ ((yV).view.loc (thr d L) ↦{q} fy) ∗ Owe (F := F) d L O W) := by
  rw [show Scf.trips k0_t1_loop.lb k0_t1_loop.ub k0_t1_loop.st = 31 + 1 from trips_eq]
  unfold Inv
  rw [OutPart_succ, show InPart (F := F) d L fi qi (31 + 1) = FreeIn (F := F) d L fi (qi 0) 0 from if_neg (by omega)]
  iintro ⟨%h, -, Hf0, Hf1, Hr, Hs, Hout, Hdone, -, Hg, Hy, HO⟩
  isplitr; · ipureintro; exact h
  isplitl [Hf0]; · iexact Hf0
  isplitl [Hf1]; · iexact Hf1
  isplitl [Hr]; · iexact Hr
  isplitl [Hs]; · iexact Hs
  isplitl [Hout]; · iexact Hout
  isplitl [Hdone]; · iexact Hdone
  isplitl [Hg]; · iexact Hg
  isplitl [Hy]; · iexact Hy
  iexact HO

set_option maxHeartbeats 4000000 in
theorem tile_prog (hO : ∀ g, O g none = 0) (hpre : ∀ j, (fi j).toNat < 295936) :
    iprop(Lv F ∗ Held (F := F) d L fy fi q qi O W fo)
      ⊢ wpT d L (tileProg (F := F) L) (fun _ => Held (F := F) d L fy fi q qi O W (gathered fy fi)) := by
  have hbk : (![0, 128 * base L] : Fin 2 → ℕ) = ![0, 128 * (bk L 0).val] := by rw [bk_val L (by omega)]; rfl
  unfold tileProg cc0_moe_gather
  simp only [k0_part3_eq_skeleton, k0_part4_eq_skeleton]
  unfold k0_part3_skel k0_part4_skel
  simp only [wp_bind, wp_pure]
  unfold Held
  iintro ⟨#Hlv, Hf0, Hf1, Hr0, Hr1, Hs0, Hs1, Hblks, Hg, Hy, HO⟩
  iapply (enq_in (F := F) d L fi (qi 0) 0 (bk L 0) k0_off1_eq ((off2_at L).trans hbk) k0_off3_eq) $$ Hf0
  iintro Hin
  imodintro
  iapply (Scf.wp_for _ _ _ _ _ _ _ _ _ (Inv (F := F) d L fy fi fo q qi O W) (trips_body (F := F) d L fy fi fo q qi hO hpre))
  isplitl [Hin Hf1 Hr0 Hr1 Hs0 Hs1 Hblks Hg Hy HO]
  · unfold Inv
    isplitr; · ipureintro; exact st_zero
    isplitr; · iexact Hlv
    isplitl [Hin]
    · iapply (BIBase.Entails.of_eq (show InFl (F := F) d L fi (qi 0) 0 (bk L 0) = InPart (F := F) d L fi qi 0 from (if_pos (by omega)).symm)) $$ Hin
    isplitl [Hf1]; · iexact Hf1
    isplitl [Hr0]; · iexact Hr0
    isplitl [Hs0]; · iexact Hs0
    isplitl [Hr1 Hs1]
    · iapply (BIBase.Entails.of_eq (OutPart_zero (F := F) d L fy fi (Nat.lt_irrefl 0)).symm)
      isplitl [Hr1]; · iexact Hr1
      iexact Hs1
    isplitr; · iapply (BIBase.Entails.of_eq (show (iprop(emp) : sProp (Res F)) = bigSep (Finset.range (0 - 1)) (fun j => OutAt (F := F) d L (bk L j) (gathered fy fi)) from rfl)); iempintro
    isplitl [Hblks]; · iapply (BIBase.Entails.of_eq (congrArg (fun s => bigSep s (fun j => OutAt (F := F) d L (bk L j) fo)) (Finset.range_eq_Ico 32))) $$ Hblks
    isplitl [Hg]; · iexact Hg
    isplitl [Hy]; · iexact Hy
    iexact HO
  iintro %acc H
  ihave H := (inv_end (F := F) d L fy fi fo q qi acc) $$ H
  icases H with ⟨%hacc, Hf0, Hf1, Hr0, Hs0, Hout, Hdone, Hg, Hy, HO⟩
  subst hacc
  iapply (wp_assume 𝒱₀ (thr d L) none Set.univ (chk5_at L))
  simp only [wp_ret]
  imodintro
  iapply (wp_assume 𝒱₀ (thr d L) none Set.univ chk4_at)
  simp only [wp_ret]
  imodintro
  imodintro
  iapply (wait_out (F := F) d L fy fi hO 1 (bk L 31) off21_at
      ((off19_at L).trans (by rw [bk_val L (by omega)])) off20_at) $$ [Hout HO]
  · isplitr; · iexact Hlv
    isplitl [Hout]; · iexact Hout
    iexact HO
  iintro ⟨Hr1, Hs1, Hb, HO⟩
  imodintro
  isplitl [Hf0]; · iexact Hf0
  isplitl [Hf1]; · iexact Hf1
  isplitl [Hr0]; · iexact Hr0
  isplitl [Hr1]; · iexact Hr1
  isplitl [Hs0]; · iexact Hs0
  isplitl [Hs1]; · iexact Hs1
  isplitl [Hb Hdone]
  · iapply (BIBase.Entails.of_eq (done_succ (fun j => OutAt (F := F) d L (bk L j) (gathered fy fi)) (k := 32) (by omega)).symm)
    isplitl [Hb]; · iexact Hb
    iexact Hdone
  isplitl [Hg]; · iexact Hg
  isplitl [Hy]; · iexact Hy
  iexact HO

end Cert.Proof.Gather

end
-- ==== Proof.Split.lean ====
/-
  How the arrays are dealt to the tiles: a share of the rows and of the row numbers each, thirty-two blocks of the result
  each, and each ring's two slots.
-/
module

public import proofs.«01_k».proof.Proof.TileRun

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev yLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-! ## The sets -/

theorem mem_outBlk (n : Fin 1024) (x : S131072x2x128.Idx) : x ∈ (outBlk n).view.set ↔ (x 0).val / 128 = n.val := by
  show x ∈ ((View.whole (main_v2_scv : Ref sig .scVector)).slice (Rect.unit (s := S131072x2x128) ![128 * n.val, 0, 0] S128x2x128.size (outBlk_inb n))).set ↔ _
  rw [View.set_slice_whole, Rect.mem_set_unit]
  constructor
  · intro h
    have h0 : 128 * n.val ≤ (x 0).val ∧ (x 0).val < 128 * n.val + 128 := h 0
    omega
  · intro h a
    match a with
    | 0 => show 128 * n.val ≤ (x 0).val ∧ (x 0).val < 128 * n.val + 128; omega
    | 1 => exact ⟨Nat.zero_le _, (by have := (x 1).isLt; show (x 1).val < 0 + 2; exact (by simpa using this))⟩
    | 2 => exact ⟨Nat.zero_le _, (by have := (x 2).isLt; show (x 2).val < 0 + 128; exact (by simpa using this))⟩

theorem mem_idxSlot (b : Fin 2) (x : S2x1x128.Idx) : x ∈ (idxSlot b).view.set ↔ (x 0).val = b.val := by
  show x ∈ (((View.whole (cc0_scoped0 : Ref sig .scVector)).slice (Rect.unit (s := S2x1x128) ![b.val, 0, 0] S1x1x128.size (idxSlot_inb b))).reshape S1x128 squeezes_S1x1x128_S1x128.numel_eq).set ↔ _
  rw [View.set_reshape, View.set_slice_whole, Rect.mem_set_unit]
  constructor
  · intro h
    have h0 : b.val ≤ (x 0).val ∧ (x 0).val < b.val + 1 := h 0
    omega
  · intro h a
    match a with
    | 0 => show b.val ≤ (x 0).val ∧ (x 0).val < b.val + 1; omega
    | 1 => exact ⟨Nat.zero_le _, (by have := (x 1).isLt; show (x 1).val < 0 + 1; exact (by simpa using this))⟩
    | 2 => exact ⟨Nat.zero_le _, (by have := (x 2).isLt; show (x 2).val < 0 + 128; exact (by simpa using this))⟩

theorem mem_rowSlot (b : Fin 2) (x : S2x128x2x128.Idx) : x ∈ (rowSlot b).view.set ↔ (x 0).val = b.val := by
  show x ∈ (((View.whole (cc0_scoped2 : Ref sig .scVector)).slice (Rect.unit (s := S2x128x2x128) ![b.val, 0, 0, 0] S1x128x2x128.size (rowSlot_inb b))).reshape S128x2x128 squeezes_S1x128x2x128_S128x2x128.numel_eq).set ↔ _
  rw [View.set_reshape, View.set_slice_whole, Rect.mem_set_unit]
  constructor
  · intro h
    have h0 : b.val ≤ (x 0).val ∧ (x 0).val < b.val + 1 := h 0
    omega
  · intro h a
    match a with
    | 0 => show b.val ≤ (x 0).val ∧ (x 0).val < b.val + 1; omega
    | 1 => exact ⟨Nat.zero_le _, (by have := (x 1).isLt; show (x 1).val < 0 + 128; exact (by simpa using this))⟩
    | 2 => exact ⟨Nat.zero_le _, (by have := (x 2).isLt; show (x 2).val < 0 + 2; exact (by simpa using this))⟩
    | 3 => exact ⟨Nat.zero_le _, (by have := (x 3).isLt; show (x 3).val < 0 + 128; exact (by simpa using this))⟩

/-! ## A ring as its two slots -/

/-- A buffer at some contents is the two parts of a partition, each at some contents. -/
theorem two_parts {ℓ : Loc nD τ sig} (A : Fin 2 → Finset (Idx ℓ)) (hd : Disjoint (A 0) (A 1)) (hc : ∀ x, x ∈ A 0 ∨ x ∈ A 1) :
    (iprop(∃ f, ℓ ↦{fullShare} f) : sProp (Res F)) ⊢ iprop((∃ f, ℓ ↦[A 0]{fullShare} f) ∗ (∃ f, ℓ ↦[A 1]{fullShare} f)) := by
  iintro ⟨%f, H⟩
  ihave H := (pointsTo_split_subset (ℓ := ℓ) (q := fullShare) (f := f) (S := Finset.univ) (Finset.subset_univ (A 0))).1 $$ H
  rw [show Finset.univ \ A 0 = A 1 from by
    ext x; simp only [Finset.mem_sdiff, Finset.mem_univ, true_and]
    exact ⟨fun h => (hc x).resolve_left h, fun h h' => Finset.disjoint_left.mp hd h' h⟩]
  icases H with ⟨H0, H1⟩
  isplitl [H0]
  · iexists f; iexact H0
  · iexists f; iexact H1

theorem two_join {ℓ : Loc nD τ sig} (A : Fin 2 → Finset (Idx ℓ)) (hd : Disjoint (A 0) (A 1)) (hc : ∀ x, x ∈ A 0 ∨ x ∈ A 1) :
    iprop((∃ f, ℓ ↦[A 0]{fullShare} f) ∗ (∃ f, ℓ ↦[A 1]{fullShare} f)) ⊢ (iprop(∃ f, ℓ ↦{fullShare} f) : sProp (Res F)) := by
  iintro ⟨⟨%f, H0⟩, %g, H1⟩
  have hdis : ∀ t ∈ (Finset.univ : Finset (Fin 2)), ∀ t' ∈ (Finset.univ : Finset (Fin 2)), t ≠ t' → Disjoint (A t) (A t') := by
    intro t _ t' _ h
    match t, t' with
    | 0, 0 => exact absurd rfl h
    | 0, 1 => exact hd
    | 1, 0 => exact hd.symm
    | 1, 1 => exact absurd rfl h
  have hcov : (Finset.univ : Finset (Fin 2)).biUnion A = Finset.univ :=
    Finset.eq_univ_iff_forall.mpr fun x => Finset.mem_biUnion.mpr ((hc x).elim (fun h => ⟨0, Finset.mem_univ _, h⟩) (fun h => ⟨1, Finset.mem_univ _, h⟩))
  ihave H := (pointsTo_biUnion_join (ℓ := ℓ) (q := fullShare) (Val := Elt F) Finset.univ A (fun t : Fin 2 => if t = 0 then f else g) f hdis) $$ [H0 H1]
  · iapply (show iprop((ℓ ↦[A 0]{fullShare} f) ∗ (ℓ ↦[A 1]{fullShare} g)) ⊢ (bigSep Finset.univ fun t : Fin 2 => ℓ ↦[A t]{fullShare} (if t = 0 then f else g) : sProp (Res F)) from
      BIBase.Entails.of_eq (bigSep_fin_two (fun t : Fin 2 => (ℓ ↦[A t]{fullShare} (if t = 0 then f else g) : sProp (Res F)))).symm) $$ [H0 H1]
    isplitl [H0]; · iexact H0
    iexact H1
  icases H with ⟨%h, -, H⟩
  rw [hcov]
  iexists h; iexact H

variable (d : Dev nD) (L : grid0.Coords)

theorem idx_parts : (iprop(∃ f, (thr d L).loc cc0_scoped0 ↦{fullShare} f) : sProp (Res F))
    ⊢ iprop((∃ f, (idxSlot 0).view.loc (thr d L) ↦[(idxSlot 0).view.set]{fullShare} f) ∗ (∃ f, (idxSlot 1).view.loc (thr d L) ↦[(idxSlot 1).view.set]{fullShare} f)) :=
  two_parts (ℓ := (thr d L).loc cc0_scoped0) (fun b => (idxSlot b).view.set)
    (Finset.disjoint_left.mpr fun x h h' => absurd (((mem_idxSlot 0 x).mp h).symm.trans ((mem_idxSlot 1 x).mp h')) (by decide))
    (fun (x : S2x1x128.Idx) => by
      have : (x 0).val < 2 := (x 0).isLt
      rcases (by omega : (x 0).val = 0 ∨ (x 0).val = 1) with h | h
      · exact .inl ((mem_idxSlot 0 x).mpr h)
      · exact .inr ((mem_idxSlot 1 x).mpr h))
theorem idx_join : iprop((∃ f, (idxSlot 0).view.loc (thr d L) ↦[(idxSlot 0).view.set]{fullShare} f) ∗ (∃ f, (idxSlot 1).view.loc (thr d L) ↦[(idxSlot 1).view.set]{fullShare} f))
    ⊢ (iprop(∃ f, (thr d L).loc cc0_scoped0 ↦{fullShare} f) : sProp (Res F)) :=
  two_join (ℓ := (thr d L).loc cc0_scoped0) (fun b => (idxSlot b).view.set)
    (Finset.disjoint_left.mpr fun x h h' => absurd (((mem_idxSlot 0 x).mp h).symm.trans ((mem_idxSlot 1 x).mp h')) (by decide))
    (fun (x : S2x1x128.Idx) => by
      have : (x 0).val < 2 := (x 0).isLt
      rcases (by omega : (x 0).val = 0 ∨ (x 0).val = 1) with h | h
      · exact .inl ((mem_idxSlot 0 x).mpr h)
      · exact .inr ((mem_idxSlot 1 x).mpr h))

theorem row_parts : (iprop(∃ f, (thr d L).loc cc0_scoped2 ↦{fullShare} f) : sProp (Res F))
    ⊢ iprop(FreeRow (F := F) d L 0 ∗ FreeRow (F := F) d L 1) :=
  two_parts (ℓ := (thr d L).loc cc0_scoped2) (fun b => (rowSlot b).view.set)
    (Finset.disjoint_left.mpr fun x h h' => absurd (((mem_rowSlot 0 x).mp h).symm.trans ((mem_rowSlot 1 x).mp h')) (by decide))
    (fun (x : S2x128x2x128.Idx) => by
      have : (x 0).val < 2 := (x 0).isLt
      rcases (by omega : (x 0).val = 0 ∨ (x 0).val = 1) with h | h
      · exact .inl ((mem_rowSlot 0 x).mpr h)
      · exact .inr ((mem_rowSlot 1 x).mpr h))
theorem row_join : iprop(FreeRow (F := F) d L 0 ∗ FreeRow (F := F) d L 1)
    ⊢ (iprop(∃ f, (thr d L).loc cc0_scoped2 ↦{fullShare} f) : sProp (Res F)) :=
  two_join (ℓ := (thr d L).loc cc0_scoped2) (fun b => (rowSlot b).view.set)
    (Finset.disjoint_left.mpr fun x h h' => absurd (((mem_rowSlot 0 x).mp h).symm.trans ((mem_rowSlot 1 x).mp h')) (by decide))
    (fun (x : S2x128x2x128.Idx) => by
      have : (x 0).val < 2 := (x 0).isLt
      rcases (by omega : (x 0).val = 0 ∨ (x 0).val = 1) with h | h
      · exact .inl ((mem_rowSlot 0 x).mpr h)
      · exact .inr ((mem_rowSlot 1 x).mpr h))

/-! ## The tiles' shares and blocks -/

/-- The tile on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Its share of an array that every tile reads. -/
def qT (c : Fin 2) (s : Fin 16) : PosShare TreeShare :=
  Idealize.ShloMosaic.pieceOf (Idealize.ShloMosaic.pieceOf fullShare 2 (by omega) c) 16 (by omega) s
/-- The two halves of that, one for each slot of the ring of row numbers. -/
def qS (c : Fin 2) (s : Fin 16) (b : Fin 2) : PosShare TreeShare := Idealize.ShloMosaic.pieceOf (qT c s) 2 (by omega) b

theorem shares {ℓ : Loc nD τ sig} (f : Buf (Elt F) ℓ) :
    (ℓ ↦{fullShare} f : sProp (Res F)) = bigSep (Finset.univ : Finset (Fin 2)) fun c => bigSep (Finset.univ : Finset (Fin 16)) fun s => ℓ ↦{qT c s} f := by
  rw [pointsTo_piecesOf Finset.univ f (o := 2) (by omega) fullShare]
  exact bigSep_congr fun c _ => pointsTo_piecesOf Finset.univ f (o := 16) (by omega) _

theorem halves {ℓ : Loc nD τ sig} (f : Buf (Elt F) ℓ) (c : Fin 2) (s : Fin 16) :
    (ℓ ↦{qT c s} f : sProp (Res F)) = iprop((ℓ ↦{qS c s 0} f) ∗ (ℓ ↦{qS c s 1} f)) := by
  rw [pointsTo_piecesOf Finset.univ f (o := 2) (by omega) (qT c s), bigSep_fin_two]; rfl

/-- The block of the result that a tile's trip writes. -/
def blkOf (t : Fin 2 × Fin 16 × Fin 32) : Fin 1024 := bk (coordsV t.1 t.2.1) t.2.2.val
theorem blkOf_val (t : Fin 2 × Fin 16 × Fin 32) : (blkOf t).val = 32 * (t.2.1.val + 16 * t.1.val) + t.2.2.val :=
  bk_val (coordsV t.1 t.2.1) t.2.2.isLt

/-- Where that block lies. -/
abbrev blkSet (d : Dev nD) (t : Fin 2 × Fin 16 × Fin 32) : Finset (Idx (oLoc d)) := (outBlk (blkOf t)).view.set

theorem blocks (d : Dev nD) (f : Buf (Elt F) (oLoc d)) :
    (oLoc d ↦{fullShare} f : sProp (Res F))
      = bigSep (Finset.univ : Finset (Fin 2)) fun c => bigSep (Finset.univ : Finset (Fin 16)) fun s =>
          bigSep (Finset.range 32) fun j => OutAt (F := F) d (coordsV c s) (bk (coordsV c s) j) f := by
  have hdis : ∀ t ∈ (Finset.univ : Finset (Fin 2 × Fin 16 × Fin 32)), ∀ t' ∈ (Finset.univ : Finset (Fin 2 × Fin 16 × Fin 32)), t ≠ t' →
      Disjoint (blkSet d t) (blkSet d t') := by
    intro t _ t' _ h
    refine Finset.disjoint_left.mpr fun x hx hx' => h ?_
    have e := ((mem_outBlk _ x).mp hx).symm.trans ((mem_outBlk _ x).mp hx')
    rw [blkOf_val, blkOf_val] at e
    have := t.1.isLt; have := t.2.1.isLt; have := t.2.2.isLt
    have := t'.1.isLt; have := t'.2.1.isLt; have := t'.2.2.isLt
    refine Prod.ext (Fin.ext ?_) (Prod.ext (Fin.ext ?_) (Fin.ext ?_)) <;> omega
  have hcov (x : S131072x2x128.Idx) : ∃ t : Fin 2 × Fin 16 × Fin 32, x ∈ (outBlk (blkOf t)).view.set := by
    have hx : (x 0).val < 131072 := (x 0).isLt
    have key : ∀ n : ℕ, n < 131072 → ∃ t : Fin 2 × Fin 16 × Fin 32, n / 128 = (blkOf t).val := by
      intro n hn
      refine ⟨(⟨n / 65536, by omega⟩, ⟨n / 4096 % 16, by omega⟩, ⟨n / 128 % 32, by omega⟩), ?_⟩
      rw [blkOf_val]
      show n / 128 = 32 * (n / 4096 % 16 + 16 * (n / 65536)) + n / 128 % 32
      omega
    obtain ⟨t, ht⟩ := key _ hx
    exact ⟨t, (mem_outBlk _ x).mpr ht⟩
  have h1 : (oLoc d ↦{fullShare} f : sProp (Res F)) = bigSep (Finset.univ : Finset (Fin 2 × Fin 16 × Fin 32)) fun t => OutAt (F := F) d (coordsV t.1 t.2.1) (blkOf t) f := by
    have h2 := pointsTo_biUnion (ℓ := oLoc d) (q := fullShare) (f := f) (Ix := HIx 1) (Name := ℕ) (U := UU) (Lvl := ℕ) Finset.univ (blkSet d) hdis
    rw [Finset.eq_univ_iff_forall.mpr fun x => Finset.mem_biUnion.mpr ((hcov x).imp fun t ht => ⟨Finset.mem_univ t, ht⟩)] at h2
    exact h2
  rw [h1, bigSep_univ_prod]
  refine bigSep_congr fun c _ => ?_
  rw [bigSep_univ_prod]
  refine bigSep_congr fun s _ => ?_
  rw [show Finset.range 32 = (Finset.univ : Finset (Fin 32)).map Fin.valEmbedding from by decide, bigSep_map]
  rfl

end Cert.Proof.Gather

end
-- ==== Proof.Task.lean ====
/-
  One tile's task as the launch runs it: from the tile's shares and blocks and its own memory to the same with its blocks
  written.
-/
module

public import proofs.«01_k».proof.Proof.Split
public import Idealize.ShloMosaic.Lib.SparseCore.Quiescent

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tile's own cells and buffers -/

section Own
variable (d : Dev nD) (L : grid0.Coords)

/-- The tile's five copy semaphores. -/
def dmaOf : Fin 5 → DmaSem sig := ![semIn 0, semIn 1, semOut 0, semOut 1, semG]
theorem dmaOf_inj : ∀ a b : Fin 5, a ≠ b → (SemLoc.dma (dmaOf a) : SemLoc sig) ≠ .dma (dmaOf b) := by decide
theorem dmaOf_scoped : ∀ a : Fin 5, (SemLoc.dma (dmaOf a) : SemLoc sig).isScoped .scVector = true := by decide
abbrev cellOf (a : Fin 5) : GSem nD τ sig := (thr d L, .dma (dmaOf a))

theorem cellOf_mem (a : Fin 5) : cellOf d L a ∈ ownCells (thr d L) := mem_ownCells.mpr ⟨rfl, dmaOf_scoped a⟩
theorem cellOf_ne {a b : Fin 5} (h : a ≠ b) : cellOf d L a ≠ cellOf d L b := fun e => dmaOf_inj a b h (Prod.mk.inj e).2

/-- The rest of the tile's cells. -/
def cellsLeft : Finset (GSem nD τ sig) :=
  (((((ownCells (thr d L)).erase (cellOf d L 0)).erase (cellOf d L 1)).erase (cellOf d L 2)).erase (cellOf d L 3)).erase (cellOf d L 4)
/-- The rest of its buffers. -/
def bufsLeft : Finset (DevRef τ sig) :=
  ((ownRefs (τ := τ) (.scVector (cV L) (jV L))).erase ((Proc.scVector (cV L) (jV L)).devRef cc0_scoped0)).erase ((Proc.scVector (cV L) (jV L)).devRef cc0_scoped2)

theorem own_cells :
    (ownSems0 (thr d L) : sProp (Res F))
      = iprop(semVal (thr d L, .dma (semIn 0)) 0 ∗ semVal (thr d L, .dma (semIn 1)) 0 ∗ semVal (thr d L, .dma (semOut 0)) 0
          ∗ semVal (thr d L, .dma (semOut 1)) 0 ∗ semVal (thr d L, .dma semG) 0 ∗ bigSep (cellsLeft d L) fun g => semVal g 0) := by
  have ne {a b : Fin 5} (h : a ≠ b) := cellOf_ne d L h
  have mm {s : Finset (GSem nD τ sig)} {a b : Fin 5} (h : a ≠ b) (hm : cellOf d L a ∈ s) : cellOf d L a ∈ s.erase (cellOf d L b) :=
    Finset.mem_erase.mpr ⟨ne h, hm⟩
  unfold SparseCore.Cfg.ownSems0
  rw [SparseCore.bigSep_erase' (cellOf_mem d L 0),
    SparseCore.bigSep_erase' (mm (a := 1) (b := 0) (by decide) (cellOf_mem d L 1)),
    SparseCore.bigSep_erase' (mm (a := 2) (b := 1) (by decide) (mm (b := 0) (by decide) (cellOf_mem d L 2))),
    SparseCore.bigSep_erase' (mm (a := 3) (b := 2) (by decide) (mm (b := 1) (by decide) (mm (b := 0) (by decide) (cellOf_mem d L 3)))),
    SparseCore.bigSep_erase' (mm (a := 4) (b := 3) (by decide) (mm (b := 2) (by decide) (mm (b := 1) (by decide) (mm (b := 0) (by decide) (cellOf_mem d L 4)))))]
  rfl

theorem own_bufs :
    (ownBufs (thr d L) : sProp (Res F))
      = iprop((∃ f, (thr d L).loc cc0_scoped0 ↦{fullShare} f) ∗ (∃ f, (thr d L).loc cc0_scoped2 ↦{fullShare} f)
          ∗ bigSep (bufsLeft L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]
  rfl

end Own

/-! ## The task -/

/-- What a tile is given and gives back: its share of the rows and of the row numbers, and its blocks of the result. -/
def TilePay (d : Dev nD) (fy : S295936x2x128.Idx → Elt F .i32) (fi : S1x131072.Idx → Elt F .i32) (c : Fin 2) (s : Fin 16)
    (f : S131072x2x128.Idx → Elt F .i32) : sProp (Res F) :=
  iprop((yLoc d ↦{qT c s} fy) ∗ (iLoc d ↦{qT c s} fi)
    ∗ bigSep (Finset.range 32) fun j => OutAt (F := F) d (coordsV c s) (bk (coordsV c s) j) f)

instance TilePay_storable (d : Dev nD) (fy : S295936x2x128.Idx → Elt F .i32) (fi : S1x131072.Idx → Elt F .i32) (c : Fin 2) (s : Fin 16)
    (f : S131072x2x128.Idx → Elt F .i32) : BI.Storable (upEmb : UEmb _ (Res F)) (TilePay d fy fi c s f) := by
  unfold TilePay; infer_instance

section
variable (d : Dev nD) (fy : S295936x2x128.Idx → Elt F .i32) (fi : S1x131072.Idx → Elt F .i32) (c : Fin 2) (s : Fin 16)
variable {O : CellTallies nD τ sig (HIx 1)} {W : Waits sig (HIx 1)}

/-- The tile's memory and its part of the arrays, in the form its program takes them. -/
theorem held_of (f : S131072x2x128.Idx → Elt F .i32) :
    iprop(TilePay d fy fi c s f ∗ ownBufs (thr d (coordsV c s)) ∗ ownSems0 (thr d (coordsV c s)) ∗ Owe (F := F) d (coordsV c s) O W)
      ⊢ iprop(Held (F := F) d (coordsV c s) fy fi (qT c s) (qS c s) O W f
          ∗ (bigSep (cellsLeft d (coordsV c s)) fun g => semVal g 0)
          ∗ bigSep (bufsLeft (coordsV c s)) fun b => iprop(∃ f, ((d, b) : Loc nD τ sig) ↦{fullShare} f)) := by
  rw [own_cells, own_bufs]
  unfold TilePay Held
  rw [halves]
  iintro ⟨⟨Hy, ⟨Hi0, Hi1⟩, Ho⟩, ⟨Hs, Hr, Hbufs⟩, ⟨HA, HB, HC, HD, HG, Hsems⟩, HO⟩
  ihave Hs := (idx_parts (F := F) d (coordsV c s)) $$ Hs
  icases Hs with ⟨Hs0, Hs1⟩
  ihave Hr := (row_parts (F := F) d (coordsV c s)) $$ Hr
  icases Hr with ⟨Hr0, Hr1⟩
  isplitr [Hsems Hbufs]
  · isplitl [Hs0 HA Hi0]
    · unfold FreeIn
      isplitl [Hs0]; · iexact Hs0
      isplitl [HA]; · iexact HA
      iexact Hi0
    isplitl [Hs1 HB Hi1]
    · unfold FreeIn
      isplitl [Hs1]; · iexact Hs1
      isplitl [HB]; · iexact HB
      iexact Hi1
    isplitl [Hr0]; · iexact Hr0
    isplitl [Hr1]; · iexact Hr1
    isplitl [HC]; · iexact HC
    isplitl [HD]; · iexact HD
    isplitl [Ho]; · iexact Ho
    isplitl [HG]; · iexact HG
    isplitl [Hy]; · iexact Hy
    iexact HO
  isplitl [Hsems]; · iexact Hsems
  iexact Hbufs

/-- And back. -/
theorem of_held (f : S131072x2x128.Idx → Elt F .i32) :
    iprop(Held (F := F) d (coordsV c s) fy fi (qT c s) (qS c s) O W f
          ∗ (bigSep (cellsLeft d (coordsV c s)) fun g => semVal g 0)
          ∗ bigSep (bufsLeft (coordsV c s)) fun b => iprop(∃ f, ((d, b) : Loc nD τ sig) ↦{fullShare} f))
      ⊢ iprop(TilePay d fy fi c s f ∗ ownBufs (thr d (coordsV c s)) ∗ ownSems0 (thr d (coordsV c s)) ∗ Owe (F := F) d (coordsV c s) O W) := by
  rw [own_cells, own_bufs]
  unfold TilePay Held FreeIn
  rw [halves]
  iintro ⟨⟨⟨Hs0, HA, Hi0⟩, ⟨Hs1, HB, Hi1⟩, Hr0, Hr1, HC, HD, Ho, HG, Hy, HO⟩, Hsems, Hbufs⟩
  isplitl [Hy Hi0 Hi1 Ho]
  · isplitl [Hy]; · iexact Hy
    isplitl [Hi0 Hi1]
    · isplitl [Hi0]; · iexact Hi0
      iexact Hi1
    iexact Ho
  isplitl [Hs0 Hs1 Hr0 Hr1 Hbufs]
  · isplitl [Hs0 Hs1]
    · iapply (idx_join (F := F) d (coordsV c s))
      isplitl [Hs0]; · iexact Hs0
      iexact Hs1
    isplitl [Hr0 Hr1]
    · iapply (row_join (F := F) d (coordsV c s))
      isplitl [Hr0]; · iexact Hr0
      iexact Hr1
    iexact Hbufs
  isplitr [HO]
  · isplitl [HA]; · iexact HA
    isplitl [HB]; · iexact HB
    isplitl [HC]; · iexact HC
    isplitl [HD]; · iexact HD
    isplitl [HG]; · iexact HG
    iexact Hsems
  iexact HO

variable [FloatOps F]

theorem tile_body (hF : (K (F := F)).Facts) (hpre : ∀ j, (fi j).toNat < 295936) (fo : S131072x2x128.Idx → Elt F .i32)
    (O : CellTallies nD τ sig (HIx 1)) (W : Waits sig (HIx 1)) (hO : ∀ g, O g none = 0) :
    iprop(levAts (K (F := F)).L (K (F := F)).lev ∗ emp ∗ TilePay d fy fi c s fo
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ (tileProg (F := F) (coordsV c s))
          fun _ => iprop(TilePay d fy fi c s (gathered fy fi)
            ∗ scopedBufs (thr d (coordsV c s)) ∗ scopedSems0 (thr d (coordsV c s))
            ∗ ∃ W', ⌜∀ p ∈ W', p ∈ W ∨ p.2 = none⌝ ∗ owes (thr d (coordsV c s)) O W') := by
  rw [show (scopedBufs (thr d (coordsV c s)) : sProp (Res F)) = _ from (K (F := F)).scopedBufs_V hF d (cV (coordsV c s)) (jV (coordsV c s)),
    show (scopedSems0 (thr d (coordsV c s)) : sProp (Res F)) = _ from SparseCore.Cfg.scopedSems0_V (Val := Elt F) d (cV (coordsV c s)) (jV (coordsV c s))]
  iintro ⟨Hlv, -, Hp, Hb, Hs, HO⟩
  ihave H := (held_of (F := F) d fy fi c s (O := O) (W := W) fo) $$ [Hp Hb Hs HO]
  · isplitl [Hp]; · iexact Hp
    isplitl [Hb]; · iexact Hb
    isplitl [Hs]; · iexact Hs
    unfold Owe
    iexists W
    isplitr; · ipureintro; exact fun p hp => .inl hp
    iexact HO
  icases H with ⟨H, Hleft⟩
  iapply (wp_wand_r frame (wpE (defs₀ (F := F)) 𝒱₀ (thr d (coordsV c s)) none) Set.univ)
  isplitl [Hlv H]
  · iapply (tile_prog (F := F) d (coordsV c s) fy fi fo (qT c s) (qS c s) hO hpre)
    isplitl [Hlv]; · iexact Hlv
    iexact H
  iintro %_ H
  iapply (of_held (F := F) d fy fi c s (O := O) (W := W) (gathered fy fi))
  isplitl [H]; · iexact H
  iexact Hleft

end

end Cert.Proof.Gather

end
-- ==== Proof.Launch.lean ====
/-
  The run of the program that gathers: @main reshapes the rows and the row numbers, starts the kernel on its thirty-two tiles,
  and reshapes what they wrote.
-/
module

public import proofs.«01_k».proof.Proof.Task
public import Idealize.ShloMosaic.Lib.StableHlo.Run
public import Idealize.ShloMosaic.Lib.Tactic

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The rows and the row numbers as the kernel takes them. -/
def fyOf (d : Dev nD) : S295936x2x128.Idx → Elt F .i32 :=
  shapeCast S295936x2x128 (m (aLoc d) : S2x147968x256.Idx → Elt F .i32) shapeCasts_S2x147968x256_S295936x2x128
def fiOf (d : Dev nD) : S1x131072.Idx → Elt F .i32 :=
  shapeCast S1x131072 (m (bLoc d) : S4x2x16384.Idx → Elt F .i32) shapeCasts_S4x2x16384_S1x131072
/-- The result. -/
def Rv (d : Dev nD) : S4x2x16384x256.Idx → Elt F .i32 :=
  shapeCast S4x2x16384x256 (gathered (fyOf m d) (fiOf m d)) shapeCasts_S131072x2x128_S4x2x16384x256

/-- Every word of the second argument names a row. -/
def PreOK : Prop := ∀ (d : Dev nD) (j : S4x2x16384.Idx), ((m (bLoc d) : S4x2x16384.Idx → Elt F .i32) j).toNat < 295936

theorem fi_lt (hpre : PreOK m) (d : Dev nD) (j : S1x131072.Idx) : (fiOf m d j).toNat < 295936 := hpre d _

/-! ## What the handshakes carry -/

theorem nCore_zero : (K (F := F)).nCore 0 = 2 := rfl
theorem nSub_zero : (K (F := F)).nSub 0 = 16 := rfl

/-- A tile's part before and after its task, and a SparseCore's: its sixteen tiles'. -/
def goPay (d : Dev nD) (c : Fin 2) (s : Fin 16) : sProp (Res F) := TilePay d (fyOf m d) (fiOf m d) c s (m (oLoc d))
def tdPay (d : Dev nD) (c : Fin 2) (s : Fin 16) : sProp (Res F) := TilePay d (fyOf m d) (fiOf m d) c s (gathered (fyOf m d) (fiOf m d))
def stPay (d : Dev nD) (c : Fin 2) : sProp (Res F) := bigSep (Finset.univ : Finset (Fin 16)) fun s => goPay m d c s
def dnPay (d : Dev nD) (c : Fin 2) : sProp (Res F) := bigSep (Finset.univ : Finset (Fin 16)) fun s => tdPay m d c s

instance goPay_storable (d : Dev nD) (c : Fin 2) (s : Fin 16) : BI.Storable (upEmb : UEmb _ (Res F)) (goPay m d c s) := TilePay_storable _ _ _ _ _ _
instance tdPay_storable (d : Dev nD) (c : Fin 2) (s : Fin 16) : BI.Storable (upEmb : UEmb _ (Res F)) (tdPay m d c s) := TilePay_storable _ _ _ _ _ _
instance stPay_storable (d : Dev nD) (c : Fin 2) : BI.Storable (upEmb : UEmb _ (Res F)) (stPay m d c) := by unfold stPay; infer_instance
instance dnPay_storable (d : Dev nD) (c : Fin 2) : BI.Storable (upEmb : UEmb _ (Res F)) (dnPay m d c) := by unfold dnPay; infer_instance

def P : (K (F := F)).Pay (nD := nD) (Val := Elt F) (Name := ℕ) (U := UU) where
  st := fun q d c => match q with | 0 => stPay m d (Fin.cast nCore_zero c)
  dn := fun q d c => match q with | 0 => dnPay m d (Fin.cast nCore_zero c)
  go := fun q d c i => match q with | 0 => goPay m d (Fin.cast nCore_zero c) (Fin.cast nSub_zero i)
  td := fun q d c i => match q with | 0 => tdPay m d (Fin.cast nCore_zero c) (Fin.cast nSub_zero i)
  x := fun _ _ => iprop(emp)

theorem P_st (d : Dev nD) (c : Fin ((K (F := F)).nCore 0)) : (P m).st 0 d c = stPay m d (Fin.cast nCore_zero c) := by
  unfold P; dsimp only
theorem P_dn (d : Dev nD) (c : Fin ((K (F := F)).nCore 0)) : (P m).dn 0 d c = dnPay m d (Fin.cast nCore_zero c) := by
  unfold P; dsimp only
theorem P_go (d : Dev nD) (c : Fin ((K (F := F)).nCore 0)) (i : Fin ((K (F := F)).nSub 0)) :
    (P m).go 0 d c i = goPay m d (Fin.cast nCore_zero c) (Fin.cast nSub_zero i) := by
  unfold P; dsimp only
theorem P_td (d : Dev nD) (c : Fin ((K (F := F)).nCore 0)) (i : Fin ((K (F := F)).nSub 0)) :
    (P m).td 0 d c i = tdPay m d (Fin.cast nCore_zero c) (Fin.cast nSub_zero i) := by
  unfold P; dsimp only

instance P_storable : (P (F := F) m).IsStorable where
  st q d c := match q with | 0 => by rw [P_st]; exact stPay_storable m d _
  dn q d c := match q with | 0 => by rw [P_dn]; exact dnPay_storable m d _
  go q d c i := match q with | 0 => by rw [P_go]; exact goPay_storable m d _ _
  td q d c i := match q with | 0 => by rw [P_td]; exact tdPay_storable m d _ _

/-- A family over the launch's tiles is one over the sixteen. -/
theorem bigSep_tasks (Φ : Fin 16 → sProp (Res F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (Res F)) :
    (bigSep Finset.univ fun i : Fin ((K (F := F)).nCore 0) => Φ (Fin.cast nCore_zero i)) = bigSep Finset.univ Φ :=
  bigSep_congr fun _ _ => congrArg Φ (Fin.ext rfl)

theorem split_sc (d : Dev nD) (c : Fin 2) :
    stPay m d c ⊢ |={Set.univ}=> iprop(
      (bigSep Finset.univ fun i : Fin ((K (F := F)).nSub 0) => goPay m d c (Fin.cast nSub_zero i))
      ∗ ((bigSep Finset.univ fun i : Fin ((K (F := F)).nSub 0) => tdPay m d c (Fin.cast nSub_zero i)) -∗ dnPay m d c)) := by
  rw [bigSep_tasks (F := F) (fun i => goPay m d c i), bigSep_tasks (F := F) (fun i => tdPay m d c i)]
  unfold stPay dnPay
  iintro H; imodintro
  isplitl [H]; · iexact H
  iintro H; iexact H

theorem vecSplit : (K (F := F)).VecSplit' (P m) 0 := by
  intro d c
  simp only [P_st, P_dn, P_go, P_td]
  exact split_sc m d _

/-- The whole arrays are the tiles' parts at once. -/
theorem whole_eq (d : Dev nD) (fy : S295936x2x128.Idx → Elt F .i32) (fi : S1x131072.Idx → Elt F .i32) (f : S131072x2x128.Idx → Elt F .i32) :
    (bigSep (Finset.univ : Finset (Fin 2)) fun c => bigSep (Finset.univ : Finset (Fin 16)) fun s => TilePay (F := F) d fy fi c s f)
      = iprop((yLoc d ↦{fullShare} fy) ∗ (iLoc d ↦{fullShare} fi) ∗ (oLoc d ↦{fullShare} f)) := by
  unfold TilePay
  rw [shares (F := F) (ℓ := yLoc d), shares (F := F) (ℓ := iLoc d), blocks (F := F) d f]
  simp only [bigSep_sep']

variable [FloatOps F]

/-! ## The tiles' tasks -/

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp (Res F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right Or.inl
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (fyOf m d) (fiOf m d) ⟨_, hci.1⟩ ⟨_, hci.2⟩ hF (fi_lt m hpre d) (m (oLoc d)) O W hO).trans (wp_mono frame _ _ fun _ => obl_post)

/-! ## The launch's own state -/

def u₀ : UU := (initOf (K (F := F)).hsCells (K (F := F)).hsToks, 1)

omit [FloatOps F] in
theorem bigSep_emp' {I : Type} (s : Finset I) : (bigSep s fun _ => iprop(emp)) = (iprop(emp) : sProp (Res F)) := bigSep_emp_const s

theorem hu₀ : (ownU (u₀ (F := F)) : sProp (Res F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp (Res F)) :=
    (bigSep_congr fun _ _ => bigSep_univ_of_subsingleton (0 : Fin 1)).trans (bigSep_emp' _)
  rw [hx, bigSep_emp']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

abbrev a' : DevRef τ sig := Proc.devRef .tc (main_arg0 : Ref sig .tc)
abbrev b' : DevRef τ sig := Proc.devRef .tc (main_arg1 : Ref sig .tc)
abbrev y' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opY : HloOp τ sig (Elt F) := StableHlo.reshape main_arg0 main_v0 (rfl) shapeCasts_S2x147968x256_S295936x2x128
abbrev opI : HloOp τ sig (Elt F) := StableHlo.reshape main_arg1 main_v1 (rfl) shapeCasts_S4x2x16384_S1x131072
abbrev opR : HloOp τ sig (Elt F) := StableHlo.reshape main_v2 main_v3 (rfl) shapeCasts_S131072x2x128_S4x2x16384x256

/-- The TensorCore's arrays. -/
abbrev S6 : Finset (DevRef τ sig) := {a', b', y', i', o', r'}

omit [FloatOps F] in
theorem held_S6 (d : Dev nD) (W : Valuation τ sig (Elt F)) :
    (held (T d) S6 W : sProp (Res F))
      = iprop((aLoc d ↦{fullShare} W a') ∗ (bLoc d ↦{fullShare} W b') ∗ (yLoc d ↦{fullShare} W y') ∗ (iLoc d ↦{fullShare} W i')
          ∗ (oLoc d ↦{fullShare} W o') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (Res F))
      = iprop((aLoc d ↦{fullShare} W main_arg0) ∗ (bLoc d ↦{fullShare} W main_arg1) ∗ (yLoc d ↦{fullShare} W main_v0) ∗ (iLoc d ↦{fullShare} W main_v1)
          ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at the launch, before the call, after it, and at the end. -/
def V0 (d : Dev nD) : Valuation τ sig (Elt F) := fun b => m (d, b)
def V2 (d : Dev nD) : Valuation τ sig (Elt F) := (opI (F := F)).result ((opY (F := F)).result (V0 m d))
def V3 (d : Dev nD) : Valuation τ sig (Elt F) := Function.update (V2 m d) o' (gathered (fyOf m d) (fiOf m d))

theorem unscoped_held (d : Dev nD) : (unscopedBufs d (fun b => m ((SparseCore.T d).loc b)) : sProp (Res F)) = held (T d) S6 (V0 m d) := by
  rw [unscopedBufs_eq, held_S6]; rfl

theorem V2_ne (d : Dev nD) (b : DevRef τ sig) (hy : b ∉ ({y'} : Finset (DevRef τ sig))) (hi : b ∉ ({i'} : Finset (DevRef τ sig))) :
    V2 m d b = m (d, b) := by
  unfold V2
  rw [(opI (F := F)).result_of_not_mem _ (show b ∉ ({i'} : Finset (DevRef τ sig)) from hi),
    (opY (F := F)).result_of_not_mem _ (show b ∉ ({y'} : Finset (DevRef τ sig)) from hy)]
  rfl
theorem V2_a (d : Dev nD) : V2 m d a' = m (aLoc d) := V2_ne m d a' (by decide) (by decide)
theorem V2_b (d : Dev nD) : V2 m d b' = m (bLoc d) := V2_ne m d b' (by decide) (by decide)
theorem V2_o (d : Dev nD) : V2 m d o' = m (oLoc d) := V2_ne m d o' (by decide) (by decide)
theorem V2_y (d : Dev nD) : V2 m d y' = fyOf m d := by
  unfold V2
  rw [(opI (F := F)).result_of_not_mem _ (show y' ∉ ({i'} : Finset (DevRef τ sig)) by decide)]
  exact StableHlo.reshape_result _ _ _ _ _ _ _
theorem V2_i (d : Dev nD) : V2 m d i' = fiOf m d := by
  unfold V2
  refine (StableHlo.reshape_result _ _ _ _ _ _ _).trans ?_
  rw [(opY (F := F)).result_of_not_mem _ (show Proc.devRef .tc (main_arg1 : Ref sig .tc) ∉ ({y'} : Finset (DevRef τ sig)) by decide)]
  rfl

theorem V3_ne (d : Dev nD) (b : DevRef τ sig) (h : b ≠ o') : V3 m d b = V2 m d b := Function.update_of_ne h _ _
theorem V3_o (d : Dev nD) : V3 m d o' = gathered (fyOf m d) (fiOf m d) := Function.update_self _ _ _

theorem held_V2 (d : Dev nD) :
    (held (T d) S6 ((opI (F := F)).result ((opY (F := F)).result (V0 m d))) : sProp (Res F))
      = iprop((aLoc d ↦{fullShare} m (aLoc d)) ∗ (bLoc d ↦{fullShare} m (bLoc d)) ∗ (yLoc d ↦{fullShare} fyOf m d) ∗ (iLoc d ↦{fullShare} fiOf m d)
          ∗ (oLoc d ↦{fullShare} m (oLoc d)) ∗ (rLoc d ↦{fullShare} V2 m d r')) := by
  show held (SparseCore.T d) S6 (V2 m d) = _
  rw [held_S6, V2_a, V2_b, V2_y, V2_i, V2_o]
theorem held_V3 (d : Dev nD) :
    (held (T d) S6 (V3 m d) : sProp (Res F))
      = iprop((aLoc d ↦{fullShare} m (aLoc d)) ∗ (bLoc d ↦{fullShare} m (bLoc d)) ∗ (yLoc d ↦{fullShare} fyOf m d) ∗ (iLoc d ↦{fullShare} fiOf m d)
          ∗ (oLoc d ↦{fullShare} gathered (fyOf m d) (fiOf m d)) ∗ (rLoc d ↦{fullShare} V2 m d r')) := by
  rw [held_S6, V3_o, V3_ne m d a' (by decide), V3_ne m d b' (by decide), V3_ne m d y' (by decide), V3_ne m d i' (by decide), V3_ne m d r' (by decide),
    V2_a, V2_b, V2_y, V2_i]
theorem held_V4 (d : Dev nD) :
    (held (T d) S6 ((opR (F := F)).result (V3 m d)) : sProp (Res F))
      = iprop((aLoc d ↦{fullShare} m (aLoc d)) ∗ (bLoc d ↦{fullShare} m (bLoc d)) ∗ (yLoc d ↦{fullShare} (opR (F := F)).result (V3 m d) y')
          ∗ (iLoc d ↦{fullShare} (opR (F := F)).result (V3 m d) i') ∗ (oLoc d ↦{fullShare} (opR (F := F)).result (V3 m d) o') ∗ (rLoc d ↦{fullShare} Rv m d)) := by
  rw [held_S6, (opR (F := F)).result_of_not_mem (V3 m d) (b := a') (show a' ∉ ({r'} : Finset (DevRef τ sig)) by decide),
    (opR (F := F)).result_of_not_mem (V3 m d) (b := b') (show b' ∉ ({r'} : Finset (DevRef τ sig)) by decide),
    V3_ne m d a' (by decide), V3_ne m d b' (by decide), V2_a, V2_b,
    show (opR (F := F)).result (V3 m d) r' = Rv m d from (StableHlo.reshape_result _ _ _ _ _ _ _).trans (by rw [V3_o]; rfl)]

theorem st0_eq (d : Dev nD) : (bigSep Finset.univ fun c : Fin ((K (F := F)).nCore 0) => (P m).st 0 d c)
    = iprop((yLoc d ↦{fullShare} fyOf m d) ∗ (iLoc d ↦{fullShare} fiOf m d) ∗ (oLoc d ↦{fullShare} m (oLoc d))) := by
  simp only [P_st]
  rw [bigSep_cores (F := F) (fun c => stPay m d c)]
  exact whole_eq d (fyOf m d) (fiOf m d) (m (oLoc d))
theorem dn0_eq (d : Dev nD) : (bigSep Finset.univ fun c : Fin ((K (F := F)).nCore 0) => (P m).dn 0 d c)
    = iprop((yLoc d ↦{fullShare} fyOf m d) ∗ (iLoc d ↦{fullShare} fiOf m d) ∗ (oLoc d ↦{fullShare} gathered (fyOf m d) (fiOf m d))) := by
  simp only [P_dn]
  rw [bigSep_cores (F := F) (fun c => dnPay m d c)]
  exact whole_eq d (fyOf m d) (fiOf m d) _

theorem hY : (opY (F := F)).bufs ⊆ S6 := show ({a', y'} : Finset (DevRef τ sig)) ⊆ S6 by decide
theorem hI : (opI (F := F)).bufs ⊆ S6 := show ({b', i'} : Finset (DevRef τ sig)) ⊆ S6 by decide
theorem hR : (opR (F := F)).bufs ⊆ S6 := show ({o', r'} : Finset (DevRef τ sig)) ⊆ S6 by decide

/-- What @main leaves: its arguments as they were, and the result. -/
abbrev FIN (d : Dev nD) : sProp (Res F) :=
  iprop((aLoc d ↦{fullShare} m (aLoc d)) ∗ (bLoc d ↦{fullShare} m (bLoc d)) ∗ (rLoc d ↦{fullShare} Rv m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opY) (S := S6) hY (V := V0 m d)) $$ [Hb Hheld]
  · isplitl [Hb] <;> iassumption
  iintro ⟨Hb, Hheld⟩
  rw [wp_ret]; imodintro
  iapply (wp_hlo_within 𝒱 (SparseCore.T d) none Set.univ (op := opI) (S := S6) hI (V := (opY (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hi, Hpy, Hpi, Hpo, Hr⟩
  iapply ((K (F := F)).wp_run (D (F := F)) 𝒱 (EH := EH) (P := P m) κ d 0) $$ [Hst Hpy Hpi Hpo Hb Ha Hi Hr Hts]
  isplitr; · iexact Hctx
  isplitl [Hst]; · iexact Hst
  isplitl [Hpy Hpi Hpo]
  · rw [st0_eq]
    isplitl [Hpy]; · iexact Hpy
    isplitl [Hpi]; · iexact Hpi
    iexact Hpo
  iintro ⟨Hst, Hdn⟩
  ihave Hdn' := (Entails.of_eq (dn0_eq m d)) $$ Hdn
  icases Hdn' with ⟨Hpy, Hpi, Hpo⟩
  iapply (wp_hlo_within 𝒱 (SparseCore.T d) none Set.univ (op := opR) (S := S6) hR (V := V3 m d)) $$ [Hb Ha Hi Hpy Hpi Hpo Hr]
  · isplitl [Hb]; · iexact Hb
    rw [held_V3]
    isplitl [Ha]; · iexact Ha
    isplitl [Hi]; · iexact Hi
    isplitl [Hpy]; · iexact Hpy
    isplitl [Hpi]; · iexact Hpi
    isplitl [Hpo]; · iexact Hpo
    iexact Hr
  iintro ⟨Hb, Hheld⟩
  ihave Hh := (Entails.of_eq (held_V4 (F := F) m d)) $$ Hheld
  icases Hh with ⟨Ha, Hi, -, -, -, Hr⟩
  rw [wp_ret]; imodintro; imodintro
  isplitl [Hst]; · iexact Hst
  isplitr [Hb Hts]
  · isplitl [Ha]; · iexact Ha
    isplitl [Hi]; · iexact Hi
    iexact Hr
  isplitl [Hb] <;> iassumption

/-! ## The run -/

/-- What the run leaves on device `d`. -/
def fq (d : Dev nD) (s' : Phys nD τ sig (Elt F)) : Prop :=
  s'.mem.mem (rLoc d) = Rv m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp (Res F)) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => ha i (Finset.mem_univ i), funext fun i => hb i (Finset.mem_univ i)⟩

def QC : PUnit × MemSt nD τ sig (Elt F) → Prop := fun r =>
  (∀ c : Dev nD, r.2.mem (rLoc c) = Rv m c ∧ r.2.mem (aLoc c) = m (aLoc c) ∧ r.2.mem (bLoc c) = m (bLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the gather leaves, index by index: the kernel's result and the reference's are the same array.
-/
module

public import proofs.«01_k».proof.Proof.Launch
public import proofs.«01_k».proof.Proof.Gen.Pre_idx_in_rows
public import proofs.«01_k».proof.Proof.Gen.Reference.Run
public import proofs.«01_k».proof.Proof.Gen.ReferenceIdeal.Run
public import Idealize.ShloMosaic.Lib.Pipeline.Value

@[expose] public section

noncomputable section

namespace Cert.Proof.Gather

open Cert.KernelIdeal Cert.KernelIdeal.Gen
open Idealize.ShloMosaic Idealize.SL.Sem

/-! ## Index words -/

/-- The precondition's bit at one word: it names a row. -/
theorem lt_of_bit (v : BitVec 32) (h : IntOp.andi (IntOp.cmpi .sge v 0#32) (IntOp.cmpi .slt v 295936#32) = 1#1) : v.toNat < 295936 := by
  have h2 : ∀ a b : Bool, IntOp.andi (BitVec.ofBool a) (BitVec.ofBool b) = 1#1 → a = true ∧ b = true := by decide
  obtain ⟨ha, hb⟩ := h2 _ _ h
  simp only [BitVec.sle_eq_decide, BitVec.slt_eq_decide, decide_eq_true_eq, BitVec.toInt_eq_toNat_cond, BitVec.toNat_ofNat,
    Nat.reducePow, Nat.reduceMod] at ha hb
  omega

/-- A word that names a row is not negative. -/
theorem not_neg {v : BitVec 32} (h : v.toNat < 295936) : IntOp.cmpi .slt v 0#32 = 0#1 := by
  show BitVec.ofBool (v.slt 0#32) = 0#1
  rw [show v.slt 0#32 = false from by
    simp only [BitVec.slt_eq_decide, decide_eq_false_iff_not, BitVec.toInt_eq_toNat_cond, BitVec.toNat_ofNat, Nat.reducePow, Nat.reduceMod]
    omega]
  rfl
theorem toInt_small {v : BitVec 32} (h : v.toNat < 295936) : v.toInt.toNat = v.toNat := by
  rw [BitVec.toInt_eq_toNat_cond]
  simp only [Nat.reducePow]
  omega

/-! ## The reference's gather -/

section
variable {α : Type}
abbrev SA : Shape := ⟨2, ![295936, 256]⟩
abbrev SI : Shape := ⟨4, ![4, 2, 16384, 1]⟩
abbrev SR : Shape := ⟨4, ![4, 2, 16384, 256]⟩

abbrev takeRow (wf : GatherDims.WF SA SI SR [3] [0] [] [0] [] 3 ![1, 256]) : GatherDims SA SI SR where
  offsetDims := [3]
  collapsedSliceDims := [0]
  operandBatchingDims := []
  startIndicesBatchingDims := []
  startIndexMap := [0]
  indexVectorDim := 3
  sliceSizes := ![1, 256]
  wf := wf

/-- Each entry is the named row's, on a row number in range. -/
theorem gather_at (wf : GatherDims.WF SA SI SR [3] [0] [] [0] [] 3 ![1, 256]) (x : SA.Idx → α) (idx : IVec SI 32) (y : SR.Idx)
    (h : (idx (ix4 (y 0) (y 1) (y 2) 0)).toNat < 295936) :
    Host.gather (takeRow wf) x idx y = x (ix2 ⟨(idx (ix4 (y 0) (y 1) (y 2) 0)).toNat, h⟩ (y 3)) := by
  have hw : (takeRow wf).start y idx (0 : Fin 2) = (idx (ix4 (y 0) (y 1) (y 2) 0)).toNat := by
    unfold GatherDims.start
    refine (dif_pos (show (0 : Fin 2) ∈ (takeRow wf).startIndexMap from List.mem_singleton.mpr rfl)).trans ?_
    have hsi : (takeRow wf).siIdx y ⟨List.idxOf (0 : Fin 2) (takeRow wf).startIndexMap,
        List.idxOf_lt_length_iff.2 (List.mem_singleton.mpr rfl)⟩ = ix4 (y 0) (y 1) (y 2) 0 := by
      funext b; refine Fin.ext ?_
      match b with
      | ⟨0, _⟩ => rfl
      | ⟨1, _⟩ => rfl
      | ⟨2, _⟩ => rfl
      | ⟨3, _⟩ => rfl
    refine (congrArg (fun k => min (idx k).toInt.toNat (295936 - 1)) hsi).trans ?_
    show min (idx (ix4 (y 0) (y 1) (y 2) 0)).toInt.toNat (295936 - 1) = (idx (ix4 (y 0) (y 1) (y 2) 0)).toNat
    rw [toInt_small h]; omega
  have hz : (takeRow wf).start y idx (1 : Fin 2) = 0 := by
    unfold GatherDims.start
    exact dif_neg (show (1 : Fin 2) ∉ (takeRow wf).startIndexMap from fun h => absurd (List.mem_singleton.mp h) (by decide))
  have ho : (takeRow wf).offCoord y (0 : Fin 2) = 0 :=
    GatherDims.offCoord_eq_zero _ _ _ (fun h => ((GatherDims.mem_sKept _ _).mp h).1 (List.mem_singleton.mpr rfl))
  have hc : (takeRow wf).offCoord y (1 : Fin 2) = (y 3).val := by
    unfold GatherDims.offCoord
    refine (dif_pos ((GatherDims.mem_sKept _ _).mpr
      ⟨show (1 : Fin 2) ∉ [0] from fun h => absurd (List.mem_singleton.mp h) (by decide), List.not_mem_nil⟩)).trans ?_
    rfl
  have hb : ∀ a : Fin 2, (takeRow wf).batchCoord y a = 0 := fun a => GatherDims.batchCoord_eq_zero _ _ _ List.not_mem_nil
  unfold Host.gather
  refine congrArg x (funext fun a => Fin.ext ?_)
  show (takeRow wf).start y idx a + (takeRow wf).batchCoord y a + (takeRow wf).offCoord y a = _
  match a with
  | ⟨0, _⟩ => exact congrArg₂ (· + ·) (congrArg₂ (· + ·) hw (hb 0)) ho
  | ⟨1, _⟩ => exact (congrArg₂ (· + ·) (congrArg₂ (· + ·) hz (hb 1)) hc).trans (Nat.zero_add _)
end

/-! ## The two results -/

section
variable {F : FTy → Type}

theorem gathered_at (a : S2x147968x256.Idx → Elt F .i32) (b : S4x2x16384.Idx → Elt F .i32) (hb : ∀ j, (b j).toNat < 295936)
    (h1 : S2x147968x256.ShapeCasts S295936x2x128) (h2 : S4x2x16384.ShapeCasts S1x131072) (h3 : S131072x2x128.ShapeCasts S4x2x16384x256)
    (h4 : S2x147968x256.ShapeCasts SA) (y : S4x2x16384x256.Idx) :
    shapeCast S4x2x16384x256 (gathered (shapeCast S295936x2x128 a h1) (shapeCast S1x131072 b h2)) h3 y
      = shapeCast SA a h4 (ix2 ⟨(b (ix3 (y 0) (y 1) (y 2))).toNat, hb _⟩ (y 3)) := by
  have y0 : (y 0).val < 4 := (y 0).isLt
  have y1 : (y 1).val < 2 := (y 1).isLt
  have y2 : (y 2).val < 16384 := (y 2).isLt
  have y3 : (y 3).val < 256 := (y 3).isLt
  have en : ((y 0).val * 2 + (y 1).val) * 16384 + (y 2).val < 131072 := by omega
  let x : S131072x2x128.Idx := ix3 ⟨((y 0).val * 2 + (y 1).val) * 16384 + (y 2).val, en⟩ ⟨(y 3).val / 128, by omega⟩ ⟨(y 3).val % 128, by omega⟩
  have e1 := shapeCast_apply (gathered (shapeCast S295936x2x128 a h1) (shapeCast S1x131072 b h2)) h3 y x (by
    rw [Shape.rowMajor_val_three, Shape.rowMajor_val_four]
    show ((((y 0).val * 2 + (y 1).val) * 16384 + (y 2).val) * 2 + (y 3).val / 128) * 128 + (y 3).val % 128
      = (((y 0).val * 2 + (y 1).val) * 16384 + (y 2).val) * 256 + (y 3).val
    omega)
  have e2 : shapeCast S1x131072 b h2 (ix2 0 (x 0)) = b (ix3 (y 0) (y 1) (y 2)) := shapeCast_apply b h2 _ _ (by
    rw [Shape.rowMajor_val_two, Shape.rowMajor_val_three]
    show ((y 0).val * 2 + (y 1).val) * 16384 + (y 2).val = 0 * 131072 + (((y 0).val * 2 + (y 1).val) * 16384 + (y 2).val)
    omega)
  rw [e1]
  unfold gathered
  have hw := hb (ix3 (y 0) (y 1) (y 2))
  have hm : (shapeCast S1x131072 b h2 (ix2 0 (x 0))).toNat % 295936 = (b (ix3 (y 0) (y 1) (y 2))).toNat := by
    rw [e2]; exact Nat.mod_eq_of_lt hw
  refine shapeCast_apply _ _ _ _ ?_ |>.trans (shapeCast_apply a h4 _ ((Shape.reshapeEquiv h1) (ix3 ⟨_, hw⟩ (x 1) (x 2))) ?_).symm
  · rw [Shape.rowMajor_reshapeEquiv, Shape.rowMajor_val_three, Shape.rowMajor_val_three]
    show ((b (ix3 (y 0) (y 1) (y 2))).toNat * 2 + (y 3).val / 128) * 128 + (y 3).val % 128
      = ((shapeCast S1x131072 b h2 (ix2 0 (x 0))).toNat % 295936 * 2 + (y 3).val / 128) * 128 + (y 3).val % 128
    rw [hm]
  · rw [Shape.rowMajor_reshapeEquiv, Shape.rowMajor_val_three, Shape.rowMajor_val_two]
    show ((b (ix3 (y 0) (y 1) (y 2))).toNat * 2 + (y 3).val / 128) * 128 + (y 3).val % 128
      = (b (ix3 (y 0) (y 1) (y 2))).toNat * 256 + (y 3).val
    omega

/-- The reference's start word at one index, on words in range: the index word itself. -/
theorem start_word (b z n : IVec S4x2x16384 32) (hz : ∀ j, z j = 0#32) (hb : ∀ j, (b j).toNat < 295936) (y : S4x2x16384.Idx) :
    select (cmpi .slt b z) (addi b n) b y = b y := by
  have e : cmpi .slt b z y = 0#1 := by
    show IntOp.cmpi .slt (b y) (z y) = 0#1
    rw [hz]; exact not_neg (hb y)
  unfold select
  rw [e]; rfl

/-- The kernel's result is the reference's. -/
theorem value_eq (a : S2x147968x256.Idx → Elt F .i32) (b : IVec S4x2x16384 32) (z n : IVec S4x2x16384 32) (hz : ∀ j, z j = 0#32)
    (hb : ∀ j, (b j).toNat < 295936)
    (h1 : S2x147968x256.ShapeCasts S295936x2x128) (h2 : S4x2x16384.ShapeCasts S1x131072) (h3 : S131072x2x128.ShapeCasts S4x2x16384x256)
    (h4 : S2x147968x256.ShapeCasts SA) (wf : GatherDims.WF SA SI SR [3] [0] [] [0] [] 3 ![1, 256]) (h5) :
    (shapeCast S4x2x16384x256 (gathered (F := F) (shapeCast S295936x2x128 a h1) (shapeCast S1x131072 b h2)) h3 : SR.Idx → Elt F .i32)
      = Host.gather (takeRow wf) (shapeCast SA a h4) (broadcastInDim SI (![0, 1, 2] : Fin 3 → Fin 4) h5 (select (cmpi .slt b z) (addi b n) b)) := by
  funext y
  have hi : broadcastInDim SI (![0, 1, 2] : Fin 3 → Fin 4) h5 (select (cmpi .slt b z) (addi b n) b) (ix4 (y 0) (y 1) (y 2) 0)
      = b (ix3 (y 0) (y 1) (y 2)) := by
    rw [← start_word b z n hz hb]
    unfold broadcastInDim
    refine congrArg _ (funext fun k => Fin.ext ?_)
    match k with
    | ⟨0, _⟩ => rfl
    | ⟨1, _⟩ => rfl
    | ⟨2, _⟩ => rfl
  have hw := congrArg BitVec.toNat hi
  refine (gathered_at a b hb h1 h2 h3 h4 y).trans (Eq.symm ?_)
  refine (gather_at wf _ _ y (hw ▸ hb _)).trans (congrArg _ ?_)
  funext k
  match k with
  | ⟨0, _⟩ => exact Fin.ext hw
  | ⟨1, _⟩ => rfl
end

end Cert.Proof.Gather

end
-- ==== Proof.Expert.Base.lean ====
/-
The expert network's set-up: the buffers when the region is entered, the host lines around it, the two tables read off
the launch memory, each window's block, and the shape of the frame claim.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-- The resources the region is run over. -/
abbrev Res (F : FTy → Type) := MT nD τ sig Unit (Elt F) ℕ (UR sig nD τ) ℕ

variable (m : (ℓ : Loc nD τ sig) → Buf (Elt F) ℓ) (ρ : Dev nD → PrngReg)

/-- A core's buffers when the region is entered: after the host lines before it. -/
abbrev Vin (c : Dev nD) : Valuation τ sig (Elt F) := StableHlo.after (List.flatten [hostOps0]) (fun b => m (c, b))
abbrev Vb (c : Dev nD) (b : Ref sig .tc) : Buf (Elt F) ((c : Thread nD τ).loc b) := Vin m c (Proc.devRef .tc b)

theorem before_fresh : (hostOps0 : List (HloOp τ sig (Elt F))).Forall fun op => op.fresh = ∅ := by
  simp only [List.Forall]; repeat' constructor

set_option maxHeartbeats 800000 in
/-- The program is the host lines, the region, then the selection of the written rows. -/
theorem hmain (𝒱₀ : Variants) : Pipeline.HMainPK (Ix := Unit) (Name := ℕ) (U := UR sig nD τ) (Lvl := ℕ) pcfgs 0 defs₀ 𝒱₀ m (main (F := F)) (Vb m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact before_fresh) main_chain

/-- The line after the region is one operation, and touches no table. -/
theorem after_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j; fin_cases j <;> simp only [StableHlo.ternary_bufs, Finset.mem_insert, Finset.mem_singleton, not_or] <;> and_intros <;>
    exact StableHlo.devRef_ne_of_ne (by decide)
theorem after_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl
/-- It writes none of the pipeline's arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w; fin_cases w <;> simp only [StableHlo.ternary_writes, Finset.mem_singleton] <;> exact StableHlo.devRef_ne_of_ne (by decide)

theorem in_arg0 (c : Dev nD) : Vb m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg1 (c : Dev nD) : Vb m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg2 (c : Dev nD) : Vb m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg3 (c : Dev nD) : Vb m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg4 (c : Dev nD) : Vb m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg5 (c : Dev nD) : Vb m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem in_arg6 (c : Dev nD) : Vb m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The two tables -/

/-- The tables' contents at the region (there is one device). -/
def tbl : pre0.Contents (Elt F) := fun j => Vb m (0 : Dev nD) (pre0.ref j)
theorem tbl_eq (c : Dev nD) (j : Fin 2) : Vb m c (pre0.ref j) = tbl m j := by
  obtain rfl : c = 0 := Subsingleton.elim _ _; rfl
/-- Every window's block is inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbE : Memref sig .tc .smem S288 .i32 := Memref.whole main_arg1
abbrev tbU : Memref sig .tc .smem S1 .i32 := Memref.whole main_arg2
abbrev TbBuf (c : Dev nD) {S : Shape} {e : EltTy} (M : Memref sig .tc .smem S e) : Type := Buf (Elt F) (M.view.loc (c : Thread nD τ))
/-- A table at half the full share, as the body reads it. -/
abbrev tbPt (c : Dev nD) {S : Shape} {e : EltTy} (M : Memref sig .tc .smem S e) (f : TbBuf (F := F) c M) : sProp (Res F) :=
  M.view.loc (c : Thread nD τ) ↦{fullShare.right} f

theorem PhiT_eq (c : Dev nD) : (Pipeline.ΦT pre0 (tbl m) c : sProp (Res F)) = iprop(tbPt c tbE (tbl m 0) ∗ tbPt c tbU (tbl m 1)) := by
  unfold Pipeline.ΦT Pipeline.prefHeld
  rw [show (Finset.univ : Finset (Fin 2)) = insert (0 : Fin 2) {(1 : Fin 2)} from by decide,
    bigSep_insert (by decide), bigSep_singleton]
  rfl

theorem out_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (Vin m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.ternary_writes, Finset.mem_singleton]
      exact StableHlo.devRef_ne_of_ne (by decide))),
    Pipeline.withArrays_of_ne _ c (Vin m c) _ main_arg1 (by exact (by decide : ∀ w, Pipeline.arrRef spec0 w ≠ main_arg1))]
  exact in_arg1 m c
theorem out_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (Vin m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.ternary_writes, Finset.mem_singleton]
      exact StableHlo.devRef_ne_of_ne (by decide))),
    Pipeline.withArrays_of_ne _ c (Vin m c) _ main_arg2 (by exact (by decide : ∀ w, Pipeline.arrRef spec0 w ≠ main_arg2))]
  exact in_arg2 m c
theorem out_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (Vin m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.ternary_writes, Finset.mem_singleton]
      exact StableHlo.devRef_ne_of_ne (by decide))),
    Pipeline.withArrays_of_ne _ c (Vin m c) _ main_arg4 (by exact (by decide : ∀ w, Pipeline.arrRef spec0 w ≠ main_arg4))]
  exact in_arg4 m c
theorem out_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (Vin m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.ternary_writes, Finset.mem_singleton]
      exact StableHlo.devRef_ne_of_ne (by decide))),
    Pipeline.withArrays_of_ne _ c (Vin m c) _ main_arg6 (by exact (by decide : ∀ w, Pipeline.arrRef spec0 w ≠ main_arg6))]
  exact in_arg6 m c

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (Vb m c (Pipeline.arrRef spec0 w))

theorem before0_of (hO : Ok m) {c : Dev nD} (dat : Dat τ (Elt F) Unit ℕ (UR sig nD τ) ℕ (cfgM m hO) c) (hA : dat.A 0 = Vb m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = Vb m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = Vb m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = Vb m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = Vb m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments end as they were. -/
def Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)

/-- A run of the region to its frame post leaves the arguments as they were. -/
theorem kept_of (hO : Ok m) (dats : (p : Fin 1) → (c : Dev nD) → Dat τ (Elt F) Unit ℕ (UR sig nD τ) ℕ ((Pipeline.pin pcfgs fun _ => adm m hO) p) c)
    (hA : ∀ c w, (dats 0 c).A w = Vb m c (Pipeline.arrRef spec0 w)) (r : PUnit × MemSt nD τ sig (Elt F))
    (h : Pipeline.FramePost (Pipeline.pin pcfgs fun _ => adm m hO) dats 0 (Pipeline.afterTail pcfgs (fun _ => adm m hO) dats 0 (Vin m) [hostOps1]) r)
    (c : Dev nD) : Kept m r c :=
  ⟨((h c).1 0).trans (((dats 0 c).arrAt_in 0 rfl _).trans ((hA c 0).trans (in_arg0 m c))),
    ((h c).2 main_arg1 (by decide : main_arg1 ∈ Pipeline.restRefs sig spec0)).trans (out_arg1 m hO dats c),
    ((h c).2 main_arg2 (by decide : main_arg2 ∈ Pipeline.restRefs sig spec0)).trans (out_arg2 m hO dats c),
    ((h c).1 1).trans (((dats 0 c).arrAt_in 1 rfl _).trans ((hA c 1).trans (in_arg3 m c))),
    ((h c).2 main_arg4 (by decide : main_arg4 ∈ Pipeline.restRefs sig spec0)).trans (out_arg4 m hO dats c),
    ((h c).1 3).trans (((dats 0 c).arrAt_in 3 rfl _).trans ((hA c 3).trans (in_arg5 m c))),
    ((h c).2 main_arg6 (by decide : main_arg6 ∈ Pipeline.restRefs sig spec0)).trans (out_arg6 m hO dats c)⟩

/-! ## The memrefs the body is called with -/

abbrev ms0 (hO : Ok m) (t : Fin (cfgM m hO).N) : Memref sig .tc .vmem S2x512x256 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S2x512x512 .bf16 := spec0_5.stage ((cfgM m hO).slots t 5)
abbrev hs5 (hO : Ok m) (t : Fin (cfgM m hO).N) : (ms5 m hO t).IsWhole := hstage0_5 (((cfgM m hO).slots t 5).cast nbuf0_5)
/-- The expert's weights as the kernel keeps them between points. -/
abbrev scU : Memref sig .tc .vmem S1024x2048 .bf16 := Memref.whole cc0_scratch0
abbrev scD : Memref sig .tc .vmem S1024x1024 .bf16 := Memref.whole cc0_scratch1

theorem PhiA_eq (c : Dev nD) :
    (Pipeline.ΦA spec0 c : sProp (Res F))
      = iprop(iprop((∃ d, owns (c : Thread nD τ) scU fullShare d) ∗ (∃ d, owns (c : Thread nD τ) scD fullShare d)) ∗ (∃ r, prngReg c r)) := by
  unfold Pipeline.ΦA; rw [scopedRest0_eq]; simp only [scU, scD, owns_whole]; try rfl

/-- The kernel body at a point, on what the pipeline calls it with. -/
abbrev bodyAt (hO : Ok m) (t : Fin (cfgM m hO).N) : Prog (TpuEff nD τ sig (Elt F) Λ₀ .tc) PUnit :=
  cc0_expert_ffn (grid0.coords t) tbE (Memref.isWhole_whole _) tbU (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) scU (Memref.isWhole_whole _) scD (Memref.isWhole_whole _)

end Cert.Proof.Expert

end
-- ==== Proof.Expert.Body.lean ====
/-
The expert network's body at one point: what it leaves in the weights it keeps and in the block it writes, in each of
the ways its two conditions can fall.
-/
module

public import proofs.«01_k».proof.Proof.Expert.Base
public import Idealize.ShloMosaic.Lib.VecWindow

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-! ## The words the body reads of the tables -/

/-- The number of blocks in use, as the body loads it. -/
def wordU (c : Dev nD) (xt1 : TbBuf (F := F) c tbU) : BitVec 32 :=
  tbU.view.readAt (Elt F) (Rect.unit (s := S1) ![0] S1.size inb_S1_S1_0).toLoadRect xt1 (Shape.Idx.first (by show 0 < S1.numel; rw [numel1_S1]; exact Nat.one_pos))
/-- The expert of this point's block, as the body loads it, -/
def wordE (c : Dev nD) (i : grid0.Coords) (xt0 : TbBuf (F := F) c tbE) : BitVec 32 :=
  tbE.view.readAt (Elt F) (Rect.unit (s := S288) (k0_off1 i) S1.size (k0_off1_inb i)).toLoadRect xt0 (Shape.Idx.first (by show 0 < S1.numel; rw [numel1_S1]; exact Nat.one_pos))
/-- and that of the block before. -/
def wordP (c : Dev nD) (i : grid0.Coords) (xt0 : TbBuf (F := F) c tbE) : BitVec 32 :=
  tbE.view.readAt (Elt F) (Rect.unit (s := S288) (k0_off2 i) S1.size (k0_off2_inb i)).toLoadRect xt0 (Shape.Idx.first (by show 0 < S1.numel; rw [numel1_S1]; exact Nat.one_pos))
/-- Whether the body takes the expert's weights anew: a block in use whose expert is not the one before it. -/
def anew (c : Dev nD) (i : grid0.Coords) (xt0 : TbBuf (F := F) c tbE) (xt1 : TbBuf (F := F) c tbU) : BitVec 1 :=
  Scalar.cmpi .ne (Scalar.extui (Scalar.andi (Scalar.cmpi .slt (BitVec.ofNat 32 (i 0).val) (wordU c xt1))
    (Scalar.ori (Scalar.cmpi .eq (BitVec.ofNat 32 (i 0).val) 0#32) (Scalar.cmpi .ne (wordE c i xt0) (wordP c i xt0)))) : BitVec 32) 0#32

/-! ## What the body leaves -/

/-- The block a point writes: the first half of the columns, then the second, each one rounded. -/
def blockOut (x0 : Vec F S2x512x256 .i32) (u : Vec F S1024x2048 .bf16) (x2 : Vec F S1x1x1x2048 .f32) (d : Vec F S1024x1024 .bf16) (x4 : Vec F S1x1x1x1024 .f32) :
    Vec F S2x512x512 .bf16 :=
  let p0 := View.ld x0 (Rect.unit (s := S2x512x256) ![0, 0, 0] S1x512x256.size inb_S2x512x256_S1x512x256_0_0_0)
  let p1 := View.ld x0 (Rect.unit (s := S2x512x256) ![1, 0, 0] S1x512x256.size inb_S2x512x256_S1x512x256_1_0_0)
  View.canon [⟨Rect.unit (s := S2x512x512) ![1, 0, 0] S1x512x512.size inb_S2x512x512_S1x512x512_1_0_0, k0_pay5 (k0_pay7 p0 p1 u x2) (k0_pay8 p0 p1 u x2) (Scalar.ofBits .f32 0x3FD9DB23#32) d x4⟩,
    ⟨Rect.unit (s := S2x512x512) ![0, 0, 0] S1x512x512.size inb_S2x512x512_S1x512x512_0_0_0, k0_pay4 (k0_pay7 p0 p1 u x2) (k0_pay8 p0 p1 u x2) (Scalar.ofBits .f32 0x3FD9DB23#32) d x4⟩]

variable (c : Dev nD) (i : grid0.Coords) (xt0 : TbBuf (F := F) c tbE) (xt1 : TbBuf (F := F) c tbU)

/-- The first weights kept after a point that found `u` kept. -/
def keptU (x1 : Vec F S1x1x1024x2048 .f32) (u : Vec F S1024x2048 .bf16) : Vec F S1024x2048 .bf16 :=
  if anew c i xt0 xt1 = 1#1 then k0_pay1 x1 else u
/-- The second weights kept after a point that found `d` kept. -/
def keptD (x3 : Vec F S1x1x1024x1024 .f32) (d : Vec F S1024x1024 .bf16) : Vec F S1024x1024 .bf16 :=
  if anew c i xt0 xt1 = 1#1 then k0_pay2 x3 else d
/-- The output block after a point that found `y` there. -/
def leftOut (y : Vec F S2x512x512 .bf16) (b : Vec F S2x512x512 .bf16) : Vec F S2x512x512 .bf16 :=
  if k0_cond2 i (wordU c xt1) = 1#1 then b else y

set_option maxHeartbeats 2000000 in
/-- The body at a point: the inputs and the tables stay, the kept weights and the output block change as just said. -/
theorem body_run (arg3 : Memref sig .tc .vmem S2x512x256 .i32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S2x512x512 .bf16) (harg8 : arg8.IsWhole) (arg9 : Memref sig .tc .vmem S1024x2048 .bf16) (harg9 : arg9.IsWhole) (arg10 : Memref sig .tc .vmem S1024x1024 .bf16) (harg10 : arg10.IsWhole)
    (x0 : Vec F S2x512x256 .i32) (x1 : Vec F S1x1x1024x2048 .f32) (x2 : Vec F S1x1x1x2048 .f32) (x3 : Vec F S1x1x1024x1024 .f32) (x4 : Vec F S1x1x1x1024 .f32) (y : Vec F S2x512x512 .bf16) (u : Vec F S1024x2048 .bf16) (d : Vec F S1024x1024 .bf16)
    (E : Set ℕ) (K : PUnit → sProp (Res F)) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y ∗ owns (c : Thread nD τ) arg9 fullShare u ∗ owns (c : Thread nD τ) arg10 fullShare d ∗ tbPt c tbE xt0 ∗ tbPt c tbU xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (leftOut c i xt1 y (blockOut x0 (keptU c i xt0 xt1 x1 u) x2 (keptD c i xt0 xt1 x3 d) x4))
                ∗ owns (c : Thread nD τ) arg9 fullShare (keptU c i xt0 xt1 x1 u) ∗ owns (c : Thread nD τ) arg10 fullShare (keptD c i xt0 xt1 x3 d) ∗ tbPt c tbE xt0 ∗ tbPt c tbU xt1) -∗ K ⟨⟩))
          ⊢ wp frame (wpE (defs₀ (F := F)) Variants.none c none) E (cc0_expert_ffn i tbE (Memref.isWhole_whole _) tbU (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, Hk⟩
  sl_exec
  sl_step
  have rU : View.read (Elt F) arg9.view (if hc : anew c i xt0 xt1 = 1#1 then
      arg9.view.writes (Elt F) fs0 [⟨Rect.unit (s := S1024x2048) ![0, 0] S1024x2048.size inb_S1024x2048_S1024x2048_0_0, k0_pay1 (body_run.sl.v16 c arg4 f1)⟩]
      else fs0) = keptU c i xt0 xt1 x1 u := by
    unfold keptU
    by_cases hn : anew c i xt0 xt1 = 1#1
    · rw [if_pos hn, dif_pos hn, View.read_writes_full]
      exact congrArg k0_pay1 ((View.readAt_full _ _ _).trans hf1)
    · rw [if_neg hn, dif_neg hn]; exact hs0
  have rD : View.read (Elt F) arg10.view (if hc : anew c i xt0 xt1 = 1#1 then
      arg10.view.writes (Elt F) fs1 [⟨Rect.unit (s := S1024x1024) ![0, 0] S1024x1024.size inb_S1024x1024_S1024x1024_0_0, k0_pay2 (body_run.sl.v22 c arg6 f3)⟩]
      else fs1) = keptD c i xt0 xt1 x3 d := by
    unfold keptD
    by_cases hn : anew c i xt0 xt1 = 1#1
    · rw [if_pos hn, dif_pos hn, View.read_writes_full]
      exact congrArg k0_pay2 ((View.readAt_full _ _ _).trans hf3)
    · rw [if_neg hn, dif_neg hn]; exact hs1
  have eU : body_run.sl.v37 c i xt0 xt1 arg4 arg9 f1 fs0 = keptU c i xt0 xt1 x1 u := (View.readAt_full _ _ _).trans rU
  have eD : body_run.sl.v59 c i xt0 xt1 arg6 arg10 f3 fs1 = keptD c i xt0 xt1 x3 d := (View.readAt_full _ _ _).trans rD
  have e4 : body_run.sl.v61 c arg7 f4 = x4 := (View.readAt_full _ _ _).trans hf4
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    unfold leftOut
    by_cases hu : k0_cond2 i (wordU c xt1) = 1#1
    · rw [if_pos hu]
      refine (congrArg _ (dif_pos hu)).trans ?_
      refine (View.read_writes_eq_canon (Val := Elt F) arg8.view f5 _ ?_).trans ?_
      · exact View.cover_of_tiledL _ S1x512x512.size (by sl_kernel_rfl)
      have e7 : body_run.sl.r_3 c i xt0 xt1 arg3 arg4 arg5 arg9 f0 f1 f2 fs0
          = k0_pay7 (View.ld x0 (Rect.unit (s := S2x512x256) ![0, 0, 0] S1x512x256.size inb_S2x512x256_S1x512x256_0_0_0))
            (View.ld x0 (Rect.unit (s := S2x512x256) ![1, 0, 0] S1x512x256.size inb_S2x512x256_S1x512x256_1_0_0)) (keptU c i xt0 xt1 x1 u) x2 := by
        unfold body_run.sl.r_3
        rw [View.readAt_eq_ld, View.readAt_eq_ld, View.readAt_full, hf0, hf2, eU]
      have e8 : body_run.sl.r_4 c i xt0 xt1 arg3 arg4 arg5 arg9 f0 f1 f2 fs0
          = k0_pay8 (View.ld x0 (Rect.unit (s := S2x512x256) ![0, 0, 0] S1x512x256.size inb_S2x512x256_S1x512x256_0_0_0))
            (View.ld x0 (Rect.unit (s := S2x512x256) ![1, 0, 0] S1x512x256.size inb_S2x512x256_S1x512x256_1_0_0)) (keptU c i xt0 xt1 x1 u) x2 := by
        unfold body_run.sl.r_4
        rw [View.readAt_eq_ld, View.readAt_eq_ld, View.readAt_full, hf0, hf2, eU]
      rw [e7, e8, eD, e4]
      rfl
    · rw [if_neg hu]
      exact (congrArg _ (dif_neg hu)).trans hf5
  isplitl [HS0]
  · iexists _; isplitr
    swap; · iexact HS0
    ipureintro; exact rU
  isplitl [HS1]
  · iexists _; isplitr
    swap; · iexact HS1
    ipureintro; exact rD
  isplitl [HT0]; · iexact HT0
  iexact HT1

end Cert.Proof.Expert

end
-- ==== Proof.Expert.Points.lean ====
/-
The words of the two tables point by point: which block each point takes, when it takes weights anew and when it writes.
-/
module

public import proofs.«01_k».proof.Proof.Expert.Body
public import Idealize.ShloMosaic.Lib.ValueIdxCore

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1)
open Idealize.ShloMosaic.WordCmp
open Cert.Kernel2Ideal Cert.Kernel2Ideal.Gen

variable {F : FTy → Type} [FloatOps F]

variable (m : (ℓ : Loc nD τ sig) → Buf (Elt F) ℓ)

/-- The expert of block `t`. -/
def expW (t : Fin 288) : BitVec 32 := tbl m 0 (ix1 t)
/-- The number of blocks in use. -/
def useW : BitVec 32 := tbl m 1 (ix1 0)
abbrev useN : ℕ := (useW m).toNat

/-- The tables' words are in their ranges: experts below 32, between 1 and 288 blocks in use. -/
structure Good : Prop where
  exp : ∀ t, (expW m t).toNat < 32
  pos : 1 ≤ useN m
  le : useN m ≤ 288

theorem coords_val (t : Fin grid0.N) : (grid0.coords t 0).val = t.val :=
  (by decide : ∀ t : Fin grid0.N, (grid0.coords t 0).val = t.val) t
theorem lt288 (t : Fin grid0.N) : t.val < 288 := t.2

theorem idx1_ext {n : ℕ} (x y : (⟨1, ![n]⟩ : Shape).Idx) (h : (x 0).val = (y 0).val) : x = y := by
  funext a; obtain rfl : a = 0 := Subsingleton.elim _ _; exact Fin.ext h

theorem off1_val (t : Fin grid0.N) : k0_off1 (grid0.coords t) 0 = t.val := by
  have h := lt288 t
  simp only [k0_off1, coords_val, Scalar.indexCast, Matrix.cons_val_zero, BitVec.toNat_ofNat]
  omega

theorem off2_val (t : Fin grid0.N) : k0_off2 (grid0.coords t) 0 = t.val - 1 :=
  (by decide : ∀ t : Fin grid0.N, k0_off2 (grid0.coords t) 0 = t.val - 1) t

theorem wordU_eq : wordU (F := F) 0 (tbl m 1) = useW m := by
  unfold wordU useW
  exact congrArg (tbl m 1) (idx1_ext (n := 1) _ _ (by
    have h : ∀ x y : Fin 1, x.val = y.val := fun x y => by rw [Subsingleton.elim x y]
    exact h _ _))

theorem wordE_eq (t : Fin grid0.N) : wordE (F := F) 0 (grid0.coords t) (tbl m 0) = expW m ⟨t.val, lt288 t⟩ := by
  unfold wordE expW
  refine congrArg (tbl m 0) (idx1_ext (n := 288) _ _ ?_)
  show k0_off1 (grid0.coords t) 0 + 1 * _ = t.val
  rw [off1_val]
  exact congrArg (_ + 1 * ·) (Fin.val_eq_zero (_ : Fin 1))

theorem wordP_eq (t : Fin grid0.N) : wordP (F := F) 0 (grid0.coords t) (tbl m 0) = expW m ⟨t.val - 1, by have := lt288 t; omega⟩ := by
  unfold wordP expW
  refine congrArg (tbl m 0) (idx1_ext (n := 288) _ _ ?_)
  show k0_off2 (grid0.coords t) 0 + 1 * _ = t.val - 1
  rw [off2_val]
  exact congrArg (_ + 1 * ·) (Fin.val_eq_zero (_ : Fin 1))

theorem at0_eq (t : Fin grid0.N) (h) (h1) : Pipeline.Prefetch.Contents.at (pre := pre0) (tbl m) 0 (Rect.unit (s := S288) (k0_off1 (grid0.coords t)) S1.size h) h1 = expW m ⟨t.val, lt288 t⟩ := wordE_eq m t
theorem at1_eq (h) (h1) : Pipeline.Prefetch.Contents.at (pre := pre0) (tbl m) 1 (Rect.unit (s := S1) ![0] S1.size h) h1 = useW m := wordU_eq m

/-! ## The comparisons, on numbers -/

theorem toInt_of_lt {x : BitVec 32} (h : x.toNat < 2 ^ 31) : x.toInt = (x.toNat : Int) := toInt_eq_toNat_of_lt_half h

theorem minsi_val {t : ℕ} (ht : t < 288) {n : BitVec 32} (h1 : 1 ≤ n.toNat) (h2 : n.toNat ≤ 288) :
    (Scalar.minsi (BitVec.ofNat 32 t) (Scalar.subi n 1#32)).toNat = min t (n.toNat - 1) := by
  have ea : (BitVec.ofNat 32 t).toNat = t := by rw [BitVec.toNat_ofNat]; omega
  have eb : (Scalar.subi n 1#32).toNat = n.toNat - 1 := by
    show (n - 1#32).toNat = _
    rw [BitVec.toNat_sub]; simp only [BitVec.toNat_ofNat]; omega
  show (if (BitVec.ofNat 32 t).slt (Scalar.subi n 1#32) then (BitVec.ofNat 32 t) else (Scalar.subi n 1#32) : BitVec 32).toNat = _
  rw [BitVec.slt, toInt_of_lt (by omega), toInt_of_lt (by omega), ea, eb]
  split
  · next h => rw [ea]; have := of_decide_eq_true h; omega
  · next h => rw [eb]; have := of_decide_eq_false (Bool.eq_false_iff.mpr h); omega

theorem slt_iff {t : ℕ} (ht : t < 288) {n : BitVec 32} (h2 : n.toNat ≤ 288) :
    Scalar.cmpi .slt (BitVec.ofNat 32 t) n = 1#1 ↔ t < n.toNat := by
  show IntOp.cmpi .slt _ _ = 1#1 ↔ _
  have ea : (BitVec.ofNat 32 t).toNat = t := by rw [BitVec.toNat_ofNat]; omega
  rw [cmpi_slt_eq, toInt_of_lt (by omega), toInt_of_lt (by omega), ea, ofBool_decide_eq_ite]
  split
  · exact iff_of_true rfl (by omega)
  · exact iff_of_false (by decide) (by omega)

theorem ne_zero_iff (b : BitVec 1) : Scalar.cmpi .ne (Scalar.extui b : BitVec 32) 0#32 = 1#1 ↔ b = 1#1 := by
  revert b; decide

theorem andi_iff (a b : BitVec 1) : Scalar.andi a b = 1#1 ↔ a = 1#1 ∧ b = 1#1 := by revert a b; decide
theorem ori_iff (a b : BitVec 1) : Scalar.ori a b = 1#1 ↔ a = 1#1 ∨ b = 1#1 := by revert a b; decide

theorem eq_iff {t : ℕ} (ht : t < 288) : Scalar.cmpi .eq (BitVec.ofNat 32 t) 0#32 = 1#1 ↔ t = 0 := by
  show IntOp.cmpi .eq _ _ = 1#1 ↔ _
  have ea : (BitVec.ofNat 32 t).toNat = t := by rw [BitVec.toNat_ofNat]; omega
  rw [cmpi_eq_eq, ofBool_decide_eq_ite]
  split
  · next h => rw [h] at ea; exact iff_of_true rfl ea.symm
  · next h => exact iff_of_false (by decide) fun h' => h (by rw [h'])

theorem ne_iff (a b : BitVec 32) : Scalar.cmpi .ne a b = 1#1 ↔ a ≠ b := by
  show IntOp.cmpi .ne _ _ = 1#1 ↔ _
  rw [cmpi_ne_eq, ofBool_decide_eq_ite]
  split
  · next h => exact iff_of_true rfl h
  · next h => exact iff_of_false (by decide) h

variable {m} (hG : Good m)
include hG

/-- A point writes its block when the block is in use. -/
theorem writes_iff (t : Fin grid0.N) : k0_cond2 (grid0.coords t) (useW m) = 1#1 ↔ t.val < useN m := by
  unfold k0_cond2
  refine (ne_zero_iff _).trans ?_
  rw [coords_val]
  exact slt_iff (lt288 t) hG.le

/-- A point takes the weights anew when its block is in use, and is the first or of another expert than the one before. -/
theorem anew_iff (t : Fin grid0.N) : anew (F := F) 0 (grid0.coords t) (tbl m 0) (tbl m 1) = 1#1 ↔
    t.val < useN m ∧ (t.val = 0 ∨ expW m ⟨t.val, lt288 t⟩ ≠ expW m ⟨t.val - 1, by have := lt288 t; omega⟩) := by
  unfold anew
  rw [ne_zero_iff, andi_iff, ori_iff, wordU_eq, wordE_eq, wordP_eq, coords_val, slt_iff (lt288 t) hG.le, eq_iff (lt288 t), ne_iff]

/-! ## The windows' blocks -/

theorem index_rows (t : Fin grid0.N) : cc0_transform_0 inb_S1_S1_0 numel1_S1 (tbl m) (grid0.coords t) = ![0, min t.val (useN m - 1), 0] := by
  refine (congrArg₂ (fun (a : ℕ) (n : BitVec 32) => ![0, (Scalar.minsi (BitVec.ofNat 32 a) (Scalar.subi n 1#32)).toNat, 0]) (coords_val t) (at1_eq m inb_S1_S1_0 numel1_S1)).trans ?_
  simp only [minsi_val (lt288 t) hG.pos hG.le]
theorem index_out (t : Fin grid0.N) : cc0_transform_5 inb_S1_S1_0 numel1_S1 (tbl m) (grid0.coords t) = ![0, min t.val (useN m - 1), 0] := by
  refine (congrArg₂ (fun (a : ℕ) (n : BitVec 32) => ![0, (Scalar.minsi (BitVec.ofNat 32 a) (Scalar.subi n 1#32)).toNat, 0]) (coords_val t) (at1_eq m inb_S1_S1_0 numel1_S1)).trans ?_
  simp only [minsi_val (lt288 t) hG.pos hG.le]

omit hG
/-- The expert of block `t`, as a number. -/
abbrev expN (t : Fin grid0.N) : ℕ := (expW m ⟨t.val, lt288 t⟩).toNat
theorem index_exp1 (t : Fin grid0.N) : cc0_transform_1 k0_off1_inb numel1_S1 (tbl m) (grid0.coords t) = ![0, expN (m := m) t, 0, 0] :=
  congrArg (fun z : BitVec 32 => ![0, z.toNat, 0, 0]) (at0_eq m t _ _)
theorem index_exp2 (t : Fin grid0.N) : cc0_transform_2 k0_off1_inb numel1_S1 (tbl m) (grid0.coords t) = ![0, expN (m := m) t, 0, 0] :=
  congrArg (fun z : BitVec 32 => ![0, z.toNat, 0, 0]) (at0_eq m t _ _)
theorem index_exp3 (t : Fin grid0.N) : cc0_transform_3 k0_off1_inb numel1_S1 (tbl m) (grid0.coords t) = ![0, expN (m := m) t, 0, 0] :=
  congrArg (fun z : BitVec 32 => ![0, z.toNat, 0, 0]) (at0_eq m t _ _)
theorem index_exp4 (t : Fin grid0.N) : cc0_transform_4 k0_off1_inb numel1_S1 (tbl m) (grid0.coords t) = ![0, expN (m := m) t, 0, 0] :=
  congrArg (fun z : BitVec 32 => ![0, z.toNat, 0, 0]) (at0_eq m t _ _)
theorem coords_surj (i : grid0.Coords) : ∃ t : Fin grid0.N, grid0.coords t = i :=
  ⟨⟨(i 0).val, (i 0).2⟩, by funext a; obtain rfl : a = 0 := Subsingleton.elim _ _; exact Fin.ext (coords_val _)⟩

include hG

/-- Every window's block is inside its array. -/
theorem ok : Ok m := by
  have he : ∀ t : Fin grid0.N, expN (m := m) t < 32 := fun t => hG.exp _
  have hu := hG.pos; have hl := hG.le
  have hb : ∀ t : Fin grid0.N, min t.val (useN m - 1) < 288 := fun t => by have := lt288 t; omega
  refine ⟨fun i => ?_, fun i => ?_, fun i => ?_, fun i => ?_, fun i => ?_, fun i => ?_⟩ <;> obtain ⟨t, rfl⟩ := coords_surj i <;>
    have h1 := he t <;> have h2 := hb t
  · refine ⟨fun a => ?_, .inl rfl⟩
    rw [index_rows hG]; fin_cases a <;> simp [Matrix.cons_val_two] <;> omega
  · refine ⟨fun a => ?_, .inl rfl⟩
    rw [index_exp1]; fin_cases a <;> simp <;> omega
  · refine ⟨fun a => ?_, .inl rfl⟩
    rw [index_exp2]; fin_cases a <;> simp <;> omega
  · refine ⟨fun a => ?_, .inl rfl⟩
    rw [index_exp3]; fin_cases a <;> simp <;> omega
  · refine ⟨fun a => ?_, .inl rfl⟩
    rw [index_exp4]; fin_cases a <;> simp <;> omega
  · refine ⟨fun a => ?_, .inr ?_⟩
    · rw [index_out hG]; fin_cases a <;> simp <;> omega
    · have h2 : 2 ≤ S2x147968x512.rank := by decide
      have hd : ∀ k, EltTy.packing .bf16 ∣ k * 512 := fun k => Dvd.dvd.mul_left (by decide) k
      exact .inl (.inr ⟨h2, rfl, .inl ⟨hd _, hd 1⟩⟩)

end Cert.Proof.Expert

end
-- ==== Proof.Expert.Blocks.lean ====
/-
Each window's block as a plain function of its array: the rows of a block, and an expert's weights and biases.
-/
module

public import proofs.«01_k».proof.Proof.Expert.Points
public import Idealize.ShloMosaic.Lib.ValueIdxCore

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix3 ix4)
open Idealize.ShloMosaic.WordCmp
open Cert.Kernel2Ideal Cert.Kernel2Ideal.Gen

variable {F : FTy → Type} [FloatOps F]

variable (m : (ℓ : Loc nD τ sig) → Buf (Elt F) ℓ)

/-- The 512 rows of block `b`, of both planes. -/
def rowsOf {α : Type} (X : S2x147968x256.Idx → α) (b : Fin 289) : S2x512x256.Idx → α := fun j =>
  X (ix3 (j 0) ⟨b.val * 512 + (j 1).val, by have := b.2; have h : (j 1).val < 512 := (j 1).2; omega⟩ (j 2))
/-- An expert's first weights, of the first layer, -/
def upOf {α : Type} (X : S4x32x1024x2048.Idx → α) (e : Fin 32) : S1x1x1024x2048.Idx → α := fun j => X (ix4 0 e (j 2) (j 3))
/-- its first biases, -/
def upBiasOf {α : Type} (X : S4x32x1x2048.Idx → α) (e : Fin 32) : S1x1x1x2048.Idx → α := fun j => X (ix4 0 e 0 (j 3))
/-- its second weights -/
def downOf {α : Type} (X : S4x32x1024x1024.Idx → α) (e : Fin 32) : S1x1x1024x1024.Idx → α := fun j => X (ix4 0 e (j 2) (j 3))
/-- and its second biases. -/
def downBiasOf {α : Type} (X : S4x32x1x1024.Idx → α) (e : Fin 32) : S1x1x1x1024.Idx → α := fun j => X (ix4 0 e 0 (j 3))

variable {m} (hG : Good m)

/-- The expert of block `t`. -/
def expF (t : Fin grid0.N) : Fin 32 := ⟨expN (m := m) t, hG.exp _⟩
/-- The block point `t` stands at: its own while it is in use, then the last in use. -/
def lastT (t : Fin grid0.N) : Fin grid0.N := ⟨min t.val (useN m - 1), by have := lt288 t; exact lt_of_le_of_lt (Nat.min_le_left _ _) t.2⟩
def blkF (t : Fin grid0.N) : Fin 289 := ⟨(lastT (m := m) t).val, by have := lt288 (lastT (m := m) t); omega⟩

theorem iblk0_eq (t : Fin (cfgM m (ok hG)).N) : iblk m (ok hG) 0 0 t = rowsOf (Vb m 0 main_arg0) (blkF (m := m) t) := by
  refine funext fun (j : S2x512x256.Idx) => ?_
  refine congrArg (Vb m 0 main_arg0) ?_
  have h := index_rows hG t
  funext a
  apply Fin.ext
  refine Eq.trans (b := (![0, min t.val (useN m - 1), 0] : Fin 3 → ℕ) a * S2x512x256.size a + 1 * (j a).val)
    (congrArg (fun f : Fin 3 → ℕ => f a * S2x512x256.size a + 1 * (j a).val) h) ?_
  fin_cases a
  · show 0 * 2 + 1 * (j 0).val = (j 0).val; omega
  · show min t.val (useN m - 1) * 512 + 1 * (j 1).val = (blkF (m := m) t).val * 512 + (j 1).val
    rw [Nat.one_mul]; rfl
  · show 0 * 256 + 1 * (j 2).val = (j 2).val; omega

theorem iblk1_eq (t : Fin (cfgM m (ok hG)).N) : iblk m (ok hG) 0 1 t = upOf (Vb m 0 main_arg3) (expF hG t) := by
  refine funext fun (j : S1x1x1024x2048.Idx) => ?_
  refine congrArg (Vb m 0 main_arg3) ?_
  have h := index_exp1 (m := m) t
  funext a
  apply Fin.ext
  fin_cases a
  · show cc0_transform_1 k0_off1_inb numel1_S1 (tbl m) (grid0.coords t) 0 * 1 + 1 * (j 0).val = 0
    rw [h]; show 0 * 1 + _ = _; have h0 : (j 0).val < 1 := (j 0).2; omega
  · show cc0_transform_1 k0_off1_inb numel1_S1 (tbl m) (grid0.coords t) 1 * 1 + 1 * (j 1).val = expN (m := m) t
    rw [h]; show expN (m := m) t * 1 + _ = _; have h0 : (j 1).val < 1 := (j 1).2; omega
  · show cc0_transform_1 k0_off1_inb numel1_S1 (tbl m) (grid0.coords t) 2 * 1024 + 1 * (j 2).val = (j 2).val
    rw [h]; show 0 * 1024 + _ = _; omega
  · show cc0_transform_1 k0_off1_inb numel1_S1 (tbl m) (grid0.coords t) 3 * 2048 + 1 * (j 3).val = (j 3).val
    rw [h]; show 0 * 2048 + _ = _; omega

theorem iblk2_eq (t : Fin (cfgM m (ok hG)).N) : iblk m (ok hG) 0 2 t = upBiasOf (Vb m 0 main_v6) (expF hG t) := by
  refine funext fun (j : S1x1x1x2048.Idx) => ?_
  refine congrArg (Vb m 0 main_v6) ?_
  have h := index_exp2 (m := m) t
  funext a
  apply Fin.ext
  fin_cases a
  · show cc0_transform_2 k0_off1_inb numel1_S1 (tbl m) (grid0.coords t) 0 * 1 + 1 * (j 0).val = 0
    rw [h]; show 0 * 1 + _ = _; have h0 : (j 0).val < 1 := (j 0).2; omega
  · show cc0_transform_2 k0_off1_inb numel1_S1 (tbl m) (grid0.coords t) 1 * 1 + 1 * (j 1).val = expN (m := m) t
    rw [h]; show expN (m := m) t * 1 + _ = _; have h0 : (j 1).val < 1 := (j 1).2; omega
  · show cc0_transform_2 k0_off1_inb numel1_S1 (tbl m) (grid0.coords t) 2 * 1 + 1 * (j 2).val = 0
    rw [h]; show 0 * 1 + _ = _; have h0 : (j 2).val < 1 := (j 2).2; omega
  · show cc0_transform_2 k0_off1_inb numel1_S1 (tbl m) (grid0.coords t) 3 * 2048 + 1 * (j 3).val = (j 3).val
    rw [h]; show 0 * 2048 + _ = _; omega

theorem iblk3_eq (t : Fin (cfgM m (ok hG)).N) : iblk m (ok hG) 0 3 t = downOf (Vb m 0 main_arg5) (expF hG t) := by
  refine funext fun (j : S1x1x1024x1024.Idx) => ?_
  refine congrArg (Vb m 0 main_arg5) ?_
  have h := index_exp3 (m := m) t
  funext a
  apply Fin.ext
  fin_cases a
  · show cc0_transform_3 k0_off1_inb numel1_S1 (tbl m) (grid0.coords t) 0 * 1 + 1 * (j 0).val = 0
    rw [h]; show 0 * 1 + _ = _; have h0 : (j 0).val < 1 := (j 0).2; omega
  · show cc0_transform_3 k0_off1_inb numel1_S1 (tbl m) (grid0.coords t) 1 * 1 + 1 * (j 1).val = expN (m := m) t
    rw [h]; show expN (m := m) t * 1 + _ = _; have h0 : (j 1).val < 1 := (j 1).2; omega
  · show cc0_transform_3 k0_off1_inb numel1_S1 (tbl m) (grid0.coords t) 2 * 1024 + 1 * (j 2).val = (j 2).val
    rw [h]; show 0 * 1024 + _ = _; omega
  · show cc0_transform_3 k0_off1_inb numel1_S1 (tbl m) (grid0.coords t) 3 * 1024 + 1 * (j 3).val = (j 3).val
    rw [h]; show 0 * 1024 + _ = _; omega

theorem iblk4_eq (t : Fin (cfgM m (ok hG)).N) : iblk m (ok hG) 0 4 t = downBiasOf (Vb m 0 main_v7) (expF hG t) := by
  refine funext fun (j : S1x1x1x1024.Idx) => ?_
  refine congrArg (Vb m 0 main_v7) ?_
  have h := index_exp4 (m := m) t
  funext a
  apply Fin.ext
  fin_cases a
  · show cc0_transform_4 k0_off1_inb numel1_S1 (tbl m) (grid0.coords t) 0 * 1 + 1 * (j 0).val = 0
    rw [h]; show 0 * 1 + _ = _; have h0 : (j 0).val < 1 := (j 0).2; omega
  · show cc0_transform_4 k0_off1_inb numel1_S1 (tbl m) (grid0.coords t) 1 * 1 + 1 * (j 1).val = expN (m := m) t
    rw [h]; show expN (m := m) t * 1 + _ = _; have h0 : (j 1).val < 1 := (j 1).2; omega
  · show cc0_transform_4 k0_off1_inb numel1_S1 (tbl m) (grid0.coords t) 2 * 1 + 1 * (j 2).val = 0
    rw [h]; show 0 * 1 + _ = _; have h0 : (j 2).val < 1 := (j 2).2; omega
  · show cc0_transform_4 k0_off1_inb numel1_S1 (tbl m) (grid0.coords t) 3 * 1024 + 1 * (j 3).val = (j 3).val
    rw [h]; show 0 * 1024 + _ = _; omega

end Cert.Proof.Expert

end
-- ==== Proof.Expert.Steps.lean ====
/-
Point by point, what the kernel keeps and writes, read off the arrays: the weights of the expert the point stands at and
that block's output; and which points write nothing.
-/
module

public import proofs.«01_k».proof.Proof.Expert.Blocks
public import Idealize.ShloMosaic.Lib.Pipeline.TableIdle
public import Idealize.ShloMosaic.Lib.ValueIdxCore

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix3 ix4)
open Idealize.ShloMosaic.WordCmp
open Cert.Kernel2Ideal Cert.Kernel2Ideal.Gen

variable {F : FTy → Type} [FloatOps F]

variable {m : (ℓ : Loc nD τ sig) → Buf (Elt F) ℓ} (hG : Good m)

/-- The weights of block `t`'s expert, rounded as the kernel keeps them, -/
def upAt (t : Fin grid0.N) : Vec F S1024x2048 .bf16 := k0_pay1 (upOf (Vb m 0 main_arg3) (expF hG t))
def downAt (t : Fin grid0.N) : Vec F S1024x1024 .bf16 := k0_pay2 (downOf (Vb m 0 main_arg5) (expF hG t))
/-- and the block's output. -/
def outB (t : Fin grid0.N) : Vec F S2x512x512 .bf16 :=
  blockOut (rowsOf (Vb m 0 main_arg0) (blkF (m := m) t)) (upAt hG t) (upBiasOf (Vb m 0 main_v6) (expF hG t)) (downAt hG t) (downBiasOf (Vb m 0 main_v7) (expF hG t))

include hG

/-- A point in use stands at its own block, -/
theorem last_used (t : Fin grid0.N) (h : t.val < useN m) : lastT (m := m) t = t := Fin.ext (by show min t.val (useN m - 1) = t.val; omega)
/-- and one past the use at the block of the point before it. -/
theorem last_pred (t : Fin grid0.N) (h : ¬t.val < useN m) : lastT (m := m) ⟨t.val - 1, by omega⟩ = lastT (m := m) t :=
  Fin.ext (by show min (t.val - 1) (useN m - 1) = min t.val (useN m - 1); omega)

/-- Where the weights are not taken anew, there is a point before and it stands at the same expert. -/
theorem exp_kept (t : Fin grid0.N) (h : ¬anew (F := F) 0 (grid0.coords t) (tbl m 0) (tbl m 1) = 1#1) :
    t.val ≠ 0 ∧ expF hG (lastT (m := m) ⟨t.val - 1, by omega⟩) = expF hG (lastT (m := m) t) := by
  rw [anew_iff hG] at h
  have hp := hG.pos
  by_cases hu : t.val < useN m
  · have h0 : t.val ≠ 0 := fun h0 => h ⟨hu, .inl h0⟩
    refine ⟨h0, ?_⟩
    rw [last_used hG t hu, last_used hG ⟨t.val - 1, by omega⟩ (by show t.val - 1 < _; omega)]
    apply Fin.ext
    have e : expW m ⟨t.val, lt288 t⟩ = expW m ⟨t.val - 1, by have := lt288 t; omega⟩ := by
      by_contra e; exact h ⟨hu, .inr e⟩
    show (expW m ⟨t.val - 1, _⟩).toNat = (expW m ⟨t.val, _⟩).toNat
    rw [e]
  · refine ⟨by omega, ?_⟩
    rw [last_pred hG t hu]

/-- The weights kept after a point are those of the expert it stands at. -/
theorem keptU_eq (t : Fin grid0.N) (u : Vec F S1024x2048 .bf16) (hu : ∀ h : t.val ≠ 0, u = upAt hG (lastT (m := m) ⟨t.val - 1, by omega⟩)) :
    keptU 0 (grid0.coords t) (tbl m 0) (tbl m 1) (iblk m (ok hG) 0 1 t) u = upAt hG (lastT (m := m) t) := by
  unfold keptU
  by_cases hn : anew (F := F) 0 (grid0.coords t) (tbl m 0) (tbl m 1) = 1#1
  · rw [if_pos hn, last_used hG t ((anew_iff hG t).mp hn).1]
    exact congrArg k0_pay1 (iblk1_eq hG t)
  · rw [if_neg hn, hu (exp_kept hG t hn).1]
    unfold upAt
    rw [(exp_kept hG t hn).2]
theorem keptD_eq (t : Fin grid0.N) (d : Vec F S1024x1024 .bf16) (hd : ∀ h : t.val ≠ 0, d = downAt hG (lastT (m := m) ⟨t.val - 1, by omega⟩)) :
    keptD 0 (grid0.coords t) (tbl m 0) (tbl m 1) (iblk m (ok hG) 0 3 t) d = downAt hG (lastT (m := m) t) := by
  unfold keptD
  by_cases hn : anew (F := F) 0 (grid0.coords t) (tbl m 0) (tbl m 1) = 1#1
  · rw [if_pos hn, last_used hG t ((anew_iff hG t).mp hn).1]
    exact congrArg k0_pay2 (iblk3_eq hG t)
  · rw [if_neg hn, hd (exp_kept hG t hn).1]
    unfold downAt
    rw [(exp_kept hG t hn).2]

/-- The output block after a point is that of the block it stands at. -/
theorem leftOut_eq (t : Fin grid0.N) (y : Vec F S2x512x512 .bf16) (hy : ¬t.val < useN m → y = outB hG (lastT (m := m) t)) :
    leftOut 0 (grid0.coords t) (tbl m 1) y (blockOut (iblk m (ok hG) 0 0 t) (upAt hG (lastT (m := m) t)) (iblk m (ok hG) 0 2 t) (downAt hG (lastT (m := m) t)) (iblk m (ok hG) 0 4 t))
      = outB hG (lastT (m := m) t) := by
  unfold leftOut
  rw [wordU_eq]
  by_cases hu : t.val < useN m
  · rw [if_pos ((writes_iff hG t).mpr hu), last_used hG t hu]
    unfold outB
    rw [← iblk0_eq hG t, ← iblk2_eq hG t, ← iblk4_eq hG t]
  · rw [if_neg (fun h => hu ((writes_iff hG t).mp h))]
    exact hy hu

/-! ## The points that write nothing -/

omit hG in
theorem atD1_eq : Pipeline.Prefetch.Contents.atD (pre := pre0) (tbl m) 1 ![0] = useW m := by
  unfold useW Pipeline.Prefetch.Contents.atD
  exact congrArg (tbl m 1) (idx1_ext (n := 1) _ _ rfl)
omit hG in
theorem idle0_five (pf : pre0.Contents (Elt F)) (i : grid0.Coords) : idle0 pf 5 i = !(k0_cond2 i (pf.atD 1 ![0]) == 1#1) := rfl
theorem idle_eq : (cfgM m (ok hG)).idle = idle0 (tbl m) := rfl
theorem idle5_eq (t : Fin grid0.N) : (cfgM m (ok hG)).idle 5 (grid0.coords t) = !(k0_cond2 (grid0.coords t) (useW m) == 1#1) := by
  refine (congrFun (congrFun (idle_eq hG) 5) (grid0.coords t)).trans ?_
  rw [idle0_five, atD1_eq]
theorem idle5_iff (t : Fin grid0.N) : (cfgM m (ok hG)).idle 5 (grid0.coords t) = true ↔ ¬t.val < useN m := by
  rw [idle5_eq hG, ← writes_iff hG t, Bool.not_eq_true', beq_eq_false_iff_ne]
theorem idle5_false (t : Fin grid0.N) (h : t.val < useN m) : (cfgM m (ok hG)).idle 5 (grid0.coords t) = false := by
  rw [Bool.eq_false_iff]; exact fun h' => (idle5_iff hG t).mp h' h

/-- From the last block in use on, the block is written back at the last point only. -/
theorem flush5_false (t : Fin grid0.N) (h : useN m ≤ t.val + 1) (h' : t.val + 1 < 288) : ((cfgM m (ok hG)).win 5).flush t = false := by
  have e1 : ((cfgM m (ok hG)).win 5).index ⟨t.val + 1, h'⟩ = ((cfgM m (ok hG)).win 5).index t := by
    refine (index_out hG ⟨t.val + 1, h'⟩).trans (Eq.trans ?_ (index_out hG t).symm)
    have : min (t.val + 1) (useN m - 1) = min t.val (useN m - 1) := by omega
    show ![0, min (t.val + 1) (useN m - 1), 0] = _
    rw [this]
  unfold Pipeline.Window.flush
  rw [Bool.and_eq_false_iff]; right
  rw [Bool.or_eq_false_iff]
  refine ⟨decide_eq_false ?_, decide_eq_false ?_⟩
  · show ¬t.val + 1 = 288; omega
  · rintro ⟨_, hne⟩; exact hne e1

/-- Past the use the buffer holds the last block written. -/
theorem fresh5_false : ∀ (n : ℕ), useN m ≤ n → n < 288 → (cfgM m (ok hG)).fresh 5 n = false
  | 0, h, _ => absurd hG.pos (by omega)
  | n + 1, h, hn => by
    rw [Pipeline.Cfg.fresh_succ _ _ n (by show n < 288; omega), flush5_false hG ⟨n, by show n < 288; omega⟩ h hn, Bool.false_or]
    by_cases hu : n < useN m
    · rw [Bool.and_eq_false_iff]; exact .inl (idle5_false hG ⟨n, by show n < 288; omega⟩ hu)
    · rw [Bool.and_eq_false_iff]; exact .inr (fresh5_false n (by omega) (by omega))

end Cert.Proof.Expert

end
-- ==== Proof.Expert.Run.lean ====
/-
The run of the expert network: the body's obligation at every point, the launch, and the frame for any values.
-/
module

public import proofs.«01_k».proof.Proof.Expert.Steps
public import Idealize.ShloMosaic.Lib.ValueIdxCore

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix3 ix4)
open Idealize.ShloMosaic.WordCmp
open Cert.Kernel2Ideal Cert.Kernel2Ideal.Gen

variable {F : FTy → Type} [FloatOps F]

variable {m : (ℓ : Loc nD τ sig) → Buf (Elt F) ℓ} (ρ : Dev nD → PrngReg) (hG : Good m)

/-- What the core holds before point `n` besides the windows: past the first point the weights of the expert the point
    before stood at, its generator, and the two tables. -/
def heldAt (c : Dev nD) (n : ℕ) : sProp (Res F) :=
  iprop((∃ u, ⌜∀ t : Fin grid0.N, n = t.val + 1 → u = upAt hG (lastT (m := m) t)⌝ ∗ owns (c : Thread nD τ) scU fullShare u)
    ∗ (∃ d, ⌜∀ t : Fin grid0.N, n = t.val + 1 → d = downAt hG (lastT (m := m) t)⌝ ∗ owns (c : Thread nD τ) scD fullShare d)
    ∗ (∃ r, prngReg c r) ∗ tbPt c tbE (tbl m 0) ∗ tbPt c tbU (tbl m 1))

/-- The proof data: the inputs' blocks stay, and after a point the output's buffer holds the block it stands at. -/
def dats (_ : Fin 1) (c : Dev nD) : Dat τ (Elt F) Unit ℕ (UR sig nD τ) ℕ (cfgM m (ok hG)) c where
  A w := Vb m c (Pipeline.arrRef spec0 w)
  after w t := match w with
    | ⟨0, _⟩ => iblk m (ok hG) c 0 t
    | ⟨1, _⟩ => iblk m (ok hG) c 1 t
    | ⟨2, _⟩ => iblk m (ok hG) c 2 t
    | ⟨3, _⟩ => iblk m (ok hG) c 3 t
    | ⟨4, _⟩ => iblk m (ok hG) c 4 t
    | ⟨5, _⟩ => outB hG (lastT (m := m) t)
  Φ n := heldAt hG c n.val
  q _ := fullShare
  owed _ := 0

theorem A_eq (c : Dev nD) (w : Fin (cfgM m (ok hG)).W) : (dats hG 0 c).A w = Vb m c (Pipeline.arrRef spec0 w) := by
  dsimp only [dats]
theorem after0 (c : Dev nD) (t : Fin (cfgM m (ok hG)).N) : (dats hG 0 c).after 0 t = iblk m (ok hG) c 0 t := by dsimp only [dats]; try rfl
theorem after1 (c : Dev nD) (t : Fin (cfgM m (ok hG)).N) : (dats hG 0 c).after 1 t = iblk m (ok hG) c 1 t := by dsimp only [dats]; try rfl
theorem after2 (c : Dev nD) (t : Fin (cfgM m (ok hG)).N) : (dats hG 0 c).after 2 t = iblk m (ok hG) c 2 t := by dsimp only [dats]; try rfl
theorem after3 (c : Dev nD) (t : Fin (cfgM m (ok hG)).N) : (dats hG 0 c).after 3 t = iblk m (ok hG) c 3 t := by dsimp only [dats]; try rfl
theorem after4 (c : Dev nD) (t : Fin (cfgM m (ok hG)).N) : (dats hG 0 c).after 4 t = iblk m (ok hG) c 4 t := by dsimp only [dats]; try rfl
theorem after5 (c : Dev nD) (t : Fin (cfgM m (ok hG)).N) : (dats hG 0 c).after 5 t = outB hG (lastT (m := m) t) := by dsimp only [dats]; try rfl

theorem before0 (c : Dev nD) (t : Fin (cfgM m (ok hG)).N) (d) : (dats hG 0 c).before 0 t d = iblk m (ok hG) c 0 t :=
  before0_of m (ok hG) (dats hG 0 c) (A_eq hG c 0) (after0 hG c) t d
theorem before1 (c : Dev nD) (t : Fin (cfgM m (ok hG)).N) (d) : (dats hG 0 c).before 1 t d = iblk m (ok hG) c 1 t :=
  before1_of m (ok hG) (dats hG 0 c) (A_eq hG c 1) (after1 hG c) t d
theorem before2 (c : Dev nD) (t : Fin (cfgM m (ok hG)).N) (d) : (dats hG 0 c).before 2 t d = iblk m (ok hG) c 2 t :=
  before2_of m (ok hG) (dats hG 0 c) (A_eq hG c 2) (after2 hG c) t d
theorem before3 (c : Dev nD) (t : Fin (cfgM m (ok hG)).N) (d) : (dats hG 0 c).before 3 t d = iblk m (ok hG) c 3 t :=
  before3_of m (ok hG) (dats hG 0 c) (A_eq hG c 3) (after3 hG c) t d
theorem before4 (c : Dev nD) (t : Fin (cfgM m (ok hG)).N) (d) : (dats hG 0 c).before 4 t d = iblk m (ok hG) c 4 t :=
  before4_of m (ok hG) (dats hG 0 c) (A_eq hG c 4) (after4 hG c) t d

/-- A point past the use finds the last block written in the output's buffer. -/
theorem before5 (c : Dev nD) (t : Fin (cfgM m (ok hG)).N) (d) (h : ¬t.val < useN m) : (dats hG 0 c).before 5 t d = outB hG (lastT (m := m) t) := by
  have hp := hG.pos
  refine ((dats hG 0 c).before_out_traj 5 rfl (fun _ _ => rfl) (fun s hs hi _ => ?_) t.val t rfl d).trans ?_
  · rw [after5, after5, last_pred hG s ((idle5_iff hG s).mp hi)]
  · rw [fresh5_false hG t.val (by omega) t.2, after5, last_pred hG t h]
    exact if_neg Bool.false_ne_true

/-- What the body is called with at a point, -/
def bodyPre (c : Dev nD) (t : Fin (cfgM m (ok hG)).N) : sProp (Res F) :=
  iprop((dats hG 0 c).Φ t.castSucc ∗ (dats hG 0 c).owesAt () t.castSucc
    ∗ (∃ d, owns (c : Thread nD τ) (ms0 m (ok hG) t) fullShare ((dats hG 0 c).before 0 t d))
    ∗ (∃ d, owns (c : Thread nD τ) (ms1 m (ok hG) t) fullShare ((dats hG 0 c).before 1 t d))
    ∗ (∃ d, owns (c : Thread nD τ) (ms2 m (ok hG) t) fullShare ((dats hG 0 c).before 2 t d))
    ∗ (∃ d, owns (c : Thread nD τ) (ms3 m (ok hG) t) fullShare ((dats hG 0 c).before 3 t d))
    ∗ (∃ d, owns (c : Thread nD τ) (ms4 m (ok hG) t) fullShare ((dats hG 0 c).before 4 t d))
    ∗ (∃ d, owns (c : Thread nD τ) (ms5 m (ok hG) t) fullShare ((dats hG 0 c).before 5 t d)))

/-- and what it returns, the output's buffer at what `Q` says. -/
def bodyPost (c : Dev nD) (t : Fin (cfgM m (ok hG)).N) (Q : sProp (Res F)) : sProp (Res F) :=
  iprop((dats hG 0 c).Φ t.succ ∗ (dats hG 0 c).owesAt () t.succ
    ∗ owns (c : Thread nD τ) (ms0 m (ok hG) t) fullShare ((dats hG 0 c).after 0 t)
    ∗ owns (c : Thread nD τ) (ms1 m (ok hG) t) fullShare ((dats hG 0 c).after 1 t)
    ∗ owns (c : Thread nD τ) (ms2 m (ok hG) t) fullShare ((dats hG 0 c).after 2 t)
    ∗ owns (c : Thread nD τ) (ms3 m (ok hG) t) fullShare ((dats hG 0 c).after 3 t)
    ∗ owns (c : Thread nD τ) (ms4 m (ok hG) t) fullShare ((dats hG 0 c).after 4 t)
    ∗ Q)

set_option maxHeartbeats 1600000 in
/-- The body at any point. -/
theorem sound_body (c : Dev nD) (t : Fin (cfgM m (ok hG)).N) (Q : sProp (Res F))
    (hQ : (owns (c : Thread nD τ) (ms5 m (ok hG) t) fullShare (outB hG (lastT (m := m) t)) : sProp (Res F)) ⊢ Q) :
    bodyPre hG c t ⊢ wp frame (wpE (defs₀ (F := F)) Variants.none c none) Set.univ (bodyAt m (ok hG) t) (fun _ => bodyPost hG c t Q) := by
  obtain rfl : c = 0 := Subsingleton.elim _ _
  unfold bodyPre bodyPost bodyAt
  simp only [before0, before1, before2, before3, before4]
  rw [show (dats hG 0 (0 : Dev nD)).owesAt () t.succ = (dats hG 0 (0 : Dev nD)).owesAt () t.castSucc from rfl, after0, after1, after2, after3, after4,
    show (dats hG 0 (0 : Dev nD)).Φ t.castSucc = heldAt hG 0 t.val from rfl, show (dats hG 0 (0 : Dev nD)).Φ t.succ = heldAt hG 0 (t.val + 1) from rfl]
  unfold heldAt
  iintro ⟨⟨⟨%u, %hu, HS0⟩, ⟨%d, %hd, HS1⟩, Hg, HT0, HT1⟩, Ho, ⟨%d0, H0⟩, ⟨%d1, H1⟩, ⟨%d2, H2⟩, ⟨%d3, H3⟩, ⟨%d4, H4⟩, ⟨%d5, H5⟩⟩
  have hU := keptU_eq hG t u fun h => hu ⟨t.val - 1, lt_of_le_of_lt (Nat.sub_le _ _) t.2⟩ (by show t.val = t.val - 1 + 1; omega)
  have hD := keptD_eq hG t d fun h => hd ⟨t.val - 1, lt_of_le_of_lt (Nat.sub_le _ _) t.2⟩ (by show t.val = t.val - 1 + 1; omega)
  have hY := leftOut_eq hG t ((dats hG 0 (0 : Dev nD)).before 5 t d5) fun h => before5 hG 0 t d5 h
  iapply (body_run (0 : Dev nD) (grid0.coords t) (tbl m 0) (tbl m 1) _ (hs0 m (ok hG) t) _ (hs1 m (ok hG) t) _ (hs2 m (ok hG) t) _ (hs3 m (ok hG) t) _ (hs4 m (ok hG) t) _ (hs5 m (ok hG) t) _ (Memref.isWhole_whole _) _ (Memref.isWhole_whole _)
    (iblk m (ok hG) 0 0 t) (iblk m (ok hG) 0 1 t) (iblk m (ok hG) 0 2 t) (iblk m (ok hG) 0 3 t) (iblk m (ok hG) 0 4 t) ((dats hG 0 (0 : Dev nD)).before 5 t d5) u d Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  rw [hU, hD, hY]
  iintro ⟨H0, H1, H2, H3, H4, H5, HS0, HS1, HT0, HT1⟩
  isplitl [HS0 HS1 Hg HT0 HT1]
  · isplitl [HS0]
    · iexists _; isplitr
      swap; · iexact HS0
      ipureintro; intro s hs
      obtain rfl : t = s := Fin.ext (by omega)
      rfl
    isplitl [HS1]
    · iexists _; isplitr
      swap; · iexact HS1
      ipureintro; intro s hs
      obtain rfl : t = s := Fin.ext (by omega)
      rfl
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply hQ
  iexact H5

theorem body_row (t : Fin (cfgM m (ok hG)).N) :
    defs₀ (F := F) .tc (cfgM m (ok hG)).body ((cfgM m (ok hG)).bodyArgs t ((cfgM m (ok hG)).slots t)) = bodyAt m (ok hG) t := by
  unfold defs₀; rw [Defs.onTc_tc]

/-- The library's body obligation, at every point: a point in use writes its block; one past the use leaves the last. -/
theorem body_obligation (c : Dev nD) : BodyObligation (dats hG 0 c) (defs₀ (F := F)) Variants.none () Set.univ := fun t => by
  rw [bigSep_W0, bigSep_W0, body_row hG]
  by_cases hu : t.val < useN m
  · have h5 : (cfgM m (ok hG)).idle (5 : Fin 6) ((cfgM m (ok hG)).grid.coords t) = false := idle5_false hG t hu
    rw [h5]
    exact triple_restated (sound_body hG c t (owns (c : Thread nD τ) (ms5 m (ok hG) t) fullShare ((dats hG 0 c).after 5 t)) (.of_eq (by rw [after5]))) rfl .rfl fun _ => .rfl
  · have h5 : (cfgM m (ok hG)).idle (5 : Fin 6) ((cfgM m (ok hG)).grid.coords t) = true := (idle5_iff hG t).mpr hu
    rw [h5]
    rcases Bool.eq_false_or_eq_true (((cfgM m (ok hG)).win (5 : Fin 6)).flush t) with hf | hf
    · rw [hf]
      exact triple_restated (sound_body hG c t (owns (c : Thread nD τ) (ms5 m (ok hG) t) fullShare ((dats hG 0 c).after 5 t)) (.of_eq (by rw [after5]))) rfl .rfl fun _ => .rfl
    · rw [hf]
      refine triple_restated (sound_body hG c t iprop(∃ d, owns (c : Thread nD τ) (ms5 m (ok hG) t) fullShare ((dats hG 0 c).before 5 t d)) ?_) rfl .rfl fun _ => .rfl
      iintro H
      iexists (outB hG (lastT (m := m) t))
      iapply (Entails.of_eq (congrArg (fun X : Vec F S2x512x512 .bf16 => (owns (c : Thread nD τ) (ms5 m (ok hG) t) fullShare X : sProp (Res F)))
        (before5 hG c t (outB hG (lastT (m := m) t)) hu).symm))
      iexact H

theorem held_in (c : Dev nD) : iprop(Pipeline.ΦA spec0 c ∗ Pipeline.ΦT pre0 (tbl m) c) ⊢ heldAt hG c 0 := by
  rw [PhiA_eq, PhiT_eq]
  unfold heldAt
  iintro ⟨⟨⟨⟨%u, HS0⟩, ⟨%d, HS1⟩⟩, Hg⟩, HT0, HT1⟩
  isplitl [HS0]
  · iexists u; isplitr
    swap; · iexact HS0
    ipureintro; intro t h; exact absurd h (by omega)
  isplitl [HS1]
  · iexists d; isplitr
    swap; · iexact HS1
    ipureintro; intro t h; exact absurd h (by omega)
  isplitl [Hg]; · iexact Hg
  isplitl [HT0]; · iexact HT0
  iexact HT1

theorem held_out (c : Dev nD) (n : ℕ) : heldAt hG c n ⊢ (Pipeline.ΦA spec0 c : sProp (Res F)) := by
  rw [PhiA_eq]
  unfold heldAt
  iintro ⟨⟨%u, %hu, HS0⟩, ⟨%d, %hd, HS1⟩, Hg, HT0, HT1⟩
  isplitl [HS0 HS1]
  · isplitl [HS0]
    · iexists u; iexact HS0
    iexists d; iexact HS1
  iexact Hg

set_option backward.isDefEq.respectTransparency.types false in
set_option maxHeartbeats 800000 in
/-- The run: it ends, with the arrays as the proof data say and every counter at zero. -/
theorem run_counted : θ_run defs (onTc (τ := τ) (main (F := F))) (s₀ m ρ) (fun r => (Pipeline.FramePost (Pipeline.pin pcfgs fun _ => adm m (ok hG)) (dats hG) 0 (Pipeline.afterTail pcfgs (fun _ => adm m (ok hG)) (dats hG) 0 (Vin m) [hostOps1])) r ∧ r.2.sem = fun _ => 0) :=
  Pipeline.θ_run_frameP_around_track (Q' := _) pcfgs (fun _ => adm m (ok hG)) (dats hG) (0 : Fin 1) launch0 defs₀ Variants.none m ρ main
    (hbody := fun c => (body_obligation hG c).loose) (hshare := fun c => (dats hG 0 c).share_full fun _ => rfl)
    (howed := fun _ _ => rfl) (V₀ := Vin m) (opss := [hostOps1]) (hsub := after_sub) (hfresh := after_fresh) (hkeep := after_keeps)
    (hmain := hmain m Variants.none) (hA := A_eq hG) (hpf := tbl_eq m) (hin := fun c => held_in hG c) (hout := fun c => held_out hG c _)

include hG in
/-- The frame claim of the expert network, for any values. -/
theorem frame_any : θ_run defs (onTc (τ := τ) (main (F := F))) ⟨m, fun _ => 0, ρ⟩ (fun r => (∀ c : Dev nD, Kept m r c) ∧ r.2.sem = fun _ => 0) :=
  (θ_run defs _ _).mono (fun r h => ⟨fun c => kept_of m (ok hG) (dats hG) (A_eq hG) r h.1 c, h.2⟩) (run_counted ρ hG)

end Cert.Proof.Expert

end
-- ==== Proof.Expert.Out.lean ====
/-
  What the expert network's region leaves in its output array: at each row of a block in use, the block's output.
-/
module

public import proofs.«01_k».proof.Proof.Expert.Run
public import Idealize.ShloMosaic.Lib.Pipeline.Value

@[expose] public section

set_option maxRecDepth 16384

noncomputable section

namespace Cert.Proof.Expert

open Idealize.ShloMosaic Idealize.ShloMosaic.TcCoe Idealize.ShloMosaic.Tactic
open Idealize.SL Idealize.SL.Sem
open Idealize.ShloMosaic.Pipeline (Dat Cfg Window)
open Idealize.ShloMosaic.ValueIdx (ix1 ix3 ix4)
open Cert.Kernel2Ideal Cert.Kernel2Ideal.Gen

variable {F : FTy → Type} [FloatOps F]
variable {m : (ℓ : Loc nD τ sig) → Buf (Elt F) ℓ} (hG : Good m)

/-- Each block in use is written back at some point. -/
theorem flush5_at (b : ℕ) (hb : b < useN m) : ∃ t : Fin (cfgM m (ok hG)).N, ((cfgM m (ok hG)).win 5).flush t = true ∧ (lastT (m := m) t).val = b := by
  have hl := hG.le
  by_cases h : b + 1 < useN m
  · refine ⟨⟨b, by show b < 288; omega⟩, ?_, by show min b (useN m - 1) = b; omega⟩
    unfold Pipeline.Window.flush
    rw [Bool.and_eq_true_iff]
    refine ⟨rfl, ?_⟩
    rw [Bool.or_eq_true_iff]; right
    refine decide_eq_true ⟨by show b + 1 < 288; omega, fun e => ?_⟩
    have e1 := (index_out hG ⟨b + 1, by show b + 1 < 288; omega⟩).symm.trans (Eq.trans e (index_out hG ⟨b, by show b < 288; omega⟩))
    have e2 : min (b + 1) (useN m - 1) = min b (useN m - 1) := congrFun e1 1
    omega
  · refine ⟨⟨287, by show 287 < 288; omega⟩, ?_, by show min 287 (useN m - 1) = b; omega⟩
    unfold Pipeline.Window.flush
    rw [Bool.and_eq_true_iff]
    refine ⟨rfl, ?_⟩
    rw [Bool.or_eq_true_iff]; left
    exact decide_eq_true rfl

/-- The block an output row lies in, and its place there. -/
def rowBlk (i : S2x147968x512.Idx) : Fin grid0.N := ⟨min ((i 1).val / 512) 287, by show _ < 288; omega⟩
def rowIn (i : S2x147968x512.Idx) : S2x512x512.Idx := ix3 (i 0) ⟨(i 1).val % 512, Nat.mod_lt _ (by decide)⟩ (i 2)
/-- The blocks' outputs, row by row. -/
def outArr : Vec F S2x147968x512 .bf16 := fun i => outB hG (rowBlk i) (rowIn i)

theorem emb_out (t : Fin (cfgM m (ok hG)).N) (y : S2x512x512.Idx) (a : Fin 3) :
    ((((cfgM m (ok hG)).win 5).blk t).view.emb y a).val = (![0, min t.val (useN m - 1), 0] : Fin 3 → ℕ) a * S2x512x512.size a + 1 * (y a).val :=
  congrArg (fun f : Fin 3 → ℕ => f a * S2x512x512.size a + 1 * (y a).val) (index_out hG t)

theorem outArr_at (t : Fin grid0.N) (y : S2x512x512.Idx) (i : S2x147968x512.Idx)
    (h : ∀ a : Fin 3, (i a).val = (![0, min t.val (useN m - 1), 0] : Fin 3 → ℕ) a * S2x512x512.size a + 1 * (y a).val) :
    outArr hG i = outB hG (lastT (m := m) t) y := by
  have hl := hG.le
  have h0 : (i 0).val = 0 * 2 + 1 * (y 0).val := h 0
  have h1 : (i 1).val = min t.val (useN m - 1) * 512 + 1 * (y 1).val := h 1
  have h2 : (i 2).val = 0 * 512 + 1 * (y 2).val := h 2
  have hy : (y 1).val < 512 := (y 1).2
  have e1 : rowBlk i = lastT (m := m) t := Fin.ext (by
    show min ((i 1).val / 512) 287 = min t.val (useN m - 1)
    have := hG.pos
    rw [h1]; omega)
  have e2 : rowIn i = y := by
    funext a
    apply Fin.ext
    fin_cases a
    · show (i 0).val = (y 0).val; omega
    · show (i 1).val % 512 = (y 1).val; rw [h1]; omega
    · show (i 2).val = (y 2).val; omega
  unfold outArr
  rw [e1, e2]

theorem out_at (c : Dev nD) (i : S2x147968x512.Idx) (hi : (i 1).val < useN m * 512) :
    (dats hG 0 c).arrAt 5 (cfgM m (ok hG)).N i = outArr hG i := by
  obtain ⟨t, hf, ht⟩ := flush5_at hG ((i 1).val / 512) (by omega)
  have hl := hG.le
  have ht' : min t.val (useN m - 1) = (i 1).val / 512 := ht
  refine (dats hG 0 c).arrAt_forall_of_flushed 5 (fun i v => v = outArr hG i) (fun t hf y => ?_) _ t i t.2 hf ?_
  · show (dats hG 0 c).after 5 t y = outArr hG ((((cfgM m (ok hG)).win 5).blk t).view.emb y)
    rw [after5 hG c t]
    exact (outArr_at hG t y _ (emb_out hG t y)).symm
  · have e : i = (((cfgM m (ok hG)).win 5).blk t).view.emb (rowIn i) := by
      funext a
      apply Fin.ext
      refine Eq.trans ?_ (emb_out hG t (rowIn i) a).symm
      rw [ht']
      fin_cases a
      · show (i 0).val = 0 * 2 + 1 * (i 0).val; omega
      · show (i 1).val = (i 1).val / 512 * 512 + 1 * ((i 1).val % 512); omega
      · show (i 2).val = 0 * 512 + 1 * (i 2).val; omega
    rw [e]
    exact View.emb_mem_set _ _

end Cert.Proof.Expert

end
-- ==== Proof.Expert.Entry.lean ====
/-
What the host lines around the region leave: the biases with a unit axis more, the mask of the rows in use, the zeros, and the result.
-/
module

public import proofs.«01_k».proof.Proof.Expert.Out

@[expose] public section

set_option maxRecDepth 16384

noncomputable section

namespace Cert.Proof.Expert

open Idealize.ShloMosaic Idealize.ShloMosaic.TcCoe Idealize.ShloMosaic.Tactic
open Idealize.SL Idealize.SL.Sem
open Idealize.ShloMosaic.Pipeline (Dat Cfg Window)
open Idealize.ShloMosaic.ValueIdx (ix1 ix3 ix4)
open Cert.Kernel2Ideal Cert.Kernel2Ideal.Gen

variable {F : FTy → Type} [FloatOps F]
variable (m : (ℓ : Loc nD τ sig) → Buf (Elt F) ℓ)

theorem in_v6 (c : Dev nD) : Vb m c main_v6 = (shapeCast S4x32x1x2048 (m ((c : Thread nD τ).loc main_arg4)) shapeCasts_S4x32x2048_S4x32x1x2048 : Vec F S4x32x1x2048 .f32) := by
  show StableHlo.after (List.flatten [hostOps0]) (fun b => m (c, b)) (Proc.devRef .tc main_v6) = _
  simp only [List.flatten_cons, List.flatten_nil, List.append_nil]
  after_results
  rfl
theorem in_v7 (c : Dev nD) : Vb m c main_v7 = (shapeCast S4x32x1x1024 (m ((c : Thread nD τ).loc main_arg6)) shapeCasts_S4x32x1024_S4x32x1x1024 : Vec F S4x32x1x1024 .f32) := by
  show StableHlo.after (List.flatten [hostOps0]) (fun b => m (c, b)) (Proc.devRef .tc main_v7) = _
  simp only [List.flatten_cons, List.flatten_nil, List.append_nil]
  after_results
  rfl

/-- The mask of the rows that belong to a block in use, -/
def maskOf (a2 : IVec S1 32) : IVec S2x147968x512 1 :=
  cmpi .slt (iotaInDim S2x147968x512 32 1) (broadcastInDim S2x147968x512 ![] bcast_S_S2x147968x512 (muli (shapeCast S_ a2 shapeCasts_S1_S_) (constantI S_ 32 512#32)))
/-- and zeros. -/
def zeroArr : FVec F S2x147968x512 .bf16 := broadcastInDim S2x147968x512 ![] bcast_S_S2x147968x512 (constant S_ .bf16 0x0000#16)

theorem in_v4 (c : Dev nD) : Vb m c main_v4 = maskOf (m ((c : Thread nD τ).loc main_arg2)) := by
  show StableHlo.after (List.flatten [hostOps0]) (fun b => m (c, b)) (Proc.devRef .tc main_v4) = _
  simp only [List.flatten_cons, List.flatten_nil, List.append_nil]
  after_results
  rfl
theorem in_v5 (c : Dev nD) : Vb m c main_v5 = (zeroArr (F := F)) := by
  show StableHlo.after (List.flatten [hostOps0]) (fun b => m (c, b)) (Proc.devRef .tc main_v5) = _
  simp only [List.flatten_cons, List.flatten_nil, List.append_nil]
  after_results
  rfl

theorem select_same {s : Shape} {α : Type} {c c' : IVec s 1} {a a' b b' : s.Idx → α} (hc : c = c') (ha : a = a') (hb : b = b') : select c a b = select c' a' b' := by
  subst hc; subst ha; subst hb; rfl

variable {m} (hG : Good m)

/-- The result: the region's rows where the mask says so, and zeros elsewhere. -/
theorem out_v9 (c : Dev nD) : Pipeline.afterTail pcfgs (fun _ => adm m (ok hG)) (dats hG) 0 (Vin m) [hostOps1] c main_v9
    = (select (maskOf (m ((c : Thread nD τ).loc main_arg2))) ((dats hG 0 c).arrAt 5 (cfgM m (ok hG)).N) zeroArr : FVec F S2x147968x512 .bf16) := by
  unfold Pipeline.afterTail
  simp only [List.flatten_cons, List.flatten_nil, List.append_nil]
  rw [StableHlo.after_cons, StableHlo.after_nil, StableHlo.ternary_result]
  refine select_same ?_ ?_ ?_
  · exact (Pipeline.withArrays_of_ne _ c (Vin m c) _ main_v4 (by exact (by decide : ∀ w, Pipeline.arrRef spec0 w ≠ main_v4))).trans (in_v4 m c)
  · exact Pipeline.withArrays_arr spec0 (by exact (by decide : Function.Injective (Pipeline.arrRef spec0))) c (Vin m c) (fun w => (dats hG 0 c).arrAt w (cfgM m (ok hG)).N) 5
  · exact (Pipeline.withArrays_of_ne _ c (Vin m c) _ main_v5 (by exact (by decide : ∀ w, Pipeline.arrRef spec0 w ≠ main_v5))).trans (in_v5 m c)

end Cert.Proof.Expert

end
-- ==== Proof.Expert.Net.lean ====
/-
  One row of the expert network over the numbers: two layers with a gated activation between them.
-/
module

public import Idealize.ShloMosaic.Lib.Pointwise

@[expose] public section

noncomputable section

namespace Cert.Proof.Expert

open Idealize.ShloMosaic

/-- A row's entries: of each word of the first plane its low half, then its high half, then so of the second plane. -/
def rowX (w0 w1 : Fin 256 → BitVec 32) (k : Fin 1024) : EReal :=
  if _h : k.val < 256 then Ideal.ofBits .f32 (IntOp.shli .vector (w0 ⟨k.val, by omega⟩) 16#32)
  else if _h : k.val - 256 < 256 then Ideal.ofBits .f32 (IntOp.andi (w0 ⟨k.val - 256, by omega⟩) 4294901760#32)
  else if _h : k.val - 256 - 256 < 256 then Ideal.ofBits .f32 (IntOp.shli .vector (w1 ⟨k.val - 256 - 256, by omega⟩) 16#32)
  else Ideal.ofBits .f32 (IntOp.andi (w1 ⟨k.val - 256 - 256 - 256, by have := k.2; omega⟩) 4294901760#32)

/-- The hidden layer before its activation. -/
def hidN (x : Fin 1024 → EReal) (U : Fin 1024 → Fin 2048 → EReal) (b : Fin 2048 → EReal) (n : Fin 2048) : EReal := (∑ k : Fin 1024, x k * U k n) + b n
/-- The gate, cut off at seven, -/
def gateN (h : Fin 2048 → EReal) (j : Fin 1024) : EReal := min (h ⟨j.val, by omega⟩) (Ideal.ofBits .f32 0x40E00000#32)
/-- and the activation. -/
def actN (h : Fin 2048 → EReal) (j : Fin 1024) : EReal :=
  (min (Ideal.ofBits .f32 0x40E00000#32) (max (Ideal.ofBits .f32 0xC0E00000#32) (h ⟨1024 + j.val, by omega⟩)) + 1) * gateN h j
    * Ideal.logistic (Ideal.ofBits .f32 0x3FD9DB23#32 * gateN h j)
/-- The second layer. -/
def netN (x : Fin 1024 → EReal) (U : Fin 1024 → Fin 2048 → EReal) (b : Fin 2048 → EReal) (D : Fin 1024 → Fin 1024 → EReal) (b' : Fin 1024 → EReal) (n : Fin 1024) : EReal :=
  (∑ j : Fin 1024, actN (hidN x U b) j * D j n) + b' n

end Cert.Proof.Expert

end
-- ==== Proof.Expert.Values.lean ====
/-
  The expert network's block, number by number: each row the body computes is a row of the network.
-/
module

public import proofs.«01_k».proof.Proof.Expert.Body
public import proofs.«01_k».proof.Proof.Expert.Net

@[expose] public section

set_option maxRecDepth 16384

noncomputable section

namespace Cert.Proof.Expert

open Idealize.ShloMosaic
open Cert.Kernel2Ideal Cert.Kernel2Ideal.Gen

section
variable (p0 p1 : Vec Ideal S1x512x256 .i32) (u : Vec Ideal S1024x2048 .bf16) (b : Vec Ideal S1x1x1x2048 .f32) (d : Vec Ideal S1024x1024 .bf16) (b' : Vec Ideal S1x1x1x1024 .f32) (r : Fin 512)

theorem pay6_at (n : Fin 2048) : k0_pay6 p0 p1 u b (ix2 r n)
    = hidN (rowX (fun q => p0 (ix3 0 r q)) (fun q => p1 (ix3 0 r q))) (fun k n => u (ix2 k n)) (fun n => b (ix4 0 0 0 n)) n := by
  pointwise [k0_pay6]
  unfold hidN rowX
  rfl

theorem pay7_at (n : Fin 1024) : k0_pay7 p0 p1 u b (ix2 r n)
    = gateN (hidN (rowX (fun q => p0 (ix3 0 r q)) (fun q => p1 (ix3 0 r q))) (fun k n => u (ix2 k n)) (fun n => b (ix4 0 0 0 n))) n := by
  pointwise [k0_pay7]
  rw [pay6_at]
  rfl

theorem pay8_at (n : Fin 1024) : k0_pay8 p0 p1 u b (ix2 r n) * Ideal.logistic (Ideal.ofBits .f32 0x3FD9DB23#32 * k0_pay7 p0 p1 u b (ix2 r n))
    = actN (hidN (rowX (fun q => p0 (ix3 0 r q)) (fun q => p1 (ix3 0 r q))) (fun k n => u (ix2 k n)) (fun n => b (ix4 0 0 0 n))) n := by
  rw [pay7_at]
  pointwise [k0_pay8]
  rw [pay7_at, pay6_at]
  rfl

theorem pay3_at (n : Fin 1024) : k0_pay3 (k0_pay7 p0 p1 u b) (k0_pay8 p0 p1 u b) (Scalar.ofBits .f32 0x3FD9DB23#32) d b' (ix2 r n)
    = netN (rowX (fun q => p0 (ix3 0 r q)) (fun q => p1 (ix3 0 r q))) (fun k n => u (ix2 k n)) (fun n => b (ix4 0 0 0 n)) (fun k n => d (ix2 k n)) (fun n => b' (ix4 0 0 0 n)) n := by
  pointwise [k0_pay3]
  unfold netN
  refine congrArg (· + _) (Finset.sum_congr rfl fun j _ => ?_)
  exact congrArg (· * _) (pay8_at p0 p1 u b r j)
end

/-- The block's rows as rows of the network: plane `s` holds half `s` of the columns. -/
def blockNet (x0 : Vec Ideal S2x512x256 .i32) (u : Vec Ideal S1024x2048 .bf16) (x2 : Vec Ideal S1x1x1x2048 .f32) (d : Vec Ideal S1024x1024 .bf16) (x4 : Vec Ideal S1x1x1x1024 .f32)
    (s : Fin 2) (r n : Fin 512) : EReal :=
  netN (rowX (fun q => x0 (ix3 0 r q)) (fun q => x0 (ix3 1 r q))) (fun k n => u (ix2 k n)) (fun n => x2 (ix4 0 0 0 n)) (fun k n => d (ix2 k n)) (fun n => x4 (ix4 0 0 0 n))
    ⟨s.val * 512 + n.val, by omega⟩

section
variable (x0 : Vec Ideal S2x512x256 .i32) (u : Vec Ideal S1024x2048 .bf16) (x2 : Vec Ideal S1x1x1x2048 .f32) (d : Vec Ideal S1024x1024 .bf16) (x4 : Vec Ideal S1x1x1x1024 .f32)

theorem ld0 (r : Fin 512) (q : Fin 256) : (View.ld x0 (Rect.unit (s := S2x512x256) ![0, 0, 0] S1x512x256.size inb_S2x512x256_S1x512x256_0_0_0) : Vec Ideal S1x512x256 .i32) (ix3 0 r q) = x0 (ix3 0 r q) := by
  pointwise
theorem ld1 (r : Fin 512) (q : Fin 256) : (View.ld x0 (Rect.unit (s := S2x512x256) ![1, 0, 0] S1x512x256.size inb_S2x512x256_S1x512x256_1_0_0) : Vec Ideal S1x512x256 .i32) (ix3 0 r q) = x0 (ix3 1 r q) := by
  pointwise

theorem pay4_at (p0 p1 : Vec Ideal S1x512x256 .i32) (h0 : ∀ r q, p0 (ix3 0 r q) = x0 (ix3 0 r q)) (h1 : ∀ r q, p1 (ix3 0 r q) = x0 (ix3 1 r q)) (r n : Fin 512) :
    k0_pay4 (k0_pay7 p0 p1 u x2) (k0_pay8 p0 p1 u x2) (Scalar.ofBits .f32 0x3FD9DB23#32) d x4 (ix3 0 r n) = blockNet x0 u x2 d x4 0 r n := by
  pointwise [k0_pay4]
  refine (pay3_at p0 p1 u x2 d x4 r _).trans ?_
  unfold blockNet
  simp only [h0, h1]
  refine congrArg (netN _ _ _ _ _) ?_
  exact Fin.ext (by show n.val = 0 * 512 + n.val; omega)

theorem pay5_at (p0 p1 : Vec Ideal S1x512x256 .i32) (h0 : ∀ r q, p0 (ix3 0 r q) = x0 (ix3 0 r q)) (h1 : ∀ r q, p1 (ix3 0 r q) = x0 (ix3 1 r q)) (r n : Fin 512) :
    k0_pay5 (k0_pay7 p0 p1 u x2) (k0_pay8 p0 p1 u x2) (Scalar.ofBits .f32 0x3FD9DB23#32) d x4 (ix3 0 r n) = blockNet x0 u x2 d x4 1 r n := by
  pointwise [k0_pay5]
  refine (pay3_at p0 p1 u x2 d x4 r _).trans ?_
  unfold blockNet
  simp only [h0, h1]
  refine congrArg (netN _ _ _ _ _) ?_
  exact Fin.ext (by show 512 + n.val = 1 * 512 + n.val; omega)

theorem blockOut_at (y : S2x512x512.Idx) : blockOut x0 u x2 d x4 y = blockNet x0 u x2 d x4 (y 0) (y 1) (y 2) := by
  unfold blockOut
  refine View.canon_apply_of_pieces (Val := Elt Ideal) (e := .bf16) (fun y : S2x512x512.Idx => blockNet x0 u x2 d x4 (y 0) (y 1) (y 2)) _ ?_ y ?_
  · intro p hp x
    rcases List.mem_cons.mp hp with rfl | hp
    · obtain ⟨a, r, n, rfl⟩ : ∃ (a : Fin 1) (r n : Fin 512), x = ix3 a r n := ⟨x 0, x 1, x 2, eq_ix3 x⟩
      obtain rfl : a = 0 := Subsingleton.elim _ _
      have e : (Rect.unit (s := S2x512x512) ![1, 0, 0] S1x512x512.size inb_S2x512x512_S1x512x512_1_0_0).emb (ix3 0 r n) = (ix3 1 r n : S2x512x512.Idx) := by
        funext a; apply Fin.ext
        fin_cases a
        · rfl
        · show 0 + 1 * r.val = r.val; omega
        · show 0 + 1 * n.val = n.val; omega
      refine (pay5_at x0 u x2 d x4 _ _ (ld0 x0) (ld1 x0) r n).trans ?_
      exact (congrArg (fun y : S2x512x512.Idx => blockNet x0 u x2 d x4 (y 0) (y 1) (y 2)) e).symm
    · obtain rfl := List.mem_singleton.mp hp
      obtain ⟨a, r, n, rfl⟩ : ∃ (a : Fin 1) (r n : Fin 512), x = ix3 a r n := ⟨x 0, x 1, x 2, eq_ix3 x⟩
      obtain rfl : a = 0 := Subsingleton.elim _ _
      have e : (Rect.unit (s := S2x512x512) ![0, 0, 0] S1x512x512.size inb_S2x512x512_S1x512x512_0_0_0).emb (ix3 0 r n) = (ix3 0 r n : S2x512x512.Idx) := by
        funext a; apply Fin.ext
        fin_cases a
        · rfl
        · show 0 + 1 * r.val = r.val; omega
        · show 0 + 1 * n.val = n.val; omega
      refine (pay4_at x0 u x2 d x4 _ _ (ld0 x0) (ld1 x0) r n).trans ?_
      exact (congrArg (fun y : S2x512x512.Idx => blockNet x0 u x2 d x4 (y 0) (y 1) (y 2)) e).symm
  · have h0 : (y 0).val < 2 := (y 0).2
    have h1 : (y 1).val < 512 := (y 1).2
    have h2 : (y 2).val < 512 := (y 2).2
    by_cases h : (y 0).val = 1
    · refine ⟨_, List.mem_cons_self, (Rect.mem_set_unit (inb := inb_S2x512x512_S1x512x512_1_0_0)).mpr fun a => ?_⟩
      fin_cases a
      · exact ⟨by show 1 ≤ (y 0).val; omega, by show (y 0).val < 1 + 1; omega⟩
      · exact ⟨Nat.zero_le _, by show (y 1).val < 0 + 512; omega⟩
      · exact ⟨Nat.zero_le _, by show (y 2).val < 0 + 512; omega⟩
    · refine ⟨_, List.mem_cons_of_mem _ List.mem_cons_self, (Rect.mem_set_unit (inb := inb_S2x512x512_S1x512x512_0_0_0)).mpr fun a => ?_⟩
      fin_cases a
      · exact ⟨Nat.zero_le _, by show (y 0).val < 0 + 1; omega⟩
      · exact ⟨Nat.zero_le _, by show (y 1).val < 0 + 512; omega⟩
      · exact ⟨Nat.zero_le _, by show (y 2).val < 0 + 512; omega⟩
end

end Cert.Proof.Expert

end
-- ==== Proof.Expert.Spec.lean ====
/-
  The reference of the expert network as a stack of named arrays.
-/
module

public import proofs.«01_k».proof.Proof.Gen.Reference2Ideal.Run
public import Idealize.ShloMosaic.Lib.Pointwise

@[expose] public section

set_option maxRecDepth 16384

noncomputable section

namespace Cert.Proof.Expert

open Idealize.ShloMosaic Idealize.ShloMosaic.TcCoe Idealize.SL.Sem
open Cert.Reference2Ideal Cert.Reference2Ideal.Gen

/-- The rows of activations, each word's two halves widened. -/
def refX (a0 : Vec Ideal S2x147968x256 .i32) : FVec Ideal S147968x1024 .f32 :=
  ((concatenate S147968x1024 1 [⟨S147968x256, ((shapeCast _ (extractStridedSlice S1x147968x256 ![0, 0, 0] (bitcastToFloat (F := Ideal) .f32 (Host.shli a0 (broadcastInDim S2x147968x256 ![] bcast_S_S2x147968x256 (constantI S_ 32 16#32)))) slices_S2x147968x256_S1x147968x256_0_0_0) shapeCasts_S1x147968x256_S147968x256) : (⟨S147968x256, .f32⟩ : BufTy).Contents (Elt Ideal))⟩, ⟨S147968x256, ((shapeCast _ (extractStridedSlice S1x147968x256 ![0, 0, 0] (bitcastToFloat (F := Ideal) .f32 (andi a0 (broadcastInDim S2x147968x256 ![] bcast_S_S2x147968x256 (constantI S_ 32 4294901760#32)))) slices_S2x147968x256_S1x147968x256_0_0_0) shapeCasts_S1x147968x256_S147968x256) : (⟨S147968x256, .f32⟩ : BufTy).Contents (Elt Ideal))⟩, ⟨S147968x256, ((shapeCast _ (extractStridedSlice S1x147968x256 ![1, 0, 0] (bitcastToFloat (F := Ideal) .f32 (Host.shli a0 (broadcastInDim S2x147968x256 ![] bcast_S_S2x147968x256 (constantI S_ 32 16#32)))) slices_S2x147968x256_S1x147968x256_1_0_0) shapeCasts_S1x147968x256_S147968x256) : (⟨S147968x256, .f32⟩ : BufTy).Contents (Elt Ideal))⟩, ⟨S147968x256, ((shapeCast _ (extractStridedSlice S1x147968x256 ![1, 0, 0] (bitcastToFloat (F := Ideal) .f32 (andi a0 (broadcastInDim S2x147968x256 ![] bcast_S_S2x147968x256 (constantI S_ 32 4294901760#32)))) slices_S2x147968x256_S1x147968x256_1_0_0) shapeCasts_S1x147968x256_S147968x256) : (⟨S147968x256, .f32⟩ : BufTy).Contents (Elt Ideal))⟩] concatenates_S147968x256_S147968x256_S147968x256_S147968x256_S147968x1024_d1 : (⟨S147968x1024, .f32⟩ : BufTy).Contents (Elt Ideal)))

/-- Each row's expert, -/
def refE (a1 : Vec Ideal S288 .i32) : IVec S147968 32 :=
  concatenate S147968 0 [⟨S147456, (shapeCast _ (broadcastInDim S288x512 ![0] bcast_S288_S288x512_0 a1) shapeCasts_S288x512_S147456)⟩, ⟨S512, (broadcastInDim S512 ![] bcast_S_S512 (constantI S_ 32 0#32))⟩] concatenates_S147456_S512_S147968_d0

/-- as an index. -/
def refI (a1 : Vec Ideal S288 .i32) : IVec S147968x1 32 :=
  broadcastInDim S147968x1 ![0] bcast_S147968_S147968x1_0 (select (cmpi .slt (refE a1) (broadcastInDim S147968 ![] bcast_S_S147968 (constantI S_ 32 0#32))) (addi (refE a1) (broadcastInDim S147968 ![] bcast_S_S147968 (constantI S_ 32 32#32))) (refE a1))

/-- Each row's first weights, -/
def refWU (a1 : Vec Ideal S288 .i32) (a3 : Vec Ideal S4x32x1024x2048 .f32) : FVec Ideal S147968x1024x2048 .f32 :=
  Host.gather gather_S32x1024x2048_S147968x1_S147968x1024x2048_12_0_n_n_0_1_110242048 (shapeCast _ (extractStridedSlice S1x32x1024x2048 ![0, 0, 0, 0] a3 slices_S4x32x1024x2048_S1x32x1024x2048_0_0_0_0) shapeCasts_S1x32x1024x2048_S32x1024x2048) (refI a1)

/-- first biases, -/
def refBU (a1 : Vec Ideal S288 .i32) (a4 : Vec Ideal S4x32x2048 .f32) : FVec Ideal S147968x2048 .f32 :=
  Host.gather gather_S32x2048_S147968x1_S147968x2048_1_0_n_n_0_1_12048 (shapeCast _ (extractStridedSlice S1x32x2048 ![0, 0, 0] a4 slices_S4x32x2048_S1x32x2048_0_0_0) shapeCasts_S1x32x2048_S32x2048) (refI a1)

/-- second weights -/
def refWD (a1 : Vec Ideal S288 .i32) (a5 : Vec Ideal S4x32x1024x1024 .f32) : FVec Ideal S147968x1024x1024 .f32 :=
  Host.gather gather_S32x1024x1024_S147968x1_S147968x1024x1024_12_0_n_n_0_1_110241024 (shapeCast _ (extractStridedSlice S1x32x1024x1024 ![0, 0, 0, 0] a5 slices_S4x32x1024x1024_S1x32x1024x1024_0_0_0_0) shapeCasts_S1x32x1024x1024_S32x1024x1024) (refI a1)

/-- and second biases. -/
def refBD (a1 : Vec Ideal S288 .i32) (a6 : Vec Ideal S4x32x1024 .f32) : FVec Ideal S147968x1024 .f32 :=
  Host.gather gather_S32x1024_S147968x1_S147968x1024_1_0_n_n_0_1_11024 (shapeCast _ (extractStridedSlice S1x32x1024 ![0, 0, 0] a6 slices_S4x32x1024_S1x32x1024_0_0_0) shapeCasts_S1x32x1024_S32x1024) (refI a1)

/-- The hidden layer before its activation, -/
def refH (a0 : Vec Ideal S2x147968x256 .i32) (a1 : Vec Ideal S288 .i32) (a3 : Vec Ideal S4x32x1024x2048 .f32) (a4 : Vec Ideal S4x32x2048 .f32) : FVec Ideal S147968x2048 .f32 :=
  addf (Host.dotGeneral dot_S147968x1024_S147968x1024x2048_S147968x2048_1_1_n_2_0_0 none (refX a0) (refWU a1 a3)) (refBU a1 a4)

/-- its gate, -/
def refG (a0 : Vec Ideal S2x147968x256 .i32) (a1 : Vec Ideal S288 .i32) (a3 : Vec Ideal S4x32x1024x2048 .f32) (a4 : Vec Ideal S4x32x2048 .f32) : FVec Ideal S147968x1024 .f32 :=
  minimumf (extractStridedSlice S147968x1024 ![0, 0] (refH a0 a1 a3 a4) slices_S147968x2048_S147968x1024_0_0) (broadcastInDim S147968x1024 ![] bcast_S_S147968x1024 (constant S_ .f32 0x40E00000#32))

/-- and after it. -/
def refA (a0 : Vec Ideal S2x147968x256 .i32) (a1 : Vec Ideal S288 .i32) (a3 : Vec Ideal S4x32x1024x2048 .f32) (a4 : Vec Ideal S4x32x2048 .f32) : FVec Ideal S147968x1024 .f32 :=
  mulf (mulf (addf (minimumf (broadcastInDim S147968x1024 ![] bcast_S_S147968x1024 (id (constant S_ .f32 0x40E00000#32))) (maximumf (broadcastInDim S147968x1024 ![] bcast_S_S147968x1024 (id (constant S_ .f32 0xC0E00000#32))) (extractStridedSlice S147968x1024 ![0, 1024] (refH a0 a1 a3 a4) slices_S147968x2048_S147968x1024_0_1024))) (broadcastInDim S147968x1024 ![] bcast_S_S147968x1024 (constant S_ .f32 0x3F800000#32))) (refG a0 a1 a3 a4)) (Host.divf (broadcastInDim S147968x1024 ![] bcast_S_S147968x1024 (constant S_ .f32 0x3F800000#32)) (addf (broadcastInDim S147968x1024 ![] bcast_S_S147968x1024 (constant S_ .f32 0x3F800000#32)) (Host.exp (Host.negf (mulf (broadcastInDim S147968x1024 ![] bcast_S_S147968x1024 (constant S_ .f32 0x3FD9DB23#32)) (refG a0 a1 a3 a4))))))

/-- The second layer. -/
def refY (a0 : Vec Ideal S2x147968x256 .i32) (a1 : Vec Ideal S288 .i32) (a3 : Vec Ideal S4x32x1024x2048 .f32) (a4 : Vec Ideal S4x32x2048 .f32) (a5 : Vec Ideal S4x32x1024x1024 .f32) (a6 : Vec Ideal S4x32x1024 .f32) : FVec Ideal S147968x1024 .f32 :=
  addf (Host.dotGeneral dot_S147968x1024_S147968x1024x1024_S147968x1024_1_1_n_2_0_0 none (refA a0 a1 a3 a4) (refWD a1 a5)) (refBD a1 a6)

/-- Which rows belong to a block in use. -/
def refM (a2 : Vec Ideal S1 .i32) : IVec S147968x1024 1 :=
  broadcastInDim S147968x1024 ![0, 1] bcast_S147968x1_S147968x1024_0_1 (cmpi .slt (broadcastInDim S147968x1 ![0] bcast_S147968_S147968x1_0 (iotaInDim S147968 32 0)) (broadcastInDim S147968x1 ![] bcast_S_S147968x1 (muli (shapeCast _ a2 shapeCasts_S1_S_) (constantI S_ 32 512#32))))

/-- The rows of the blocks in use, and zeros after them. -/
def refZ (a0 : Vec Ideal S2x147968x256 .i32) (a1 : Vec Ideal S288 .i32) (a2 : Vec Ideal S1 .i32) (a3 : Vec Ideal S4x32x1024x2048 .f32) (a4 : Vec Ideal S4x32x2048 .f32) (a5 : Vec Ideal S4x32x1024x1024 .f32) (a6 : Vec Ideal S4x32x1024 .f32) : FVec Ideal S147968x1024 .bf16 :=
  truncf .bf16 (select (refM a2) (refY a0 a1 a3 a4 a5 a6) (broadcastInDim S147968x1024 ![] bcast_S_S147968x1024 (id (constant S_ .f32 0x00000000#32)))) bitsLt_bf16_f32

/-- Its two halves of the columns, one plane each. -/
def refOut (a0 : Vec Ideal S2x147968x256 .i32) (a1 : Vec Ideal S288 .i32) (a2 : Vec Ideal S1 .i32) (a3 : Vec Ideal S4x32x1024x2048 .f32) (a4 : Vec Ideal S4x32x2048 .f32) (a5 : Vec Ideal S4x32x1024x1024 .f32) (a6 : Vec Ideal S4x32x1024 .f32) : FVec Ideal S2x147968x512 .bf16 :=
  concatenate S2x147968x512 0 [⟨S1x147968x512, (broadcastInDim S1x147968x512 ![1, 2] bcast_S147968x512_S1x147968x512_1_2 (extractStridedSlice S147968x512 ![0, 0] (refZ a0 a1 a2 a3 a4 a5 a6) slices_S147968x1024_S147968x512_0_0))⟩, ⟨S1x147968x512, (broadcastInDim S1x147968x512 ![1, 2] bcast_S147968x512_S1x147968x512_1_2 (extractStridedSlice S147968x512 ![0, 512] (refZ a0 a1 a2 a3 a4 a5 a6) slices_S147968x1024_S147968x512_0_512))⟩] concatenates_S1x147968x512_S1x147968x512_S2x147968x512_d0

theorem res_eq (m : (ℓ : Loc nD τ sig) → Buf (Elt Ideal) ℓ) (c : Dev nD) : Cert.Reference2Ideal.Value.res_main_v88 (F := Ideal) m c =
    refOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

end Cert.Proof.Expert

end
-- ==== Proof.Expert.TakeRows.lean ====
/-
  Taking whole entries along a leading axis, one for each row's index.
-/
module

public import Idealize.ShloMosaic.Lib.Pointwise

@[expose] public section

noncomputable section

namespace Cert.Proof.Expert

open Idealize.ShloMosaic

theorem toInt_below {v : BitVec 32} (h : v.toNat < 32) : v.toInt.toNat = v.toNat := by
  rw [BitVec.toInt_eq_toNat_cond]
  simp only [Nat.reducePow]
  omega

section
variable {α : Type} {R N K : ℕ}

abbrev takeVec (wf : GatherDims.WF ⟨2, ![32, N]⟩ ⟨2, ![R, 1]⟩ ⟨2, ![R, N]⟩ [1] [0] [] [0] [] 1 ![1, N]) : GatherDims ⟨2, ![32, N]⟩ ⟨2, ![R, 1]⟩ ⟨2, ![R, N]⟩ where
  offsetDims := [1]
  collapsedSliceDims := [0]
  operandBatchingDims := []
  startIndicesBatchingDims := []
  startIndexMap := [0]
  indexVectorDim := 1
  sliceSizes := ![1, N]
  wf := wf

/-- A vector for each row: the one its index names. -/
theorem takeVec_at (wf : GatherDims.WF ⟨2, ![32, N]⟩ ⟨2, ![R, 1]⟩ ⟨2, ![R, N]⟩ [1] [0] [] [0] [] 1 ![1, N]) (x : (⟨2, ![32, N]⟩ : Shape).Idx → α)
    (idx : IVec ⟨2, ![R, 1]⟩ 32) (r : Fin R) (n : Fin N) (h : (idx (ix2 r 0)).toNat < 32) :
    Host.gather (takeVec wf) x idx (ix2 r n) = x (ix2 ⟨(idx (ix2 r 0)).toNat, h⟩ n) := by
  have hw : (takeVec wf).start (ix2 r n) idx (0 : Fin 2) = (idx (ix2 r 0)).toNat := by
    unfold GatherDims.start
    refine (dif_pos (show (0 : Fin 2) ∈ (takeVec wf).startIndexMap from List.mem_singleton.mpr rfl)).trans ?_
    have hsi : (takeVec wf).siIdx (ix2 r n) ⟨List.idxOf (0 : Fin 2) (takeVec wf).startIndexMap,
        List.idxOf_lt_length_iff.2 (List.mem_singleton.mpr rfl)⟩ = ix2 r 0 := by
      funext b; refine Fin.ext ?_
      match b with
      | ⟨0, _⟩ => rfl
      | ⟨1, _⟩ => rfl
    refine (congrArg (fun k => min (idx k).toInt.toNat (32 - 1)) hsi).trans ?_
    show min (idx (ix2 r 0)).toInt.toNat (32 - 1) = (idx (ix2 r 0)).toNat
    rw [toInt_below h]; omega
  have hz : (takeVec wf).start (ix2 r n) idx (1 : Fin 2) = 0 := by
    unfold GatherDims.start
    exact dif_neg (show (1 : Fin 2) ∉ (takeVec wf).startIndexMap from fun h => absurd (congrArg Fin.val (List.mem_singleton.mp h)) Nat.one_ne_zero)
  have ho : (takeVec wf).offCoord (ix2 r n) (0 : Fin 2) = 0 :=
    GatherDims.offCoord_eq_zero _ _ _ (fun h => ((GatherDims.mem_sKept _ _).mp h).1 (List.mem_singleton.mpr rfl))
  have hc : (takeVec wf).offCoord (ix2 r n) (1 : Fin 2) = n.val := by
    unfold GatherDims.offCoord
    refine (dif_pos ((GatherDims.mem_sKept _ _).mpr
      ⟨show (1 : Fin 2) ∉ [0] from fun h => absurd (List.mem_singleton.mp h) (by decide), List.not_mem_nil⟩)).trans ?_
    rfl
  have hb : ∀ a : Fin 2, (takeVec wf).batchCoord (ix2 r n) a = 0 := fun a => GatherDims.batchCoord_eq_zero _ _ _ List.not_mem_nil
  unfold Host.gather
  refine congrArg x (funext fun a => Fin.ext ?_)
  show (takeVec wf).start (ix2 r n) idx a + (takeVec wf).batchCoord (ix2 r n) a + (takeVec wf).offCoord (ix2 r n) a = _
  match a with
  | ⟨0, _⟩ => exact congrArg₂ (· + ·) (congrArg₂ (· + ·) hw (hb 0)) ho
  | ⟨1, _⟩ => exact (congrArg₂ (· + ·) (congrArg₂ (· + ·) hz (hb 1)) hc).trans (Nat.zero_add _)

abbrev takeMat (wf : GatherDims.WF ⟨3, ![32, K, N]⟩ ⟨2, ![R, 1]⟩ ⟨3, ![R, K, N]⟩ [1, 2] [0] [] [0] [] 1 ![1, K, N]) : GatherDims ⟨3, ![32, K, N]⟩ ⟨2, ![R, 1]⟩ ⟨3, ![R, K, N]⟩ where
  offsetDims := [1, 2]
  collapsedSliceDims := [0]
  operandBatchingDims := []
  startIndicesBatchingDims := []
  startIndexMap := [0]
  indexVectorDim := 1
  sliceSizes := ![1, K, N]
  wf := wf

/-- A matrix for each row: the one its index names. -/
theorem takeMat_at (wf : GatherDims.WF ⟨3, ![32, K, N]⟩ ⟨2, ![R, 1]⟩ ⟨3, ![R, K, N]⟩ [1, 2] [0] [] [0] [] 1 ![1, K, N]) (x : (⟨3, ![32, K, N]⟩ : Shape).Idx → α)
    (idx : IVec ⟨2, ![R, 1]⟩ 32) (r : Fin R) (k : Fin K) (n : Fin N) (h : (idx (ix2 r 0)).toNat < 32) :
    Host.gather (takeMat wf) x idx (ix3 r k n) = x (ix3 ⟨(idx (ix2 r 0)).toNat, h⟩ k n) := by
  have hw : (takeMat wf).start (ix3 r k n) idx (0 : Fin 3) = (idx (ix2 r 0)).toNat := by
    unfold GatherDims.start
    refine (dif_pos (show (0 : Fin 3) ∈ (takeMat wf).startIndexMap from List.mem_singleton.mpr rfl)).trans ?_
    have hsi : (takeMat wf).siIdx (ix3 r k n) ⟨List.idxOf (0 : Fin 3) (takeMat wf).startIndexMap,
        List.idxOf_lt_length_iff.2 (List.mem_singleton.mpr rfl)⟩ = ix2 r 0 := by
      funext b; refine Fin.ext ?_
      match b with
      | ⟨0, _⟩ => rfl
      | ⟨1, _⟩ => rfl
    refine (congrArg (fun k => min (idx k).toInt.toNat (32 - 1)) hsi).trans ?_
    show min (idx (ix2 r 0)).toInt.toNat (32 - 1) = (idx (ix2 r 0)).toNat
    rw [toInt_below h]; omega
  have hz : ∀ a : Fin 3, a ≠ 0 → (takeMat wf).start (ix3 r k n) idx a = 0 := fun a ha => by
    unfold GatherDims.start
    exact dif_neg (show a ∉ (takeMat wf).startIndexMap from fun h => ha (List.mem_singleton.mp h))
  have ho : (takeMat wf).offCoord (ix3 r k n) (0 : Fin 3) = 0 :=
    GatherDims.offCoord_eq_zero _ _ _ (fun h => ((GatherDims.mem_sKept _ _).mp h).1 (List.mem_singleton.mpr rfl))
  have hc1 : (takeMat wf).offCoord (ix3 r k n) (1 : Fin 3) = k.val := by
    unfold GatherDims.offCoord
    refine (dif_pos ((GatherDims.mem_sKept _ _).mpr
      ⟨show (1 : Fin 3) ∉ [0] from fun h => absurd (List.mem_singleton.mp h) (by decide), List.not_mem_nil⟩)).trans ?_
    rfl
  have hc2 : (takeMat wf).offCoord (ix3 r k n) (2 : Fin 3) = n.val := by
    unfold GatherDims.offCoord
    refine (dif_pos ((GatherDims.mem_sKept _ _).mpr
      ⟨show (2 : Fin 3) ∉ [0] from fun h => absurd (List.mem_singleton.mp h) (by decide), List.not_mem_nil⟩)).trans ?_
    rfl
  have hb : ∀ a : Fin 3, (takeMat wf).batchCoord (ix3 r k n) a = 0 := fun a => GatherDims.batchCoord_eq_zero _ _ _ List.not_mem_nil
  unfold Host.gather
  refine congrArg x (funext fun a => Fin.ext ?_)
  show (takeMat wf).start (ix3 r k n) idx a + (takeMat wf).batchCoord (ix3 r k n) a + (takeMat wf).offCoord (ix3 r k n) a = _
  match a with
  | ⟨0, _⟩ => exact congrArg₂ (· + ·) (congrArg₂ (· + ·) hw (hb 0)) ho
  | ⟨1, _⟩ => exact (congrArg₂ (· + ·) (congrArg₂ (· + ·) (hz 1 (by decide)) (hb 1)) hc1).trans (Nat.zero_add _)
  | ⟨2, _⟩ => exact (congrArg₂ (· + ·) (congrArg₂ (· + ·) (hz 2 (by decide)) (hb 2)) hc2).trans (Nat.zero_add _)
end

end Cert.Proof.Expert

end
-- ==== Proof.Expert.RefValues.lean ====
/-
  The reference of the expert network, number by number.
-/
module

public import proofs.«01_k».proof.Proof.Expert.Spec
public import proofs.«01_k».proof.Proof.Expert.Net
public import proofs.«01_k».proof.Proof.Expert.TakeRows

@[expose] public section

set_option maxRecDepth 16384

noncomputable section

namespace Cert.Proof.Expert

open Idealize.ShloMosaic
open Cert.Reference2Ideal Cert.Reference2Ideal.Gen

variable (a0 : Vec Ideal S2x147968x256 .i32) (a1 : Vec Ideal S288 .i32) (a2 : Vec Ideal S1 .i32) (a3 : Vec Ideal S4x32x1024x2048 .f32) (a4 : Vec Ideal S4x32x2048 .f32)
  (a5 : Vec Ideal S4x32x1024x1024 .f32) (a6 : Vec Ideal S4x32x1024 .f32)

theorem shl16 (w : BitVec 32) : IntOp.shli .host w 16#32 = IntOp.shli .vector w 16#32 := by
  unfold IntOp.shli
  rw [if_pos (by decide), if_pos (by decide)]

theorem refX_at (r : Fin 147968) (k : Fin 1024) : refX a0 (ix2 r k) = rowX (fun q => a0 (ix3 0 r q)) (fun q => a0 (ix3 1 r q)) k := by
  pointwise [refX]
  simp only [shl16]
  rfl
theorem refE_at (r : Fin 147968) : refE a1 (ix1 r) = if h : r.val < 147456 then a1 (ix1 ⟨r.val / 512, by omega⟩) else 0#32 := by
  pointwise [refE]
theorem refI_at (r : Fin 147968) : refI a1 (ix2 r 0) = Scalar.select (IntOp.cmpi CmpIPredicate.slt (refE a1 (ix1 r)) 0#32) (IntOp.addi (refE a1 (ix1 r)) 32#32) (refE a1 (ix1 r)) := by
  pointwise [refI]

/-- A row of a block in range has the block's expert. -/
theorem refI_block (r : Fin 147968) (hr : r.val < 147456) (e : Fin 32) (he : (a1 (ix1 ⟨r.val / 512, by omega⟩)).toNat = e.val) : (refI a1 (ix2 r 0)).toNat = e.val := by
  have h1 : refE a1 (ix1 r) = BitVec.ofNat 32 e.val := by
    rw [refE_at, dif_pos hr]
    apply BitVec.eq_of_toNat_eq
    rw [he, BitVec.toNat_ofNat, Nat.mod_eq_of_lt (by have := e.2; omega)]
  rw [refI_at, h1]
  clear he h1
  revert e
  decide

theorem refH_at (r : Fin 147968) (n : Fin 2048) : refH a0 a1 a3 a4 (ix2 r n)
    = hidN (fun k => refX a0 (ix2 r k)) (fun k n => refWU a1 a3 (ix3 r k n)) (fun n => refBU a1 a4 (ix2 r n)) n := by
  pointwise [refH]
  rfl
theorem refG_at (r : Fin 147968) (n : Fin 1024) : refG a0 a1 a3 a4 (ix2 r n) = gateN (fun n => refH a0 a1 a3 a4 (ix2 r n)) n := by
  pointwise [refG]
  rfl
theorem refA_at (r : Fin 147968) (n : Fin 1024) : refA a0 a1 a3 a4 (ix2 r n) = actN (fun n => refH a0 a1 a3 a4 (ix2 r n)) n := by
  pointwise [refA]
  rw [refG_at]
  rfl
theorem refY_at (r : Fin 147968) (n : Fin 1024) : refY a0 a1 a3 a4 a5 a6 (ix2 r n)
    = netN (fun k => refX a0 (ix2 r k)) (fun k n => refWU a1 a3 (ix3 r k n)) (fun n => refBU a1 a4 (ix2 r n)) (fun k n => refWD a1 a5 (ix3 r k n)) (fun n => refBD a1 a6 (ix2 r n)) n := by
  pointwise [refY]
  unfold netN
  refine congrArg (· + _) (Finset.sum_congr rfl fun j _ => ?_)
  refine congrArg (· * _) ((refA_at a0 a1 a3 a4 r j).trans ?_)
  exact congrArg (fun h => actN h j) (funext fun n => refH_at a0 a1 a3 a4 r n)
theorem refZ_at (r : Fin 147968) (n : Fin 1024) : refZ a0 a1 a2 a3 a4 a5 a6 (ix2 r n)
    = Scalar.select (IntOp.cmpi CmpIPredicate.slt (BitVec.ofNat 32 r.val) (IntOp.muli (a2 (ix1 0)) 512#32)) (refY a0 a1 a3 a4 a5 a6 (ix2 r n)) (0 : EReal) := by
  pointwise [refZ, refM]
  refine congrArg (Scalar.select _ _) ?_
  show (constant S_ .f32 0#32 : FVec Ideal S_ .f32) ix0 = 0
  pointwise
theorem refOut_at (s : Fin 2) (r : Fin 147968) (n : Fin 512) : refOut a0 a1 a2 a3 a4 a5 a6 (ix3 s r n) = refZ a0 a1 a2 a3 a4 a5 a6 (ix2 r ⟨s.val * 512 + n.val, by omega⟩) := by
  pointwise [refOut]
  by_cases h : s.val < 1
  · rw [dif_pos h]
    exact congrArg (fun j => refZ a0 a1 a2 a3 a4 a5 a6 (ix2 r j)) (Fin.ext (by show n.val = s.val * 512 + n.val; omega))
  · rw [dif_neg h]
    exact congrArg (fun j => refZ a0 a1 a2 a3 a4 a5 a6 (ix2 r j)) (Fin.ext (by show 512 + n.val = s.val * 512 + n.val; omega))
theorem refWU_at (r : Fin 147968) (k : Fin 1024) (n : Fin 2048) (h : (refI a1 (ix2 r 0)).toNat < 32) : refWU a1 a3 (ix3 r k n) = a3 (ix4 0 ⟨_, h⟩ k n) := by
  unfold refWU
  refine (takeMat_at _ _ _ r k n h).trans ?_
  pointwise
theorem refWD_at (r : Fin 147968) (k : Fin 1024) (n : Fin 1024) (h : (refI a1 (ix2 r 0)).toNat < 32) : refWD a1 a5 (ix3 r k n) = a5 (ix4 0 ⟨_, h⟩ k n) := by
  unfold refWD
  refine (takeMat_at _ _ _ r k n h).trans ?_
  pointwise
theorem refBU_at (r : Fin 147968) (n : Fin 2048) (h : (refI a1 (ix2 r 0)).toNat < 32) : refBU a1 a4 (ix2 r n) = a4 (ix3 0 ⟨_, h⟩ n) := by
  unfold refBU
  refine (takeVec_at _ _ _ r n h).trans ?_
  pointwise
theorem refBD_at (r : Fin 147968) (n : Fin 1024) (h : (refI a1 (ix2 r 0)).toNat < 32) : refBD a1 a6 (ix2 r n) = a6 (ix3 0 ⟨_, h⟩ n) := by
  unfold refBD
  refine (takeVec_at _ _ _ r n h).trans ?_
  pointwise

end Cert.Proof.Expert

end
-- ==== Proof.Expert.Frames.lean ====
/-
The frames of the expert network's two programs, from the precondition: every expert's number is below 32 and between
one and 288 blocks are in use.
-/
module

public import proofs.«01_k».proof.Proof.Expert.Run
public import proofs.«01_k».proof.Defs
public import proofs.«01_k».proof.Proof.Gen.Kernel2
public import proofs.«01_k».proof.Proof.Gen.Pre_routed
public import Idealize.ShloMosaic.Lib.Pointwise.SelectCore
public import Idealize.ShloMosaic.Lib.ValueIdxCore

@[expose] public section

set_option maxRecDepth 16384

noncomputable section

namespace Cert.Proof.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix3 ix4)
open Idealize.ShloMosaic.WordCmp
open Cert.Kernel2Ideal Cert.Kernel2Ideal.Gen

variable {F : FTy → Type} [FloatOps F]

theorem toNat_of_nonneg {w : BitVec 32} (h : 0 ≤ w.toInt) : w.toInt = w.toNat := by
  have hb := w.isLt
  rw [BitVec.toInt_eq_toNat_cond] at h ⊢
  split at h <;> rename_i h' <;> simp only [h', if_true, if_false] <;> omega

theorem and_bits (a b : BitVec 1) : IntOp.andi a b = 1#1 ↔ a = 1#1 ∧ b = 1#1 := by revert a b; decide

theorem lt_of_bits (w : BitVec 32) (h : IntOp.andi (IntOp.cmpi .sge w 0#32) (IntOp.cmpi .slt w 32#32) = 1#1) : w.toNat < 32 := by
  obtain ⟨h1, h2⟩ := (and_bits _ _).mp h
  have e0 : (0#32 : BitVec 32).toInt = 0 := by decide
  have e1 : (32#32 : BitVec 32).toInt = 32 := by decide
  rw [cmpi_sge_eq, ofBool_decide_eq_ite, e0] at h1
  rw [cmpi_slt_eq, ofBool_decide_eq_ite, e1] at h2
  have a1 : 0 ≤ w.toInt := by by_contra hc; rw [if_neg (by omega)] at h1; exact absurd h1 (by decide)
  have a2 : w.toInt < 32 := by by_contra hc; rw [if_neg (by omega)] at h2; exact absurd h2 (by decide)
  have := toNat_of_nonneg a1; omega

theorem used_of_bits (w : BitVec 32) (h : IntOp.andi (IntOp.cmpi .sge w 1#32) (IntOp.cmpi .sle w 288#32) = 1#1) : 1 ≤ w.toNat ∧ w.toNat ≤ 288 := by
  obtain ⟨h1, h2⟩ := (and_bits _ _).mp h
  have e0 : (1#32 : BitVec 32).toInt = 1 := by decide
  have e1 : (288#32 : BitVec 32).toInt = 288 := by decide
  rw [cmpi_sge_eq, ofBool_decide_eq_ite, e0] at h1
  rw [cmpi_sle_eq, ofBool_decide_eq_ite, e1] at h2
  have a1 : 1 ≤ w.toInt := by by_contra hc; rw [if_neg (by omega)] at h1; exact absurd h1 (by decide)
  have a2 : w.toInt ≤ 288 := by by_contra hc; rw [if_neg (by omega)] at h2; exact absurd h2 (by decide)
  have := toNat_of_nonneg (w := w) (by omega); omega

/-- The precondition gives the tables' ranges. -/
theorem good_of (m : (ℓ : Loc nD τ sig) → Buf (Elt F) ℓ)
    (h : ∀ c : Dev nD, Cert.Pre_routed.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) :
    Good m := by
  have h0 := h 0
  have eE : tbl m 0 = m (((0 : Dev nD).tc : Thread nD τ).loc main_arg1) := in_arg1 m 0
  have eU : tbl m 1 = m (((0 : Dev nD).tc : Thread nD τ).loc main_arg2) := in_arg2 m 0
  have hu : 1 ≤ (useW m).toNat ∧ (useW m).toNat ≤ 288 := by
    have h1 := congrFun h0 (ValueIdx.ix1 (288 : Fin 289))
    unfold Cert.Pre_routed.fn at h1
    dsimp only at h1
    rw [concatenate_pair_apply, dif_neg (by decide)] at h1
    have h2 := used_of_bits _ h1
    unfold useW
    rw [eU]
    refine Eq.mp (congrArg (fun j : (⟨1, ![1]⟩ : Shape).Idx => 1 ≤ (m (((0 : Dev nD).tc : Thread nD τ).loc main_arg2) j : BitVec 32).toNat ∧ (m (((0 : Dev nD).tc : Thread nD τ).loc main_arg2) j : BitVec 32).toNat ≤ 288) (idx1_ext (n := 1) _ (ValueIdx.ix1 0) ?_)) h2
    rfl
  refine ⟨fun t => ?_, hu.1, hu.2⟩
  have h1 := congrFun h0 (ValueIdx.ix1 (⟨t.val, by omega⟩ : Fin 289))
  unfold Cert.Pre_routed.fn at h1
  dsimp only at h1
  rw [concatenate_pair_apply, dif_pos (by exact t.2)] at h1
  have h2 := lt_of_bits _ h1
  unfold expW
  rw [eE]
  refine Eq.mp (congrArg (fun j : (⟨1, ![288]⟩ : Shape).Idx => (m (((0 : Dev nD).tc : Thread nD τ).loc main_arg1) j : BitVec 32).toNat < 32) (idx1_ext (n := 288) _ (ValueIdx.ix1 t) ?_)) h2
  rfl

theorem good_bits (m : (ℓ : Loc Cert.Kernel2.nD Cert.Kernel2.τ Cert.Kernel2.sig) → Buf (Elt Bits) ℓ) (h : Cert.Pre_Kernel2 m) : Good (F := Bits) m := good_of (F := Bits) m h
theorem good_ideal (m : (ℓ : Loc nD τ sig) → Buf (Elt Ideal) ℓ) (h : Cert.Pre_Kernel2Ideal m) : Good (F := Ideal) m := good_of (F := Ideal) m h

theorem frame_kernel2Ideal : Cert.quiescent_Kernel2Ideal := fun m ρ h => frame_any (F := Ideal) (m := m) ρ (good_ideal m h)
/-- The two printings of the call are the same bodies. -/
theorem defs₀_same : @Cert.Kernel2.defs₀ F _ _ = @Cert.Kernel2Ideal.defs₀ F _ _ := by
  unfold Cert.Kernel2.defs₀ Cert.Kernel2Ideal.defs₀
  refine congrArg Defs.onTc (funext fun l => ?_)
  rcases l with ⟨l, hl⟩
  rcases l with _ | l
  · rfl
  · exact absurd hl (by simp)

set_option maxHeartbeats 4000000 in
theorem defs_same : @Cert.Kernel2.defs F _ _ = @Cert.Kernel2Ideal.defs F _ _ := by
  unfold Cert.Kernel2.defs Cert.Kernel2Ideal.defs
  exact congrArg (Pipeline.defs Cert.Kernel2Ideal.pcfgs) defs₀_same

set_option maxHeartbeats 4000000 in
theorem main_same : @Cert.Kernel2.main F _ _ = @Cert.Kernel2Ideal.main F _ _ := by
  funext c
  unfold Cert.Kernel2.main Cert.Kernel2Ideal.main
  rfl

/-- Equal bodies and equal programs have the same runs. -/
theorem run_same {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val} {Q : PUnit × MemSt nD τ sig Val → Prop}
    (h : θ_run d' (onTc (τ := τ) p') s Q) : θ_run d (onTc (τ := τ) p) s Q := by
  subst hd; subst hp; exact h

set_option maxHeartbeats 4000000 in
theorem frame_kernel2 : Cert.quiescent_Kernel2 := fun m ρ h =>
  run_same (defs_same (F := Bits)) (main_same (F := Bits)) (frame_any (F := Bits) (m := m) ρ (good_bits m h))

end Cert.Proof.Expert

end
-- ==== Proof.Expert.Result.lean ====
/-
  The expert network's claim over the reals: every row of a block in use is the network's row, in the kernel and in the reference,
  and every other row is zero.
-/
module

public import proofs.«01_k».proof.Proof.Expert.Entry
public import proofs.«01_k».proof.Proof.Expert.Values
public import proofs.«01_k».proof.Proof.Expert.RefValues
public import proofs.«01_k».proof.Proof.Expert.Frames
public import proofs.«01_k».proof.Proof.Gen.Reference2Ideal.Run
public import Idealize.ShloMosaic.Lib.Quiescent

@[expose] public section

set_option maxRecDepth 16384

noncomputable section

namespace Cert.Proof.Expert

open Idealize.ShloMosaic Idealize.ShloMosaic.TcCoe Idealize.SL.Sem
open Cert.Kernel2Ideal Cert.Kernel2Ideal.Gen

variable {m : (ℓ : Loc nD τ sig) → Buf (Elt Ideal) ℓ} (hG : Good m)

abbrev A0 (m : (ℓ : Loc nD τ sig) → Buf (Elt Ideal) ℓ) : Vec Ideal S2x147968x256 .i32 := m (((0 : Dev nD) : Thread nD τ).loc main_arg0)
abbrev A1 (m : (ℓ : Loc nD τ sig) → Buf (Elt Ideal) ℓ) : Vec Ideal S288 .i32 := m (((0 : Dev nD) : Thread nD τ).loc main_arg1)
abbrev A2 (m : (ℓ : Loc nD τ sig) → Buf (Elt Ideal) ℓ) : Vec Ideal S1 .i32 := m (((0 : Dev nD) : Thread nD τ).loc main_arg2)
abbrev A3 (m : (ℓ : Loc nD τ sig) → Buf (Elt Ideal) ℓ) : Vec Ideal S4x32x1024x2048 .f32 := m (((0 : Dev nD) : Thread nD τ).loc main_arg3)
abbrev A4 (m : (ℓ : Loc nD τ sig) → Buf (Elt Ideal) ℓ) : Vec Ideal S4x32x2048 .f32 := m (((0 : Dev nD) : Thread nD τ).loc main_arg4)
abbrev A5 (m : (ℓ : Loc nD τ sig) → Buf (Elt Ideal) ℓ) : Vec Ideal S4x32x1024x1024 .f32 := m (((0 : Dev nD) : Thread nD τ).loc main_arg5)
abbrev A6 (m : (ℓ : Loc nD τ sig) → Buf (Elt Ideal) ℓ) : Vec Ideal S4x32x1024 .f32 := m (((0 : Dev nD) : Thread nD τ).loc main_arg6)

theorem idx1_same {n : ℕ} (t : Fin n) : ValueIdx.ix1 t = (ix1 t : (⟨1, ![n]⟩ : Shape).Idx) := by funext a; fin_cases a; rfl
theorem idx3_same {a b c : ℕ} (i : Fin a) (j : Fin b) (k : Fin c) : ValueIdx.ix3 i j k = (ix3 i j k : (⟨3, ![a, b, c]⟩ : Shape).Idx) := by funext a; fin_cases a <;> rfl
theorem idx4_same {a b c d : ℕ} (i : Fin a) (j : Fin b) (k : Fin c) (l : Fin d) : ValueIdx.ix4 i j k l = (ix4 i j k l : (⟨4, ![a, b, c, d]⟩ : Shape).Idx) := by funext a; fin_cases a <;> rfl

theorem expW_eq (t : Fin 288) : expW m t = A1 m (ix1 t) := by
  unfold expW
  refine (congrArg (tbl m 0) (idx1_same t)).trans ?_
  exact congrFun (in_arg1 m 0) _
theorem useW_eq : useW m = A2 m (ix1 0) := by
  unfold useW
  refine (congrArg (tbl m 1) (idx1_same 0)).trans ?_
  exact congrFun (in_arg2 m 0) _

/-- The rows of a block, as rows of the whole array. -/
theorem rows_at (b : Fin 289) (row : Fin 147968) (hb : b.val = row.val / 512) (p : Fin 2) (q : Fin 256) :
    rowsOf (Vb m 0 main_arg0) b (ix3 p ⟨row.val % 512, Nat.mod_lt _ (by decide)⟩ q) = A0 m (ix3 p row q) := by
  unfold rowsOf
  rw [in_arg0]
  refine congrArg (A0 m) ?_
  funext a
  apply Fin.ext
  fin_cases a
  · rfl
  · show b.val * 512 + row.val % 512 = row.val; omega
  · rfl

theorem up_at (t : Fin grid0.N) (k : Fin 1024) (n : Fin 2048) : upAt hG t (ix2 k n) = A3 m (ix4 0 (expF hG t) k n) := by
  unfold upAt
  pointwise [k0_pay1]
  unfold upOf
  rw [in_arg3]
  exact congrArg (A3 m) (idx4_same _ _ _ _)
theorem down_at (t : Fin grid0.N) (k : Fin 1024) (n : Fin 1024) : downAt hG t (ix2 k n) = A5 m (ix4 0 (expF hG t) k n) := by
  unfold downAt
  pointwise [k0_pay2]
  unfold downOf
  rw [in_arg5]
  exact congrArg (A5 m) (idx4_same _ _ _ _)
theorem upBias_at (e : Fin 32) (n : Fin 2048) : upBiasOf (Vb m 0 main_v6) e (ix4 0 0 0 n) = A4 m (ix3 0 e n) := by
  unfold upBiasOf
  rw [in_v6]
  refine (congrArg _ (idx4_same _ _ _ _)).trans ?_
  pointwise
theorem downBias_at (e : Fin 32) (n : Fin 1024) : downBiasOf (Vb m 0 main_v7) e (ix4 0 0 0 n) = A6 m (ix3 0 e n) := by
  unfold downBiasOf
  rw [in_v7]
  refine (congrArg _ (idx4_same _ _ _ _)).trans ?_
  pointwise

include hG in
/-- A row the mask keeps belongs to a block in use. -/
theorem row_used (row : Fin 147968) (h : IntOp.cmpi CmpIPredicate.slt (BitVec.ofNat 32 row.val) (IntOp.muli (A2 m (ix1 0)) 512#32) = 1#1) : row.val < useN m * 512 := by
  have hl := hG.le
  have e : IntOp.muli (A2 m (ix1 0)) 512#32 = BitVec.ofNat 32 (useN m * 512) := by
    rw [← useW_eq]
    apply BitVec.eq_of_toNat_eq
    show (useW m * 512#32).toNat = _
    rw [BitVec.toNat_mul, BitVec.toNat_ofNat]
    rfl
  rw [e] at h
  have hr := row.2
  have hs : (BitVec.ofNat 32 row.val).slt (BitVec.ofNat 32 (useN m * 512)) = true := by
    by_contra hc
    rw [Bool.not_eq_true] at hc
    unfold IntOp.cmpi at h
    simp only [hc] at h
    exact absurd h (by decide)
  rw [BitVec.slt_iff_toInt_lt, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)] at hs
  omega

theorem net_same {x x' : Fin 1024 → EReal} {U U' : Fin 1024 → Fin 2048 → EReal} {b b' : Fin 2048 → EReal} {D D' : Fin 1024 → Fin 1024 → EReal} {d d' : Fin 1024 → EReal} {n : Fin 1024}
    (hx : x = x') (hU : U = U') (hb : b = b') (hD : D = D') (hd : d = d') : netN x U b D d n = netN x' U' b' D' d' n := by
  subst hx; subst hU; subst hb; subst hD; subst hd; rfl
theorem bit_zero (b : BitVec 1) (h : b ≠ 1#1) : b = 0#1 := by revert b; decide

/-- A row of a block in use is the network's row in the kernel as in the reference. -/
theorem row_same (s : Fin 2) (row : Fin 147968) (n : Fin 512) (h : row.val < useN m * 512) :
    outArr hG (ix3 s row n) = refY (A0 m) (A1 m) (A3 m) (A4 m) (A5 m) (A6 m) (ix2 row ⟨s.val * 512 + n.val, by omega⟩) := by
  have hl := hG.le
  have hr : row.val < 147456 := by omega
  have ht : rowBlk (ix3 s row n) = (⟨row.val / 512, by show _ < 288; omega⟩ : Fin grid0.N) := Fin.ext (by show min (row.val / 512) 287 = row.val / 512; omega)
  have hb : (blkF (m := m) (⟨row.val / 512, by show _ < 288; omega⟩ : Fin grid0.N)).val = row.val / 512 := by
    show min (row.val / 512) (useN m - 1) = row.val / 512; omega
  have he : (refI (A1 m) (ix2 row 0)).toNat = (expF hG (⟨row.val / 512, by show _ < 288; omega⟩ : Fin grid0.N)).val :=
    refI_block (A1 m) row hr _ (by rw [← expW_eq]; rfl)
  unfold outArr
  rw [ht]
  unfold outB
  rw [blockOut_at, refY_at]
  unfold blockNet
  have e32 := (expF hG (⟨row.val / 512, by show _ < 288; omega⟩ : Fin grid0.N)).2
  have hx : (⟨(refI (A1 m) (ix2 row 0)).toNat, by omega⟩ : Fin 32) = expF hG (⟨row.val / 512, by show _ < 288; omega⟩ : Fin grid0.N) := Fin.ext he
  refine net_same ?_ ?_ ?_ ?_ ?_
  · funext k
    rw [refX_at]
    exact congrArg₂ (fun a b => rowX a b k) (funext fun q => rows_at _ row hb 0 q) (funext fun q => rows_at _ row hb 1 q)
  · funext k n
    rw [refWU_at _ _ _ _ _ (by omega), up_at, hx]
  · funext n
    rw [refBU_at _ _ _ _ (by omega), upBias_at, hx]
  · funext k n
    rw [refWD_at _ _ _ _ _ (by omega), down_at, hx]
  · funext n
    rw [refBD_at _ _ _ _ (by omega), downBias_at, hx]

theorem mask_at (a2 : IVec S1 32) (s : Fin 2) (row : Fin 147968) (n : Fin 512) :
    maskOf a2 (ix3 s row n) = IntOp.cmpi CmpIPredicate.slt (BitVec.ofNat 32 row.val) (IntOp.muli (a2 (ix1 0)) 512#32) := by
  pointwise [maskOf]
theorem zero_at (s : Fin 2) (row : Fin 147968) (n : Fin 512) : zeroArr (F := Ideal) (ix3 s row n) = 0 := by
  pointwise [zeroArr]

theorem sel_same {α : Type} (b : BitVec 1) (x y z : α) (h : b = 1#1 → x = y) : Scalar.select b x z = Scalar.select b y z := by
  by_cases hb : b = 1#1
  · rw [h hb]
  · rw [bit_zero b hb]
    rfl

/-- The kernel's result is the reference's. -/
theorem result_same : Pipeline.afterTail pcfgs (fun _ => adm m (ok hG)) (dats hG) 0 (Vin m) [hostOps1] (0 : Dev nD) main_v9
    = refOut (A0 m) (A1 m) (A2 m) (A3 m) (A4 m) (A5 m) (A6 m) := by
  refine (out_v9 hG 0).trans ?_
  refine funext fun i : S2x147968x512.Idx => ?_
  obtain ⟨s, row, n, rfl⟩ : ∃ (s : Fin 2) (row : Fin 147968) (n : Fin 512), i = ix3 s row n := ⟨i 0, i 1, i 2, eq_ix3 i⟩
  refine Eq.trans ?_ ((refOut_at (A0 m) (A1 m) (A2 m) (A3 m) (A4 m) (A5 m) (A6 m) s row n).trans (refZ_at _ _ _ _ _ _ _ row _)).symm
  show Scalar.select (maskOf (A2 m) (ix3 s row n)) ((dats hG 0 0).arrAt 5 (cfgM m (ok hG)).N (ix3 s row n)) (zeroArr (F := Ideal) (ix3 s row n)) = _
  rw [mask_at, zero_at]
  exact sel_same _ _ _ _ fun hm => (out_at hG 0 (ix3 s row n) (row_used hG row hm)).trans (row_same hG s row n (row_used hG row hm))

theorem frame_reference2Ideal : Cert.quiescent_Reference2Ideal := fun m ρ _ =>
  (θ_run Cert.Reference2Ideal.defs _ _).mono (fun r q => ⟨fun c => (q c).2, sem_eq_zero_of_no_sems (by decide) r.2⟩) (Cert.Reference2Ideal.Value.run (F := Ideal) m ρ)

/-- The reference's result from the kernel's arguments. -/
theorem ref_same (m : (ℓ : Loc nD τ sig) → Buf (Elt Ideal) ℓ) (m' : (ℓ : Loc Cert.Reference2Ideal.nD Cert.Reference2Ideal.τ Cert.Reference2Ideal.sig) → Buf (Elt Ideal) ℓ)
    (h0 : m' (((0 : Dev nD).tc : Thread Cert.Reference2Ideal.nD Cert.Reference2Ideal.τ).loc Cert.Reference2Ideal.main_arg0) = A0 m)
    (h1 : m' (((0 : Dev nD).tc : Thread Cert.Reference2Ideal.nD Cert.Reference2Ideal.τ).loc Cert.Reference2Ideal.main_arg1) = A1 m)
    (h2 : m' (((0 : Dev nD).tc : Thread Cert.Reference2Ideal.nD Cert.Reference2Ideal.τ).loc Cert.Reference2Ideal.main_arg2) = A2 m)
    (h3 : m' (((0 : Dev nD).tc : Thread Cert.Reference2Ideal.nD Cert.Reference2Ideal.τ).loc Cert.Reference2Ideal.main_arg3) = A3 m)
    (h4 : m' (((0 : Dev nD).tc : Thread Cert.Reference2Ideal.nD Cert.Reference2Ideal.τ).loc Cert.Reference2Ideal.main_arg4) = A4 m)
    (h5 : m' (((0 : Dev nD).tc : Thread Cert.Reference2Ideal.nD Cert.Reference2Ideal.τ).loc Cert.Reference2Ideal.main_arg5) = A5 m)
    (h6 : m' (((0 : Dev nD).tc : Thread Cert.Reference2Ideal.nD Cert.Reference2Ideal.τ).loc Cert.Reference2Ideal.main_arg6) = A6 m) :
    Cert.Reference2Ideal.Value.res_main_v88 (F := Ideal) m' (0 : Dev nD) = refOut (A0 m) (A1 m) (A2 m) (A3 m) (A4 m) (A5 m) (A6 m) := by
  rw [res_eq, ← h0, ← h1, ← h2, ← h3, ← h4, ← h5, ← h6]

theorem algebraic2 : Cert.algebraic_Kernel2Ideal_Reference2Ideal := fun m g m' g' h hag => by
  have hG : Good (F := Ideal) m := good_ideal m h
  refine ⟨fun c => Pipeline.afterTail pcfgs (fun _ => adm m (ok hG)) (dats hG) 0 (Vin m) [hostOps1] c main_v9,
    (θ_run Cert.Kernel2Ideal.defs _ _).mono (fun r q c => ⟨(q.1 c).2 main_v9 (by exact (by decide : main_v9 ∈ Pipeline.restRefs sig spec0)), kept_of m (ok hG) (dats hG) (A_eq hG) r q.1 c⟩) (run_counted g hG),
    (θ_run Cert.Reference2Ideal.defs _ _).mono (fun r q c => ⟨(q c).1.trans ?_, (q c).2⟩) (Cert.Reference2Ideal.Value.run (F := Ideal) m' g')⟩
  obtain rfl : c = (0 : Dev nD) := Subsingleton.elim _ _
  obtain ⟨h0, h1, h2, h3, h4, h5, h6⟩ := hag 0
  exact (ref_same m m' h0 h1 h2 h3 h4 h5 h6).trans (result_same hG).symm

end Cert.Proof.Expert

end
-- ==== Proof.Combine.Norm.lean ====
/-
  One row of the last norm.
-/
module

public import proofs.«01_k».proof.Proof.Expert.Net

@[expose] public section

noncomputable section

namespace Cert.Proof.Combine

open Idealize.ShloMosaic

/-- The residual and the rows under their gates. -/
def mixN (x : Fin 1024 → EReal) (y : Fin 4 → Fin 1024 → EReal) (g : Fin 4 → EReal) (k : Fin 1024) : EReal :=
  Ideal.ofBits .f32 0x3FD744FD#32 * x k + (((y 0 k * g 0 + y 1 k * g 1) + y 2 k * g 2) + y 3 k * g 3)
/-- A row's mean. -/
def meanN (z : Fin 1024 → EReal) : EReal := Ideal.div (∑ k : Fin 1024, z k) (Ideal.ofBits .f32 0x44800000#32)
/-- One over the root of the mean square of a row of distances. -/
def spreadN (d : Fin 1024 → EReal) : EReal := Ideal.rsqrt (meanN (fun k => d k * d k) + Ideal.ofBits .f32 0x3727C5AC#32)
/-- A row less its mean. -/
def distN (z : Fin 1024 → EReal) (k : Fin 1024) : EReal := z k - meanN z
/-- The normalized row. -/
def normN (z a b : Fin 1024 → EReal) (k : Fin 1024) : EReal := distN z k * spreadN (distN z) * a k + b k

end Cert.Proof.Combine

end
-- ==== Proof.Combine.Values.lean ====
/-
  A block of the last norm, number by number.
-/
module

public import proofs.«01_k».proof.Proof.Gen.Kernel3Ideal.Frame
public import proofs.«01_k».proof.Proof.Combine.Norm

@[expose] public section

set_option maxRecDepth 16384

noncomputable section

namespace Cert.Proof.Combine

open Idealize.ShloMosaic
open Cert.Kernel3Ideal Cert.Kernel3Ideal.Gen

/-- The residual and the four quarters of the gated columns, -/
def blkZ (p0 p1 p2 p3 : FVec Ideal S512x256 .f32) (x : Vec Ideal S512x1024 .f32) : FVec Ideal S512x1024 .f32 :=
  addf (mulf (broadcast S512x1024 (Scalar.ofBits .f32 0x3FD744FD#32)) x)
    (concatenate S512x1024 1 [⟨S512x256, p0⟩, ⟨S512x256, p1⟩, ⟨S512x256, p2⟩, ⟨S512x256, p3⟩] concatenates_S512x256_S512x256_S512x256_S512x256_S512x1024_d1)
/-- the rows' means, -/
def blkMu (z : FVec Ideal S512x1024 .f32) : FVec Ideal S512x1 .f32 :=
  divf (shapeCast S512x1 (multiReduction .add [1] S512 z 0x00000000#32 reduces_S512x1024_S512 (.inl rfl) rfl) shapeCasts_S512_S512x1) (broadcast S512x1 (Scalar.ofBits .f32 0x44800000#32))
/-- the distances from them, -/
def blkD (z : FVec Ideal S512x1024 .f32) : FVec Ideal S512x1024 .f32 := subf z (broadcastTo S512x1024 (blkMu z) broadcasts_S512x1_S512x1024)
/-- one over their spread, -/
def blkS (d : FVec Ideal S512x1024 .f32) : FVec Ideal S512x1 .f32 := rsqrt (addf (blkMu (mulf d d)) (broadcast S512x1 (Scalar.ofBits .f32 0x3727C5AC#32)))
/-- and the normalized rows with their scale and shift. -/
def blkN (d : FVec Ideal S512x1024 .f32) (a b : Vec Ideal S1x1024 .f32) : FVec Ideal S512x1024 .f32 :=
  addf (mulf (mulf d (broadcastTo S512x1024 (blkS d) broadcasts_S512x1_S512x1024)) (broadcastTo S512x1024 (shapeCast S1x1024 a shapeCasts_S1x1024_S1x1024) broadcasts_S1x1024_S512x1024))
    (broadcastTo S512x1024 (shapeCast S1x1024 b shapeCasts_S1x1024_S1x1024) broadcasts_S1x1024_S512x1024)

theorem pay1_eq (p0 p1 p2 p3 : FVec Ideal S512x256 .f32) (x : Vec Ideal S512x1024 .f32) (a b : Vec Ideal S1x1024 .f32) :
    k0_pay1 p0 p1 p2 p3 x a b = blkN (blkD (blkZ p0 p1 p2 p3 x)) a b := rfl

theorem blkMu_at (z : FVec Ideal S512x1024 .f32) (r : Fin 512) : blkMu z (ix2 r 0) = meanN (fun k => z (ix2 r k)) := by
  pointwise [blkMu]
  rfl
theorem blkD_at (z : FVec Ideal S512x1024 .f32) (r : Fin 512) (k : Fin 1024) : blkD z (ix2 r k) = distN (fun k => z (ix2 r k)) k := by
  pointwise [blkD]
  rw [blkMu_at]
  rfl
theorem blkS_at (d : FVec Ideal S512x1024 .f32) (r : Fin 512) : blkS d (ix2 r 0) = spreadN (fun k => d (ix2 r k)) := by
  pointwise [blkS]
  rw [blkMu_at]
  rfl
theorem blkN_at (z : FVec Ideal S512x1024 .f32) (a b : Vec Ideal S1x1024 .f32) (r : Fin 512) (k : Fin 1024) :
    blkN (blkD z) a b (ix2 r k) = normN (fun k => z (ix2 r k)) (fun k => a (ix2 0 k)) (fun k => b (ix2 0 k)) k := by
  pointwise [blkN]
  rw [blkS_at, blkD_at]
  exact congrArg (fun d => distN _ k * spreadN d * _ + _) (funext fun k => blkD_at z r k)

variable (x0 : Vec Ideal S512x1024 .f32) (x1 : Vec Ideal S4x2x512x256 .i32) (x2 : Vec Ideal S4x512 .f32) (x3 x4 : Vec Ideal S1x1024 .f32)

/-- The four quarters. -/
def quart0 : FVec Ideal S512x256 .f32 := k0_pay24 (k0_pay28 x0 x1 x2 x3 x4) (k0_pay12 (k0_pay28 x0 x1 x2 x3 x4) (k0_pay5 (View.ld x2 r0_0) (View.ld x1 r0_1)) (k0_pay11 (View.ld x1 r0_3))) (k0_pay21 (k0_pay28 x0 x1 x2 x3 x4) (View.ld x1 r0_5)) (View.ld x1 r0_7)
def quart1 : FVec Ideal S512x256 .f32 := k0_pay25 (k0_pay28 x0 x1 x2 x3 x4) (k0_pay13 (k0_pay28 x0 x1 x2 x3 x4) (k0_pay6 (View.ld x2 r0_0) (View.ld x1 r0_1)) (k0_pay9 (View.ld x1 r0_3))) (k0_pay18 (View.ld x1 r0_5)) (View.ld x1 r0_7)
def quart2 : FVec Ideal S512x256 .f32 := k0_pay26 (k0_pay28 x0 x1 x2 x3 x4) (k0_pay14 (k0_pay28 x0 x1 x2 x3 x4) (k0_pay7 (View.ld x2 r0_0) (View.ld x1 r0_2)) (k0_pay29 x0 x1 x2 x3 x4)) (k0_pay19 (View.ld x1 r0_6)) (View.ld x1 r0_8)
def quart3 : FVec Ideal S512x256 .f32 := k0_pay27 (k0_pay28 x0 x1 x2 x3 x4) (k0_pay15 (k0_pay28 x0 x1 x2 x3 x4) (k0_pay8 (View.ld x2 r0_0) (View.ld x1 r0_2)) (k0_pay29 x0 x1 x2 x3 x4)) (k0_pay20 (View.ld x1 r0_6)) (View.ld x1 r0_8)

/-- A word's low half and its high half, widened. -/
def lowN (w : BitVec 32) : EReal := Ideal.ofBits .f32 (IntOp.shli .vector w 16#32)
def highN (w : BitVec 32) : EReal := Ideal.ofBits .f32 (IntOp.andi w 4294901760#32)

theorem quart0_at (r : Fin 512) (j : Fin 256) : quart0 x0 x1 x2 x3 x4 (ix2 r j)
    = ((lowN (x1 (ix4 0 0 r j)) * x2 (ix2 0 r) + lowN (x1 (ix4 1 0 r j)) * x2 (ix2 1 r)) + lowN (x1 (ix4 2 0 r j)) * x2 (ix2 2 r)) + lowN (x1 (ix4 3 0 r j)) * x2 (ix2 3 r) := by
  pointwise [quart0, k0_pay24, k0_pay28, k0_pay12, k0_pay5, k0_pay11, k0_pay21, k0_pay2, k0_pay3, k0_pay9, k0_pay16, k0_pay22]
  rfl
theorem quart1_at (r : Fin 512) (j : Fin 256) : quart1 x0 x1 x2 x3 x4 (ix2 r j)
    = ((highN (x1 (ix4 0 0 r j)) * x2 (ix2 0 r) + highN (x1 (ix4 1 0 r j)) * x2 (ix2 1 r)) + highN (x1 (ix4 2 0 r j)) * x2 (ix2 2 r)) + highN (x1 (ix4 3 0 r j)) * x2 (ix2 3 r) := by
  pointwise [quart1, k0_pay25, k0_pay28, k0_pay13, k0_pay6, k0_pay18, k0_pay2, k0_pay3, k0_pay9, k0_pay16, k0_pay22]
  rfl
theorem quart2_at (r : Fin 512) (j : Fin 256) : quart2 x0 x1 x2 x3 x4 (ix2 r j)
    = ((lowN (x1 (ix4 0 1 r j)) * x2 (ix2 0 r) + lowN (x1 (ix4 1 1 r j)) * x2 (ix2 1 r)) + lowN (x1 (ix4 2 1 r j)) * x2 (ix2 2 r)) + lowN (x1 (ix4 3 1 r j)) * x2 (ix2 3 r) := by
  pointwise [quart2, k0_pay26, k0_pay28, k0_pay29, k0_pay14, k0_pay7, k0_pay19, k0_pay2, k0_pay4, k0_pay10, k0_pay17, k0_pay23]
  rfl
theorem quart3_at (r : Fin 512) (j : Fin 256) : quart3 x0 x1 x2 x3 x4 (ix2 r j)
    = ((highN (x1 (ix4 0 1 r j)) * x2 (ix2 0 r) + highN (x1 (ix4 1 1 r j)) * x2 (ix2 1 r)) + highN (x1 (ix4 2 1 r j)) * x2 (ix2 2 r)) + highN (x1 (ix4 3 1 r j)) * x2 (ix2 3 r) := by
  pointwise [quart3, k0_pay27, k0_pay28, k0_pay29, k0_pay15, k0_pay8, k0_pay20, k0_pay2, k0_pay4, k0_pay10, k0_pay17, k0_pay23]
  rfl

/-- The block's rows before the norm. -/
theorem blkZ_at (r : Fin 512) (k : Fin 1024) : blkZ (quart0 x0 x1 x2 x3 x4) (quart1 x0 x1 x2 x3 x4) (quart2 x0 x1 x2 x3 x4) (quart3 x0 x1 x2 x3 x4) x0 (ix2 r k)
    = mixN (fun k => x0 (ix2 r k)) (fun q k => Expert.rowX (fun j => x1 (ix4 q 0 r j)) (fun j => x1 (ix4 q 1 r j)) k) (fun q => x2 (ix2 q r)) k := by
  pointwise [blkZ]
  unfold mixN
  refine congrArg (fun y => _ * _ + y) ?_
  unfold Expert.rowX
  by_cases h0 : k.val < 256
  · simp only [dif_pos h0]
    exact quart0_at x0 x1 x2 x3 x4 r _
  simp only [dif_neg h0]
  by_cases h1 : k.val - 256 < 256
  · simp only [dif_pos h1]
    exact quart1_at x0 x1 x2 x3 x4 r _
  simp only [dif_neg h1]
  by_cases h2 : k.val - 256 - 256 < 256
  · simp only [dif_pos h2]
    exact quart2_at x0 x1 x2 x3 x4 r _
  simp only [dif_neg h2]
  exact quart3_at x0 x1 x2 x3 x4 r _

/-- What a grid point leaves in its block. -/
theorem out_blk (r : Fin 512) (k : Fin 1024) : out0_5 x0 x1 x2 x3 x4 (ix2 r k)
    = normN (mixN (fun k => x0 (ix2 r k)) (fun q k => Expert.rowX (fun j => x1 (ix4 q 0 r j)) (fun j => x1 (ix4 q 1 r j)) k) (fun q => x2 (ix2 q r))) (fun k => x3 (ix2 0 k)) (fun k => x4 (ix2 0 k)) k := by
  have e0 : (View.ld x0 r0_9 : Vec Ideal S512x1024 .f32) = x0 := by
    funext i; obtain ⟨a, b, rfl⟩ : ∃ (a : Fin 512) (b : Fin 1024), i = ix2 a b := ⟨i 0, i 1, eq_ix2 i⟩
    pointwise
  have e3 : ∀ x : Vec Ideal S1x1024 .f32, (View.ld x r0_10 : Vec Ideal S1x1024 .f32) = x := fun x => by
    funext i; obtain ⟨a, b, rfl⟩ : ∃ (a : Fin 1) (b : Fin 1024), i = ix2 a b := ⟨i 0, i 1, eq_ix2 i⟩
    obtain rfl : a = 0 := Subsingleton.elim _ _
    pointwise
  have e : out0_5 x0 x1 x2 x3 x4 = blkN (blkD (blkZ (quart0 x0 x1 x2 x3 x4) (quart1 x0 x1 x2 x3 x4) (quart2 x0 x1 x2 x3 x4) (quart3 x0 x1 x2 x3 x4) x0)) x3 x4 := by
    refine funext fun i => ?_
    unfold out0_5
    refine View.canon_apply_of_pieces (Val := Elt Ideal) (e := .f32) (blkN (blkD (blkZ (quart0 x0 x1 x2 x3 x4) (quart1 x0 x1 x2 x3 x4) (quart2 x0 x1 x2 x3 x4) (quart3 x0 x1 x2 x3 x4) x0)) x3 x4) _ ?_ i ?_
    · intro p hp x
      obtain rfl := List.mem_singleton.mp hp
      have ex : (r0_9.emb x : S512x1024.Idx) = x := by
        funext a; apply Fin.ext
        show (![0, 0] : Fin 2 → ℕ) a + 1 * (x a).val = (x a).val
        fin_cases a
        · show 0 + 1 * (x 0).val = (x 0).val; omega
        · show 0 + 1 * (x 1).val = (x 1).val; omega
      refine Eq.trans ?_ (congrArg (blkN (blkD (blkZ (quart0 x0 x1 x2 x3 x4) (quart1 x0 x1 x2 x3 x4) (quart2 x0 x1 x2 x3 x4) (quart3 x0 x1 x2 x3 x4) x0)) x3 x4) ex).symm
      show k0_pay1 (quart0 x0 x1 x2 x3 x4) (quart1 x0 x1 x2 x3 x4) (quart2 x0 x1 x2 x3 x4) (quart3 x0 x1 x2 x3 x4) (View.ld x0 r0_9) (View.ld x3 r0_10) (View.ld x4 r0_10) x = _
      rw [e0, e3, e3, pay1_eq]
    · refine ⟨_, List.mem_singleton.mpr rfl, ?_⟩
      refine (Rect.mem_set_unit (inb := inb_S512x1024_S512x1024_0_0)).mpr fun a => ?_
      have := (i a).2
      fin_cases a
      · exact ⟨Nat.zero_le _, by show (i 0).val < 0 + 512; have : (i 0).val < 512 := (i 0).2; omega⟩
      · exact ⟨Nat.zero_le _, by show (i 1).val < 0 + 1024; have : (i 1).val < 1024 := (i 1).2; omega⟩
  rw [e, blkN_at]
  exact congrArg (fun z => normN z _ _ k) (funext fun k => blkZ_at x0 x1 x2 x3 x4 r k)

end Cert.Proof.Combine

end
-- ==== Proof.Combine.Spec.lean ====
/-
  The reference of the last norm as a stack of named arrays.
-/
module

public import proofs.«01_k».proof.Proof.Gen.Reference3Ideal.Run
public import proofs.«01_k».proof.Proof.Expert.RefValues

@[expose] public section

set_option maxRecDepth 16384

noncomputable section

namespace Cert.Proof.Combine

open Idealize.ShloMosaic Idealize.ShloMosaic.TcCoe Idealize.SL.Sem
open Cert.Reference3Ideal Cert.Reference3Ideal.Gen

/-- The chosen experts' rows, each word's two halves widened. -/
def refY (a1 : Vec Ideal S4x2x32768x256 .i32) : FVec Ideal S4x32768x1024 .f32 :=
  ((concatenate S4x32768x1024 2 [⟨S4x32768x256, ((shapeCast _ (extractStridedSlice S4x1x32768x256 ![0, 0, 0, 0] (bitcastToFloat (F := Ideal) .f32 (Host.shli a1 (broadcastInDim S4x2x32768x256 ![] bcast_S_S4x2x32768x256 (constantI S_ 32 16#32)))) slices_S4x2x32768x256_S4x1x32768x256_0_0_0_0) shapeCasts_S4x1x32768x256_S4x32768x256) : (⟨S4x32768x256, .f32⟩ : BufTy).Contents (Elt Ideal))⟩, ⟨S4x32768x256, ((shapeCast _ (extractStridedSlice S4x1x32768x256 ![0, 0, 0, 0] (bitcastToFloat (F := Ideal) .f32 (andi a1 (broadcastInDim S4x2x32768x256 ![] bcast_S_S4x2x32768x256 (constantI S_ 32 4294901760#32)))) slices_S4x2x32768x256_S4x1x32768x256_0_0_0_0) shapeCasts_S4x1x32768x256_S4x32768x256) : (⟨S4x32768x256, .f32⟩ : BufTy).Contents (Elt Ideal))⟩, ⟨S4x32768x256, ((shapeCast _ (extractStridedSlice S4x1x32768x256 ![0, 1, 0, 0] (bitcastToFloat (F := Ideal) .f32 (Host.shli a1 (broadcastInDim S4x2x32768x256 ![] bcast_S_S4x2x32768x256 (constantI S_ 32 16#32)))) slices_S4x2x32768x256_S4x1x32768x256_0_1_0_0) shapeCasts_S4x1x32768x256_S4x32768x256) : (⟨S4x32768x256, .f32⟩ : BufTy).Contents (Elt Ideal))⟩, ⟨S4x32768x256, ((shapeCast _ (extractStridedSlice S4x1x32768x256 ![0, 1, 0, 0] (bitcastToFloat (F := Ideal) .f32 (andi a1 (broadcastInDim S4x2x32768x256 ![] bcast_S_S4x2x32768x256 (constantI S_ 32 4294901760#32)))) slices_S4x2x32768x256_S4x1x32768x256_0_1_0_0) shapeCasts_S4x1x32768x256_S4x32768x256) : (⟨S4x32768x256, .f32⟩ : BufTy).Contents (Elt Ideal))⟩] concatenates_S4x32768x256_S4x32768x256_S4x32768x256_S4x32768x256_S4x32768x1024_d2 : (⟨S4x32768x1024, .f32⟩ : BufTy).Contents (Elt Ideal)))

/-- The residual and the rows under their gates, -/
def refZ (a0 : Vec Ideal S32768x1024 .f32) (a1 : Vec Ideal S4x2x32768x256 .i32) (a2 : Vec Ideal S4x32768 .f32) : FVec Ideal S32768x1024 .f32 :=
  addf (mulf (broadcastInDim S32768x1024 ![] bcast_S_S32768x1024 (constant S_ .f32 0x3FD744FD#32)) a0) (Host.reduceAdd (mulf (refY a1) (broadcastInDim S4x32768x1024 ![0, 1, 2] bcast_S4x32768x1_S4x32768x1024_0_1_2 (broadcastInDim S4x32768x1 ![0, 1] bcast_S4x32768_S4x32768x1_0_1 a2))) (constant S_ .f32 0x00000000#32) reducesTo_S4x32768x1024_S32768x1024_d0 h_S_)

/-- their mean, -/
def refMu (a0 : Vec Ideal S32768x1024 .f32) (a1 : Vec Ideal S4x2x32768x256 .i32) (a2 : Vec Ideal S4x32768 .f32) : FVec Ideal S32768x1 .f32 :=
  Host.divf (broadcastInDim S32768x1 ![0] bcast_S32768_S32768x1_0 (Host.reduceAdd (refZ a0 a1 a2) (constant S_ .f32 0x00000000#32) reducesTo_S32768x1024_S32768_d1 h_S_)) (broadcastInDim S32768x1 ![] bcast_S_S32768x1 (constant S_ .f32 0x44800000#32))

/-- the distances from it, -/
def refD (a0 : Vec Ideal S32768x1024 .f32) (a1 : Vec Ideal S4x2x32768x256 .i32) (a2 : Vec Ideal S4x32768 .f32) : FVec Ideal S32768x1024 .f32 :=
  subf (refZ a0 a1 a2) (broadcastInDim S32768x1024 ![0, 1] bcast_S32768x1_S32768x1024_0_1 (refMu a0 a1 a2))

/-- and one over their spread. -/
def refS (a0 : Vec Ideal S32768x1024 .f32) (a1 : Vec Ideal S4x2x32768x256 .i32) (a2 : Vec Ideal S4x32768 .f32) : FVec Ideal S32768x1 .f32 :=
  Host.rsqrt (addf (Host.divf (broadcastInDim S32768x1 ![0] bcast_S32768_S32768x1_0 (Host.reduceAdd (mulf (refD a0 a1 a2) (refD a0 a1 a2)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))

/-- The normalized rows with their scale and shift. -/
def refOut (a0 : Vec Ideal S32768x1024 .f32) (a1 : Vec Ideal S4x2x32768x256 .i32) (a2 : Vec Ideal S4x32768 .f32) (a3 : Vec Ideal S1024 .f32) (a4 : Vec Ideal S1024 .f32) : FVec Ideal S32768x1024 .f32 :=
  addf (mulf (mulf (refD a0 a1 a2) (broadcastInDim S32768x1024 ![0, 1] bcast_S32768x1_S32768x1024_0_1 (refS a0 a1 a2))) (broadcastInDim S32768x1024 ![0, 1] bcast_S1x1024_S32768x1024_0_1 (broadcastInDim S1x1024 ![1] bcast_S1024_S1x1024_1 a3))) (broadcastInDim S32768x1024 ![0, 1] bcast_S1x1024_S32768x1024_0_1 (broadcastInDim S1x1024 ![1] bcast_S1024_S1x1024_1 a4))

theorem res_eq (m : (ℓ : Loc nD τ sig) → Buf (Elt Ideal) ℓ) (c : Dev nD) : Cert.Reference3Ideal.Value.res_main_v45 (F := Ideal) m c =
    refOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) := rfl

end Cert.Proof.Combine

end
-- ==== Proof.Combine.RefValues.lean ====
/-
  The reference of the last norm, number by number.
-/
module

public import proofs.«01_k».proof.Proof.Combine.Spec
public import proofs.«01_k».proof.Proof.Combine.Norm

@[expose] public section

set_option maxRecDepth 16384

noncomputable section

namespace Cert.Proof.Combine

open Idealize.ShloMosaic
open Cert.Reference3Ideal Cert.Reference3Ideal.Gen

variable (a0 : Vec Ideal S32768x1024 .f32) (a1 : Vec Ideal S4x2x32768x256 .i32) (a2 : Vec Ideal S4x32768 .f32) (a3 a4 : Vec Ideal S1024 .f32)

theorem refY_at (q : Fin 4) (r : Fin 32768) (k : Fin 1024) : refY a1 (ix3 q r k) = Expert.rowX (fun j => a1 (ix4 q 0 r j)) (fun j => a1 (ix4 q 1 r j)) k := by
  pointwise [refY]
  simp only [Expert.shl16]
  rfl
theorem refZ_at (r : Fin 32768) (n : Fin 1024) : refZ a0 a1 a2 (ix2 r n)
    = mixN (fun k => a0 (ix2 r k)) (fun q k => refY a1 (ix3 q r k)) (fun q => a2 (ix2 q r)) n := by
  pointwise [refZ]
  unfold mixN
  rw [Fin.sum_univ_four]
theorem refMu_at (r : Fin 32768) : refMu a0 a1 a2 (ix2 r 0) = meanN (fun k => refZ a0 a1 a2 (ix2 r k)) := by
  pointwise [refMu]
  rfl
theorem refD_at (r : Fin 32768) (n : Fin 1024) : refD a0 a1 a2 (ix2 r n) = refZ a0 a1 a2 (ix2 r n) - refMu a0 a1 a2 (ix2 r 0) := by
  pointwise [refD]
theorem refS_at (r : Fin 32768) : refS a0 a1 a2 (ix2 r 0) = spreadN (fun k => refD a0 a1 a2 (ix2 r k)) := by
  pointwise [refS]
  rfl
theorem refOut_at (r : Fin 32768) (n : Fin 1024) : refOut a0 a1 a2 a3 a4 (ix2 r n) = refD a0 a1 a2 (ix2 r n) * refS a0 a1 a2 (ix2 r 0) * a3 (ix1 n) + a4 (ix1 n) := by
  pointwise [refOut]

/-- A number of the result is its row's. -/
theorem ref_at (r : Fin 32768) (n : Fin 1024) : refOut a0 a1 a2 a3 a4 (ix2 r n)
    = normN (mixN (fun k => a0 (ix2 r k)) (fun q k => Expert.rowX (fun j => a1 (ix4 q 0 r j)) (fun j => a1 (ix4 q 1 r j)) k) (fun q => a2 (ix2 q r)))
      (fun k => a3 (ix1 k)) (fun k => a4 (ix1 k)) n := by
  have hz : (fun k => refZ a0 a1 a2 (ix2 r k)) = mixN (fun k => a0 (ix2 r k)) (fun q k => Expert.rowX (fun j => a1 (ix4 q 0 r j)) (fun j => a1 (ix4 q 1 r j)) k) (fun q => a2 (ix2 q r)) :=
    funext fun k => (refZ_at a0 a1 a2 r k).trans (congrArg (fun y => mixN _ y _ k) (funext fun q => funext fun j => refY_at a1 q r j))
  have hd : (fun k => refD a0 a1 a2 (ix2 r k)) = distN (fun k => refZ a0 a1 a2 (ix2 r k)) := funext fun k => by
    rw [refD_at, refMu_at]
    rfl
  rw [refOut_at, refS_at, hd, ← hz]
  exact congrArg (fun x => x * _ * _ + _) (congrFun hd n)

end Cert.Proof.Combine

end
-- ==== Proof.Combine.Result.lean ====
/-
  The last norm: the kernel's blocks joined, beside the reference's array.
-/
module

public import proofs.«01_k».proof.Proof.Gen.Kernel3.Frame
public import proofs.«01_k».proof.Proof.Combine.Values
public import proofs.«01_k».proof.Proof.Combine.RefValues
public import Idealize.ShloMosaic.Lib.Quiescent
public import proofs.«01_k».proof.Defs

@[expose] public section

set_option maxRecDepth 16384

noncomputable section

namespace Cert.Proof.Combine

open Idealize.ShloMosaic Idealize.ShloMosaic.TcCoe Idealize.SL.Sem
open Cert.Kernel3Ideal Cert.Kernel3Ideal.Gen

variable (m : (ℓ : Loc nD τ sig) → Buf (Elt Ideal) ℓ)

abbrev A0 : Vec Ideal S32768x1024 .f32 := m (((0 : Dev nD).tc : Thread nD τ).loc main_arg0)
abbrev A1 : Vec Ideal S4x2x32768x256 .i32 := m (((0 : Dev nD).tc : Thread nD τ).loc main_arg1)
abbrev A2 : Vec Ideal S4x32768 .f32 := m (((0 : Dev nD).tc : Thread nD τ).loc main_arg2)
abbrev A3 : Vec Ideal S1024 .f32 := m (((0 : Dev nD).tc : Thread nD τ).loc main_arg3)
abbrev A4 : Vec Ideal S1024 .f32 := m (((0 : Dev nD).tc : Thread nD τ).loc main_arg4)

theorem index0 : ∀ t : Fin grid0.N, cc0_transform_0 (grid0.coords t) = ![t.val, 0] := by decide +kernel
theorem index1 : ∀ t : Fin grid0.N, cc0_transform_1 (grid0.coords t) = ![0, 0, t.val, 0] := by decide +kernel
theorem index2 : ∀ t : Fin grid0.N, cc0_transform_2 (grid0.coords t) = ![0, t.val] := by decide +kernel
theorem index5 : ∀ t : Fin grid0.N, cc0_transform_5 (grid0.coords t) = ![t.val, 0] := by decide +kernel

/-- Row `r` of block `t`. -/
def rowOf (t : Fin grid0.N) (r : Fin 512) : Fin 32768 := ⟨t.val * 512 + r.val, by have : t.val < 64 := t.2; omega⟩

theorem in0 (t : Fin grid0.N) (r : Fin 512) (k : Fin 1024) : (iblk m 0 0 t : Vec Ideal S512x1024 .f32) (ix2 r k) = A0 m (ix2 (rowOf t r) k) := by
  unfold iblk
  show V m 0 main_arg0 _ = _
  rw [V_main_arg0]
  refine congrArg (A0 m) ?_
  have h := index0 t
  funext a
  apply Fin.ext
  fin_cases a
  · show cc0_transform_0 (grid0.coords t) 0 * 512 + 1 * r.val = t.val * 512 + r.val
    rw [h]; show t.val * 512 + _ = _; omega
  · show cc0_transform_0 (grid0.coords t) 1 * 1024 + 1 * k.val = k.val
    rw [h]; show 0 * 1024 + _ = _; omega
theorem in1 (t : Fin grid0.N) (q : Fin 4) (s : Fin 2) (r : Fin 512) (j : Fin 256) :
    (iblk m 0 1 t : Vec Ideal S4x2x512x256 .i32) (ix4 q s r j) = A1 m (ix4 q s (rowOf t r) j) := by
  unfold iblk
  show V m 0 main_arg1 _ = _
  rw [V_main_arg1]
  refine congrArg (A1 m) ?_
  have h := index1 t
  funext a
  apply Fin.ext
  fin_cases a
  · show cc0_transform_1 (grid0.coords t) 0 * 4 + 1 * q.val = q.val
    rw [h]; show 0 * 4 + _ = _; omega
  · show cc0_transform_1 (grid0.coords t) 1 * 2 + 1 * s.val = s.val
    rw [h]; show 0 * 2 + _ = _; omega
  · show cc0_transform_1 (grid0.coords t) 2 * 512 + 1 * r.val = t.val * 512 + r.val
    rw [h]; show t.val * 512 + _ = _; omega
  · show cc0_transform_1 (grid0.coords t) 3 * 256 + 1 * j.val = j.val
    rw [h]; show 0 * 256 + _ = _; omega
theorem in2 (t : Fin grid0.N) (q : Fin 4) (r : Fin 512) : (iblk m 0 2 t : Vec Ideal S4x512 .f32) (ix2 q r) = A2 m (ix2 q (rowOf t r)) := by
  unfold iblk
  show V m 0 main_arg2 _ = _
  rw [V_main_arg2]
  refine congrArg (A2 m) ?_
  have h := index2 t
  funext a
  apply Fin.ext
  fin_cases a
  · show cc0_transform_2 (grid0.coords t) 0 * 4 + 1 * q.val = q.val
    rw [h]; show 0 * 4 + _ = _; omega
  · show cc0_transform_2 (grid0.coords t) 1 * 512 + 1 * r.val = t.val * 512 + r.val
    rw [h]; show t.val * 512 + _ = _; omega

theorem V_v0 : (V m 0 main_v0 : Vec Ideal S1x1024 .f32) = shapeCast S1x1024 (A3 m) shapeCasts_S1024_S1x1024 := by
  show StableHlo.after (hostOps0 (F := Ideal)) _ (Proc.devRef .tc main_v0) = _
  unfold hostOps0
  after_results
  rfl
theorem V_v1 : (V m 0 main_v1 : Vec Ideal S1x1024 .f32) = shapeCast S1x1024 (A4 m) shapeCasts_S1024_S1x1024 := by
  show StableHlo.after (hostOps0 (F := Ideal)) _ (Proc.devRef .tc main_v1) = _
  unfold hostOps0
  after_results
  rfl

theorem in3 (t : Fin grid0.N) (k : Fin 1024) : (iblk m 0 3 t : Vec Ideal S1x1024 .f32) (ix2 0 k) = A3 m (ix1 k) := by
  unfold iblk
  have e : (((cfg0.win 3).blk t).view.emb (ix2 0 k : S1x1024.Idx) : S1x1024.Idx) = ix2 0 k := by
    funext a; apply Fin.ext
    fin_cases a
    · rfl
    · show 0 * 1024 + 1 * k.val = k.val; omega
  show (V m 0 main_v0 : Vec Ideal S1x1024 .f32) (((cfg0.win 3).blk t).view.emb (ix2 0 k : S1x1024.Idx)) = _
  rw [V_v0, e]
  pointwise
theorem in4 (t : Fin grid0.N) (k : Fin 1024) : (iblk m 0 4 t : Vec Ideal S1x1024 .f32) (ix2 0 k) = A4 m (ix1 k) := by
  unfold iblk
  have e : (((cfg0.win 4).blk t).view.emb (ix2 0 k : S1x1024.Idx) : S1x1024.Idx) = ix2 0 k := by
    funext a; apply Fin.ext
    fin_cases a
    · rfl
    · show 0 * 1024 + 1 * k.val = k.val; omega
  show (V m 0 main_v1 : Vec Ideal S1x1024 .f32) (((cfg0.win 4).blk t).view.emb (ix2 0 k : S1x1024.Idx)) = _
  rw [V_v1, e]
  pointwise

theorem emb_out (t : Fin cfg0.N) (y : S512x1024.Idx) (a : Fin 2) :
    (((cfg0.win 5).blk t).view.emb y a).val = (![t.val, 0] : Fin 2 → ℕ) a * S512x1024.size a + 1 * (y a).val :=
  congrArg (fun f : Fin 2 → ℕ => f a * S512x1024.size a + 1 * (y a).val) (index5 t)

theorem norm_same {x x' : Fin 1024 → EReal} {y y' : Fin 4 → Fin 1024 → EReal} {g g' : Fin 4 → EReal} {a a' b b' : Fin 1024 → EReal} {n : Fin 1024}
    (hx : x = x') (hy : y = y') (hg : g = g') (ha : a = a') (hb : b = b') : normN (mixN x y g) a b n = normN (mixN x' y' g') a' b' n := by
  subst hx; subst hy; subst hg; subst ha; subst hb; rfl

/-- What point `t` writes back is the reference's rows there. -/
theorem block_same (t : Fin grid0.N) (r : Fin 512) (k : Fin 1024) :
    (out0_5 (iblk m 0 0 t) (iblk m 0 1 t) (iblk m 0 2 t) (iblk m 0 3 t) (iblk m 0 4 t) : Vec Ideal S512x1024 .f32) (ix2 r k)
      = refOut (A0 m) (A1 m) (A2 m) (A3 m) (A4 m) (ix2 (rowOf t r) k) := by
  refine (out_blk (iblk m 0 0 t) (iblk m 0 1 t) (iblk m 0 2 t) (iblk m 0 3 t) (iblk m 0 4 t) r k).trans (Eq.trans ?_ (ref_at (A0 m) (A1 m) (A2 m) (A3 m) (A4 m) (rowOf t r) k).symm)
  refine norm_same ?_ ?_ ?_ ?_ ?_
  · exact funext fun k => in0 m t r k
  · exact funext fun q => funext fun k => congrArg₂ (fun a b => Expert.rowX a b k) (funext fun j => in1 m t q 0 r j) (funext fun j => in1 m t q 1 r j)
  · exact funext fun q => in2 m t q r
  · exact funext fun k => in3 m t k
  · exact funext fun k => in4 m t k

/-- The kernel's result is the reference's. -/
theorem result_same : ((dats m 0 0).arrAt 5 cfg0.N : Vec Ideal S32768x1024 .f32) = refOut (A0 m) (A1 m) (A2 m) (A3 m) (A4 m) := by
  refine funext fun i : S32768x1024.Idx => ?_
  obtain ⟨row, n, rfl⟩ : ∃ (row : Fin 32768) (n : Fin 1024), i = ix2 row n := ⟨i 0, i 1, eq_ix2 i⟩
  obtain ⟨t, ht⟩ : ∃ t : Fin cfg0.N, t.val = row.val / 512 := ⟨⟨row.val / 512, by show _ < 64; omega⟩, rfl⟩
  refine (dats m 0 0).arrAt_forall_of_flushed 5 (fun i v => v = refOut (A0 m) (A1 m) (A2 m) (A3 m) (A4 m) i) (fun t hf y => ?_) _ t (ix2 row n) t.2 (flush0_5 t) ?_
  · show (dats m 0 0).after 5 t y = refOut (A0 m) (A1 m) (A2 m) (A3 m) (A4 m) (((cfg0.win 5).blk t).view.emb y)
    rw [after0_5]
    obtain ⟨r, k, rfl⟩ : ∃ (r : Fin 512) (k : Fin 1024), (y : S512x1024.Idx) = ix2 r k := ⟨y 0, y 1, eq_ix2 (y : S512x1024.Idx)⟩
    refine (block_same m t r k).trans (congrArg (refOut (A0 m) (A1 m) (A2 m) (A3 m) (A4 m)) ?_)
    funext a
    apply Fin.ext
    refine Eq.trans ?_ (emb_out t (ix2 r k) a).symm
    fin_cases a
    · show t.val * 512 + r.val = t.val * 512 + 1 * r.val; omega
    · show k.val = 0 * 1024 + 1 * k.val; omega
  · have e : (ix2 row n : S32768x1024.Idx) = ((cfg0.win 5).blk t).view.emb (ix2 ⟨row.val % 512, Nat.mod_lt _ (by decide)⟩ n : S512x1024.Idx) := by
      funext a
      apply Fin.ext
      refine Eq.trans ?_ (emb_out t (ix2 ⟨row.val % 512, Nat.mod_lt _ (by decide)⟩ n) a).symm
      fin_cases a
      · show row.val = t.val * 512 + 1 * (row.val % 512); omega
      · show n.val = 0 * 1024 + 1 * n.val; omega
    rw [e]
    exact View.emb_mem_set _ _

/-- The kernel's run leaves its blocks' rows in the result, and the arguments as they were. -/
theorem run_kernel3Ideal (ρ : Dev nD → PrngReg) : θ_run defs (onTc (τ := τ) (main (F := Ideal))) ⟨m, fun _ => 0, ρ⟩ fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, h.2 c⟩) (θ_run_and (run_main m ρ) (unchanged m ρ))

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r q => ⟨fun c => (q c).2, sem_eq_zero_of_no_sems (by decide) r.2⟩) (Cert.Reference3Ideal.Value.run (F := Ideal) m ρ)

/-- The reference's result from the kernel's arguments. -/
theorem ref_same (m' : (ℓ : Loc Cert.Reference3Ideal.nD Cert.Reference3Ideal.τ Cert.Reference3Ideal.sig) → Buf (Elt Ideal) ℓ)
    (h0 : m' (((0 : Dev nD).tc : Thread Cert.Reference3Ideal.nD Cert.Reference3Ideal.τ).loc Cert.Reference3Ideal.main_arg0) = A0 m)
    (h1 : m' (((0 : Dev nD).tc : Thread Cert.Reference3Ideal.nD Cert.Reference3Ideal.τ).loc Cert.Reference3Ideal.main_arg1) = A1 m)
    (h2 : m' (((0 : Dev nD).tc : Thread Cert.Reference3Ideal.nD Cert.Reference3Ideal.τ).loc Cert.Reference3Ideal.main_arg2) = A2 m)
    (h3 : m' (((0 : Dev nD).tc : Thread Cert.Reference3Ideal.nD Cert.Reference3Ideal.τ).loc Cert.Reference3Ideal.main_arg3) = A3 m)
    (h4 : m' (((0 : Dev nD).tc : Thread Cert.Reference3Ideal.nD Cert.Reference3Ideal.τ).loc Cert.Reference3Ideal.main_arg4) = A4 m) :
    Cert.Reference3Ideal.Value.res_main_v45 (F := Ideal) m' (0 : Dev nD) = refOut (A0 m) (A1 m) (A2 m) (A3 m) (A4 m) := by
  rw [res_eq, ← h0, ← h1, ← h2, ← h3, ← h4]

theorem algebraic3 : Cert.algebraic_Kernel3Ideal_Reference3Ideal := fun m g m' g' _ hag => by
  refine ⟨fun c => (dats m 0 c).arrAt 5 cfg0.N, run_kernel3Ideal m g,
    (θ_run Cert.Reference3Ideal.defs _ _).mono (fun r q c => ⟨(q c).1.trans ?_, (q c).2⟩) (Cert.Reference3Ideal.Value.run (F := Ideal) m' g')⟩
  obtain rfl : c = (0 : Dev nD) := Subsingleton.elim _ _
  obtain ⟨h0, h1, h2, h3, h4⟩ := hag 0
  exact (ref_same m m' h0 h1 h2 h3 h4).trans (result_same m).symm

end Cert.Proof.Combine

end
-- ==== Proof.Project.Turn.lean ====
/-
  The numbers of the first projection: an affine map, and the turn of a head's first sixteen columns.
-/
module

public import Idealize.ShloMosaic.Lib.Pointwise

@[expose] public section

noncomputable section

namespace Cert.Proof.Project

open Idealize.ShloMosaic

/-- Column `n` of a row under the weight `w` and the bias `b`. -/
def affN (x : Fin 1024 → EReal) (w : Fin 1024 → Fin 2816 → EReal) (b : Fin 2816 → EReal) (n : Fin 2816) : EReal := (∑ k, x k * w k n) + b n

/-- Column `p` after the turn: heads are 64 columns wide, of which column `j` and column `8 + j` turn together by the angle with cosine `c j` and sine `s j`. -/
def turnN (h : Fin 2816 → EReal) (c s : Fin 8 → EReal) (p : Fin 2816) : EReal :=
  if h0 : p.val % 64 < 8 then h p * c ⟨p.val % 64, h0⟩ - h ⟨p.val + 8, by omega⟩ * s ⟨p.val % 64, h0⟩
  else if h1 : p.val % 64 - 8 < 8 then h p * c ⟨p.val % 64 - 8, h1⟩ + h ⟨p.val - 8, by omega⟩ * s ⟨p.val % 64 - 8, h1⟩
  else h p

/-- The factors of a column itself, of the column eight to its right and of the column eight to its left. -/
def hereN (c : Fin 8 → EReal) (d : ℕ) : EReal := if h0 : d < 8 then c ⟨d, h0⟩ else if h1 : d - 8 < 8 then c ⟨d - 8, h1⟩ else 1
def rightN (s : Fin 8 → EReal) (d : ℕ) : EReal := if h0 : d < 8 then -s ⟨d, h0⟩ else 0
def leftN (s : Fin 8 → EReal) (d : ℕ) : EReal := if d < 8 then 0 else if h1 : d - 8 < 8 then s ⟨d - 8, h1⟩ else 0

/-- The turn as a sum of three products. A neighbour that doesn't count has the factor zero, so it may be any column. -/
theorem turn_eq (h : Fin 2816 → EReal) (c s : Fin 8 → EReal) (p q r : Fin 2816) (hq : p.val % 64 < 8 → q.val = p.val + 8)
    (hr : 8 ≤ p.val % 64 → p.val % 64 < 16 → r.val = p.val - 8) :
    h p * hereN c (p.val % 64) + h q * rightN s (p.val % 64) + h r * leftN s (p.val % 64) = turnN h c s p := by
  unfold hereN rightN leftN turnN
  by_cases h0 : p.val % 64 < 8
  · obtain rfl : q = ⟨p.val + 8, by omega⟩ := Fin.ext (hq h0)
    simp only [dif_pos h0, if_pos h0, mul_zero, add_zero, mul_neg, sub_eq_add_neg]
  by_cases h1 : p.val % 64 - 8 < 8
  · obtain rfl : r = ⟨p.val - 8, by omega⟩ := Fin.ext (hr (by omega) (by omega))
    simp only [dif_neg h0, if_neg h0, dif_pos h1, mul_zero, add_zero]
  · simp only [dif_neg h0, if_neg h0, dif_neg h1, mul_zero, mul_one, add_zero]

end Cert.Proof.Project

end
-- ==== Proof.Project.Values.lean ====
/-
  A block of the first projection, number by number.
-/
module

public import proofs.«01_k».proof.Proof.Gen.Kernel4Ideal.Frame
public import proofs.«01_k».proof.Proof.Project.Turn

@[expose] public section

set_option maxRecDepth 16384

noncomputable section

namespace Cert.Proof.Project

open Idealize.ShloMosaic
open Cert.Kernel4Ideal Cert.Kernel4Ideal.Gen

variable (x0 : Vec Ideal S1024x1024 .f32) (x1 : Vec Ideal S1x1024x2816 .bf16) (x2 : Vec Ideal S1x2816 .f32) (x3 x4 x5 : Vec Ideal S1024x128 .f32) (r : Fin 1024)

/-- The columns of row `r` of the block before the turn. -/
abbrev blkH (n : Fin 2816) : EReal := affN (fun k => x0 (ix2 r k)) (fun k n => x1 (ix3 0 k n)) (fun n => x2 (ix2 0 n)) n

/-- Four equal tables side by side. -/
theorem tile_at (x : Vec Ideal S1024x128 .f32) (c : Fin 512) : (if h : c.val < 128 then x (ix2 r ⟨c.val, h⟩)
    else if h : c.val - 128 < 128 then x (ix2 r ⟨c.val - 128, h⟩)
      else if h : c.val - 128 - 128 < 128 then x (ix2 r ⟨c.val - 128 - 128, h⟩)
        else x (ix2 r ⟨c.val - 128 - 128 - 128, by omega⟩)) = x (ix2 r ⟨c.val % 128, by omega⟩) := by
  by_cases h0 : c.val < 128
  · simp only [dif_pos h0, show c.val % 128 = c.val by omega]
  by_cases h1 : c.val - 128 < 128
  · simp only [dif_neg h0, dif_pos h1, show c.val % 128 = c.val - 128 by omega]
  by_cases h2 : c.val - 128 - 128 < 128
  · simp only [dif_neg h0, dif_neg h1, dif_pos h2, show c.val % 128 = c.val - 128 - 128 by omega]
  · simp only [dif_neg h0, dif_neg h1, dif_neg h2, show c.val % 128 = c.val - 128 - 128 - 128 by omega]

theorem blkQ_at (c : Fin 512) : k0_pay4 (View.ld x0 r0_0) (View.ld x1 r0_1) (View.ld x2 r0_2) (View.ld x3 r0_3) (View.ld x4 r0_3) (View.ld x5 r0_3) (ix2 r c)
    = (blkH x0 x1 x2 r ⟨c.val, by omega⟩ * x3 (ix2 r ⟨c.val % 128, by omega⟩) + blkH x0 x1 x2 r ⟨(c.val + 512 - 504) % 512, by omega⟩ * x4 (ix2 r ⟨c.val % 128, by omega⟩)
        + blkH x0 x1 x2 r ⟨(c.val + 512 - 8) % 512, by omega⟩ * x5 (ix2 r ⟨c.val % 128, by omega⟩)) * Ideal.ofBits .f32 0x3E38AA3B#32 := by
  pointwise [k0_pay4, k0_pay3]
  rw [tile_at, tile_at, tile_at]
  rfl
theorem blkK_at (c : Fin 128) : k0_pay7 (k0_pay12 x0 x1 x2 x3 x4 x5) (View.ld x2 r0_6) (View.ld x3 r0_3) (View.ld x4 r0_3) (View.ld x5 r0_3) (ix2 r c)
    = blkH x0 x1 x2 r ⟨512 + c.val, by omega⟩ * x3 (ix2 r c) + blkH x0 x1 x2 r ⟨512 + (c.val + 128 - 120) % 128, by omega⟩ * x4 (ix2 r c)
        + blkH x0 x1 x2 r ⟨512 + (c.val + 128 - 8) % 128, by omega⟩ * x5 (ix2 r c) := by
  pointwise [k0_pay7, k0_pay6, k0_pay12, k0_pay5, k0_pay3]
  rfl
theorem blkV_at (c : Fin 128) : k0_pay8 (k0_pay12 x0 x1 x2 x3 x4 x5) (View.ld x2 r0_6) (ix2 r c) = blkH x0 x1 x2 r ⟨640 + c.val, by omega⟩ := by
  pointwise [k0_pay8, k0_pay6, k0_pay12, k0_pay5, k0_pay3]
  simp only [show 512 + (128 + c.val) = 640 + c.val by omega]
  rfl
theorem blkBQ_at (c : Fin 512) : k0_pay9 (k0_pay12 x0 x1 x2 x3 x4 x5) (View.ld x2 r0_6) (ix2 r c) = blkH x0 x1 x2 r ⟨768 + c.val, by omega⟩ := by
  pointwise [k0_pay9, k0_pay6, k0_pay12, k0_pay5, k0_pay3]
  simp only [show 512 + (256 + c.val) = 768 + c.val by omega]
  rfl
theorem blkBF_at (c : Fin 512) : k0_pay10 (k0_pay11 x0 x1 x2 x3 x4 x5) (View.ld x1 r0_7) (View.ld x2 r0_8) (ix2 r c) = blkH x0 x1 x2 r ⟨1280 + c.val, by omega⟩ := by
  pointwise [k0_pay10, k0_pay11, k0_pay3]
  rfl
theorem blkBI_at (c : Fin 512) : k0_pay1 (k0_pay11 x0 x1 x2 x3 x4 x5) (View.ld x1 r0_9) (View.ld x2 r0_10) (ix2 r c) = blkH x0 x1 x2 r ⟨1792 + c.val, by omega⟩ := by
  pointwise [k0_pay1, k0_pay11, k0_pay3]
  rfl
theorem blkBG_at (c : Fin 512) : k0_pay2 (k0_pay11 x0 x1 x2 x3 x4 x5) (View.ld x1 r0_11) (View.ld x2 r0_12) (ix2 r c) = blkH x0 x1 x2 r ⟨2304 + c.val, by omega⟩ := by
  pointwise [k0_pay2, k0_pay11, k0_pay3]
  rfl

/-- One store over the whole block leaves what it stored. -/
theorem whole512 {e : EltTy} (v : Vec Ideal S1024x512 e) : (View.canon (Val := Elt Ideal) (e := e) [⟨r0_4, v⟩] : Vec Ideal S1024x512 e) = v := by
  refine funext fun i => View.canon_apply_of_pieces (Val := Elt Ideal) (e := e) v _ ?_ i ?_
  · intro p hp x
    obtain rfl := List.mem_singleton.mp hp
    refine congrArg v (funext fun a => Fin.ext ?_)
    fin_cases a
    · show (x 0).val = 0 + 1 * (x 0).val; omega
    · show (x 1).val = 0 + 1 * (x 1).val; omega
  · refine ⟨_, List.mem_singleton.mpr rfl, ?_⟩
    refine (Rect.mem_set_unit (inb := inb_S1024x512_S1024x512_0_0)).mpr fun a => ?_
    fin_cases a
    · exact ⟨Nat.zero_le _, by show (i 0).val < 0 + 1024; have : (i 0).val < 1024 := (i 0).2; omega⟩
    · exact ⟨Nat.zero_le _, by show (i 1).val < 0 + 512; have : (i 1).val < 512 := (i 1).2; omega⟩
theorem whole128 {e : EltTy} (v : Vec Ideal S1024x128 e) : (View.canon (Val := Elt Ideal) (e := e) [⟨r0_3, v⟩] : Vec Ideal S1024x128 e) = v := by
  refine funext fun i => View.canon_apply_of_pieces (Val := Elt Ideal) (e := e) v _ ?_ i ?_
  · intro p hp x
    obtain rfl := List.mem_singleton.mp hp
    refine congrArg v (funext fun a => Fin.ext ?_)
    fin_cases a
    · show (x 0).val = 0 + 1 * (x 0).val; omega
    · show (x 1).val = 0 + 1 * (x 1).val; omega
  · refine ⟨_, List.mem_singleton.mpr rfl, ?_⟩
    refine (Rect.mem_set_unit (inb := inb_S1024x128_S1024x128_0_0)).mpr fun a => ?_
    fin_cases a
    · exact ⟨Nat.zero_le _, by show (i 0).val < 0 + 1024; have : (i 0).val < 1024 := (i 0).2; omega⟩
    · exact ⟨Nat.zero_le _, by show (i 1).val < 0 + 128; have : (i 1).val < 128 := (i 1).2; omega⟩

end Cert.Proof.Project

end
-- ==== Proof.Project.Spec.lean ====
/-
  The reference of the first projection as a stack of named arrays.
-/
module

public import proofs.«01_k».proof.Proof.Gen.Reference4Ideal.Run
public import proofs.«01_k».proof.Proof.Project.Turn

@[expose] public section

set_option maxRecDepth 16384

noncomputable section

namespace Cert.Proof.Project

open Idealize.ShloMosaic Idealize.ShloMosaic.TcCoe Idealize.SL.Sem
open Cert.Reference4Ideal Cert.Reference4Ideal.Gen

/-- The affine map of all the rows, -/
def refH (a0 : FVec Ideal S4x8192x1024 .f32) (a1 : FVec Ideal S2x1024x2816 .f32) (a2 : FVec Ideal S2x2816 .f32) : FVec Ideal S4x8192x2816 .f32 :=
  addf (Host.dotGeneral dot_S4x8192x1024_S1024x2816_S4x8192x2816_2_0_01_1_n_n none a0 (shapeCast _ (extractStridedSlice S1x1024x2816 ![0, 0, 0] a1 slices_S2x1024x2816_S1x1024x2816_0_0_0) shapeCasts_S1x1024x2816_S1024x2816)) (broadcastInDim S4x8192x2816 ![0, 1, 2] bcast_S1x1x2816_S4x8192x2816_0_1_2 (broadcastInDim S1x1x2816 ![2] bcast_S2816_S1x1x2816_2 (shapeCast _ (extractStridedSlice S1x2816 ![0, 0] a2 slices_S2x2816_S1x2816_0_0) shapeCasts_S1x2816_S2816)))

/-- and the angles' cosines and sines. -/
def refCos : FVec Ideal S8192x8 .f32 :=
  Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32))))))))
def refSin : FVec Ideal S8192x8 .f32 :=
  Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32))))))))

/-- The queries' columns by heads, -/
def refQHeads (h : FVec Ideal S4x8192x2816 .f32) : FVec Ideal S4x8192x8x64 .f32 :=
  shapeCast _ (extractStridedSlice S4x8192x512 ![0, 0, 0] h slices_S4x8192x2816_S4x8192x512_0_0_0) shapeCasts_S4x8192x512_S4x8192x8x64

/-- each head turned, -/
def refQTurn (e : FVec Ideal S4x8192x8x64 .f32) : FVec Ideal S4x8192x8x64 .f32 :=
  (concatenate S4x8192x8x64 3 [⟨S4x8192x8x8, ((subf (mulf (extractStridedSlice S4x8192x8x8 ![0, 0, 0, 0] e slices_S4x8192x8x64_S4x8192x8x8_0_0_0_0) (broadcastInDim S4x8192x8x8 ![0, 1, 2, 3] bcast_S1x8192x1x8_S4x8192x8x8_0_1_2_3 (broadcastInDim S1x8192x1x8 ![1, 3] bcast_S8192x8_S1x8192x1x8_1_3 refCos))) (mulf (extractStridedSlice S4x8192x8x8 ![0, 0, 0, 8] e slices_S4x8192x8x64_S4x8192x8x8_0_0_0_8) (broadcastInDim S4x8192x8x8 ![0, 1, 2, 3] bcast_S1x8192x1x8_S4x8192x8x8_0_1_2_3 (broadcastInDim S1x8192x1x8 ![1, 3] bcast_S8192x8_S1x8192x1x8_1_3 refSin)))) : (⟨S4x8192x8x8, .f32⟩ : BufTy).Contents (Elt Ideal))⟩, ⟨S4x8192x8x8, ((addf (mulf (extractStridedSlice S4x8192x8x8 ![0, 0, 0, 8] e slices_S4x8192x8x64_S4x8192x8x8_0_0_0_8) (broadcastInDim S4x8192x8x8 ![0, 1, 2, 3] bcast_S1x8192x1x8_S4x8192x8x8_0_1_2_3 (broadcastInDim S1x8192x1x8 ![1, 3] bcast_S8192x8_S1x8192x1x8_1_3 refCos))) (mulf (extractStridedSlice S4x8192x8x8 ![0, 0, 0, 0] e slices_S4x8192x8x64_S4x8192x8x8_0_0_0_0) (broadcastInDim S4x8192x8x8 ![0, 1, 2, 3] bcast_S1x8192x1x8_S4x8192x8x8_0_1_2_3 (broadcastInDim S1x8192x1x8 ![1, 3] bcast_S8192x8_S1x8192x1x8_1_3 refSin)))) : (⟨S4x8192x8x8, .f32⟩ : BufTy).Contents (Elt Ideal))⟩, ⟨S4x8192x8x48, ((extractStridedSlice S4x8192x8x48 ![0, 0, 0, 16] e slices_S4x8192x8x64_S4x8192x8x48_0_0_0_16) : (⟨S4x8192x8x48, .f32⟩ : BufTy).Contents (Elt Ideal))⟩] concatenates_S4x8192x8x8_S4x8192x8x8_S4x8192x8x48_S4x8192x8x64_d3 : (⟨S4x8192x8x64, .f32⟩ : BufTy).Contents (Elt Ideal))

/-- and put back as columns. -/
def refQ (h : FVec Ideal S4x8192x2816 .f32) : FVec Ideal S32768x512 .bf16 :=
  truncf .bf16 (shapeCast _ (mulf (refQTurn (refQHeads h)) (broadcastInDim S4x8192x8x64 ![] bcast_S_S4x8192x8x64 (constant S_ .f32 0x3E38AA3B#32))) shapeCasts_S4x8192x8x64_S32768x512) bitsLt_bf16_f32

/-- The keys' columns by heads, -/
def refKHeads (h : FVec Ideal S4x8192x2816 .f32) : FVec Ideal S4x8192x2x64 .f32 :=
  shapeCast _ (extractStridedSlice S4x8192x128 ![0, 0, 512] h slices_S4x8192x2816_S4x8192x128_0_0_512) shapeCasts_S4x8192x128_S4x8192x2x64

/-- each head turned, -/
def refKTurn (e : FVec Ideal S4x8192x2x64 .f32) : FVec Ideal S4x8192x2x64 .f32 :=
  (concatenate S4x8192x2x64 3 [⟨S4x8192x2x8, ((subf (mulf (extractStridedSlice S4x8192x2x8 ![0, 0, 0, 0] e slices_S4x8192x2x64_S4x8192x2x8_0_0_0_0) (broadcastInDim S4x8192x2x8 ![0, 1, 2, 3] bcast_S1x8192x1x8_S4x8192x2x8_0_1_2_3 (broadcastInDim S1x8192x1x8 ![1, 3] bcast_S8192x8_S1x8192x1x8_1_3 refCos))) (mulf (extractStridedSlice S4x8192x2x8 ![0, 0, 0, 8] e slices_S4x8192x2x64_S4x8192x2x8_0_0_0_8) (broadcastInDim S4x8192x2x8 ![0, 1, 2, 3] bcast_S1x8192x1x8_S4x8192x2x8_0_1_2_3 (broadcastInDim S1x8192x1x8 ![1, 3] bcast_S8192x8_S1x8192x1x8_1_3 refSin)))) : (⟨S4x8192x2x8, .f32⟩ : BufTy).Contents (Elt Ideal))⟩, ⟨S4x8192x2x8, ((addf (mulf (extractStridedSlice S4x8192x2x8 ![0, 0, 0, 8] e slices_S4x8192x2x64_S4x8192x2x8_0_0_0_8) (broadcastInDim S4x8192x2x8 ![0, 1, 2, 3] bcast_S1x8192x1x8_S4x8192x2x8_0_1_2_3 (broadcastInDim S1x8192x1x8 ![1, 3] bcast_S8192x8_S1x8192x1x8_1_3 refCos))) (mulf (extractStridedSlice S4x8192x2x8 ![0, 0, 0, 0] e slices_S4x8192x2x64_S4x8192x2x8_0_0_0_0) (broadcastInDim S4x8192x2x8 ![0, 1, 2, 3] bcast_S1x8192x1x8_S4x8192x2x8_0_1_2_3 (broadcastInDim S1x8192x1x8 ![1, 3] bcast_S8192x8_S1x8192x1x8_1_3 refSin)))) : (⟨S4x8192x2x8, .f32⟩ : BufTy).Contents (Elt Ideal))⟩, ⟨S4x8192x2x48, ((extractStridedSlice S4x8192x2x48 ![0, 0, 0, 16] e slices_S4x8192x2x64_S4x8192x2x48_0_0_0_16) : (⟨S4x8192x2x48, .f32⟩ : BufTy).Contents (Elt Ideal))⟩] concatenates_S4x8192x2x8_S4x8192x2x8_S4x8192x2x48_S4x8192x2x64_d3 : (⟨S4x8192x2x64, .f32⟩ : BufTy).Contents (Elt Ideal))

/-- and put back as columns. -/
def refK (h : FVec Ideal S4x8192x2816 .f32) : FVec Ideal S32768x128 .bf16 :=
  truncf .bf16 (shapeCast _ (refKTurn (refKHeads h)) shapeCasts_S4x8192x2x64_S32768x128) bitsLt_bf16_f32

/-- The values. -/
def refV (h : FVec Ideal S4x8192x2816 .f32) : FVec Ideal S32768x128 .bf16 :=
  truncf .bf16 (shapeCast _ (extractStridedSlice S4x8192x128 ![0, 0, 640] h slices_S4x8192x2816_S4x8192x128_0_0_640) shapeCasts_S4x8192x128_S32768x128) bitsLt_bf16_f32

/-- The second part's four arrays. -/
def refBQ (h : FVec Ideal S4x8192x2816 .f32) : FVec Ideal S32768x512 .f32 :=
  shapeCast _ (extractStridedSlice S4x8192x512 ![0, 0, 768] h slices_S4x8192x2816_S4x8192x512_0_0_768) shapeCasts_S4x8192x512_S32768x512

def refBF (h : FVec Ideal S4x8192x2816 .f32) : FVec Ideal S32768x512 .f32 :=
  shapeCast _ (extractStridedSlice S4x8192x512 ![0, 0, 1280] h slices_S4x8192x2816_S4x8192x512_0_0_1280) shapeCasts_S4x8192x512_S32768x512

def refBI (h : FVec Ideal S4x8192x2816 .f32) : FVec Ideal S32768x512 .f32 :=
  shapeCast _ (extractStridedSlice S4x8192x512 ![0, 0, 1792] h slices_S4x8192x2816_S4x8192x512_0_0_1792) shapeCasts_S4x8192x512_S32768x512

def refBG (h : FVec Ideal S4x8192x2816 .f32) : FVec Ideal S32768x512 .f32 :=
  shapeCast _ (extractStridedSlice S4x8192x512 ![0, 0, 2304] h slices_S4x8192x2816_S4x8192x512_0_0_2304) shapeCasts_S4x8192x512_S32768x512

variable (m : (ℓ : Loc nD τ sig) → Buf (Elt Ideal) ℓ) (c : Dev nD)

theorem resQ_eq : Cert.Reference4Ideal.Value.res_main_v71 (F := Ideal) m c = refQ (refH (m ((c.tc : Thread nD τ).loc main_arg0)) (m ((c.tc : Thread nD τ).loc main_arg1)) (m ((c.tc : Thread nD τ).loc main_arg2))) := rfl
theorem resK_eq : Cert.Reference4Ideal.Value.res_main_v73 (F := Ideal) m c = refK (refH (m ((c.tc : Thread nD τ).loc main_arg0)) (m ((c.tc : Thread nD τ).loc main_arg1)) (m ((c.tc : Thread nD τ).loc main_arg2))) := rfl

end Cert.Proof.Project

end
-- ==== Proof.Project.RefValues.lean ====
/-
  The reference of the first projection, number by number.
-/
module

public import proofs.«01_k».proof.Proof.Project.Spec

@[expose] public section

set_option maxRecDepth 16384

noncomputable section

namespace Cert.Proof.Project

open Idealize.ShloMosaic
open Cert.Reference4Ideal Cert.Reference4Ideal.Gen

theorem refH_at (a0 : FVec Ideal S4x8192x1024 .f32) (a1 : FVec Ideal S2x1024x2816 .f32) (a2 : FVec Ideal S2x2816 .f32) (b : Fin 4) (t : Fin 8192) (n : Fin 2816) :
    refH a0 a1 a2 (ix3 b t n) = affN (fun k => a0 (ix3 b t k)) (fun k n => a1 (ix3 0 k n)) (fun n => a2 (ix2 0 n)) n := by
  pointwise [refH]
  rfl

variable (h : FVec Ideal S4x8192x2816 .f32) (r : Fin 32768)

/-- Row `r` of the flat arrays is position `r % 8192` of sequence `r / 8192`. -/
abbrev seqOf (r : Fin 32768) : Fin 4 := ⟨r.val / 8192, by omega⟩
abbrev posOf (r : Fin 32768) : Fin 8192 := ⟨r.val % 8192, by omega⟩
abbrev rowH (n : Fin 2816) : EReal := h (ix3 (seqOf r) (posOf r) n)

theorem refV_at (c : Fin 128) : refV h (ix2 r c) = rowH h r ⟨640 + c.val, by omega⟩ := by
  pointwise [refV]
theorem refBQ_at (c : Fin 512) : refBQ h (ix2 r c) = rowH h r ⟨768 + c.val, by omega⟩ := by
  pointwise [refBQ]
theorem refBF_at (c : Fin 512) : refBF h (ix2 r c) = rowH h r ⟨1280 + c.val, by omega⟩ := by
  pointwise [refBF]
theorem refBI_at (c : Fin 512) : refBI h (ix2 r c) = rowH h r ⟨1792 + c.val, by omega⟩ := by
  pointwise [refBI]
theorem refBG_at (c : Fin 512) : refBG h (ix2 r c) = rowH h r ⟨2304 + c.val, by omega⟩ := by
  pointwise [refBG]

theorem refK_at (c : Fin 128) : refK h (ix2 r c) = turnN (rowH h r) (fun j => refCos (ix2 (posOf r) j)) (fun j => refSin (ix2 (posOf r) j)) ⟨512 + c.val, by omega⟩ := by
  pointwise [refK, refKTurn, refKHeads]
  have hd : (512 + c.val) % 64 = c.val % 64 := by omega
  by_cases h0 : c.val % 64 < 8
  · simp only [turnN, rowH, hd, dif_pos h0, show 512 + (c.val / 64 * 64 + (8 + c.val % 64)) = 512 + c.val + 8 by omega]
  by_cases h1 : c.val % 64 - 8 < 8
  · simp only [turnN, rowH, hd, dif_neg h0, dif_pos h1, show 512 + (c.val / 64 * 64 + (8 + (c.val % 64 - 8))) = 512 + c.val by omega,
      show 512 + (c.val / 64 * 64 + (c.val % 64 - 8)) = 512 + c.val - 8 by omega]
  · simp only [turnN, rowH, hd, dif_neg h0, dif_neg h1, show 512 + (c.val / 64 * 64 + (16 + (c.val % 64 - 8 - 8))) = 512 + c.val by omega]
theorem refQ_at (c : Fin 512) : refQ h (ix2 r c)
    = turnN (rowH h r) (fun j => refCos (ix2 (posOf r) j)) (fun j => refSin (ix2 (posOf r) j)) ⟨c.val, by omega⟩ * Ideal.ofBits .f32 0x3E38AA3B#32 := by
  pointwise [refQ, refQTurn, refQHeads]
  by_cases h0 : c.val % 64 < 8
  · simp only [turnN, rowH, dif_pos h0, show (c.val / 64 * 64 + (8 + c.val % 64)) = c.val + 8 by omega]
  by_cases h1 : c.val % 64 - 8 < 8
  · simp only [turnN, rowH, dif_neg h0, dif_pos h1, show (c.val / 64 * 64 + (8 + (c.val % 64 - 8))) = c.val by omega,
      show (c.val / 64 * 64 + (c.val % 64 - 8)) = c.val - 8 by omega]
  · simp only [turnN, rowH, dif_neg h0, dif_neg h1, show (c.val / 64 * 64 + (16 + (c.val % 64 - 8 - 8))) = c.val by omega]

end Cert.Proof.Project

end
-- ==== Proof.Project.Inputs.lean ====
/-
  What the first projection's blocks hold: rows of the arguments, and the tables of the turn.
-/
module

public import proofs.«01_k».proof.Proof.Project.Values
public import proofs.«01_k».proof.Proof.Project.RefValues

@[expose] public section

set_option maxRecDepth 16384

noncomputable section

namespace Cert.Proof.Project

open Idealize.ShloMosaic Idealize.ShloMosaic.TcCoe Idealize.SL.Sem
open Cert.Kernel4Ideal Cert.Kernel4Ideal.Gen

variable (m : (ℓ : Loc nD τ sig) → Buf (Elt Ideal) ℓ)

abbrev A0 : Vec Ideal S4x8192x1024 .f32 := m (((0 : Dev nD).tc : Thread nD τ).loc main_arg0)
abbrev A1 : Vec Ideal S2x1024x2816 .f32 := m (((0 : Dev nD).tc : Thread nD τ).loc main_arg1)
abbrev A2 : Vec Ideal S2x2816 .f32 := m (((0 : Dev nD).tc : Thread nD τ).loc main_arg2)

theorem index0 : ∀ t : Fin grid0.N, cc0_transform_0 (grid0.coords t) = ![t.val, 0] := by decide +kernel
theorem index3 : ∀ t : Fin grid0.N, cc0_transform_3 (grid0.coords t) = ![t.val % 8, 0] := by decide +kernel

/-- Row `r` of block `t`, and its position in its sequence. -/
def rowOf (t : Fin grid0.N) (r : Fin 1024) : Fin 32768 := ⟨t.val * 1024 + r.val, by have : t.val < 32 := t.2; omega⟩
def tabOf (t : Fin grid0.N) (r : Fin 1024) : Fin 8192 := ⟨t.val % 8 * 1024 + r.val, by omega⟩
theorem tab_eq (t : Fin grid0.N) (r : Fin 1024) : tabOf t r = posOf (rowOf t r) := by
  apply Fin.ext
  show t.val % 8 * 1024 + r.val = (t.val * 1024 + r.val) % 8192
  omega

theorem V_v35 : (V m 0 main_v35 : Vec Ideal S32768x1024 .f32) = shapeCast S32768x1024 (A0 m) shapeCasts_S4x8192x1024_S32768x1024 := by
  show StableHlo.after (hostOps0 (F := Ideal)) _ (Proc.devRef .tc main_v35) = _
  unfold hostOps0
  after_results
  rfl
theorem V_v36 : (V m 0 main_v36 : Vec Ideal S2x1024x2816 .bf16) = truncf (F := Ideal) .bf16 (A1 m : FVec Ideal S2x1024x2816 .f32) bitsLt_bf16_f32 := by
  show StableHlo.after (hostOps0 (F := Ideal)) _ (Proc.devRef .tc main_v36) = _
  unfold hostOps0
  after_results
theorem V_v39 : (V m 0 main_v39 : Vec Ideal S1x2816 .f32)
    = shapeCast S1x2816 (shapeCast S2816 (extractStridedSlice S1x2816 ![0, 0] (A2 m) slices_S2x2816_S1x2816_0_0) shapeCasts_S1x2816_S2816) shapeCasts_S2816_S1x2816 := by
  show StableHlo.after (hostOps0 (F := Ideal)) _ (Proc.devRef .tc main_v39) = _
  unfold hostOps0
  after_results
  rfl

theorem in0 (t : Fin grid0.N) (r k : Fin 1024) :
    (iblk m 0 0 t : Vec Ideal S1024x1024 .f32) (ix2 r k) = A0 m (ix3 (seqOf (rowOf t r)) (posOf (rowOf t r)) k) := by
  unfold iblk
  have e : (((cfg0.win 0).blk t).view.emb (ix2 r k : S1024x1024.Idx) : S32768x1024.Idx) = ix2 (rowOf t r) k := by
    have h := index0 t
    funext a; apply Fin.ext
    fin_cases a
    · show cc0_transform_0 (grid0.coords t) 0 * 1024 + 1 * r.val = t.val * 1024 + r.val
      rw [h]; show t.val * 1024 + _ = _; omega
    · show cc0_transform_0 (grid0.coords t) 1 * 1024 + 1 * k.val = k.val
      rw [h]; show 0 * 1024 + _ = _; omega
  show (V m 0 main_v35 : Vec Ideal S32768x1024 .f32) (((cfg0.win 0).blk t).view.emb (ix2 r k : S1024x1024.Idx)) = _
  rw [V_v35, e]
  pointwise
theorem in1 (t : Fin grid0.N) (k : Fin 1024) (n : Fin 2816) : (iblk m 0 1 t : Vec Ideal S1x1024x2816 .bf16) (ix3 0 k n) = A1 m (ix3 0 k n) := by
  unfold iblk
  have e : (((cfg0.win 1).blk t).view.emb (ix3 0 k n : S1x1024x2816.Idx) : S2x1024x2816.Idx) = ix3 0 k n := by
    funext a; apply Fin.ext
    fin_cases a
    · rfl
    · show 0 * 1024 + 1 * k.val = k.val; omega
    · show 0 * 2816 + 1 * n.val = n.val; omega
  show (V m 0 main_v36 : Vec Ideal S2x1024x2816 .bf16) (((cfg0.win 1).blk t).view.emb (ix3 0 k n : S1x1024x2816.Idx)) = _
  rw [V_v36, e]
  pointwise
theorem in2 (t : Fin grid0.N) (n : Fin 2816) : (iblk m 0 2 t : Vec Ideal S1x2816 .f32) (ix2 0 n) = A2 m (ix2 0 n) := by
  unfold iblk
  have e : (((cfg0.win 2).blk t).view.emb (ix2 0 n : S1x2816.Idx) : S1x2816.Idx) = ix2 0 n := by
    funext a; apply Fin.ext
    fin_cases a
    · rfl
    · show 0 * 2816 + 1 * n.val = n.val; omega
  show (V m 0 main_v39 : Vec Ideal S1x2816 .f32) (((cfg0.win 2).blk t).view.emb (ix2 0 n : S1x2816.Idx)) = _
  rw [V_v39, e]
  pointwise

/-- The table made of 64 columns twice over. -/
def twice (x : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 x shapeCasts_S8192x64_S1x8192x1x64)) shapeCasts_S1x8192x2x64_S8192x128
/-- The 64 columns of the three tables. -/
def here64 : FVec Ideal S8192x64 .f32 :=
  concatenate S8192x64 1 [⟨S8192x8, refCos⟩, ⟨S8192x8, refCos⟩, ⟨S8192x48, broadcastInDim S8192x48 ![] bcast_S_S8192x48 (constant (F := Ideal) S_ .f32 0x3F800000#32)⟩] concatenates_S8192x8_S8192x8_S8192x48_S8192x64_d1
def right64 : FVec Ideal S8192x64 .f32 :=
  concatenate S8192x64 1 [⟨S8192x8, Host.negf (F := Ideal) (φ := .f32) refSin⟩, ⟨S8192x8, broadcastInDim S8192x8 ![] bcast_S_S8192x8 (constant (F := Ideal) S_ .f32 0x00000000#32)⟩,
    ⟨S8192x48, broadcastInDim S8192x48 ![] bcast_S_S8192x48 (constant (F := Ideal) S_ .f32 0x00000000#32)⟩] concatenates_S8192x8_S8192x8_S8192x48_S8192x64_d1
def left64 : FVec Ideal S8192x64 .f32 :=
  concatenate S8192x64 1 [⟨S8192x8, broadcastInDim S8192x8 ![] bcast_S_S8192x8 (constant (F := Ideal) S_ .f32 0x00000000#32)⟩, ⟨S8192x8, refSin⟩,
    ⟨S8192x48, broadcastInDim S8192x48 ![] bcast_S_S8192x48 (constant (F := Ideal) S_ .f32 0x00000000#32)⟩] concatenates_S8192x8_S8192x8_S8192x48_S8192x64_d1

theorem V_v28 : (V m 0 main_v28 : Vec Ideal S8192x128 .f32) = twice here64 := by
  show StableHlo.after (hostOps0 (F := Ideal)) _ (Proc.devRef .tc main_v28) = _
  unfold hostOps0
  after_results
  rfl
theorem V_v31 : (V m 0 main_v31 : Vec Ideal S8192x128 .f32) = twice right64 := by
  show StableHlo.after (hostOps0 (F := Ideal)) _ (Proc.devRef .tc main_v31) = _
  unfold hostOps0
  after_results
  rfl
theorem V_v34 : (V m 0 main_v34 : Vec Ideal S8192x128 .f32) = twice left64 := by
  show StableHlo.after (hostOps0 (F := Ideal)) _ (Proc.devRef .tc main_v34) = _
  unfold hostOps0
  after_results
  rfl

variable (s : Fin 8192)

theorem here_at (l : Fin 128) : twice here64 (ix2 s l) = hereN (fun j => refCos (ix2 s j)) (l.val % 64) := by
  pointwise [twice, here64]
  rfl
theorem right_at (l : Fin 128) : twice right64 (ix2 s l) = rightN (fun j => refSin (ix2 s j)) (l.val % 64) := by
  pointwise [twice, right64]
  by_cases h0 : l.val % 64 < 8
  · simp only [rightN, dif_pos h0]
  · simp only [rightN, dif_neg h0, dite_eq_ite, ite_self]
theorem left_at (l : Fin 128) : twice left64 (ix2 s l) = leftN (fun j => refSin (ix2 s j)) (l.val % 64) := by
  pointwise [twice, left64]
  simp only [leftN, dite_eq_ite]

theorem emb_tab (w : Vec Ideal S8192x128 .f32) (t : Fin grid0.N) (r : Fin 1024) (l : Fin 128) :
    w (((cfg0.win 3).blk t).view.emb (ix2 r l : S1024x128.Idx) : S8192x128.Idx) = w (ix2 (tabOf t r) l) := by
  refine congrArg w ?_
  have h := index3 t
  funext a; apply Fin.ext
  fin_cases a
  · show cc0_transform_3 (grid0.coords t) 0 * 1024 + 1 * r.val = t.val % 8 * 1024 + r.val
    rw [h]; show t.val % 8 * 1024 + _ = _; omega
  · show cc0_transform_3 (grid0.coords t) 1 * 128 + 1 * l.val = l.val
    rw [h]; show 0 * 128 + _ = _; omega

theorem in3 (t : Fin grid0.N) (r : Fin 1024) (l : Fin 128) :
    (iblk m 0 3 t : Vec Ideal S1024x128 .f32) (ix2 r l) = hereN (fun j => refCos (ix2 (posOf (rowOf t r)) j)) (l.val % 64) := by
  refine (emb_tab (V m 0 main_v28) t r l).trans ?_
  rw [V_v28, here_at, tab_eq]
theorem in4 (t : Fin grid0.N) (r : Fin 1024) (l : Fin 128) :
    (iblk m 0 4 t : Vec Ideal S1024x128 .f32) (ix2 r l) = rightN (fun j => refSin (ix2 (posOf (rowOf t r)) j)) (l.val % 64) := by
  refine (emb_tab (V m 0 main_v31) t r l).trans ?_
  rw [V_v31, right_at, tab_eq]
theorem in5 (t : Fin grid0.N) (r : Fin 1024) (l : Fin 128) :
    (iblk m 0 5 t : Vec Ideal S1024x128 .f32) (ix2 r l) = leftN (fun j => refSin (ix2 (posOf (rowOf t r)) j)) (l.val % 64) := by
  refine (emb_tab (V m 0 main_v34) t r l).trans ?_
  rw [V_v34, left_at, tab_eq]

/-- A block's columns before the turn are the reference's. -/
theorem blkH_eq (t : Fin grid0.N) (r : Fin 1024) (n : Fin 2816) :
    blkH (iblk m 0 0 t) (iblk m 0 1 t) (iblk m 0 2 t) r n = rowH (refH (A0 m) (A1 m) (A2 m)) (rowOf t r) n := by
  refine Eq.trans ?_ (refH_at (A0 m) (A1 m) (A2 m) (seqOf (rowOf t r)) (posOf (rowOf t r)) n).symm
  unfold affN
  exact congrArg₂ (· + ·) (Finset.sum_congr rfl fun k _ => congrArg₂ (· * ·) (in0 m t r k) (in1 m t k n)) (in2 m t n)

end Cert.Proof.Project

end
-- ==== Proof.Project.Result.lean ====
/-
  The first projection: the kernel's blocks joined, beside the reference's arrays.
-/
module

public import proofs.«01_k».proof.Proof.Gen.Kernel4.Frame
public import proofs.«01_k».proof.Proof.Project.Inputs
public import Idealize.ShloMosaic.Lib.Quiescent
public import proofs.«01_k».proof.Defs

@[expose] public section

set_option maxRecDepth 16384

noncomputable section

namespace Cert.Proof.Project

open Idealize.ShloMosaic Idealize.ShloMosaic.TcCoe Idealize.SL.Sem
open Cert.Kernel4Ideal Cert.Kernel4Ideal.Gen

variable (m : (ℓ : Loc nD τ sig) → Buf (Elt Ideal) ℓ)

abbrev H : FVec Ideal Cert.Reference4Ideal.S4x8192x2816 .f32 := refH (A0 m) (A1 m) (A2 m)

/-- What point `t` writes back is the reference's rows there: the queries, -/
theorem same6 (t : Fin grid0.N) (r : Fin 1024) (c : Fin 512) :
    (out0_6 (iblk m 0 0 t) (iblk m 0 1 t) (iblk m 0 2 t) (iblk m 0 3 t) (iblk m 0 4 t) (iblk m 0 5 t) : Vec Ideal S1024x512 .bf16) (ix2 r c) = refQ (H m) (ix2 (rowOf t r) c) := by
  refine (congrFun (whole512 _) (ix2 r c)).trans ((blkQ_at _ _ _ _ _ _ r c).trans (Eq.trans ?_ (refQ_at (H m) (rowOf t r) c).symm))
  rw [blkH_eq, blkH_eq, blkH_eq, in3, in4, in5]
  have e : c.val % 128 % 64 = c.val % 64 := by omega
  refine congrArg (· * _) (Eq.trans ?_ (turn_eq (rowH (H m) (rowOf t r)) _ _ ⟨c.val, by omega⟩ ⟨(c.val + 512 - 504) % 512, by omega⟩ ⟨(c.val + 512 - 8) % 512, by omega⟩ ?_ ?_))
  · simp only [e]
  · intro h; show (c.val + 512 - 504) % 512 = c.val + 8; have h : c.val % 64 < 8 := h; omega
  · intro h h'; show (c.val + 512 - 8) % 512 = c.val - 8; have h : 8 ≤ c.val % 64 := h; omega
/-- the keys, -/
theorem same7 (t : Fin grid0.N) (r : Fin 1024) (c : Fin 128) :
    (out0_7 (iblk m 0 0 t) (iblk m 0 1 t) (iblk m 0 2 t) (iblk m 0 3 t) (iblk m 0 4 t) (iblk m 0 5 t) : Vec Ideal S1024x128 .bf16) (ix2 r c) = refK (H m) (ix2 (rowOf t r) c) := by
  refine (congrFun (whole128 _) (ix2 r c)).trans ((blkK_at _ _ _ _ _ _ r c).trans (Eq.trans ?_ (refK_at (H m) (rowOf t r) c).symm))
  rw [blkH_eq, blkH_eq, blkH_eq, in3, in4, in5]
  have e : (512 + c.val) % 64 = c.val % 64 := by omega
  refine Eq.trans ?_ (turn_eq (rowH (H m) (rowOf t r)) _ _ ⟨512 + c.val, by omega⟩ ⟨512 + (c.val + 128 - 120) % 128, by omega⟩ ⟨512 + (c.val + 128 - 8) % 128, by omega⟩ ?_ ?_)
  · simp only [e]
  · intro h; show 512 + (c.val + 128 - 120) % 128 = 512 + c.val + 8; have h : (512 + c.val) % 64 < 8 := h; omega
  · intro h h'; show 512 + (c.val + 128 - 8) % 128 = 512 + c.val - 8; have h : 8 ≤ (512 + c.val) % 64 := h; omega
/-- the values, -/
theorem same8 (t : Fin grid0.N) (r : Fin 1024) (c : Fin 128) :
    (out0_8 (iblk m 0 0 t) (iblk m 0 1 t) (iblk m 0 2 t) (iblk m 0 3 t) (iblk m 0 4 t) (iblk m 0 5 t) : Vec Ideal S1024x128 .bf16) (ix2 r c) = refV (H m) (ix2 (rowOf t r) c) :=
  (congrFun (whole128 _) (ix2 r c)).trans ((blkV_at _ _ _ _ _ _ r c).trans ((blkH_eq m t r _).trans (refV_at (H m) (rowOf t r) c).symm))
/-- and the second part's four arrays. -/
theorem same9 (t : Fin grid0.N) (r : Fin 1024) (c : Fin 512) :
    (out0_9 (iblk m 0 0 t) (iblk m 0 1 t) (iblk m 0 2 t) (iblk m 0 3 t) (iblk m 0 4 t) (iblk m 0 5 t) : Vec Ideal S1024x512 .f32) (ix2 r c) = refBQ (H m) (ix2 (rowOf t r) c) :=
  (congrFun (whole512 _) (ix2 r c)).trans ((blkBQ_at _ _ _ _ _ _ r c).trans ((blkH_eq m t r _).trans (refBQ_at (H m) (rowOf t r) c).symm))
theorem same10 (t : Fin grid0.N) (r : Fin 1024) (c : Fin 512) :
    (out0_10 (iblk m 0 0 t) (iblk m 0 1 t) (iblk m 0 2 t) (iblk m 0 3 t) (iblk m 0 4 t) (iblk m 0 5 t) : Vec Ideal S1024x512 .f32) (ix2 r c) = refBF (H m) (ix2 (rowOf t r) c) :=
  (congrFun (whole512 _) (ix2 r c)).trans ((blkBF_at _ _ _ _ _ _ r c).trans ((blkH_eq m t r _).trans (refBF_at (H m) (rowOf t r) c).symm))
theorem same11 (t : Fin grid0.N) (r : Fin 1024) (c : Fin 512) :
    (out0_11 (iblk m 0 0 t) (iblk m 0 1 t) (iblk m 0 2 t) (iblk m 0 3 t) (iblk m 0 4 t) (iblk m 0 5 t) : Vec Ideal S1024x512 .f32) (ix2 r c) = refBI (H m) (ix2 (rowOf t r) c) :=
  (congrFun (whole512 _) (ix2 r c)).trans ((blkBI_at _ _ _ _ _ _ r c).trans ((blkH_eq m t r _).trans (refBI_at (H m) (rowOf t r) c).symm))
theorem same12 (t : Fin grid0.N) (r : Fin 1024) (c : Fin 512) :
    (out0_12 (iblk m 0 0 t) (iblk m 0 1 t) (iblk m 0 2 t) (iblk m 0 3 t) (iblk m 0 4 t) (iblk m 0 5 t) : Vec Ideal S1024x512 .f32) (ix2 r c) = refBG (H m) (ix2 (rowOf t r) c) :=
  (congrFun (whole512 _) (ix2 r c)).trans ((blkBG_at _ _ _ _ _ _ r c).trans ((blkH_eq m t r _).trans (refBG_at (H m) (rowOf t r) c).symm))

theorem index6 : ∀ t : Fin grid0.N, cc0_transform_6 (grid0.coords t) = ![t.val, 0] := by decide +kernel

/-- Where the blocks of the wide results lie, and of the narrow ones. -/
theorem emb512 (t : Fin cfg0.N) (r : Fin 1024) (c : Fin 512) : (((cfg0.win 6).blk t).view.emb (ix2 r c : S1024x512.Idx) : S32768x512.Idx) = ix2 (rowOf t r) c := by
  have h := index6 t
  funext a; apply Fin.ext
  fin_cases a
  · show cc0_transform_6 (grid0.coords t) 0 * 1024 + 1 * r.val = t.val * 1024 + r.val
    rw [h]; show t.val * 1024 + _ = _; omega
  · show cc0_transform_6 (grid0.coords t) 1 * 512 + 1 * c.val = c.val
    rw [h]; show 0 * 512 + _ = _; omega
theorem emb128 (t : Fin cfg0.N) (r : Fin 1024) (c : Fin 128) : (((cfg0.win 7).blk t).view.emb (ix2 r c : S1024x128.Idx) : S32768x128.Idx) = ix2 (rowOf t r) c := by
  have h := index6 t
  funext a; apply Fin.ext
  fin_cases a
  · show cc0_transform_6 (grid0.coords t) 0 * 1024 + 1 * r.val = t.val * 1024 + r.val
    rw [h]; show t.val * 1024 + _ = _; omega
  · show cc0_transform_6 (grid0.coords t) 1 * 128 + 1 * c.val = c.val
    rw [h]; show 0 * 128 + _ = _; omega

/-- Every row lies in a block. -/
theorem row_split (row : Fin 32768) : ∃ (t : Fin cfg0.N) (r : Fin 1024), rowOf t r = row :=
  ⟨⟨row.val / 1024, by show _ < 32; omega⟩, ⟨row.val % 1024, by omega⟩, Fin.ext (by show row.val / 1024 * 1024 + row.val % 1024 = row.val; omega)⟩
theorem cover512 (i : S32768x512.Idx) : ∃ (t : Fin cfg0.N) (y : S1024x512.Idx), ((cfg0.win 6).blk t).view.emb y = i := by
  obtain ⟨row, c, rfl⟩ : ∃ (row : Fin 32768) (c : Fin 512), i = ix2 row c := ⟨i 0, i 1, eq_ix2 i⟩
  obtain ⟨t, r, rfl⟩ := row_split row
  exact ⟨t, _, emb512 t r c⟩
theorem cover128 (i : S32768x128.Idx) : ∃ (t : Fin cfg0.N) (y : S1024x128.Idx), ((cfg0.win 7).blk t).view.emb y = i := by
  obtain ⟨row, c, rfl⟩ : ∃ (row : Fin 32768) (c : Fin 128), i = ix2 row c := ⟨i 0, i 1, eq_ix2 i⟩
  obtain ⟨t, r, rfl⟩ := row_split row
  exact ⟨t, _, emb128 t r c⟩

/-- A result whose blocks cover it and agree with an array everywhere is that array. -/
theorem joined (w : Fin cfg0.W) (T : Buf (Elt Ideal) ((cfg0.win w).arr.view.loc ((0 : Dev nD).tc : Thread nD τ)))
    (hf : ∀ t, (cfg0.win w).flush t = true)
    (hP : ∀ t (y : ((cfg0.win w).xblock (cfg0.grid.coords t)).Idx),
      _root_.cast (congrArg (Elt Ideal) ((cfg0.win w).blk t).view.elt_eq.symm) ((dats m 0 0).flushed w t y) = T (((cfg0.win w).blk t).view.emb y))
    (hc : ∀ i : ((cfg0.win w).arr.view.loc ((0 : Dev nD).tc : Thread nD τ)).2.ty.Idx, ∃ t, ∃ y : ((cfg0.win w).xblock (cfg0.grid.coords t)).Idx, ((cfg0.win w).blk t).view.emb y = i) : (dats m 0 0).arrAt w cfg0.N = T := by
  funext i
  obtain ⟨t, y, rfl⟩ := hc i
  exact (dats m 0 0).arrAt_forall_of_flushed w (fun i v => v = T i) (fun t _ y => hP t y) _ t _ t.2 (hf t) (View.emb_mem_set _ _)

/-- Blocks that agree with an array entry by entry agree with it at their places. -/
theorem placed512 {e : EltTy} (T : Vec Ideal S32768x512 e) (t : Fin cfg0.N) (v : Vec Ideal S1024x512 e) (h : ∀ r c, v (ix2 r c) = T (ix2 (rowOf t r) c)) (y : S1024x512.Idx) :
    v y = T (((cfg0.win 6).blk t).view.emb y) := by
  obtain ⟨r, c, rfl⟩ : ∃ (r : Fin 1024) (c : Fin 512), y = ix2 r c := ⟨y 0, y 1, eq_ix2 y⟩
  exact (h r c).trans (congrArg T (emb512 t r c)).symm
theorem placed128 {e : EltTy} (T : Vec Ideal S32768x128 e) (t : Fin cfg0.N) (v : Vec Ideal S1024x128 e) (h : ∀ r c, v (ix2 r c) = T (ix2 (rowOf t r) c)) (y : S1024x128.Idx) :
    v y = T (((cfg0.win 7).blk t).view.emb y) := by
  obtain ⟨r, c, rfl⟩ : ∃ (r : Fin 1024) (c : Fin 128), y = ix2 r c := ⟨y 0, y 1, eq_ix2 y⟩
  exact (h r c).trans (congrArg T (emb128 t r c)).symm

/-- The kernel's results are the reference's. -/
theorem result6 : (dats m 0 0).arrAt 6 cfg0.N = refQ (H m) :=
  joined m 6 (refQ (H m)) flush0_6 (fun t y => (congrFun (after0_6 m 0 t) y).trans
    (placed512 (e := .bf16) (refQ (H m)) t (out0_6 (iblk m 0 0 t) (iblk m 0 1 t) (iblk m 0 2 t) (iblk m 0 3 t) (iblk m 0 4 t) (iblk m 0 5 t)) (same6 m t) y)) cover512
theorem result7 : (dats m 0 0).arrAt 7 cfg0.N = refK (H m) :=
  joined m 7 (refK (H m)) flush0_7 (fun t y => (congrFun (after0_7 m 0 t) y).trans
    (placed128 (e := .bf16) (refK (H m)) t (out0_7 (iblk m 0 0 t) (iblk m 0 1 t) (iblk m 0 2 t) (iblk m 0 3 t) (iblk m 0 4 t) (iblk m 0 5 t)) (same7 m t) y)) cover128
theorem result8 : (dats m 0 0).arrAt 8 cfg0.N = refV (H m) :=
  joined m 8 (refV (H m)) flush0_8 (fun t y => (congrFun (after0_8 m 0 t) y).trans
    (placed128 (e := .bf16) (refV (H m)) t (out0_8 (iblk m 0 0 t) (iblk m 0 1 t) (iblk m 0 2 t) (iblk m 0 3 t) (iblk m 0 4 t) (iblk m 0 5 t)) (same8 m t) y)) cover128
theorem result9 : (dats m 0 0).arrAt 9 cfg0.N = refBQ (H m) :=
  joined m 9 (refBQ (H m)) flush0_9 (fun t y => (congrFun (after0_9 m 0 t) y).trans
    (placed512 (e := .f32) (refBQ (H m)) t (out0_9 (iblk m 0 0 t) (iblk m 0 1 t) (iblk m 0 2 t) (iblk m 0 3 t) (iblk m 0 4 t) (iblk m 0 5 t)) (same9 m t) y)) cover512
theorem result10 : (dats m 0 0).arrAt 10 cfg0.N = refBF (H m) :=
  joined m 10 (refBF (H m)) flush0_10 (fun t y => (congrFun (after0_10 m 0 t) y).trans
    (placed512 (e := .f32) (refBF (H m)) t (out0_10 (iblk m 0 0 t) (iblk m 0 1 t) (iblk m 0 2 t) (iblk m 0 3 t) (iblk m 0 4 t) (iblk m 0 5 t)) (same10 m t) y)) cover512
theorem result11 : (dats m 0 0).arrAt 11 cfg0.N = refBI (H m) :=
  joined m 11 (refBI (H m)) flush0_11 (fun t y => (congrFun (after0_11 m 0 t) y).trans
    (placed512 (e := .f32) (refBI (H m)) t (out0_11 (iblk m 0 0 t) (iblk m 0 1 t) (iblk m 0 2 t) (iblk m 0 3 t) (iblk m 0 4 t) (iblk m 0 5 t)) (same11 m t) y)) cover512
theorem result12 : (dats m 0 0).arrAt 12 cfg0.N = refBG (H m) :=
  joined m 12 (refBG (H m)) flush0_12 (fun t y => (congrFun (after0_12 m 0 t) y).trans
    (placed512 (e := .f32) (refBG (H m)) t (out0_12 (iblk m 0 0 t) (iblk m 0 1 t) (iblk m 0 2 t) (iblk m 0 3 t) (iblk m 0 4 t) (iblk m 0 5 t)) (same12 m t) y)) cover512

/-- The kernel's run leaves its blocks' rows in the results, and the arguments as they were. -/
theorem run_kernel4Ideal (ρ : Dev nD → PrngReg) : θ_run defs (onTc (τ := τ) (main (F := Ideal))) ⟨m, fun _ => 0, ρ⟩ fun r => ∀ c : Dev nD,
      r.2.mem ((c.tc : Thread nD τ).loc main_v40_0) = (dats m 0 c).arrAt 6 cfg0.N
      ∧ r.2.mem ((c.tc : Thread nD τ).loc main_v40_1) = (dats m 0 c).arrAt 7 cfg0.N
      ∧ r.2.mem ((c.tc : Thread nD τ).loc main_v40_2) = (dats m 0 c).arrAt 8 cfg0.N
      ∧ r.2.mem ((c.tc : Thread nD τ).loc main_v40_3) = (dats m 0 c).arrAt 9 cfg0.N
      ∧ r.2.mem ((c.tc : Thread nD τ).loc main_v40_4) = (dats m 0 c).arrAt 10 cfg0.N
      ∧ r.2.mem ((c.tc : Thread nD τ).loc main_v40_5) = (dats m 0 c).arrAt 11 cfg0.N
      ∧ r.2.mem ((c.tc : Thread nD τ).loc main_v40_6) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 6, (h.1 c).1 7, (h.1 c).1 8, (h.1 c).1 9, (h.1 c).1 10, (h.1 c).1 11, (h.1 c).1 12, h.2 c⟩) (θ_run_and (run_main m ρ) (unchanged m ρ))

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4Ideal : Cert.quiescent_Reference4Ideal := fun m ρ _ =>
  (θ_run Cert.Reference4Ideal.defs _ _).mono (fun r q => ⟨fun c => (q c).2.2.2.2.2.2.2, sem_eq_zero_of_no_sems (by decide) r.2⟩) (Cert.Reference4Ideal.Value.run (F := Ideal) m ρ)

/-- The reference's affine map from the kernel's arguments. -/
theorem refH_same (m' : (ℓ : Loc Cert.Reference4Ideal.nD Cert.Reference4Ideal.τ Cert.Reference4Ideal.sig) → Buf (Elt Ideal) ℓ)
    (h0 : m' (((0 : Dev nD).tc : Thread Cert.Reference4Ideal.nD Cert.Reference4Ideal.τ).loc Cert.Reference4Ideal.main_arg0) = A0 m)
    (h1 : m' (((0 : Dev nD).tc : Thread Cert.Reference4Ideal.nD Cert.Reference4Ideal.τ).loc Cert.Reference4Ideal.main_arg1) = A1 m)
    (h2 : m' (((0 : Dev nD).tc : Thread Cert.Reference4Ideal.nD Cert.Reference4Ideal.τ).loc Cert.Reference4Ideal.main_arg2) = A2 m) :
    refH (m' (((0 : Dev nD).tc : Thread Cert.Reference4Ideal.nD Cert.Reference4Ideal.τ).loc Cert.Reference4Ideal.main_arg0))
      (m' (((0 : Dev nD).tc : Thread Cert.Reference4Ideal.nD Cert.Reference4Ideal.τ).loc Cert.Reference4Ideal.main_arg1))
      (m' (((0 : Dev nD).tc : Thread Cert.Reference4Ideal.nD Cert.Reference4Ideal.τ).loc Cert.Reference4Ideal.main_arg2)) = H m := by
  unfold H
  rw [← h0, ← h1, ← h2]

theorem algebraic4 : Cert.algebraic_Kernel4Ideal_Reference4Ideal := fun m g m' g' _ hag => by
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N, run_kernel4Ideal m g,
    (θ_run Cert.Reference4Ideal.defs _ _).mono (fun r q c => ?_) (Cert.Reference4Ideal.Value.run (F := Ideal) m' g')⟩
  obtain rfl : c = (0 : Dev nD) := Subsingleton.elim _ _
  obtain ⟨h0, h1, h2⟩ := hag 0
  have e := refH_same m m' h0 h1 h2
  obtain ⟨q0, q1, q2, q3, q4, q5, q6, q7⟩ := q 0
  exact ⟨q0.trans ((resQ_eq m' 0).trans ((congrArg refQ e).trans (result6 m).symm)), q1.trans ((resK_eq m' 0).trans ((congrArg refK e).trans (result7 m).symm)),
    q2.trans ((congrArg refV e).trans (result8 m).symm), q3.trans ((congrArg refBQ e).trans (result9 m).symm), q4.trans ((congrArg refBF e).trans (result10 m).symm),
    q5.trans ((congrArg refBI e).trans (result11 m).symm), q6.trans ((congrArg refBG e).trans (result12 m).symm), q7⟩

end Cert.Proof.Project

end
-- ==== Proof.Mixer.Frame.lean ====
/-
  The run of an odd layer's projection: what its body leaves in each block, the pipeline's run, and the frame.
  The steps are those of the generated frames, with room for a body of thirty-three windows.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.Mixer

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1980000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev r0_0 : Rect S4x512 := Rect.unit (s := S4x512) ![0, 0] S4x512.size inb_S4x512_S4x512_0_0
abbrev r0_1 : Rect S4x2x512x256 := Rect.unit (s := S4x2x512x256) ![0, 0, 0, 0] S1x1x512x256.size inb_S4x2x512x256_S1x1x512x256_0_0_0_0
abbrev r0_2 : Rect S4x2x512x256 := Rect.unit (s := S4x2x512x256) ![0, 1, 0, 0] S1x1x512x256.size inb_S4x2x512x256_S1x1x512x256_0_1_0_0
abbrev r0_3 : Rect S4x2x512x256 := Rect.unit (s := S4x2x512x256) ![1, 0, 0, 0] S1x1x512x256.size inb_S4x2x512x256_S1x1x512x256_1_0_0_0
abbrev r0_4 : Rect S4x2x512x256 := Rect.unit (s := S4x2x512x256) ![1, 1, 0, 0] S1x1x512x256.size inb_S4x2x512x256_S1x1x512x256_1_1_0_0
abbrev r0_5 : Rect S4x2x512x256 := Rect.unit (s := S4x2x512x256) ![2, 0, 0, 0] S1x1x512x256.size inb_S4x2x512x256_S1x1x512x256_2_0_0_0
abbrev r0_6 : Rect S4x2x512x256 := Rect.unit (s := S4x2x512x256) ![2, 1, 0, 0] S1x1x512x256.size inb_S4x2x512x256_S1x1x512x256_2_1_0_0
abbrev r0_7 : Rect S4x2x512x256 := Rect.unit (s := S4x2x512x256) ![3, 0, 0, 0] S1x1x512x256.size inb_S4x2x512x256_S1x1x512x256_3_0_0_0
abbrev r0_8 : Rect S4x2x512x256 := Rect.unit (s := S4x2x512x256) ![3, 1, 0, 0] S1x1x512x256.size inb_S4x2x512x256_S1x1x512x256_3_1_0_0
abbrev r0_9 : Rect S512x1024 := Rect.unit (s := S512x1024) ![0, 0] S512x1024.size inb_S512x1024_S512x1024_0_0
abbrev r0_10 : Rect S1x1024 := Rect.unit (s := S1x1024) ![0, 0] S1x1024.size inb_S1x1024_S1x1024_0_0
abbrev r0_11 : Rect S1x1024x3840 := Rect.unit (s := S1x1024x3840) ![0, 0, 0] S1x1024x512.size inb_S1x1024x3840_S1x1024x512_0_0_0
abbrev r0_12 : Rect S1x3840 := Rect.unit (s := S1x3840) ![0, 0] S1x512.size inb_S1x3840_S1x512_0_0
abbrev r0_13 : Rect S512x128 := Rect.unit (s := S512x128) ![0, 0] S512x128.size inb_S512x128_S512x128_0_0
abbrev r0_14 : Rect S512x256 := Rect.unit (s := S512x256) ![0, 0] S512x256.size inb_S512x256_S512x256_0_0
abbrev r0_15 : Rect S1x1024x3840 := Rect.unit (s := S1x1024x3840) ![0, 0, 512] S1x1024x512.size inb_S1x1024x3840_S1x1024x512_0_0_512
abbrev r0_16 : Rect S1x3840 := Rect.unit (s := S1x3840) ![0, 512] S1x512.size inb_S1x3840_S1x512_0_512
abbrev r0_17 : Rect S512x512 := Rect.unit (s := S512x512) ![0, 0] S512x512.size inb_S512x512_S512x512_0_0
abbrev r0_18 : Rect S1x1024x3840 := Rect.unit (s := S1x1024x3840) ![0, 0, 1024] S1x1024x512.size inb_S1x1024x3840_S1x1024x512_0_0_1024
abbrev r0_19 : Rect S1x3840 := Rect.unit (s := S1x3840) ![0, 1024] S1x512.size inb_S1x3840_S1x512_0_1024
abbrev r0_20 : Rect S1x1024x3840 := Rect.unit (s := S1x1024x3840) ![0, 0, 1536] S1x1024x512.size inb_S1x1024x3840_S1x1024x512_0_0_1536
abbrev r0_21 : Rect S1x3840 := Rect.unit (s := S1x3840) ![0, 1536] S1x512.size inb_S1x3840_S1x512_0_1536
abbrev r0_22 : Rect S1x1024x3840 := Rect.unit (s := S1x1024x3840) ![0, 0, 2048] S1x1024x512.size inb_S1x1024x3840_S1x1024x512_0_0_2048
abbrev r0_23 : Rect S1x3840 := Rect.unit (s := S1x3840) ![0, 2048] S1x512.size inb_S1x3840_S1x512_0_2048
abbrev r0_24 : Rect S1x1024x3840 := Rect.unit (s := S1x1024x3840) ![0, 0, 2560] S1x1024x512.size inb_S1x1024x3840_S1x1024x512_0_0_2560
abbrev r0_25 : Rect S1x3840 := Rect.unit (s := S1x3840) ![0, 2560] S1x512.size inb_S1x3840_S1x512_0_2560
abbrev r0_26 : Rect S1x1024x3840 := Rect.unit (s := S1x1024x3840) ![0, 0, 3072] S1x1024x512.size inb_S1x1024x3840_S1x1024x512_0_0_3072
abbrev r0_27 : Rect S1x3840 := Rect.unit (s := S1x3840) ![0, 3072] S1x512.size inb_S1x3840_S1x512_0_3072
abbrev r0_28 : Rect S1x1024x3840 := Rect.unit (s := S1x1024x3840) ![0, 0, 3584] S1x1024x256.size inb_S1x1024x3840_S1x1024x256_0_0_3584
abbrev r0_29 : Rect S1x3840 := Rect.unit (s := S1x3840) ![0, 3584] S1x256.size inb_S1x3840_S1x256_0_3584

def k0_pay66 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x4 .f32 :=
  k0_pay4 (View.ld x2 r0_0)
def k0_pay67 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : IVec S512x256 32 :=
  k0_pay12 (View.ld x1 r0_4)
def k0_pay68 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x256 .f32 :=
  k0_pay26 (k0_pay66 x0 x1 x2 x3 x4 x5 x6 x7 x8 x9 x10 x11 x12) (k0_pay14 (k0_pay66 x0 x1 x2 x3 x4 x5 x6 x7 x8 x9 x10 x11 x12) (k0_pay7 (View.ld x2 r0_0) (View.ld x1 r0_1)) (k0_pay13 (View.ld x1 r0_3))) (k0_pay23 (k0_pay66 x0 x1 x2 x3 x4 x5 x6 x7 x8 x9 x10 x11 x12) (View.ld x1 r0_5)) (View.ld x1 r0_7)
def k0_pay69 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x256 .f32 :=
  k0_pay27 (k0_pay66 x0 x1 x2 x3 x4 x5 x6 x7 x8 x9 x10 x11 x12) (k0_pay15 (k0_pay66 x0 x1 x2 x3 x4 x5 x6 x7 x8 x9 x10 x11 x12) (k0_pay8 (View.ld x2 r0_0) (View.ld x1 r0_1)) (k0_pay11 (View.ld x1 r0_3))) (k0_pay20 (View.ld x1 r0_5)) (View.ld x1 r0_7)
def k0_pay70 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x256 .f32 :=
  k0_pay28 (k0_pay66 x0 x1 x2 x3 x4 x5 x6 x7 x8 x9 x10 x11 x12) (k0_pay16 (k0_pay66 x0 x1 x2 x3 x4 x5 x6 x7 x8 x9 x10 x11 x12) (k0_pay9 (View.ld x2 r0_0) (View.ld x1 r0_2)) (k0_pay67 x0 x1 x2 x3 x4 x5 x6 x7 x8 x9 x10 x11 x12)) (k0_pay21 (View.ld x1 r0_6)) (View.ld x1 r0_8)
def k0_pay71 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x256 .f32 :=
  k0_pay29 (k0_pay66 x0 x1 x2 x3 x4 x5 x6 x7 x8 x9 x10 x11 x12) (k0_pay17 (k0_pay66 x0 x1 x2 x3 x4 x5 x6 x7 x8 x9 x10 x11 x12) (k0_pay10 (View.ld x2 r0_0) (View.ld x1 r0_2)) (k0_pay67 x0 x1 x2 x3 x4 x5 x6 x7 x8 x9 x10 x11 x12)) (k0_pay22 (View.ld x1 r0_6)) (View.ld x1 r0_8)
def k0_pay72 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x1024 .bf16 :=
  k0_pay31 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x0 r0_9) (View.ld x3 r0_10) (View.ld x4 r0_10)
def k0_pay73 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x512 .f32 :=
  k0_pay43 (k0_pay72 x0 x1 x2 x3 x4 x5 x6 x7 x8 x9 x10 x11 x12) (View.ld x5 r0_22) (View.ld x6 r0_23)
def k0_pay74 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x512 .f32 :=
  k0_pay48 (k0_pay72 x0 x1 x2 x3 x4 x5 x6 x7 x8 x9 x10 x11 x12) (View.ld x5 r0_24) (View.ld x6 r0_25)
def k0_pay75 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x512 .f32 :=
  k0_pay57 (k0_pay72 x0 x1 x2 x3 x4 x5 x6 x7 x8 x9 x10 x11 x12) (View.ld x5 r0_26) (View.ld x6 r0_27)
def k0_pay76 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : FVec F S512x256 .f32 :=
  k0_pay65 (k0_pay72 x0 x1 x2 x3 x4 x5 x6 x7 x8 x9 x10 x11 x12) (View.ld x5 r0_28)

def out0_13 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x1024 .f32 :=
  View.canon [⟨r0_9, k0_pay30 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x0 r0_9) (View.ld x3 r0_10) (View.ld x4 r0_10)⟩]

theorem cover0_13 (p0 : Vec F S512x1024 .f32) (y : S512x1024.Idx) :
    ∃ pc ∈ ([⟨r0_9, p0⟩] : List (View.Piece (Elt F) S512x1024 .f32)), y ∈ pc.1.set :=
  View.cover_of_tiled [⟨r0_9, p0⟩] S512x1024.size (by rfl) y

def out0_14 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x256 .bf16 :=
  View.canon [⟨r0_14, k0_pay34 (k0_pay33 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x0 r0_9) (View.ld x3 r0_10) (View.ld x4 r0_10) (View.ld x5 r0_11) (View.ld x6 r0_12)) (View.ld x10 r0_13) (View.ld x11 r0_13) (View.ld x12 r0_13)⟩]

theorem cover0_14 (p0 : Vec F S512x256 .bf16) (y : S512x256.Idx) :
    ∃ pc ∈ ([⟨r0_14, p0⟩] : List (View.Piece (Elt F) S512x256 .bf16)), y ∈ pc.1.set :=
  View.cover_of_tiled [⟨r0_14, p0⟩] S512x256.size (by rfl) y

def out0_15 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x256 .bf16 :=
  View.canon [⟨r0_14, k0_pay35 (k0_pay32 (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x0 r0_9) (View.ld x3 r0_10) (View.ld x4 r0_10) (View.ld x5 r0_11) (View.ld x6 r0_12)) (View.ld x10 r0_13) (View.ld x11 r0_13) (View.ld x12 r0_13)⟩]

theorem cover0_15 (p0 : Vec F S512x256 .bf16) (y : S512x256.Idx) :
    ∃ pc ∈ ([⟨r0_14, p0⟩] : List (View.Piece (Elt F) S512x256 .bf16)), y ∈ pc.1.set :=
  View.cover_of_tiled [⟨r0_14, p0⟩] S512x256.size (by rfl) y

def out0_16 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x512 .bf16 :=
  View.canon [⟨r0_17, k0_pay36 (k0_pay72 x0 x1 x2 x3 x4 x5 x6 x7 x8 x9 x10 x11 x12) (View.ld x5 r0_15) (View.ld x6 r0_16)⟩]

theorem cover0_16 (p0 : Vec F S512x512 .bf16) (y : S512x512.Idx) :
    ∃ pc ∈ ([⟨r0_17, p0⟩] : List (View.Piece (Elt F) S512x512 .bf16)), y ∈ pc.1.set :=
  View.cover_of_tiled [⟨r0_17, p0⟩] S512x512.size (by rfl) y

def out0_17 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x512 .bf16 :=
  View.canon [⟨r0_17, k0_pay37 (k0_pay72 x0 x1 x2 x3 x4 x5 x6 x7 x8 x9 x10 x11 x12) (View.ld x5 r0_18) (View.ld x6 r0_19)⟩]

theorem cover0_17 (p0 : Vec F S512x512 .bf16) (y : S512x512.Idx) :
    ∃ pc ∈ ([⟨r0_17, p0⟩] : List (View.Piece (Elt F) S512x512 .bf16)), y ∈ pc.1.set :=
  View.cover_of_tiled [⟨r0_17, p0⟩] S512x512.size (by rfl) y

def out0_18 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x512 .bf16 :=
  View.canon [⟨r0_17, k0_pay42 (k0_pay38 (k0_pay72 x0 x1 x2 x3 x4 x5 x6 x7 x8 x9 x10 x11 x12) (View.ld x5 r0_20) (View.ld x6 r0_21)) (k0_pay39 (View.ld x7 r0_13)) (k0_pay40 (View.ld x8 r0_13)) (k0_pay41 (View.ld x9 r0_13))⟩]

theorem cover0_18 (p0 : Vec F S512x512 .bf16) (y : S512x512.Idx) :
    ∃ pc ∈ ([⟨r0_17, p0⟩] : List (View.Piece (Elt F) S512x512 .bf16)), y ∈ pc.1.set :=
  View.cover_of_tiled [⟨r0_17, p0⟩] S512x512.size (by rfl) y

def out0_19 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .bf16 :=
  View.canon [⟨r0_13, k0_pay44 (k0_pay72 x0 x1 x2 x3 x4 x5 x6 x7 x8 x9 x10 x11 x12) (View.ld x5 r0_22) (View.ld x6 r0_23) (View.ld x7 r0_13) (View.ld x8 r0_13) (View.ld x9 r0_13)⟩]

theorem cover0_19 (p0 : Vec F S512x128 .bf16) (y : S512x128.Idx) :
    ∃ pc ∈ ([⟨r0_13, p0⟩] : List (View.Piece (Elt F) S512x128 .bf16)), y ∈ pc.1.set :=
  View.cover_of_tiled [⟨r0_13, p0⟩] S512x128.size (by rfl) y

def out0_20 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .bf16 :=
  View.canon [⟨r0_13, k0_pay45 (k0_pay72 x0 x1 x2 x3 x4 x5 x6 x7 x8 x9 x10 x11 x12) (View.ld x5 r0_22) (View.ld x6 r0_23)⟩]

theorem cover0_20 (p0 : Vec F S512x128 .bf16) (y : S512x128.Idx) :
    ∃ pc ∈ ([⟨r0_13, p0⟩] : List (View.Piece (Elt F) S512x128 .bf16)), y ∈ pc.1.set :=
  View.cover_of_tiled [⟨r0_13, p0⟩] S512x128.size (by rfl) y

def out0_21 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay46 (k0_pay73 x0 x1 x2 x3 x4 x5 x6 x7 x8 x9 x10 x11 x12) (View.ld x7 r0_13) (View.ld x8 r0_13) (View.ld x9 r0_13)⟩]

theorem cover0_21 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_22 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay47 (k0_pay73 x0 x1 x2 x3 x4 x5 x6 x7 x8 x9 x10 x11 x12) (View.ld x7 r0_13) (View.ld x8 r0_13) (View.ld x9 r0_13)⟩]

theorem cover0_22 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_23 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay49 (k0_pay72 x0 x1 x2 x3 x4 x5 x6 x7 x8 x9 x10 x11 x12) (View.ld x5 r0_24) (View.ld x6 r0_25) (View.ld x7 r0_13) (View.ld x8 r0_13) (View.ld x9 r0_13)⟩]

theorem cover0_23 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_24 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay54 (k0_pay50 (k0_pay72 x0 x1 x2 x3 x4 x5 x6 x7 x8 x9 x10 x11 x12) (View.ld x5 r0_24) (View.ld x6 r0_25)) (k0_pay51 (View.ld x9 r0_13)) (k0_pay52 (k0_pay72 x0 x1 x2 x3 x4 x5 x6 x7 x8 x9 x10 x11 x12) (View.ld x5 r0_24) (View.ld x6 r0_25) (View.ld x7 r0_13)) (k0_pay53 (k0_pay72 x0 x1 x2 x3 x4 x5 x6 x7 x8 x9 x10 x11 x12) (View.ld x5 r0_24) (View.ld x6 r0_25) (View.ld x8 r0_13))⟩]

theorem cover0_24 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_25 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay55 (k0_pay74 x0 x1 x2 x3 x4 x5 x6 x7 x8 x9 x10 x11 x12) (View.ld x7 r0_13) (View.ld x8 r0_13) (View.ld x9 r0_13)⟩]

theorem cover0_25 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_26 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay56 (k0_pay74 x0 x1 x2 x3 x4 x5 x6 x7 x8 x9 x10 x11 x12)⟩]

theorem cover0_26 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_27 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay59 (k0_pay58 (k0_pay72 x0 x1 x2 x3 x4 x5 x6 x7 x8 x9 x10 x11 x12) (View.ld x5 r0_26) (View.ld x6 r0_27)) (View.ld x7 r0_13) (View.ld x8 r0_13) (View.ld x9 r0_13)⟩]

theorem cover0_27 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_28 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay60 (k0_pay75 x0 x1 x2 x3 x4 x5 x6 x7 x8 x9 x10 x11 x12) (View.ld x7 r0_13) (View.ld x8 r0_13) (View.ld x9 r0_13)⟩]

theorem cover0_28 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_29 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay63 (k0_pay61 (k0_pay75 x0 x1 x2 x3 x4 x5 x6 x7 x8 x9 x10 x11 x12)) (k0_pay62 (View.ld x7 r0_13)) (View.ld x8 r0_13) (View.ld x9 r0_13)⟩]

theorem cover0_29 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_30 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay64 (k0_pay75 x0 x1 x2 x3 x4 x5 x6 x7 x8 x9 x10 x11 x12) (View.ld x7 r0_13) (View.ld x8 r0_13) (View.ld x9 r0_13)⟩]

theorem cover0_30 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_31 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay2 (k0_pay76 x0 x1 x2 x3 x4 x5 x6 x7 x8 x9 x10 x11 x12) (View.ld x6 r0_29) (View.ld x7 r0_13) (View.ld x8 r0_13) (View.ld x9 r0_13)⟩]

theorem cover0_31 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_32 (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) : Vec F S512x128 .f32 :=
  View.canon [⟨r0_13, k0_pay3 (k0_pay76 x0 x1 x2 x3 x4 x5 x6 x7 x8 x9 x10 x11 x12) (View.ld x6 r0_29)⟩]

theorem cover0_32 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

set_option maxHeartbeats 1086050 in
theorem sound_kernel (c : Dev nD) (E : Set ℕ) (i : grid0.Coords) (arg1 : Memref sig .tc .vmem S512x1024 .f32) (harg1 : arg1.IsWhole) (arg2 : Memref sig .tc .vmem S4x2x512x256 .i32) (harg2 : arg2.IsWhole) (arg3 : Memref sig .tc .vmem S4x512 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x3840 .bf16) (harg6 : arg6.IsWhole) (arg7 : Memref sig .tc .vmem S1x3840 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x1024 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x128 .bf16) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (arg30 : Memref sig .tc .vmem S512x128 .f32) (harg30 : arg30.IsWhole) (arg31 : Memref sig .tc .vmem S512x128 .f32) (harg31 : arg31.IsWhole) (arg32 : Memref sig .tc .vmem S512x128 .f32) (harg32 : arg32.IsWhole) (arg33 : Memref sig .tc .vmem S512x128 .f32) (harg33 : arg33.IsWhole)
    (x0 : Vec F S512x1024 .f32) (x1 : Vec F S4x2x512x256 .i32) (x2 : Vec F S4x512 .f32) (x3 : Vec F S1x1024 .f32) (x4 : Vec F S1x1024 .f32) (x5 : Vec F S1x1024x3840 .bf16) (x6 : Vec F S1x3840 .f32) (x7 : Vec F S512x128 .f32) (x8 : Vec F S512x128 .f32) (x9 : Vec F S512x128 .f32) (x10 : Vec F S512x128 .f32) (x11 : Vec F S512x128 .f32) (x12 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12) ∗ owns (c : Thread nD τ) arg25 fullShare (out0_24 x0 x1 x2 x3 x4 x5 x6 x7 x8 x9 x10 x11 x12) ∗ owns (c : Thread nD τ) arg26 fullShare (out0_25 x0 x1 x2 x3 x4 x5 x6 x7 x8 x9 x10 x11 x12) ∗ owns (c : Thread nD τ) arg27 fullShare (out0_26 x0 x1 x2 x3 x4 x5 x6 x7 x8 x9 x10 x11 x12) ∗ owns (c : Thread nD τ) arg28 fullShare (out0_27 x0 x1 x2 x3 x4 x5 x6 x7 x8 x9 x10 x11 x12) ∗ owns (c : Thread nD τ) arg29 fullShare (out0_28 x0 x1 x2 x3 x4 x5 x6 x7 x8 x9 x10 x11 x12) ∗ owns (c : Thread nD τ) arg30 fullShare (out0_29 x0 x1 x2 x3 x4 x5 x6 x7 x8 x9 x10 x11 x12) ∗ owns (c : Thread nD τ) arg31 fullShare (out0_30 x0 x1 x2 x3 x4 x5 x6 x7 x8 x9 x10 x11 x12) ∗ owns (c : Thread nD τ) arg32 fullShare (out0_31 x0 x1 x2 x3 x4 x5 x6 x7 x8 x9 x10 x11 x12) ∗ owns (c : Thread nD τ) arg33 fullShare (out0_32 x0 x1 x2 x3 x4 x5 x6 x7 x8 x9 x10 x11 x12)) -∗ K ⟨⟩))
      ⊢ wp frame (wpE (defs₀ (F := F)) Variants.none c none) E (cc0_combine_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_combine_inproj_eq_skeleton]; unfold cc0_combine_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  iexists _; isplitr
  swap; · iexact H32
  ipureintro
  refine (View.read_writes_eq_canon _ _ _ (cover0_32 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 33, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 4000000 in
/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.Mixer

end
-- ==== Proof.Mixer.Turn.lean ====
/-
  The numbers of an odd layer's projection: an affine map, and the turn of a head's first columns.
-/
module

public import Idealize.ShloMosaic.Lib.Pointwise

@[expose] public section

noncomputable section

namespace Cert.Proof.Mixer

open Idealize.ShloMosaic

/-- Column `n` of a row under the weight `w` and the bias `b`. -/
def affN (x : Fin 1024 → EReal) (w : Fin 1024 → Fin 3840 → EReal) (b : Fin 3840 → EReal) (n : Fin 3840) : EReal := (∑ k, x k * w k n) + b n

/-- A head of 64 columns after its turn: column `j` and column `k + j` turn together by the angle with cosine `c j` and sine `s j`. -/
def headN {k : ℕ} (hk : k ≤ 32) (x : Fin 64 → EReal) (c s : Fin k → EReal) (d : Fin 64) : EReal :=
  if h0 : d.val < k then x d * c ⟨d.val, h0⟩ - x ⟨k + d.val, by omega⟩ * s ⟨d.val, h0⟩
  else if h1 : d.val - k < k then x d * c ⟨d.val - k, h1⟩ + x ⟨d.val - k, by omega⟩ * s ⟨d.val - k, h1⟩
  else x d

/-- Column `p` of a row of sixty heads after their turns. -/
def turnN {k : ℕ} (hk : k ≤ 32) (h : Fin 3840 → EReal) (c s : Fin k → EReal) (p : Fin 3840) : EReal :=
  headN hk (fun d => h ⟨p.val / 64 * 64 + d.val, by omega⟩) c s ⟨p.val % 64, by omega⟩

/-- The factors of a column itself, of the column `k` to its right and of the column `k` to its left. -/
def hereN {k : ℕ} (c : Fin k → EReal) (d : ℕ) : EReal := if h0 : d < k then c ⟨d, h0⟩ else if h1 : d - k < k then c ⟨d - k, h1⟩ else 1
def rightN {k : ℕ} (s : Fin k → EReal) (d : ℕ) : EReal := if h0 : d < k then -s ⟨d, h0⟩ else 0
def leftN {k : ℕ} (s : Fin k → EReal) (d : ℕ) : EReal := if d < k then 0 else if h1 : d - k < k then s ⟨d - k, h1⟩ else 0

/-- The turn as a sum of three products. A neighbour that doesn't count has the factor zero, so it may be any column. -/
theorem turn_eq {k : ℕ} (hk : k ≤ 32) (h : Fin 3840 → EReal) (c s : Fin k → EReal) (p q r : Fin 3840) (hq : p.val % 64 < k → q.val = p.val + k)
    (hr : k ≤ p.val % 64 → p.val % 64 < k + k → r.val = p.val - k) :
    h p * hereN c (p.val % 64) + h q * rightN s (p.val % 64) + h r * leftN s (p.val % 64) = turnN hk h c s p := by
  have ep : (⟨p.val / 64 * 64 + p.val % 64, by omega⟩ : Fin 3840) = p := Fin.ext (by show p.val / 64 * 64 + p.val % 64 = p.val; omega)
  unfold hereN rightN leftN turnN headN
  by_cases h0 : p.val % 64 < k
  · have eq : (⟨p.val / 64 * 64 + (k + p.val % 64), by omega⟩ : Fin 3840) = q := Fin.ext (by show p.val / 64 * 64 + (k + p.val % 64) = q.val; rw [hq h0]; omega)
    simp only [dif_pos h0, if_pos h0, mul_zero, add_zero, mul_neg, sub_eq_add_neg, ep, eq]
  by_cases h1 : p.val % 64 - k < k
  · have er : (⟨p.val / 64 * 64 + (p.val % 64 - k), by omega⟩ : Fin 3840) = r :=
      Fin.ext (by show p.val / 64 * 64 + (p.val % 64 - k) = r.val; rw [hr (by omega) (by omega)]; omega)
    simp only [dif_neg h0, if_neg h0, dif_pos h1, mul_zero, add_zero, ep, er]
  · simp only [dif_neg h0, if_neg h0, dif_neg h1, mul_zero, mul_one, add_zero, ep]

end Cert.Proof.Mixer

end
-- ==== Proof.Mixer.Values.lean ====
/-
  A block of an odd layer's projection, number by number.
-/
module

public import proofs.«01_k».proof.Proof.Mixer.Frame
public import proofs.«01_k».proof.Proof.Mixer.Turn

@[expose] public section

set_option maxRecDepth 16384

noncomputable section

namespace Cert.Proof.Mixer

open Idealize.ShloMosaic
open Cert.Kernel5Ideal Cert.Kernel5Ideal.Gen

variable (z : FVec Ideal S512x1024 .bf16) (x5 : Vec Ideal S1x1024x3840 .bf16) (x6 : Vec Ideal S1x3840 .f32) (t0 t1 t2 : Vec Ideal S512x128 .f32) (r : Fin 512)

/-- The columns of row `r` of the block before the turns. -/
abbrev blkH (n : Fin 3840) : EReal := affN (fun k => z (ix2 r k)) (fun k n => x5 (ix3 0 k n)) (fun n => x6 (ix2 0 n)) n

/-- Column `c` of the `w` columns from `o` on, with what the tables add of the columns `k` away on either side. -/
def tabN (k w o : ℕ) (hw : o + w ≤ 3840) (h : Fin 3840 → EReal) (t0 t1 t2 : Fin 128 → EReal) (c : Fin w) : EReal :=
  h ⟨o + c.val, by omega⟩ * t0 ⟨c.val % 128, by omega⟩
    + h ⟨o + (c.val + w - (w - k)) % w, by have := Nat.mod_lt (c.val + w - (w - k)) (Nat.zero_lt_of_lt c.isLt); omega⟩ * t1 ⟨c.val % 128, by omega⟩
    + h ⟨o + (c.val + w - k) % w, by have := Nat.mod_lt (c.val + w - k) (Nat.zero_lt_of_lt c.isLt); omega⟩ * t2 ⟨c.val % 128, by omega⟩

/-- That sum for row `r` of a block. -/
abbrev blkT (k w o : ℕ) (hw : o + w ≤ 3840) (c : Fin w) : EReal :=
  tabN k w o hw (fun n => blkH z x5 x6 r n) (fun d => t0 (ix2 r d)) (fun d => t1 (ix2 r d)) (fun d => t2 (ix2 r d)) c

/-- Two equal tables side by side, -/
theorem tile2_at (x : Vec Ideal S512x128 .f32) (c : Fin 256) : (if h : c.val < 128 then x (ix2 r ⟨c.val, h⟩) else x (ix2 r ⟨c.val - 128, by omega⟩)) = x (ix2 r ⟨c.val % 128, by omega⟩) := by
  by_cases h0 : c.val < 128
  · simp only [dif_pos h0, show c.val % 128 = c.val by omega]
  · simp only [dif_neg h0, show c.val % 128 = c.val - 128 by omega]
/-- and four. -/
theorem tile4_at (x : Vec Ideal S512x128 .f32) (c : Fin 512) : (if h : c.val < 128 then x (ix2 r ⟨c.val, h⟩)
    else if h : c.val - 128 < 128 then x (ix2 r ⟨c.val - 128, h⟩)
      else if h : c.val - 128 - 128 < 128 then x (ix2 r ⟨c.val - 128 - 128, h⟩)
        else x (ix2 r ⟨c.val - 128 - 128 - 128, by omega⟩)) = x (ix2 r ⟨c.val % 128, by omega⟩) := by
  by_cases h0 : c.val < 128
  · simp only [dif_pos h0, show c.val % 128 = c.val by omega]
  by_cases h1 : c.val - 128 < 128
  · simp only [dif_neg h0, dif_pos h1, show c.val % 128 = c.val - 128 by omega]
  by_cases h2 : c.val - 128 - 128 < 128
  · simp only [dif_neg h0, dif_neg h1, dif_pos h2, show c.val % 128 = c.val - 128 - 128 by omega]
  · simp only [dif_neg h0, dif_neg h1, dif_neg h2, show c.val % 128 = c.val - 128 - 128 - 128 by omega]

theorem blk16_at (c : Fin 512) : k0_pay36 z (View.ld x5 r0_15) (View.ld x6 r0_16) (ix2 r c)
    = blkH z x5 x6 r ⟨512 + c.val, by omega⟩ := by
  pointwise [k0_pay36]
  rfl
theorem blk17_at (c : Fin 512) : k0_pay37 z (View.ld x5 r0_18) (View.ld x6 r0_19) (ix2 r c)
    = blkH z x5 x6 r ⟨1024 + c.val, by omega⟩ := by
  pointwise [k0_pay37]
  rfl
theorem blk19_at (c : Fin 128) : k0_pay44 z (View.ld x5 r0_22) (View.ld x6 r0_23) (View.ld t0 r0_13) (View.ld t1 r0_13) (View.ld t2 r0_13) (ix2 r c)
    = blkT z x5 x6 t0 t1 t2 r 8 128 2048 (by omega) c := by
  pointwise [k0_pay44, k0_pay43]
  unfold blkT tabN
  simp only [Nat.mod_eq_of_lt c.isLt, ← Nat.add_assoc, Nat.zero_add]
  rfl
theorem blk20_at (c : Fin 128) : k0_pay45 z (View.ld x5 r0_22) (View.ld x6 r0_23) (ix2 r c)
    = blkH z x5 x6 r ⟨2176 + c.val, by omega⟩ := by
  pointwise [k0_pay45, k0_pay43]
  simp only [← Nat.add_assoc, Nat.zero_add]
  rfl
theorem blk21_at (c : Fin 128) : k0_pay46 (k0_pay43 z (View.ld x5 r0_22) (View.ld x6 r0_23)) (View.ld t0 r0_13) (View.ld t1 r0_13) (View.ld t2 r0_13) (ix2 r c)
    = blkT z x5 x6 t0 t1 t2 r 8 128 2304 (by omega) c * Ideal.ofBits .f32 0x3E38AA3B#32 := by
  pointwise [k0_pay46, k0_pay43]
  unfold blkT tabN
  simp only [Nat.mod_eq_of_lt c.isLt, ← Nat.add_assoc, Nat.zero_add]
  rfl
theorem blk22_at (c : Fin 128) : k0_pay47 (k0_pay43 z (View.ld x5 r0_22) (View.ld x6 r0_23)) (View.ld t0 r0_13) (View.ld t1 r0_13) (View.ld t2 r0_13) (ix2 r c)
    = blkT z x5 x6 t0 t1 t2 r 8 128 2432 (by omega) c * Ideal.ofBits .f32 0x3E38AA3B#32 := by
  pointwise [k0_pay47, k0_pay43]
  unfold blkT tabN
  simp only [Nat.mod_eq_of_lt c.isLt, ← Nat.add_assoc, Nat.zero_add]
  rfl
theorem blk23_at (c : Fin 128) : k0_pay49 z (View.ld x5 r0_24) (View.ld x6 r0_25) (View.ld t0 r0_13) (View.ld t1 r0_13) (View.ld t2 r0_13) (ix2 r c)
    = blkT z x5 x6 t0 t1 t2 r 8 128 2560 (by omega) c * Ideal.ofBits .f32 0x3E38AA3B#32 := by
  pointwise [k0_pay49, k0_pay48]
  unfold blkT tabN
  simp only [Nat.mod_eq_of_lt c.isLt, ← Nat.add_assoc, Nat.zero_add]
  rfl
theorem blk24_at (c : Fin 128) : k0_pay54 (k0_pay50 z (View.ld x5 r0_24) (View.ld x6 r0_25)) (k0_pay51 (View.ld t2 r0_13)) (k0_pay52 z (View.ld x5 r0_24) (View.ld x6 r0_25) (View.ld t0 r0_13)) (k0_pay53 z (View.ld x5 r0_24) (View.ld x6 r0_25) (View.ld t1 r0_13)) (ix2 r c)
    = blkT z x5 x6 t0 t1 t2 r 8 128 2688 (by omega) c * Ideal.ofBits .f32 0x3E38AA3B#32 := by
  pointwise [k0_pay54, k0_pay53, k0_pay52, k0_pay51, k0_pay50, k0_pay48]
  unfold blkT tabN
  simp only [Nat.mod_eq_of_lt c.isLt, ← Nat.add_assoc, Nat.zero_add]
  rfl
theorem blk25_at (c : Fin 128) : k0_pay55 (k0_pay48 z (View.ld x5 r0_24) (View.ld x6 r0_25)) (View.ld t0 r0_13) (View.ld t1 r0_13) (View.ld t2 r0_13) (ix2 r c)
    = blkT z x5 x6 t0 t1 t2 r 8 128 2816 (by omega) c := by
  pointwise [k0_pay55, k0_pay48]
  unfold blkT tabN
  simp only [Nat.mod_eq_of_lt c.isLt, ← Nat.add_assoc, Nat.zero_add]
  rfl
theorem blk26_at (c : Fin 128) : k0_pay56 (k0_pay48 z (View.ld x5 r0_24) (View.ld x6 r0_25)) (ix2 r c)
    = blkH z x5 x6 r ⟨2944 + c.val, by omega⟩ := by
  pointwise [k0_pay56, k0_pay48]
  simp only [← Nat.add_assoc, Nat.zero_add]
  rfl
theorem blk27_at (c : Fin 128) : k0_pay59 (k0_pay58 z (View.ld x5 r0_26) (View.ld x6 r0_27)) (View.ld t0 r0_13) (View.ld t1 r0_13) (View.ld t2 r0_13) (ix2 r c)
    = blkT z x5 x6 t0 t1 t2 r 8 128 3072 (by omega) c * Ideal.ofBits .f32 0x3E38AA3B#32 := by
  pointwise [k0_pay59, k0_pay58, k0_pay57]
  unfold blkT tabN
  simp only [Nat.mod_eq_of_lt c.isLt, ← Nat.add_assoc, Nat.zero_add]
  rfl
theorem blk28_at (c : Fin 128) : k0_pay60 (k0_pay57 z (View.ld x5 r0_26) (View.ld x6 r0_27)) (View.ld t0 r0_13) (View.ld t1 r0_13) (View.ld t2 r0_13) (ix2 r c)
    = blkT z x5 x6 t0 t1 t2 r 8 128 3200 (by omega) c * Ideal.ofBits .f32 0x3E38AA3B#32 := by
  pointwise [k0_pay60, k0_pay57]
  unfold blkT tabN
  simp only [Nat.mod_eq_of_lt c.isLt, ← Nat.add_assoc, Nat.zero_add]
  rfl
theorem blk29_at (c : Fin 128) : k0_pay63 (k0_pay61 (k0_pay57 z (View.ld x5 r0_26) (View.ld x6 r0_27))) (k0_pay62 (View.ld t0 r0_13)) (View.ld t1 r0_13) (View.ld t2 r0_13) (ix2 r c)
    = blkT z x5 x6 t0 t1 t2 r 8 128 3328 (by omega) c * Ideal.ofBits .f32 0x3E38AA3B#32 := by
  pointwise [k0_pay63, k0_pay62, k0_pay61, k0_pay57]
  unfold blkT tabN
  simp only [Nat.mod_eq_of_lt c.isLt, ← Nat.add_assoc, Nat.zero_add]
  rfl
theorem blk30_at (c : Fin 128) : k0_pay64 (k0_pay57 z (View.ld x5 r0_26) (View.ld x6 r0_27)) (View.ld t0 r0_13) (View.ld t1 r0_13) (View.ld t2 r0_13) (ix2 r c)
    = blkT z x5 x6 t0 t1 t2 r 8 128 3456 (by omega) c * Ideal.ofBits .f32 0x3E38AA3B#32 := by
  pointwise [k0_pay64, k0_pay57]
  unfold blkT tabN
  simp only [Nat.mod_eq_of_lt c.isLt, ← Nat.add_assoc, Nat.zero_add]
  rfl
theorem blk31_at (c : Fin 128) : k0_pay2 (k0_pay65 z (View.ld x5 r0_28)) (View.ld x6 r0_29) (View.ld t0 r0_13) (View.ld t1 r0_13) (View.ld t2 r0_13) (ix2 r c)
    = blkT z x5 x6 t0 t1 t2 r 8 128 3584 (by omega) c := by
  pointwise [k0_pay2, k0_pay1, k0_pay65]
  unfold blkT tabN
  simp only [Nat.mod_eq_of_lt c.isLt, ← Nat.add_assoc, Nat.zero_add]
  rfl
theorem blk32_at (c : Fin 128) : k0_pay3 (k0_pay65 z (View.ld x5 r0_28)) (View.ld x6 r0_29) (ix2 r c)
    = blkH z x5 x6 r ⟨3712 + c.val, by omega⟩ := by
  pointwise [k0_pay3, k0_pay1, k0_pay65]
  simp only [← Nat.add_assoc, Nat.zero_add]
  rfl
theorem blk18_at (c : Fin 512) : k0_pay42 (k0_pay38 z (View.ld x5 r0_20) (View.ld x6 r0_21)) (k0_pay39 (View.ld t0 r0_13)) (k0_pay40 (View.ld t1 r0_13)) (k0_pay41 (View.ld t2 r0_13)) (ix2 r c)
    = blkT z x5 x6 t0 t1 t2 r 8 512 1536 (by omega) c * Ideal.ofBits .f32 0x3E38AA3B#32 := by
  pointwise [k0_pay42, k0_pay41, k0_pay40, k0_pay39, k0_pay38]
  rw [tile4_at, tile4_at, tile4_at]
  rfl

/-- The first 512 columns, which the retention's two results share. -/
def headR : FVec Ideal S512x512 .f32 :=
  addf (matmul (φ₂ := .bf16) dot_S512x1024_S1024x512_S512x512_1_0_0_1_n_n none z (shapeCast (α := EReal) S1024x512 (View.ld x5 r0_11 : Vec Ideal S1x1024x512 .bf16) shapeCasts_S1x1024x512_S1024x512) (constant S512x512 .f32 0x00000000#32))
    (broadcastTo S512x512 (shapeCast (α := EReal) S1x512 (View.ld x6 r0_12 : Vec Ideal S1x512 .f32) shapeCasts_S1x512_S1x512) broadcasts_S1x512_S512x512)
theorem blk14_at (c : Fin 256) : k0_pay34 (extractStridedSlice S512x256 ![0, 0] (headR z x5 x6) slices_S512x512_o0_0_S512x256) (View.ld t0 r0_13) (View.ld t1 r0_13) (View.ld t2 r0_13) (ix2 r c)
    = blkT z x5 x6 t0 t1 t2 r 32 256 0 (by omega) c := by
  pointwise [k0_pay34, headR]
  rw [tile2_at, tile2_at, tile2_at]
  unfold blkT tabN
  simp only [Nat.zero_add]
  rfl
theorem blk15_at (c : Fin 256) : k0_pay35 (headR z x5 x6) (View.ld t0 r0_13) (View.ld t1 r0_13) (View.ld t2 r0_13) (ix2 r c) = blkT z x5 x6 t0 t1 t2 r 32 256 256 (by omega) c := by
  pointwise [k0_pay35, headR]
  rw [tile2_at, tile2_at, tile2_at]
  unfold blkT tabN
  simp only [← Nat.add_assoc, Nat.zero_add]
  rfl

/-- One store over the whole block leaves what it stored. -/
theorem whole {s : Shape} {e : EltTy} (o : Fin s.rank → ℕ) (ho : ∀ a, o a = 0) (inb : ∀ a, o a + s.size a ≤ s.size a) (v : Vec Ideal s e) :
    (View.canon (Val := Elt Ideal) (e := e) [⟨Rect.unit (s := s) o s.size inb, v⟩] : Vec Ideal s e) = v := by
  refine funext fun i => View.canon_apply_of_pieces (Val := Elt Ideal) (e := e) v _ ?_ i ?_
  · intro p hp x
    obtain rfl := List.mem_singleton.mp hp
    refine congrArg v (funext fun a => Fin.ext ?_)
    show (x a).val = o a + 1 * (x a).val
    rw [ho a]; omega
  · refine ⟨_, List.mem_singleton.mpr rfl, ?_⟩
    refine (Rect.mem_set_unit (inb := inb)).mpr fun a => ?_
    rw [ho a]
    exact ⟨Nat.zero_le _, by rw [Nat.zero_add]; exact (i a).2⟩
theorem zero2 : ∀ a : Fin 2, (![0, 0] : Fin 2 → ℕ) a = 0 := by decide

end Cert.Proof.Mixer

end
-- ==== Proof.Mixer.Spec.lean ====
/-
  The reference of an odd layer's projection as a stack of named arrays.
-/
module

public import proofs.«01_k».proof.Proof.Gen.Reference5Ideal.Run
public import proofs.«01_k».proof.Proof.Combine.RefValues
public import proofs.«01_k».proof.Proof.Project.Spec
public import proofs.«01_k».proof.Proof.Mixer.Turn

@[expose] public section

set_option maxRecDepth 16384

noncomputable section

namespace Cert.Proof.Mixer

open Idealize.ShloMosaic Idealize.ShloMosaic.TcCoe Idealize.SL.Sem
open Cert.Reference5Ideal Cert.Reference5Ideal.Gen

/-- The affine map of all the rows. -/
def refP (h : FVec Ideal S32768x1024 .f32) (a5 : FVec Ideal S2x1024x3840 .f32) (a6 : FVec Ideal S2x3840 .f32) : FVec Ideal S32768x3840 .f32 :=
  addf (Host.dotGeneral dot_S32768x1024_S1024x3840_S32768x3840_1_0_0_1_n_n none h (shapeCast _ (extractStridedSlice S1x1024x3840 ![0, 0, 0] a5 slices_S2x1024x3840_S1x1024x3840_0_0_0) shapeCasts_S1x1024x3840_S1024x3840)) (broadcastInDim S32768x3840 ![0, 1] bcast_S1x3840_S32768x3840_0_1 (broadcastInDim S1x3840 ![1] bcast_S3840_S1x3840_1 (shapeCast _ (extractStridedSlice S1x3840 ![0, 0] a6 slices_S2x3840_S1x3840_0_0) shapeCasts_S1x3840_S3840)))

/-- The retention's angles, with their cosines and sines. -/
def refAng : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (concatenate S32 0 [⟨S31, (addf (mulf (broadcastInDim S31 ![0] bcast_S1_S31_0 (shapeCast _ (id (constant S_ .f32 0x00000000#32)) shapeCasts_S_S1)) (subf (broadcastInDim S31 ![] bcast_S_S31 (constant S_ .f32 0x3F800000#32)) (Host.divf (sitofp .f32 (iotaInDim S31 32 0)) (broadcastInDim S31 ![] bcast_S_S31 (constant S_ .f32 0x41F80000#32))))) (mulf (broadcastInDim S31 ![0] bcast_S1_S31_0 (shapeCast _ (id (constant S_ .f32 0x3F800000#32)) shapeCasts_S_S1)) (Host.divf (sitofp .f32 (iotaInDim S31 32 0)) (broadcastInDim S31 ![] bcast_S_S31 (constant S_ .f32 0x41F80000#32)))))⟩, ⟨S1, (broadcastInDim S1 ![] bcast_S_S1 (id (constant S_ .f32 0x3F800000#32)))⟩] concatenates_S31_S1_S32_d0)))))
def refCos : FVec Ideal S8192x32 .f32 := Host.cos refAng
def refSin : FVec Ideal S8192x32 .f32 := Host.sin refAng

/-- Each head turned by them. -/
def turn4 (e : FVec Ideal S4x8192x4x64 .f32) : FVec Ideal S4x8192x4x64 .f32 :=
  (concatenate S4x8192x4x64 3 [⟨S4x8192x4x32, ((subf (mulf (extractStridedSlice S4x8192x4x32 ![0, 0, 0, 0] e slices_S4x8192x4x64_S4x8192x4x32_0_0_0_0) (broadcastInDim S4x8192x4x32 ![0, 1, 2, 3] bcast_S1x8192x1x32_S4x8192x4x32_0_1_2_3 (broadcastInDim S1x8192x1x32 ![1, 3] bcast_S8192x32_S1x8192x1x32_1_3 refCos))) (mulf (extractStridedSlice S4x8192x4x32 ![0, 0, 0, 32] e slices_S4x8192x4x64_S4x8192x4x32_0_0_0_32) (broadcastInDim S4x8192x4x32 ![0, 1, 2, 3] bcast_S1x8192x1x32_S4x8192x4x32_0_1_2_3 (broadcastInDim S1x8192x1x32 ![1, 3] bcast_S8192x32_S1x8192x1x32_1_3 refSin)))) : (⟨S4x8192x4x32, .f32⟩ : BufTy).Contents (Elt Ideal))⟩, ⟨S4x8192x4x32, ((addf (mulf (extractStridedSlice S4x8192x4x32 ![0, 0, 0, 32] e slices_S4x8192x4x64_S4x8192x4x32_0_0_0_32) (broadcastInDim S4x8192x4x32 ![0, 1, 2, 3] bcast_S1x8192x1x32_S4x8192x4x32_0_1_2_3 (broadcastInDim S1x8192x1x32 ![1, 3] bcast_S8192x32_S1x8192x1x32_1_3 refCos))) (mulf (extractStridedSlice S4x8192x4x32 ![0, 0, 0, 0] e slices_S4x8192x4x64_S4x8192x4x32_0_0_0_0) (broadcastInDim S4x8192x4x32 ![0, 1, 2, 3] bcast_S1x8192x1x32_S4x8192x4x32_0_1_2_3 (broadcastInDim S1x8192x1x32 ![1, 3] bcast_S8192x32_S1x8192x1x32_1_3 refSin)))) : (⟨S4x8192x4x32, .f32⟩ : BufTy).Contents (Elt Ideal))⟩, ⟨S4x8192x4x0, ((extractStridedSlice S4x8192x4x0 ![0, 0, 0, 64] e slices_S4x8192x4x64_S4x8192x4x0_0_0_0_64) : (⟨S4x8192x4x0, .f32⟩ : BufTy).Contents (Elt Ideal))⟩] concatenates_S4x8192x4x32_S4x8192x4x32_S4x8192x4x0_S4x8192x4x64_d3 : (⟨S4x8192x4x64, .f32⟩ : BufTy).Contents (Elt Ideal))

/-- Columns taken as heads, turned, and put back as columns: the retention's, -/
def back4 (x : FVec Ideal S32768x256 .f32) : FVec Ideal S32768x256 .f32 := shapeCast _ (turn4 (shapeCast _ x shapeCasts_S32768x256_S4x8192x4x64)) shapeCasts_S4x8192x4x64_S32768x256
/-- the queries, which are scaled, -/
def back8 (x : FVec Ideal S32768x512 .f32) : FVec Ideal S32768x512 .f32 :=
  shapeCast _ (mulf (Project.refQTurn (shapeCast _ x shapeCasts_S32768x512_S4x8192x8x64)) (broadcastInDim S4x8192x8x64 ![] bcast_S_S4x8192x8x64 (constant (F := Ideal) S_ .f32 0x3E38AA3B#32))) shapeCasts_S4x8192x8x64_S32768x512
/-- and the keys. -/
def back2 (x : FVec Ideal S32768x128 .f32) : FVec Ideal S32768x128 .f32 := shapeCast _ (Project.refKTurn (shapeCast _ x shapeCasts_S32768x128_S4x8192x2x64)) shapeCasts_S4x8192x2x64_S32768x128

/-- The results after the first, in order. -/
def ref1 (p : FVec Ideal S32768x3840 .f32) : FVec Ideal S32768x256 .bf16 := truncf .bf16 (back4 (extractStridedSlice S32768x256 ![0, 0] p slices_S32768x3840_S32768x256_0_0)) bitsLt_bf16_f32
def ref2 (p : FVec Ideal S32768x3840 .f32) : FVec Ideal S32768x256 .bf16 := truncf .bf16 (back4 (extractStridedSlice S32768x256 ![0, 256] p slices_S32768x3840_S32768x256_0_256)) bitsLt_bf16_f32
def ref3 (p : FVec Ideal S32768x3840 .f32) : FVec Ideal S32768x512 .bf16 := truncf .bf16 (extractStridedSlice S32768x512 ![0, 512] p slices_S32768x3840_S32768x512_0_512) bitsLt_bf16_f32
def ref4 (p : FVec Ideal S32768x3840 .f32) : FVec Ideal S32768x512 .bf16 := truncf .bf16 (extractStridedSlice S32768x512 ![0, 1024] p slices_S32768x3840_S32768x512_0_1024) bitsLt_bf16_f32
def ref5 (p : FVec Ideal S32768x3840 .f32) : FVec Ideal S32768x512 .bf16 := truncf .bf16 (back8 (extractStridedSlice S32768x512 ![0, 1536] p slices_S32768x3840_S32768x512_0_1536)) bitsLt_bf16_f32
def ref6 (p : FVec Ideal S32768x3840 .f32) : FVec Ideal S32768x128 .bf16 := truncf .bf16 (back2 (extractStridedSlice S32768x128 ![0, 2048] p slices_S32768x3840_S32768x128_0_2048)) bitsLt_bf16_f32
def ref7 (p : FVec Ideal S32768x3840 .f32) : FVec Ideal S32768x128 .bf16 := truncf .bf16 (extractStridedSlice S32768x128 ![0, 2176] p slices_S32768x3840_S32768x128_0_2176) bitsLt_bf16_f32
def ref8 (p : FVec Ideal S32768x3840 .f32) : FVec Ideal S32768x128 .f32 := extractStridedSlice S32768x128 ![0, 0] (back8 (extractStridedSlice S32768x512 ![0, 2304] p slices_S32768x3840_S32768x512_0_2304)) slices_S32768x512_S32768x128_0_0
def ref9 (p : FVec Ideal S32768x3840 .f32) : FVec Ideal S32768x128 .f32 := extractStridedSlice S32768x128 ![0, 128] (back8 (extractStridedSlice S32768x512 ![0, 2304] p slices_S32768x3840_S32768x512_0_2304)) slices_S32768x512_S32768x128_0_128
def ref10 (p : FVec Ideal S32768x3840 .f32) : FVec Ideal S32768x128 .f32 := extractStridedSlice S32768x128 ![0, 256] (back8 (extractStridedSlice S32768x512 ![0, 2304] p slices_S32768x3840_S32768x512_0_2304)) slices_S32768x512_S32768x128_0_256
def ref11 (p : FVec Ideal S32768x3840 .f32) : FVec Ideal S32768x128 .f32 := extractStridedSlice S32768x128 ![0, 384] (back8 (extractStridedSlice S32768x512 ![0, 2304] p slices_S32768x3840_S32768x512_0_2304)) slices_S32768x512_S32768x128_0_384
def ref12 (p : FVec Ideal S32768x3840 .f32) : FVec Ideal S32768x128 .f32 := back2 (extractStridedSlice S32768x128 ![0, 2816] p slices_S32768x3840_S32768x128_0_2816)
def ref13 (p : FVec Ideal S32768x3840 .f32) : FVec Ideal S32768x128 .f32 := extractStridedSlice S32768x128 ![0, 2944] p slices_S32768x3840_S32768x128_0_2944
def ref14 (p : FVec Ideal S32768x3840 .f32) : FVec Ideal S32768x128 .f32 := extractStridedSlice S32768x128 ![0, 0] (back8 (extractStridedSlice S32768x512 ![0, 3072] p slices_S32768x3840_S32768x512_0_3072)) slices_S32768x512_S32768x128_0_0
def ref15 (p : FVec Ideal S32768x3840 .f32) : FVec Ideal S32768x128 .f32 := extractStridedSlice S32768x128 ![0, 128] (back8 (extractStridedSlice S32768x512 ![0, 3072] p slices_S32768x3840_S32768x512_0_3072)) slices_S32768x512_S32768x128_0_128
def ref16 (p : FVec Ideal S32768x3840 .f32) : FVec Ideal S32768x128 .f32 := extractStridedSlice S32768x128 ![0, 256] (back8 (extractStridedSlice S32768x512 ![0, 3072] p slices_S32768x3840_S32768x512_0_3072)) slices_S32768x512_S32768x128_0_256
def ref17 (p : FVec Ideal S32768x3840 .f32) : FVec Ideal S32768x128 .f32 := extractStridedSlice S32768x128 ![0, 384] (back8 (extractStridedSlice S32768x512 ![0, 3072] p slices_S32768x3840_S32768x512_0_3072)) slices_S32768x512_S32768x128_0_384
def ref18 (p : FVec Ideal S32768x3840 .f32) : FVec Ideal S32768x128 .f32 := back2 (extractStridedSlice S32768x128 ![0, 3584] p slices_S32768x3840_S32768x128_0_3584)
def ref19 (p : FVec Ideal S32768x3840 .f32) : FVec Ideal S32768x128 .f32 := extractStridedSlice S32768x128 ![0, 3712] p slices_S32768x3840_S32768x128_0_3712

end Cert.Proof.Mixer

end
-- ==== Proof.Mixer.RefValues.lean ====
/-
  The reference of an odd layer's projection, number by number.
-/
module

public import proofs.«01_k».proof.Proof.Mixer.Spec
public import proofs.«01_k».proof.Proof.Mixer.Turn

@[expose] public section

set_option maxRecDepth 16384

noncomputable section

namespace Cert.Proof.Mixer

open Idealize.ShloMosaic
open Cert.Reference5Ideal Cert.Reference5Ideal.Gen

theorem refP_at (h : FVec Ideal S32768x1024 .f32) (a5 : FVec Ideal S2x1024x3840 .f32) (a6 : FVec Ideal S2x3840 .f32) (r : Fin 32768) (n : Fin 3840) :
    refP h a5 a6 (ix2 r n) = affN (fun k => h (ix2 r k)) (fun k n => a5 (ix3 0 k n)) (fun n => a6 (ix2 0 n)) n := by
  pointwise [refP]
  rfl

variable (p : FVec Ideal S32768x3840 .f32) (r : Fin 32768)

/-- The position of row `r` in its sequence, and the row's columns before the turns. -/
abbrev posOf (r : Fin 32768) : Fin 8192 := ⟨r.val % 8192, by omega⟩
abbrev rowP (n : Fin 3840) : EReal := p (ix2 r n)

/-- A row of the retention's heads after their turns, -/
theorem back4_at (x : FVec Ideal S32768x256 .f32) (c : Fin 256) : back4 x (ix2 r c)
    = headN (k := 32) (by omega) (fun d => x (ix2 r ⟨c.val / 64 * 64 + d.val, by omega⟩)) (fun j => refCos (ix2 (posOf r) j)) (fun j => refSin (ix2 (posOf r) j)) ⟨c.val % 64, by omega⟩ := by
  pointwise [back4, turn4]
  have ec : c.val / 64 * 64 + c.val % 64 = c.val := by omega
  by_cases h0 : c.val % 64 < 32
  · simp only [headN, dif_pos h0, ec]
  · have h1 : c.val % 64 - 32 < 32 := by omega
    simp only [headN, dif_neg h0, dif_pos h1, show 32 + (c.val % 64 - 32) = c.val % 64 by omega, ec]
/-- of the queries' heads, -/
theorem back8_at (x : FVec Ideal S32768x512 .f32) (c : Fin 512) : back8 x (ix2 r c)
    = headN (k := 8) (by omega) (fun d => x (ix2 r ⟨c.val / 64 * 64 + d.val, by omega⟩)) (fun j => Project.refCos (ix2 (posOf r) j)) (fun j => Project.refSin (ix2 (posOf r) j)) ⟨c.val % 64, by omega⟩
      * Ideal.ofBits .f32 0x3E38AA3B#32 := by
  pointwise [back8, Project.refQTurn]
  have ec : c.val / 64 * 64 + c.val % 64 = c.val := by omega
  by_cases h0 : c.val % 64 < 8
  · simp only [headN, dif_pos h0, ec]
  by_cases h1 : c.val % 64 - 8 < 8
  · simp only [headN, dif_neg h0, dif_pos h1, show 8 + (c.val % 64 - 8) = c.val % 64 by omega, ec]
  · simp only [headN, dif_neg h0, dif_neg h1, show 16 + (c.val % 64 - 8 - 8) = c.val % 64 by omega, ec]
/-- and of the keys'. -/
theorem back2_at (x : FVec Ideal S32768x128 .f32) (c : Fin 128) : back2 x (ix2 r c)
    = headN (k := 8) (by omega) (fun d => x (ix2 r ⟨c.val / 64 * 64 + d.val, by omega⟩)) (fun j => Project.refCos (ix2 (posOf r) j)) (fun j => Project.refSin (ix2 (posOf r) j)) ⟨c.val % 64, by omega⟩ := by
  pointwise [back2, Project.refKTurn]
  have ec : c.val / 64 * 64 + c.val % 64 = c.val := by omega
  by_cases h0 : c.val % 64 < 8
  · simp only [headN, dif_pos h0, ec]
  by_cases h1 : c.val % 64 - 8 < 8
  · simp only [headN, dif_neg h0, dif_pos h1, show 8 + (c.val % 64 - 8) = c.val % 64 by omega, ec]
  · simp only [headN, dif_neg h0, dif_neg h1, show 16 + (c.val % 64 - 8 - 8) = c.val % 64 by omega, ec]

/-- The head of column `n`, when the columns are read from a multiple of 64 on. -/
theorem head_shift {k : ℕ} (hk : k ≤ 32) (h : Fin 3840 → EReal) (c s : Fin k → EReal) (x : Fin 64 → EReal) (d : Fin 64) (n : Fin 3840)
    (hx : ∀ e : Fin 64, x e = h ⟨n.val / 64 * 64 + e.val, by omega⟩) (hd : d.val = n.val % 64) : headN hk x c s d = turnN hk h c s n := by
  rw [show d = ⟨n.val % 64, by omega⟩ from Fin.ext hd, show x = fun e => h ⟨n.val / 64 * 64 + e.val, by omega⟩ from funext hx]
  rfl

/-- A column after the retention's turn, and after the attention's. -/
abbrev turnR (n : Fin 3840) : EReal := turnN (k := 32) (by omega) (rowP p r) (fun j => refCos (ix2 (posOf r) j)) (fun j => refSin (ix2 (posOf r) j)) n
abbrev turnA (n : Fin 3840) : EReal := turnN (k := 8) (by omega) (rowP p r) (fun j => Project.refCos (ix2 (posOf r) j)) (fun j => Project.refSin (ix2 (posOf r) j)) n

/-- Two places of a row are the same when their numbers are. -/
theorem row_congr (p : FVec Ideal S32768x3840 .f32) (r : Fin 32768) {a b : Fin 3840} (h : a.val = b.val) : p (ix2 r a) = p (ix2 r b) := congrArg (fun n => p (ix2 r n)) (Fin.ext h)

theorem ref1_at (c : Fin 256) : ref1 p (ix2 r c) = turnR p r ⟨0 + c.val, by omega⟩ := by
  show back4 (extractStridedSlice S32768x256 ![0, 0] p slices_S32768x3840_S32768x256_0_0) (ix2 r c) = _
  refine (back4_at r _ c).trans (head_shift _ _ _ _ _ _ _ (fun e => ?_) (by show c.val % 64 = (0 + c.val) % 64; omega))
  pointwise
theorem ref2_at (c : Fin 256) : ref2 p (ix2 r c) = turnR p r ⟨256 + c.val, by omega⟩ := by
  show back4 (extractStridedSlice S32768x256 ![0, 256] p slices_S32768x3840_S32768x256_0_256) (ix2 r c) = _
  refine (back4_at r _ c).trans (head_shift _ _ _ _ _ _ _ (fun e => ?_) (by show c.val % 64 = (256 + c.val) % 64; omega))
  pointwise
  exact row_congr p r (by show 256 + (c.val / 64 * 64 + e.val) = (256 + c.val) / 64 * 64 + e.val; omega)
theorem ref3_at (c : Fin 512) : ref3 p (ix2 r c) = rowP p r ⟨512 + c.val, by omega⟩ := by
  pointwise [ref3]
theorem ref4_at (c : Fin 512) : ref4 p (ix2 r c) = rowP p r ⟨1024 + c.val, by omega⟩ := by
  pointwise [ref4]
/-- The queries of 512 columns from `1536` on. -/
theorem back1536_at (c : Fin 512) : back8 (extractStridedSlice S32768x512 ![0, 1536] p slices_S32768x3840_S32768x512_0_1536) (ix2 r c) = turnA p r ⟨1536 + c.val, by omega⟩ * Ideal.ofBits .f32 0x3E38AA3B#32 := by
  refine (back8_at r _ c).trans (congrArg (· * _) (head_shift _ _ _ _ _ _ _ (fun e => ?_) (by show c.val % 64 = (1536 + c.val) % 64; omega)))
  pointwise
  exact row_congr p r (by show 1536 + (c.val / 64 * 64 + e.val) = (1536 + c.val) / 64 * 64 + e.val; omega)
/-- The queries of 512 columns from `2304` on. -/
theorem back2304_at (c : Fin 512) : back8 (extractStridedSlice S32768x512 ![0, 2304] p slices_S32768x3840_S32768x512_0_2304) (ix2 r c) = turnA p r ⟨2304 + c.val, by omega⟩ * Ideal.ofBits .f32 0x3E38AA3B#32 := by
  refine (back8_at r _ c).trans (congrArg (· * _) (head_shift _ _ _ _ _ _ _ (fun e => ?_) (by show c.val % 64 = (2304 + c.val) % 64; omega)))
  pointwise
  exact row_congr p r (by show 2304 + (c.val / 64 * 64 + e.val) = (2304 + c.val) / 64 * 64 + e.val; omega)
/-- The queries of 512 columns from `3072` on. -/
theorem back3072_at (c : Fin 512) : back8 (extractStridedSlice S32768x512 ![0, 3072] p slices_S32768x3840_S32768x512_0_3072) (ix2 r c) = turnA p r ⟨3072 + c.val, by omega⟩ * Ideal.ofBits .f32 0x3E38AA3B#32 := by
  refine (back8_at r _ c).trans (congrArg (· * _) (head_shift _ _ _ _ _ _ _ (fun e => ?_) (by show c.val % 64 = (3072 + c.val) % 64; omega)))
  pointwise
  exact row_congr p r (by show 3072 + (c.val / 64 * 64 + e.val) = (3072 + c.val) / 64 * 64 + e.val; omega)
/-- 128 columns of 512. -/
theorem slice0_at (x : FVec Ideal S32768x512 .f32) (r : Fin 32768) (c : Fin 128) : extractStridedSlice S32768x128 ![0, 0] x slices_S32768x512_S32768x128_0_0 (ix2 r c) = x (ix2 r ⟨0 + c.val, by omega⟩) := by
  pointwise
theorem slice128_at (x : FVec Ideal S32768x512 .f32) (r : Fin 32768) (c : Fin 128) : extractStridedSlice S32768x128 ![0, 128] x slices_S32768x512_S32768x128_0_128 (ix2 r c) = x (ix2 r ⟨128 + c.val, by omega⟩) := by
  pointwise
theorem slice256_at (x : FVec Ideal S32768x512 .f32) (r : Fin 32768) (c : Fin 128) : extractStridedSlice S32768x128 ![0, 256] x slices_S32768x512_S32768x128_0_256 (ix2 r c) = x (ix2 r ⟨256 + c.val, by omega⟩) := by
  pointwise
theorem slice384_at (x : FVec Ideal S32768x512 .f32) (r : Fin 32768) (c : Fin 128) : extractStridedSlice S32768x128 ![0, 384] x slices_S32768x512_S32768x128_0_384 (ix2 r c) = x (ix2 r ⟨384 + c.val, by omega⟩) := by
  pointwise
theorem ref5_at (c : Fin 512) : ref5 p (ix2 r c) = turnA p r ⟨1536 + c.val, by omega⟩ * Ideal.ofBits .f32 0x3E38AA3B#32 := back1536_at p r c
theorem ref6_at (c : Fin 128) : ref6 p (ix2 r c) = turnA p r ⟨2048 + c.val, by omega⟩ := by
  show back2 (extractStridedSlice S32768x128 ![0, 2048] p slices_S32768x3840_S32768x128_0_2048) (ix2 r c) = _
  refine (back2_at r _ c).trans (head_shift _ _ _ _ _ _ _ (fun e => ?_) (by show c.val % 64 = (2048 + c.val) % 64; omega))
  pointwise
  exact row_congr p r (by show 2048 + (c.val / 64 * 64 + e.val) = (2048 + c.val) / 64 * 64 + e.val; omega)
theorem ref7_at (c : Fin 128) : ref7 p (ix2 r c) = rowP p r ⟨2176 + c.val, by omega⟩ := by
  pointwise [ref7]
theorem ref8_at (c : Fin 128) : ref8 p (ix2 r c) = turnA p r ⟨2304 + c.val, by omega⟩ * Ideal.ofBits .f32 0x3E38AA3B#32 := by
  unfold ref8
  refine (slice0_at _ r c).trans ((back2304_at p r _).trans (congrArg (fun n => turnA p r n * _) (Fin.ext ?_)))
  show 2304 + (0 + c.val) = 2304 + c.val; omega
theorem ref9_at (c : Fin 128) : ref9 p (ix2 r c) = turnA p r ⟨2432 + c.val, by omega⟩ * Ideal.ofBits .f32 0x3E38AA3B#32 := by
  unfold ref9
  refine (slice128_at _ r c).trans ((back2304_at p r _).trans (congrArg (fun n => turnA p r n * _) (Fin.ext ?_)))
  show 2304 + (128 + c.val) = 2432 + c.val; omega
theorem ref10_at (c : Fin 128) : ref10 p (ix2 r c) = turnA p r ⟨2560 + c.val, by omega⟩ * Ideal.ofBits .f32 0x3E38AA3B#32 := by
  unfold ref10
  refine (slice256_at _ r c).trans ((back2304_at p r _).trans (congrArg (fun n => turnA p r n * _) (Fin.ext ?_)))
  show 2304 + (256 + c.val) = 2560 + c.val; omega
theorem ref11_at (c : Fin 128) : ref11 p (ix2 r c) = turnA p r ⟨2688 + c.val, by omega⟩ * Ideal.ofBits .f32 0x3E38AA3B#32 := by
  unfold ref11
  refine (slice384_at _ r c).trans ((back2304_at p r _).trans (congrArg (fun n => turnA p r n * _) (Fin.ext ?_)))
  show 2304 + (384 + c.val) = 2688 + c.val; omega
theorem ref12_at (c : Fin 128) : ref12 p (ix2 r c) = turnA p r ⟨2816 + c.val, by omega⟩ := by
  show back2 (extractStridedSlice S32768x128 ![0, 2816] p slices_S32768x3840_S32768x128_0_2816) (ix2 r c) = _
  refine (back2_at r _ c).trans (head_shift _ _ _ _ _ _ _ (fun e => ?_) (by show c.val % 64 = (2816 + c.val) % 64; omega))
  pointwise
  exact row_congr p r (by show 2816 + (c.val / 64 * 64 + e.val) = (2816 + c.val) / 64 * 64 + e.val; omega)
theorem ref13_at (c : Fin 128) : ref13 p (ix2 r c) = rowP p r ⟨2944 + c.val, by omega⟩ := by
  pointwise [ref13]
theorem ref14_at (c : Fin 128) : ref14 p (ix2 r c) = turnA p r ⟨3072 + c.val, by omega⟩ * Ideal.ofBits .f32 0x3E38AA3B#32 := by
  unfold ref14
  refine (slice0_at _ r c).trans ((back3072_at p r _).trans (congrArg (fun n => turnA p r n * _) (Fin.ext ?_)))
  show 3072 + (0 + c.val) = 3072 + c.val; omega
theorem ref15_at (c : Fin 128) : ref15 p (ix2 r c) = turnA p r ⟨3200 + c.val, by omega⟩ * Ideal.ofBits .f32 0x3E38AA3B#32 := by
  unfold ref15
  refine (slice128_at _ r c).trans ((back3072_at p r _).trans (congrArg (fun n => turnA p r n * _) (Fin.ext ?_)))
  show 3072 + (128 + c.val) = 3200 + c.val; omega
theorem ref16_at (c : Fin 128) : ref16 p (ix2 r c) = turnA p r ⟨3328 + c.val, by omega⟩ * Ideal.ofBits .f32 0x3E38AA3B#32 := by
  unfold ref16
  refine (slice256_at _ r c).trans ((back3072_at p r _).trans (congrArg (fun n => turnA p r n * _) (Fin.ext ?_)))
  show 3072 + (256 + c.val) = 3328 + c.val; omega
theorem ref17_at (c : Fin 128) : ref17 p (ix2 r c) = turnA p r ⟨3456 + c.val, by omega⟩ * Ideal.ofBits .f32 0x3E38AA3B#32 := by
  unfold ref17
  refine (slice384_at _ r c).trans ((back3072_at p r _).trans (congrArg (fun n => turnA p r n * _) (Fin.ext ?_)))
  show 3072 + (384 + c.val) = 3456 + c.val; omega
theorem ref18_at (c : Fin 128) : ref18 p (ix2 r c) = turnA p r ⟨3584 + c.val, by omega⟩ := by
  show back2 (extractStridedSlice S32768x128 ![0, 3584] p slices_S32768x3840_S32768x128_0_3584) (ix2 r c) = _
  refine (back2_at r _ c).trans (head_shift _ _ _ _ _ _ _ (fun e => ?_) (by show c.val % 64 = (3584 + c.val) % 64; omega))
  pointwise
  exact row_congr p r (by show 3584 + (c.val / 64 * 64 + e.val) = (3584 + c.val) / 64 * 64 + e.val; omega)
theorem ref19_at (c : Fin 128) : ref19 p (ix2 r c) = rowP p r ⟨3712 + c.val, by omega⟩ := by
  pointwise [ref19]

end Cert.Proof.Mixer

end
-- ==== Proof.Mixer.Host.lean ====
/-
  What the host leaves in the arrays an odd layer's projection reads besides its arguments.
-/
module

public import proofs.«01_k».proof.Proof.Mixer.Frame
public import proofs.«01_k».proof.Proof.Mixer.Spec

@[expose] public section

set_option maxRecDepth 16384

noncomputable section

namespace Cert.Proof.Mixer

open Idealize.ShloMosaic Idealize.ShloMosaic.TcCoe Idealize.SL.Sem
open Cert.Kernel5Ideal Cert.Kernel5Ideal.Gen

variable (m : (ℓ : Loc nD τ sig) → Buf (Elt Ideal) ℓ)

abbrev A0 : Vec Ideal S32768x1024 .f32 := m (((0 : Dev nD).tc : Thread nD τ).loc main_arg0)
abbrev A1 : Vec Ideal S4x2x32768x256 .i32 := m (((0 : Dev nD).tc : Thread nD τ).loc main_arg1)
abbrev A2 : Vec Ideal S4x32768 .f32 := m (((0 : Dev nD).tc : Thread nD τ).loc main_arg2)
abbrev A3 : Vec Ideal S1024 .f32 := m (((0 : Dev nD).tc : Thread nD τ).loc main_arg3)
abbrev A4 : Vec Ideal S1024 .f32 := m (((0 : Dev nD).tc : Thread nD τ).loc main_arg4)
abbrev A5 : Vec Ideal S2x1024x3840 .f32 := m (((0 : Dev nD).tc : Thread nD τ).loc main_arg5)
abbrev A6 : Vec Ideal S2x3840 .f32 := m (((0 : Dev nD).tc : Thread nD τ).loc main_arg6)

theorem V_v64 : (V m 0 main_v64 : Vec Ideal S2x1024x3840 .bf16) = truncf (F := Ideal) .bf16 (A5 m : FVec Ideal S2x1024x3840 .f32) bitsLt_bf16_f32 := by
  show StableHlo.after (List.flatten [hostOps0, hostOps0_1, hostOps0_2]) _ (Proc.devRef .tc main_v64) = _
  simp only [hostOps0, hostOps0_1, hostOps0_2, List.flatten_cons, List.flatten_nil, List.append_nil, List.cons_append, List.nil_append]
  after_results
theorem V_v67 : (V m 0 main_v67 : Vec Ideal S1x1024 .f32) = shapeCast S1x1024 (A3 m) shapeCasts_S1024_S1x1024 := by
  show StableHlo.after (List.flatten [hostOps0, hostOps0_1, hostOps0_2]) _ (Proc.devRef .tc main_v67) = _
  simp only [hostOps0, hostOps0_1, hostOps0_2, List.flatten_cons, List.flatten_nil, List.append_nil, List.cons_append, List.nil_append]
  after_results
  rfl
theorem V_v68 : (V m 0 main_v68 : Vec Ideal S1x1024 .f32) = shapeCast S1x1024 (A4 m) shapeCasts_S1024_S1x1024 := by
  show StableHlo.after (List.flatten [hostOps0, hostOps0_1, hostOps0_2]) _ (Proc.devRef .tc main_v68) = _
  simp only [hostOps0, hostOps0_1, hostOps0_2, List.flatten_cons, List.flatten_nil, List.append_nil, List.cons_append, List.nil_append]
  after_results
  rfl
theorem V_v69 : (V m 0 main_v69 : Vec Ideal S1x3840 .f32)
    = shapeCast S1x3840 (shapeCast S3840 (extractStridedSlice S1x3840 ![0, 0] (A6 m) slices_S2x3840_S1x3840_0_0) shapeCasts_S1x3840_S3840) shapeCasts_S3840_S1x3840 := by
  show StableHlo.after (List.flatten [hostOps0, hostOps0_1, hostOps0_2]) _ (Proc.devRef .tc main_v69) = _
  simp only [hostOps0, hostOps0_1, hostOps0_2, List.flatten_cons, List.flatten_nil, List.append_nil, List.cons_append, List.nil_append]
  after_results
  rfl

/-- The table made of 64 columns twice over. -/
def twice (x : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 x shapeCasts_S8192x64_S1x8192x1x64)) shapeCasts_S1x8192x2x64_S8192x128
/-- The 64 columns of the attention's three tables, -/
def hereA : FVec Ideal S8192x64 .f32 :=
  concatenate S8192x64 1 [⟨S8192x8, Project.refCos⟩, ⟨S8192x8, Project.refCos⟩, ⟨S8192x48, broadcastInDim S8192x48 ![] bcast_S_S8192x48 (constant (F := Ideal) S_ .f32 0x3F800000#32)⟩] concatenates_S8192x8_S8192x8_S8192x48_S8192x64_d1
def rightA : FVec Ideal S8192x64 .f32 :=
  concatenate S8192x64 1 [⟨S8192x8, Host.negf (F := Ideal) (φ := .f32) Project.refSin⟩, ⟨S8192x8, broadcastInDim S8192x8 ![] bcast_S_S8192x8 (constant (F := Ideal) S_ .f32 0x00000000#32)⟩,
    ⟨S8192x48, broadcastInDim S8192x48 ![] bcast_S_S8192x48 (constant (F := Ideal) S_ .f32 0x00000000#32)⟩] concatenates_S8192x8_S8192x8_S8192x48_S8192x64_d1
def leftA : FVec Ideal S8192x64 .f32 :=
  concatenate S8192x64 1 [⟨S8192x8, broadcastInDim S8192x8 ![] bcast_S_S8192x8 (constant (F := Ideal) S_ .f32 0x00000000#32)⟩, ⟨S8192x8, Project.refSin⟩,
    ⟨S8192x48, broadcastInDim S8192x48 ![] bcast_S_S8192x48 (constant (F := Ideal) S_ .f32 0x00000000#32)⟩] concatenates_S8192x8_S8192x8_S8192x48_S8192x64_d1
/-- and of the retention's. -/
def hereR : FVec Ideal S8192x64 .f32 :=
  concatenate S8192x64 1 [⟨S8192x32, refCos⟩, ⟨S8192x32, refCos⟩, ⟨S8192x0, broadcastInDim S8192x0 ![] bcast_S_S8192x0 (constant (F := Ideal) S_ .f32 0x3F800000#32)⟩] concatenates_S8192x32_S8192x32_S8192x0_S8192x64_d1
def rightR : FVec Ideal S8192x64 .f32 :=
  concatenate S8192x64 1 [⟨S8192x32, Host.negf (F := Ideal) (φ := .f32) refSin⟩, ⟨S8192x32, broadcastInDim S8192x32 ![] bcast_S_S8192x32 (constant (F := Ideal) S_ .f32 0x00000000#32)⟩,
    ⟨S8192x0, broadcastInDim S8192x0 ![] bcast_S_S8192x0 (constant (F := Ideal) S_ .f32 0x00000000#32)⟩] concatenates_S8192x32_S8192x32_S8192x0_S8192x64_d1
def leftR : FVec Ideal S8192x64 .f32 :=
  concatenate S8192x64 1 [⟨S8192x32, broadcastInDim S8192x32 ![] bcast_S_S8192x32 (constant (F := Ideal) S_ .f32 0x00000000#32)⟩, ⟨S8192x32, refSin⟩,
    ⟨S8192x0, broadcastInDim S8192x0 ![] bcast_S_S8192x0 (constant (F := Ideal) S_ .f32 0x00000000#32)⟩] concatenates_S8192x32_S8192x32_S8192x0_S8192x64_d1

theorem V_v33 : (V m 0 main_v33 : Vec Ideal S8192x128 .f32) = twice hereA := by
  show StableHlo.after (List.flatten [hostOps0, hostOps0_1, hostOps0_2]) _ (Proc.devRef .tc main_v33) = _
  simp only [hostOps0, hostOps0_1, hostOps0_2, List.flatten_cons, List.flatten_nil, List.append_nil, List.cons_append, List.nil_append]
  after_results
  rfl
theorem V_v36 : (V m 0 main_v36 : Vec Ideal S8192x128 .f32) = twice rightA := by
  show StableHlo.after (List.flatten [hostOps0, hostOps0_1, hostOps0_2]) _ (Proc.devRef .tc main_v36) = _
  simp only [hostOps0, hostOps0_1, hostOps0_2, List.flatten_cons, List.flatten_nil, List.append_nil, List.cons_append, List.nil_append]
  after_results
  rfl
theorem V_v39 : (V m 0 main_v39 : Vec Ideal S8192x128 .f32) = twice leftA := by
  show StableHlo.after (List.flatten [hostOps0, hostOps0_1, hostOps0_2]) _ (Proc.devRef .tc main_v39) = _
  simp only [hostOps0, hostOps0_1, hostOps0_2, List.flatten_cons, List.flatten_nil, List.append_nil, List.cons_append, List.nil_append]
  after_results
  rfl
theorem V_v57 : (V m 0 main_v57 : Vec Ideal S8192x128 .f32) = twice hereR := by
  show StableHlo.after (List.flatten [hostOps0, hostOps0_1, hostOps0_2]) _ (Proc.devRef .tc main_v57) = _
  simp only [hostOps0, hostOps0_1, hostOps0_2, List.flatten_cons, List.flatten_nil, List.append_nil, List.cons_append, List.nil_append]
  after_results
  rfl
theorem V_v60 : (V m 0 main_v60 : Vec Ideal S8192x128 .f32) = twice rightR := by
  show StableHlo.after (List.flatten [hostOps0, hostOps0_1, hostOps0_2]) _ (Proc.devRef .tc main_v60) = _
  simp only [hostOps0, hostOps0_1, hostOps0_2, List.flatten_cons, List.flatten_nil, List.append_nil, List.cons_append, List.nil_append]
  after_results
  rfl
theorem V_v63 : (V m 0 main_v63 : Vec Ideal S8192x128 .f32) = twice leftR := by
  show StableHlo.after (List.flatten [hostOps0, hostOps0_1, hostOps0_2]) _ (Proc.devRef .tc main_v63) = _
  simp only [hostOps0, hostOps0_1, hostOps0_2, List.flatten_cons, List.flatten_nil, List.append_nil, List.cons_append, List.nil_append]
  after_results
  rfl

end Cert.Proof.Mixer

end
-- ==== Proof.Mixer.Inputs.lean ====
/-
  What the blocks of an odd layer's projection hold: rows of the arguments, and the tables of the turns.
-/
module

public import proofs.«01_k».proof.Proof.Mixer.Values
public import proofs.«01_k».proof.Proof.Mixer.RefValues
public import proofs.«01_k».proof.Proof.Mixer.Host
public import proofs.«01_k».proof.Proof.Combine.Values
public import proofs.«01_k».proof.Proof.Combine.RefValues

@[expose] public section

set_option maxRecDepth 16384

noncomputable section

namespace Cert.Proof.Mixer

open Idealize.ShloMosaic Idealize.ShloMosaic.TcCoe Idealize.SL.Sem
open Cert.Kernel5Ideal Cert.Kernel5Ideal.Gen

variable (m : (ℓ : Loc nD τ sig) → Buf (Elt Ideal) ℓ)

theorem index0 : ∀ t : Fin grid0.N, cc0_transform_0 (grid0.coords t) = ![t.val, 0] := by decide +kernel
theorem index1 : ∀ t : Fin grid0.N, cc0_transform_1 (grid0.coords t) = ![0, 0, t.val, 0] := by decide +kernel
theorem index2 : ∀ t : Fin grid0.N, cc0_transform_2 (grid0.coords t) = ![0, t.val] := by decide +kernel
theorem index7 : ∀ t : Fin grid0.N, cc0_transform_7 (grid0.coords t) = ![t.val % 16, 0] := by decide +kernel

/-- Row `r` of block `t`, and its position in its sequence. -/
def rowOf (t : Fin grid0.N) (r : Fin 512) : Fin 32768 := ⟨t.val * 512 + r.val, by have : t.val < 64 := t.2; omega⟩
def tabOf (t : Fin grid0.N) (r : Fin 512) : Fin 8192 := ⟨t.val % 16 * 512 + r.val, by omega⟩
theorem tab_eq (t : Fin grid0.N) (r : Fin 512) : tabOf t r = posOf (rowOf t r) := by
  apply Fin.ext
  show t.val % 16 * 512 + r.val = (t.val * 512 + r.val) % 8192
  omega

theorem in0 (t : Fin grid0.N) (r : Fin 512) (k : Fin 1024) : (iblk m 0 0 t : Vec Ideal S512x1024 .f32) (ix2 r k) = A0 m (ix2 (rowOf t r) k) := by
  unfold iblk
  show V m 0 main_arg0 _ = _
  rw [V_main_arg0]
  refine congrArg (A0 m) ?_
  have h := index0 t
  funext a
  apply Fin.ext
  fin_cases a
  · show cc0_transform_0 (grid0.coords t) 0 * 512 + 1 * r.val = t.val * 512 + r.val
    rw [h]; show t.val * 512 + _ = _; omega
  · show cc0_transform_0 (grid0.coords t) 1 * 1024 + 1 * k.val = k.val
    rw [h]; show 0 * 1024 + _ = _; omega
theorem in1 (t : Fin grid0.N) (q : Fin 4) (s : Fin 2) (r : Fin 512) (j : Fin 256) :
    (iblk m 0 1 t : Vec Ideal S4x2x512x256 .i32) (ix4 q s r j) = A1 m (ix4 q s (rowOf t r) j) := by
  unfold iblk
  show V m 0 main_arg1 _ = _
  rw [V_main_arg1]
  refine congrArg (A1 m) ?_
  have h := index1 t
  funext a
  apply Fin.ext
  fin_cases a
  · show cc0_transform_1 (grid0.coords t) 0 * 4 + 1 * q.val = q.val
    rw [h]; show 0 * 4 + _ = _; omega
  · show cc0_transform_1 (grid0.coords t) 1 * 2 + 1 * s.val = s.val
    rw [h]; show 0 * 2 + _ = _; omega
  · show cc0_transform_1 (grid0.coords t) 2 * 512 + 1 * r.val = t.val * 512 + r.val
    rw [h]; show t.val * 512 + _ = _; omega
  · show cc0_transform_1 (grid0.coords t) 3 * 256 + 1 * j.val = j.val
    rw [h]; show 0 * 256 + _ = _; omega
theorem in2 (t : Fin grid0.N) (q : Fin 4) (r : Fin 512) : (iblk m 0 2 t : Vec Ideal S4x512 .f32) (ix2 q r) = A2 m (ix2 q (rowOf t r)) := by
  unfold iblk
  show V m 0 main_arg2 _ = _
  rw [V_main_arg2]
  refine congrArg (A2 m) ?_
  have h := index2 t
  funext a
  apply Fin.ext
  fin_cases a
  · show cc0_transform_2 (grid0.coords t) 0 * 4 + 1 * q.val = q.val
    rw [h]; show 0 * 4 + _ = _; omega
  · show cc0_transform_2 (grid0.coords t) 1 * 512 + 1 * r.val = t.val * 512 + r.val
    rw [h]; show t.val * 512 + _ = _; omega
theorem emb_vec (t : Fin grid0.N) (k : Fin 1024) : (((cfg0.win 3).blk t).view.emb (ix2 0 k : S1x1024.Idx) : S1x1024.Idx) = ix2 0 k := by
  funext a; apply Fin.ext
  fin_cases a
  · rfl
  · show 0 * 1024 + 1 * k.val = k.val; omega
theorem in3 (t : Fin grid0.N) (k : Fin 1024) : (iblk m 0 3 t : Vec Ideal S1x1024 .f32) (ix2 0 k) = A3 m (ix1 k) := by
  refine (congrArg (V m 0 main_v67 : Vec Ideal S1x1024 .f32) (emb_vec t k)).trans ?_
  rw [V_v67]
  pointwise
theorem in4 (t : Fin grid0.N) (k : Fin 1024) : (iblk m 0 4 t : Vec Ideal S1x1024 .f32) (ix2 0 k) = A4 m (ix1 k) := by
  refine (congrArg (V m 0 main_v68 : Vec Ideal S1x1024 .f32) (emb_vec t k)).trans ?_
  rw [V_v68]
  pointwise
theorem in5 (t : Fin grid0.N) (k : Fin 1024) (n : Fin 3840) : (iblk m 0 5 t : Vec Ideal S1x1024x3840 .bf16) (ix3 0 k n) = A5 m (ix3 0 k n) := by
  unfold iblk
  have e : (((cfg0.win 5).blk t).view.emb (ix3 0 k n : S1x1024x3840.Idx) : S2x1024x3840.Idx) = ix3 0 k n := by
    funext a; apply Fin.ext
    fin_cases a
    · rfl
    · show 0 * 1024 + 1 * k.val = k.val; omega
    · show 0 * 3840 + 1 * n.val = n.val; omega
  show (V m 0 main_v64 : Vec Ideal S2x1024x3840 .bf16) (((cfg0.win 5).blk t).view.emb (ix3 0 k n : S1x1024x3840.Idx)) = _
  rw [V_v64, e]
  pointwise
theorem in6 (t : Fin grid0.N) (n : Fin 3840) : (iblk m 0 6 t : Vec Ideal S1x3840 .f32) (ix2 0 n) = A6 m (ix2 0 n) := by
  unfold iblk
  have e : (((cfg0.win 6).blk t).view.emb (ix2 0 n : S1x3840.Idx) : S1x3840.Idx) = ix2 0 n := by
    funext a; apply Fin.ext
    fin_cases a
    · rfl
    · show 0 * 3840 + 1 * n.val = n.val; omega
  show (V m 0 main_v69 : Vec Ideal S1x3840 .f32) (((cfg0.win 6).blk t).view.emb (ix2 0 n : S1x3840.Idx)) = _
  rw [V_v69, e]
  pointwise

variable (s : Fin 8192) (l : Fin 128)

theorem hereA_at : twice hereA (ix2 s l) = hereN (fun j => Project.refCos (ix2 s j)) (l.val % 64) := by
  pointwise [twice, hereA]
  rfl
theorem rightA_at : twice rightA (ix2 s l) = rightN (fun j => Project.refSin (ix2 s j)) (l.val % 64) := by
  pointwise [twice, rightA]
  by_cases h0 : l.val % 64 < 8
  · simp only [rightN, dif_pos h0]
  · simp only [rightN, dif_neg h0, dite_eq_ite, ite_self]
theorem leftA_at : twice leftA (ix2 s l) = leftN (fun j => Project.refSin (ix2 s j)) (l.val % 64) := by
  pointwise [twice, leftA]
  simp only [leftN, dite_eq_ite]
theorem hereR_at : twice hereR (ix2 s l) = hereN (fun j => refCos (ix2 s j)) (l.val % 64) := by
  pointwise [twice, hereR]
  by_cases h0 : l.val % 64 < 32
  · simp only [hereN, dif_pos h0]
  · simp only [hereN, dif_neg h0, dif_pos (show l.val % 64 - 32 < 32 by omega)]
theorem rightR_at : twice rightR (ix2 s l) = rightN (fun j => refSin (ix2 s j)) (l.val % 64) := by
  pointwise [twice, rightR]
  by_cases h0 : l.val % 64 < 32
  · simp only [rightN, dif_pos h0]
  · simp only [rightN, dif_neg h0, dite_eq_ite, ite_self]
theorem leftR_at : twice leftR (ix2 s l) = leftN (fun j => refSin (ix2 s j)) (l.val % 64) := by
  pointwise [twice, leftR]
  by_cases h0 : l.val % 64 < 32
  · simp only [leftN, dif_pos h0, if_pos h0]
  · simp only [leftN, dif_neg h0, if_neg h0, dif_pos (show l.val % 64 - 32 < 32 by omega)]

theorem emb_tab (w : Vec Ideal S8192x128 .f32) (t : Fin grid0.N) (r : Fin 512) (l : Fin 128) :
    w (((cfg0.win 7).blk t).view.emb (ix2 r l : S512x128.Idx) : S8192x128.Idx) = w (ix2 (tabOf t r) l) := by
  refine congrArg w ?_
  have h := index7 t
  funext a; apply Fin.ext
  fin_cases a
  · show cc0_transform_7 (grid0.coords t) 0 * 512 + 1 * r.val = t.val % 16 * 512 + r.val
    rw [h]; show t.val % 16 * 512 + _ = _; omega
  · show cc0_transform_7 (grid0.coords t) 1 * 128 + 1 * l.val = l.val
    rw [h]; show 0 * 128 + _ = _; omega

theorem in7 (t : Fin grid0.N) (r : Fin 512) (l : Fin 128) :
    (iblk m 0 7 t : Vec Ideal S512x128 .f32) (ix2 r l) = hereN (fun j => Project.refCos (ix2 (posOf (rowOf t r)) j)) (l.val % 64) := by
  refine (emb_tab (V m 0 main_v33) t r l).trans ?_
  rw [V_v33, hereA_at, tab_eq]
theorem in8 (t : Fin grid0.N) (r : Fin 512) (l : Fin 128) :
    (iblk m 0 8 t : Vec Ideal S512x128 .f32) (ix2 r l) = rightN (fun j => Project.refSin (ix2 (posOf (rowOf t r)) j)) (l.val % 64) := by
  refine (emb_tab (V m 0 main_v36) t r l).trans ?_
  rw [V_v36, rightA_at, tab_eq]
theorem in9 (t : Fin grid0.N) (r : Fin 512) (l : Fin 128) :
    (iblk m 0 9 t : Vec Ideal S512x128 .f32) (ix2 r l) = leftN (fun j => Project.refSin (ix2 (posOf (rowOf t r)) j)) (l.val % 64) := by
  refine (emb_tab (V m 0 main_v39) t r l).trans ?_
  rw [V_v39, leftA_at, tab_eq]
theorem in10 (t : Fin grid0.N) (r : Fin 512) (l : Fin 128) :
    (iblk m 0 10 t : Vec Ideal S512x128 .f32) (ix2 r l) = hereN (fun j => refCos (ix2 (posOf (rowOf t r)) j)) (l.val % 64) := by
  refine (emb_tab (V m 0 main_v57) t r l).trans ?_
  rw [V_v57, hereR_at, tab_eq]
theorem in11 (t : Fin grid0.N) (r : Fin 512) (l : Fin 128) :
    (iblk m 0 11 t : Vec Ideal S512x128 .f32) (ix2 r l) = rightN (fun j => refSin (ix2 (posOf (rowOf t r)) j)) (l.val % 64) := by
  refine (emb_tab (V m 0 main_v60) t r l).trans ?_
  rw [V_v60, rightR_at, tab_eq]
theorem in12 (t : Fin grid0.N) (r : Fin 512) (l : Fin 128) :
    (iblk m 0 12 t : Vec Ideal S512x128 .f32) (ix2 r l) = leftN (fun j => refSin (ix2 (posOf (rowOf t r)) j)) (l.val % 64) := by
  refine (emb_tab (V m 0 main_v63) t r l).trans ?_
  rw [V_v63, leftR_at, tab_eq]

/-- The reference's normalized rows, and their affine map, from the kernel's arguments. -/
abbrev N : FVec Ideal Cert.Reference5Ideal.S32768x1024 .f32 := Combine.refOut (A0 m) (A1 m) (A2 m) (A3 m) (A4 m)
abbrev P : FVec Ideal Cert.Reference5Ideal.S32768x3840 .f32 := refP (N m) (A5 m) (A6 m)

/-- The block's normalized rows, kept and as they enter the products. -/
abbrev out1 (t : Fin grid0.N) : Vec Ideal S512x1024 .f32 :=
  out0_13 (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t)
abbrev blkZ (t : Fin grid0.N) : FVec Ideal S512x1024 .bf16 :=
  k0_pay72 (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t)

theorem out1_eq (t : Fin grid0.N) : out1 m t = Cert.Kernel3Ideal.Gen.out0_5 (F := Ideal) (iblk m 0 0 t) (iblk m 0 1 t) (iblk m 0 2 t) (iblk m 0 3 t) (iblk m 0 4 t) := rfl
theorem out1_at (t : Fin grid0.N) (r : Fin 512) (k : Fin 1024) : out1 m t (ix2 r k) = N m (ix2 (rowOf t r) k) := by
  rw [out1_eq]
  refine (Combine.out_blk _ _ _ _ _ r k).trans ((?_ : _ = _).trans (Combine.ref_at _ _ _ _ _ (rowOf t r) k).symm)
  simp only [in0, in1, in2, in3, in4]
theorem narrow_at (a b c d : FVec Ideal S512x256 .f32) (x : Vec Ideal S512x1024 .f32) (g h : Vec Ideal S1x1024 .f32) :
    (k0_pay31 (F := Ideal) a b c d x g h : S512x1024.Idx → EReal) = k0_pay30 (F := Ideal) a b c d x g h := rfl
theorem whole1024 {e : EltTy} (v : Vec Ideal S512x1024 e) : (View.canon (Val := Elt Ideal) (e := e) [⟨r0_9, v⟩] : Vec Ideal S512x1024 e) = v :=
  whole (s := S512x1024) (e := e) ![0, 0] zero2 inb_S512x1024_S512x1024_0_0 v
theorem whole256 {e : EltTy} (v : Vec Ideal S512x256 e) : (View.canon (Val := Elt Ideal) (e := e) [⟨r0_14, v⟩] : Vec Ideal S512x256 e) = v :=
  whole (s := S512x256) (e := e) ![0, 0] zero2 inb_S512x256_S512x256_0_0 v
theorem whole512 {e : EltTy} (v : Vec Ideal S512x512 e) : (View.canon (Val := Elt Ideal) (e := e) [⟨r0_17, v⟩] : Vec Ideal S512x512 e) = v :=
  whole (s := S512x512) (e := e) ![0, 0] zero2 inb_S512x512_S512x512_0_0 v
theorem whole128 {e : EltTy} (v : Vec Ideal S512x128 e) : (View.canon (Val := Elt Ideal) (e := e) [⟨r0_13, v⟩] : Vec Ideal S512x128 e) = v :=
  whole (s := S512x128) (e := e) ![0, 0] zero2 inb_S512x128_S512x128_0_0 v
theorem out1_stored (x0 : Vec Ideal S512x1024 .f32) (x1 : Vec Ideal S4x2x512x256 .i32) (x2 : Vec Ideal S4x512 .f32) (x3 : Vec Ideal S1x1024 .f32) (x4 : Vec Ideal S1x1024 .f32) (x5 : Vec Ideal S1x1024x3840 .bf16)
    (x6 : Vec Ideal S1x3840 .f32) (x7 x8 x9 x10 x11 x12 : Vec Ideal S512x128 .f32) :
    (k0_pay72 (F := Ideal) x0 x1 x2 x3 x4 x5 x6 x7 x8 x9 x10 x11 x12 : S512x1024.Idx → EReal) = out0_13 (F := Ideal) x0 x1 x2 x3 x4 x5 x6 x7 x8 x9 x10 x11 x12 := by
  unfold out0_13
  rw [whole1024]
  exact narrow_at _ _ _ _ _ _ _
theorem blkZ_at (t : Fin grid0.N) (r : Fin 512) (k : Fin 1024) : blkZ m t (ix2 r k) = N m (ix2 (rowOf t r) k) :=
  (congrFun (out1_stored _ _ _ _ _ _ _ _ _ _ _ _ _) (ix2 r k)).trans (out1_at m t r k)

/-- A block's columns before the turns are the reference's. -/
theorem blkH_eq (t : Fin grid0.N) (r : Fin 512) (n : Fin 3840) : blkH (blkZ m t) (iblk m 0 5 t) (iblk m 0 6 t) r n = rowP (P m) (rowOf t r) n := by
  refine Eq.trans ?_ (refP_at (N m) (A5 m) (A6 m) (rowOf t r) n).symm
  unfold affN
  exact congrArg₂ (· + ·) (Finset.sum_congr rfl fun k _ => congrArg₂ (· * ·) (blkZ_at m t r k) (in5 m t k n)) (in6 m t n)

/-- The sum of a column and its neighbours in a block is the reference's turn. -/
theorem tabR_eq (t : Fin grid0.N) (r : Fin 512) (w o : ℕ) (hw : o + w ≤ 3840) (ho : 64 ∣ o) (hm : 64 ∣ w) (c : Fin w) :
    blkT (blkZ m t) (iblk m 0 5 t) (iblk m 0 6 t) (iblk m 0 10 t) (iblk m 0 11 t) (iblk m 0 12 t) r 32 w o hw c = turnR (P m) (rowOf t r) ⟨o + c.val, by omega⟩ := by
  obtain ⟨o, rfl⟩ := ho
  obtain ⟨w, rfl⟩ := hm
  have hc := c.isLt
  unfold blkT tabN
  simp only [blkH_eq, in10, in11, in12]
  rw [show c.val % 128 % 64 = (64 * o + c.val) % 64 by omega]
  refine turn_eq (by omega) (rowP (P m) (rowOf t r)) _ _ ⟨64 * o + c.val, by omega⟩ _ _ ?_ ?_
  · intro h
    have h : (64 * o + c.val) % 64 < 32 := h
    show 64 * o + (c.val + 64 * w - (64 * w - 32)) % (64 * w) = 64 * o + c.val + 32
    rw [show c.val + 64 * w - (64 * w - 32) = c.val + 32 by omega, Nat.mod_eq_of_lt (by omega)]; omega
  · intro h _
    have h : 32 ≤ (64 * o + c.val) % 64 := h
    show 64 * o + (c.val + 64 * w - 32) % (64 * w) = 64 * o + c.val - 32
    rw [show c.val + 64 * w - 32 = c.val - 32 + 64 * w by omega, Nat.add_mod_right, Nat.mod_eq_of_lt (by omega)]; omega
theorem tabA_eq (t : Fin grid0.N) (r : Fin 512) (w o : ℕ) (hw : o + w ≤ 3840) (ho : 64 ∣ o) (hm : 64 ∣ w) (c : Fin w) :
    blkT (blkZ m t) (iblk m 0 5 t) (iblk m 0 6 t) (iblk m 0 7 t) (iblk m 0 8 t) (iblk m 0 9 t) r 8 w o hw c = turnA (P m) (rowOf t r) ⟨o + c.val, by omega⟩ := by
  obtain ⟨o, rfl⟩ := ho
  obtain ⟨w, rfl⟩ := hm
  have hc := c.isLt
  unfold blkT tabN
  simp only [blkH_eq, in7, in8, in9]
  rw [show c.val % 128 % 64 = (64 * o + c.val) % 64 by omega]
  refine turn_eq (by omega) (rowP (P m) (rowOf t r)) _ _ ⟨64 * o + c.val, by omega⟩ _ _ ?_ ?_
  · intro h
    have h : (64 * o + c.val) % 64 < 8 := h
    show 64 * o + (c.val + 64 * w - (64 * w - 8)) % (64 * w) = 64 * o + c.val + 8
    rw [show c.val + 64 * w - (64 * w - 8) = c.val + 8 by omega, Nat.mod_eq_of_lt (by omega)]; omega
  · intro h _
    have h : 8 ≤ (64 * o + c.val) % 64 := h
    show 64 * o + (c.val + 64 * w - 8) % (64 * w) = 64 * o + c.val - 8
    rw [show c.val + 64 * w - 8 = c.val - 8 + 64 * w by omega, Nat.add_mod_right, Nat.mod_eq_of_lt (by omega)]; omega

end Cert.Proof.Mixer

end
-- ==== Proof.Mixer.RefRun.lean ====
/-
  The run of the reference of an odd layer's projection, with its results as the arrays of the specification.
-/
module

public import proofs.«01_k».proof.Proof.Gen.Reference5Ideal.Run
public import proofs.«01_k».proof.Proof.Mixer.Spec
public import proofs.«01_k».proof.Proof.Combine.Spec

@[expose] public section

set_option maxRecDepth 16384

noncomputable section

namespace Cert.Proof.Mixer

open Idealize.ShloMosaic Idealize.ShloMosaic.TcCoe Idealize.SL.Sem
open Cert.Reference5Ideal Cert.Reference5Ideal.Gen

variable (m : (ℓ : Loc nD τ sig) → Buf (Elt Ideal) ℓ) (c : Dev nD)

/-- The normalized rows and their affine map, from the arguments. -/
abbrev runN : FVec Ideal S32768x1024 .f32 := Combine.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev runP : FVec Ideal S32768x3840 .f32 := refP (runN m c) (m ((c.tc : Thread nD τ).loc main_arg5)) (m ((c.tc : Thread nD τ).loc main_arg6))

theorem run_reference5 (ρ : Dev nD → PrngReg) : θ_run defs (onTc (τ := τ) (main (F := Ideal))) ⟨m, fun _ => 0, ρ⟩ fun r => ∀ c : Dev nD,
      r.2.mem ((c.tc : Thread nD τ).loc main_v71) = runN m c
      ∧ r.2.mem ((c.tc : Thread nD τ).loc main_v113) = ref1 (runP m c)
      ∧ r.2.mem ((c.tc : Thread nD τ).loc main_v134) = ref2 (runP m c)
      ∧ r.2.mem ((c.tc : Thread nD τ).loc main_v135) = ref3 (runP m c)
      ∧ r.2.mem ((c.tc : Thread nD τ).loc main_v136) = ref4 (runP m c)
      ∧ r.2.mem ((c.tc : Thread nD τ).loc main_v159) = ref5 (runP m c)
      ∧ r.2.mem ((c.tc : Thread nD τ).loc main_v180) = ref6 (runP m c)
      ∧ r.2.mem ((c.tc : Thread nD τ).loc main_v181) = ref7 (runP m c)
      ∧ r.2.mem ((c.tc : Thread nD τ).loc main_v204) = ref8 (runP m c)
      ∧ r.2.mem ((c.tc : Thread nD τ).loc main_v205) = ref9 (runP m c)
      ∧ r.2.mem ((c.tc : Thread nD τ).loc main_v206) = ref10 (runP m c)
      ∧ r.2.mem ((c.tc : Thread nD τ).loc main_v207) = ref11 (runP m c)
      ∧ r.2.mem ((c.tc : Thread nD τ).loc main_v227) = ref12 (runP m c)
      ∧ r.2.mem ((c.tc : Thread nD τ).loc main_v89) = ref13 (runP m c)
      ∧ r.2.mem ((c.tc : Thread nD τ).loc main_v250) = ref14 (runP m c)
      ∧ r.2.mem ((c.tc : Thread nD τ).loc main_v251) = ref15 (runP m c)
      ∧ r.2.mem ((c.tc : Thread nD τ).loc main_v252) = ref16 (runP m c)
      ∧ r.2.mem ((c.tc : Thread nD τ).loc main_v253) = ref17 (runP m c)
      ∧ r.2.mem ((c.tc : Thread nD τ).loc main_v273) = ref18 (runP m c)
      ∧ r.2.mem ((c.tc : Thread nD τ).loc main_v92) = ref19 (runP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r q c => ?_) (Cert.Reference5Ideal.Value.run (F := Ideal) m ρ)
  obtain ⟨q0, q1, q2, q3, q4, q5, q6, q7, q8, q9, q10, q11, q12, q13, q14, q15, q16, q17, q18, q19, qs⟩ := q c
  exact ⟨q0.trans rfl, q1.trans rfl, q2.trans rfl, q3.trans rfl, q4.trans rfl, q5.trans rfl, q6.trans rfl, q7.trans rfl, q8.trans rfl, q9.trans rfl, q10.trans rfl, q11.trans rfl, q12.trans rfl, q13.trans rfl, q14.trans rfl, q15.trans rfl, q16.trans rfl, q17.trans rfl, q18.trans rfl, q19.trans rfl, qs⟩

end Cert.Proof.Mixer

end
-- ==== Proof.Mixer.Result.lean ====
/-
  An odd layer's projection: the kernel's blocks joined, beside the reference's arrays.
-/
module

public import proofs.«01_k».proof.Proof.Mixer.FrameBits
public import proofs.«01_k».proof.Proof.Mixer.Inputs
public import proofs.«01_k».proof.Proof.Mixer.RefRun
public import Idealize.ShloMosaic.Lib.Quiescent
public import proofs.«01_k».proof.Defs

@[expose] public section

set_option maxRecDepth 16384

noncomputable section

namespace Cert.Proof.Mixer

open Idealize.ShloMosaic Idealize.ShloMosaic.TcCoe Idealize.SL.Sem
open Cert.Kernel5Ideal Cert.Kernel5Ideal.Gen

variable (m : (ℓ : Loc nD τ sig) → Buf (Elt Ideal) ℓ)

/-- A function of the thirteen blocks a point reads, at that point. -/
abbrev onBlk {α : Type} (f : Vec Ideal S512x1024 .f32 → Vec Ideal S4x2x512x256 .i32 → Vec Ideal S4x512 .f32 → Vec Ideal S1x1024 .f32 → Vec Ideal S1x1024 .f32 → Vec Ideal S1x1024x3840 .bf16
    → Vec Ideal S1x3840 .f32 → Vec Ideal S512x128 .f32 → Vec Ideal S512x128 .f32 → Vec Ideal S512x128 .f32 → Vec Ideal S512x128 .f32 → Vec Ideal S512x128 .f32 → Vec Ideal S512x128 .f32 → α)
    (t : Fin grid0.N) : α :=
  f (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t)

theorem index13 : ∀ t : Fin grid0.N, cc0_transform_13 (grid0.coords t) = ![t.val, 0] := by decide +kernel

/-- Every row lies in a block. -/
theorem row_split (row : Fin 32768) : ∃ (t : Fin cfg0.N) (r : Fin 512), rowOf t r = row :=
  ⟨⟨row.val / 512, by show _ < 64; omega⟩, ⟨row.val % 512, by omega⟩, Fin.ext (by show row.val / 512 * 512 + row.val % 512 = row.val; omega)⟩

/-- A result whose blocks cover it and agree with an array everywhere is that array. -/
theorem joined (w : Fin cfg0.W) (T : Buf (Elt Ideal) ((cfg0.win w).arr.view.loc ((0 : Dev nD).tc : Thread nD τ)))
    (hf : ∀ t, (cfg0.win w).flush t = true)
    (hP : ∀ t (y : ((cfg0.win w).xblock (cfg0.grid.coords t)).Idx),
      _root_.cast (congrArg (Elt Ideal) ((cfg0.win w).blk t).view.elt_eq.symm) ((dats m 0 0).flushed w t y) = T (((cfg0.win w).blk t).view.emb y))
    (hc : ∀ i : ((cfg0.win w).arr.view.loc ((0 : Dev nD).tc : Thread nD τ)).2.ty.Idx, ∃ t, ∃ y : ((cfg0.win w).xblock (cfg0.grid.coords t)).Idx, ((cfg0.win w).blk t).view.emb y = i) : (dats m 0 0).arrAt w cfg0.N = T := by
  funext i
  obtain ⟨t, y, rfl⟩ := hc i
  exact (dats m 0 0).arrAt_forall_of_flushed w (fun i v => v = T i) (fun t _ y => hP t y) _ t _ t.2 (hf t) (View.emb_mem_set _ _)

/-- Where the blocks lie, that they cover the result, and that blocks that agree with an array entry by entry agree with it at their places: for the results of 1024 columns, -/
theorem emb1024 (t : Fin cfg0.N) (r : Fin 512) (c : Fin 1024) : (((cfg0.win 13).blk t).view.emb (ix2 r c : S512x1024.Idx) : S32768x1024.Idx) = ix2 (rowOf t r) c := by
  have h := index13 t
  funext a; apply Fin.ext
  fin_cases a
  · show cc0_transform_13 (grid0.coords t) 0 * 512 + 1 * r.val = t.val * 512 + r.val
    rw [h]; show t.val * 512 + _ = _; omega
  · show cc0_transform_13 (grid0.coords t) 1 * 1024 + 1 * c.val = c.val
    rw [h]; show 0 * 1024 + _ = _; omega
theorem cover1024 (i : S32768x1024.Idx) : ∃ (t : Fin cfg0.N) (y : S512x1024.Idx), ((cfg0.win 13).blk t).view.emb y = i := by
  obtain ⟨row, c, rfl⟩ : ∃ (row : Fin 32768) (c : Fin 1024), i = ix2 row c := ⟨i 0, i 1, eq_ix2 i⟩
  obtain ⟨t, r, rfl⟩ := row_split row
  exact ⟨t, _, emb1024 t r c⟩
theorem placed1024 {e : EltTy} (T : Vec Ideal S32768x1024 e) (t : Fin cfg0.N) (v : Vec Ideal S512x1024 e) (h : ∀ r c, v (ix2 r c) = T (ix2 (rowOf t r) c)) (y : S512x1024.Idx) :
    v y = T (((cfg0.win 13).blk t).view.emb y) := by
  obtain ⟨r, c, rfl⟩ : ∃ (r : Fin 512) (c : Fin 1024), y = ix2 r c := ⟨y 0, y 1, eq_ix2 y⟩
  exact (h r c).trans (congrArg T (emb1024 t r c)).symm
/-- of 256, -/
theorem emb256 (t : Fin cfg0.N) (r : Fin 512) (c : Fin 256) : (((cfg0.win 14).blk t).view.emb (ix2 r c : S512x256.Idx) : S32768x256.Idx) = ix2 (rowOf t r) c := by
  have h := index13 t
  funext a; apply Fin.ext
  fin_cases a
  · show cc0_transform_13 (grid0.coords t) 0 * 512 + 1 * r.val = t.val * 512 + r.val
    rw [h]; show t.val * 512 + _ = _; omega
  · show cc0_transform_13 (grid0.coords t) 1 * 256 + 1 * c.val = c.val
    rw [h]; show 0 * 256 + _ = _; omega
theorem cover256 (i : S32768x256.Idx) : ∃ (t : Fin cfg0.N) (y : S512x256.Idx), ((cfg0.win 14).blk t).view.emb y = i := by
  obtain ⟨row, c, rfl⟩ : ∃ (row : Fin 32768) (c : Fin 256), i = ix2 row c := ⟨i 0, i 1, eq_ix2 i⟩
  obtain ⟨t, r, rfl⟩ := row_split row
  exact ⟨t, _, emb256 t r c⟩
theorem placed256 {e : EltTy} (T : Vec Ideal S32768x256 e) (t : Fin cfg0.N) (v : Vec Ideal S512x256 e) (h : ∀ r c, v (ix2 r c) = T (ix2 (rowOf t r) c)) (y : S512x256.Idx) :
    v y = T (((cfg0.win 14).blk t).view.emb y) := by
  obtain ⟨r, c, rfl⟩ : ∃ (r : Fin 512) (c : Fin 256), y = ix2 r c := ⟨y 0, y 1, eq_ix2 y⟩
  exact (h r c).trans (congrArg T (emb256 t r c)).symm
/-- of 512, -/
theorem emb512 (t : Fin cfg0.N) (r : Fin 512) (c : Fin 512) : (((cfg0.win 16).blk t).view.emb (ix2 r c : S512x512.Idx) : S32768x512.Idx) = ix2 (rowOf t r) c := by
  have h := index13 t
  funext a; apply Fin.ext
  fin_cases a
  · show cc0_transform_13 (grid0.coords t) 0 * 512 + 1 * r.val = t.val * 512 + r.val
    rw [h]; show t.val * 512 + _ = _; omega
  · show cc0_transform_13 (grid0.coords t) 1 * 512 + 1 * c.val = c.val
    rw [h]; show 0 * 512 + _ = _; omega
theorem cover512 (i : S32768x512.Idx) : ∃ (t : Fin cfg0.N) (y : S512x512.Idx), ((cfg0.win 16).blk t).view.emb y = i := by
  obtain ⟨row, c, rfl⟩ : ∃ (row : Fin 32768) (c : Fin 512), i = ix2 row c := ⟨i 0, i 1, eq_ix2 i⟩
  obtain ⟨t, r, rfl⟩ := row_split row
  exact ⟨t, _, emb512 t r c⟩
theorem placed512 {e : EltTy} (T : Vec Ideal S32768x512 e) (t : Fin cfg0.N) (v : Vec Ideal S512x512 e) (h : ∀ r c, v (ix2 r c) = T (ix2 (rowOf t r) c)) (y : S512x512.Idx) :
    v y = T (((cfg0.win 16).blk t).view.emb y) := by
  obtain ⟨r, c, rfl⟩ : ∃ (r : Fin 512) (c : Fin 512), y = ix2 r c := ⟨y 0, y 1, eq_ix2 y⟩
  exact (h r c).trans (congrArg T (emb512 t r c)).symm
/-- and of 128. -/
theorem emb128 (t : Fin cfg0.N) (r : Fin 512) (c : Fin 128) : (((cfg0.win 19).blk t).view.emb (ix2 r c : S512x128.Idx) : S32768x128.Idx) = ix2 (rowOf t r) c := by
  have h := index13 t
  funext a; apply Fin.ext
  fin_cases a
  · show cc0_transform_13 (grid0.coords t) 0 * 512 + 1 * r.val = t.val * 512 + r.val
    rw [h]; show t.val * 512 + _ = _; omega
  · show cc0_transform_13 (grid0.coords t) 1 * 128 + 1 * c.val = c.val
    rw [h]; show 0 * 128 + _ = _; omega
theorem cover128 (i : S32768x128.Idx) : ∃ (t : Fin cfg0.N) (y : S512x128.Idx), ((cfg0.win 19).blk t).view.emb y = i := by
  obtain ⟨row, c, rfl⟩ : ∃ (row : Fin 32768) (c : Fin 128), i = ix2 row c := ⟨i 0, i 1, eq_ix2 i⟩
  obtain ⟨t, r, rfl⟩ := row_split row
  exact ⟨t, _, emb128 t r c⟩
theorem placed128 {e : EltTy} (T : Vec Ideal S32768x128 e) (t : Fin cfg0.N) (v : Vec Ideal S512x128 e) (h : ∀ r c, v (ix2 r c) = T (ix2 (rowOf t r) c)) (y : S512x128.Idx) :
    v y = T (((cfg0.win 19).blk t).view.emb y) := by
  obtain ⟨r, c, rfl⟩ : ∃ (r : Fin 512) (c : Fin 128), y = ix2 r c := ⟨y 0, y 1, eq_ix2 y⟩
  exact (h r c).trans (congrArg T (emb128 t r c)).symm

/-- The kernel's results are the reference's: the normalized rows, -/
theorem result13 : (dats m 0 0).arrAt 13 cfg0.N = N m :=
  joined m 13 (N m) flush0_13 (fun t y => (congrFun (after0_13 m 0 t) y).trans (placed1024 (e := .f32) (N m) t (onBlk m out0_13 t) (out1_at m t) y)) cover1024
/-- and the parts of their affine map, in order. -/
theorem result14 : (dats m 0 0).arrAt 14 cfg0.N = ref1 (P m) :=
  joined m 14 (ref1 (P m)) flush0_14 (fun t y => (congrFun (after0_14 m 0 t) y).trans (placed256 (e := .bf16) (ref1 (P m)) t (onBlk m out0_14 t) (fun r c =>
    (congrFun (whole256 (e := .bf16) _) (ix2 r c)).trans ((blk14_at (blkZ m t) (iblk m 0 5 t) (iblk m 0 6 t) (iblk m 0 10 t) (iblk m 0 11 t) (iblk m 0 12 t) r c).trans ((tabR_eq m t r 256 0 (by omega) (by decide) (by decide) c).trans (ref1_at (P m) (rowOf t r) c).symm))) y)) cover256
theorem result15 : (dats m 0 0).arrAt 15 cfg0.N = ref2 (P m) :=
  joined m 15 (ref2 (P m)) flush0_15 (fun t y => (congrFun (after0_15 m 0 t) y).trans (placed256 (e := .bf16) (ref2 (P m)) t (onBlk m out0_15 t) (fun r c =>
    (congrFun (whole256 (e := .bf16) _) (ix2 r c)).trans ((blk15_at (blkZ m t) (iblk m 0 5 t) (iblk m 0 6 t) (iblk m 0 10 t) (iblk m 0 11 t) (iblk m 0 12 t) r c).trans ((tabR_eq m t r 256 256 (by omega) (by decide) (by decide) c).trans (ref2_at (P m) (rowOf t r) c).symm))) y)) cover256
theorem result16 : (dats m 0 0).arrAt 16 cfg0.N = ref3 (P m) :=
  joined m 16 (ref3 (P m)) flush0_16 (fun t y => (congrFun (after0_16 m 0 t) y).trans (placed512 (e := .bf16) (ref3 (P m)) t (onBlk m out0_16 t) (fun r c =>
    (congrFun (whole512 (e := .bf16) _) (ix2 r c)).trans ((blk16_at (blkZ m t) (iblk m 0 5 t) (iblk m 0 6 t) r c).trans ((blkH_eq m t r _).trans (ref3_at (P m) (rowOf t r) c).symm))) y)) cover512
theorem result17 : (dats m 0 0).arrAt 17 cfg0.N = ref4 (P m) :=
  joined m 17 (ref4 (P m)) flush0_17 (fun t y => (congrFun (after0_17 m 0 t) y).trans (placed512 (e := .bf16) (ref4 (P m)) t (onBlk m out0_17 t) (fun r c =>
    (congrFun (whole512 (e := .bf16) _) (ix2 r c)).trans ((blk17_at (blkZ m t) (iblk m 0 5 t) (iblk m 0 6 t) r c).trans ((blkH_eq m t r _).trans (ref4_at (P m) (rowOf t r) c).symm))) y)) cover512
theorem result18 : (dats m 0 0).arrAt 18 cfg0.N = ref5 (P m) :=
  joined m 18 (ref5 (P m)) flush0_18 (fun t y => (congrFun (after0_18 m 0 t) y).trans (placed512 (e := .bf16) (ref5 (P m)) t (onBlk m out0_18 t) (fun r c =>
    (congrFun (whole512 (e := .bf16) _) (ix2 r c)).trans ((blk18_at (blkZ m t) (iblk m 0 5 t) (iblk m 0 6 t) (iblk m 0 7 t) (iblk m 0 8 t) (iblk m 0 9 t) r c).trans ((congrArg (· * _) (tabA_eq m t r 512 1536 (by omega) (by decide) (by decide) c)).trans (ref5_at (P m) (rowOf t r) c).symm))) y)) cover512
theorem result19 : (dats m 0 0).arrAt 19 cfg0.N = ref6 (P m) :=
  joined m 19 (ref6 (P m)) flush0_19 (fun t y => (congrFun (after0_19 m 0 t) y).trans (placed128 (e := .bf16) (ref6 (P m)) t (onBlk m out0_19 t) (fun r c =>
    (congrFun (whole128 (e := .bf16) _) (ix2 r c)).trans ((blk19_at (blkZ m t) (iblk m 0 5 t) (iblk m 0 6 t) (iblk m 0 7 t) (iblk m 0 8 t) (iblk m 0 9 t) r c).trans ((tabA_eq m t r 128 2048 (by omega) (by decide) (by decide) c).trans (ref6_at (P m) (rowOf t r) c).symm))) y)) cover128
theorem result20 : (dats m 0 0).arrAt 20 cfg0.N = ref7 (P m) :=
  joined m 20 (ref7 (P m)) flush0_20 (fun t y => (congrFun (after0_20 m 0 t) y).trans (placed128 (e := .bf16) (ref7 (P m)) t (onBlk m out0_20 t) (fun r c =>
    (congrFun (whole128 (e := .bf16) _) (ix2 r c)).trans ((blk20_at (blkZ m t) (iblk m 0 5 t) (iblk m 0 6 t) r c).trans ((blkH_eq m t r _).trans (ref7_at (P m) (rowOf t r) c).symm))) y)) cover128
theorem result21 : (dats m 0 0).arrAt 21 cfg0.N = ref8 (P m) :=
  joined m 21 (ref8 (P m)) flush0_21 (fun t y => (congrFun (after0_21 m 0 t) y).trans (placed128 (e := .f32) (ref8 (P m)) t (onBlk m out0_21 t) (fun r c =>
    (congrFun (whole128 (e := .f32) _) (ix2 r c)).trans ((blk21_at (blkZ m t) (iblk m 0 5 t) (iblk m 0 6 t) (iblk m 0 7 t) (iblk m 0 8 t) (iblk m 0 9 t) r c).trans ((congrArg (· * _) (tabA_eq m t r 128 2304 (by omega) (by decide) (by decide) c)).trans (ref8_at (P m) (rowOf t r) c).symm))) y)) cover128
theorem result22 : (dats m 0 0).arrAt 22 cfg0.N = ref9 (P m) :=
  joined m 22 (ref9 (P m)) flush0_22 (fun t y => (congrFun (after0_22 m 0 t) y).trans (placed128 (e := .f32) (ref9 (P m)) t (onBlk m out0_22 t) (fun r c =>
    (congrFun (whole128 (e := .f32) _) (ix2 r c)).trans ((blk22_at (blkZ m t) (iblk m 0 5 t) (iblk m 0 6 t) (iblk m 0 7 t) (iblk m 0 8 t) (iblk m 0 9 t) r c).trans ((congrArg (· * _) (tabA_eq m t r 128 2432 (by omega) (by decide) (by decide) c)).trans (ref9_at (P m) (rowOf t r) c).symm))) y)) cover128
theorem result23 : (dats m 0 0).arrAt 23 cfg0.N = ref10 (P m) :=
  joined m 23 (ref10 (P m)) flush0_23 (fun t y => (congrFun (after0_23 m 0 t) y).trans (placed128 (e := .f32) (ref10 (P m)) t (onBlk m out0_23 t) (fun r c =>
    (congrFun (whole128 (e := .f32) _) (ix2 r c)).trans ((blk23_at (blkZ m t) (iblk m 0 5 t) (iblk m 0 6 t) (iblk m 0 7 t) (iblk m 0 8 t) (iblk m 0 9 t) r c).trans ((congrArg (· * _) (tabA_eq m t r 128 2560 (by omega) (by decide) (by decide) c)).trans (ref10_at (P m) (rowOf t r) c).symm))) y)) cover128
theorem result24 : (dats m 0 0).arrAt 24 cfg0.N = ref11 (P m) :=
  joined m 24 (ref11 (P m)) flush0_24 (fun t y => (congrFun (after0_24 m 0 t) y).trans (placed128 (e := .f32) (ref11 (P m)) t (onBlk m out0_24 t) (fun r c =>
    (congrFun (whole128 (e := .f32) _) (ix2 r c)).trans ((blk24_at (blkZ m t) (iblk m 0 5 t) (iblk m 0 6 t) (iblk m 0 7 t) (iblk m 0 8 t) (iblk m 0 9 t) r c).trans ((congrArg (· * _) (tabA_eq m t r 128 2688 (by omega) (by decide) (by decide) c)).trans (ref11_at (P m) (rowOf t r) c).symm))) y)) cover128
theorem result25 : (dats m 0 0).arrAt 25 cfg0.N = ref12 (P m) :=
  joined m 25 (ref12 (P m)) flush0_25 (fun t y => (congrFun (after0_25 m 0 t) y).trans (placed128 (e := .f32) (ref12 (P m)) t (onBlk m out0_25 t) (fun r c =>
    (congrFun (whole128 (e := .f32) _) (ix2 r c)).trans ((blk25_at (blkZ m t) (iblk m 0 5 t) (iblk m 0 6 t) (iblk m 0 7 t) (iblk m 0 8 t) (iblk m 0 9 t) r c).trans ((tabA_eq m t r 128 2816 (by omega) (by decide) (by decide) c).trans (ref12_at (P m) (rowOf t r) c).symm))) y)) cover128
theorem result26 : (dats m 0 0).arrAt 26 cfg0.N = ref13 (P m) :=
  joined m 26 (ref13 (P m)) flush0_26 (fun t y => (congrFun (after0_26 m 0 t) y).trans (placed128 (e := .f32) (ref13 (P m)) t (onBlk m out0_26 t) (fun r c =>
    (congrFun (whole128 (e := .f32) _) (ix2 r c)).trans ((blk26_at (blkZ m t) (iblk m 0 5 t) (iblk m 0 6 t) r c).trans ((blkH_eq m t r _).trans (ref13_at (P m) (rowOf t r) c).symm))) y)) cover128
theorem result27 : (dats m 0 0).arrAt 27 cfg0.N = ref14 (P m) :=
  joined m 27 (ref14 (P m)) flush0_27 (fun t y => (congrFun (after0_27 m 0 t) y).trans (placed128 (e := .f32) (ref14 (P m)) t (onBlk m out0_27 t) (fun r c =>
    (congrFun (whole128 (e := .f32) _) (ix2 r c)).trans ((blk27_at (blkZ m t) (iblk m 0 5 t) (iblk m 0 6 t) (iblk m 0 7 t) (iblk m 0 8 t) (iblk m 0 9 t) r c).trans ((congrArg (· * _) (tabA_eq m t r 128 3072 (by omega) (by decide) (by decide) c)).trans (ref14_at (P m) (rowOf t r) c).symm))) y)) cover128
theorem result28 : (dats m 0 0).arrAt 28 cfg0.N = ref15 (P m) :=
  joined m 28 (ref15 (P m)) flush0_28 (fun t y => (congrFun (after0_28 m 0 t) y).trans (placed128 (e := .f32) (ref15 (P m)) t (onBlk m out0_28 t) (fun r c =>
    (congrFun (whole128 (e := .f32) _) (ix2 r c)).trans ((blk28_at (blkZ m t) (iblk m 0 5 t) (iblk m 0 6 t) (iblk m 0 7 t) (iblk m 0 8 t) (iblk m 0 9 t) r c).trans ((congrArg (· * _) (tabA_eq m t r 128 3200 (by omega) (by decide) (by decide) c)).trans (ref15_at (P m) (rowOf t r) c).symm))) y)) cover128
theorem result29 : (dats m 0 0).arrAt 29 cfg0.N = ref16 (P m) :=
  joined m 29 (ref16 (P m)) flush0_29 (fun t y => (congrFun (after0_29 m 0 t) y).trans (placed128 (e := .f32) (ref16 (P m)) t (onBlk m out0_29 t) (fun r c =>
    (congrFun (whole128 (e := .f32) _) (ix2 r c)).trans ((blk29_at (blkZ m t) (iblk m 0 5 t) (iblk m 0 6 t) (iblk m 0 7 t) (iblk m 0 8 t) (iblk m 0 9 t) r c).trans ((congrArg (· * _) (tabA_eq m t r 128 3328 (by omega) (by decide) (by decide) c)).trans (ref16_at (P m) (rowOf t r) c).symm))) y)) cover128
theorem result30 : (dats m 0 0).arrAt 30 cfg0.N = ref17 (P m) :=
  joined m 30 (ref17 (P m)) flush0_30 (fun t y => (congrFun (after0_30 m 0 t) y).trans (placed128 (e := .f32) (ref17 (P m)) t (onBlk m out0_30 t) (fun r c =>
    (congrFun (whole128 (e := .f32) _) (ix2 r c)).trans ((blk30_at (blkZ m t) (iblk m 0 5 t) (iblk m 0 6 t) (iblk m 0 7 t) (iblk m 0 8 t) (iblk m 0 9 t) r c).trans ((congrArg (· * _) (tabA_eq m t r 128 3456 (by omega) (by decide) (by decide) c)).trans (ref17_at (P m) (rowOf t r) c).symm))) y)) cover128
theorem result31 : (dats m 0 0).arrAt 31 cfg0.N = ref18 (P m) :=
  joined m 31 (ref18 (P m)) flush0_31 (fun t y => (congrFun (after0_31 m 0 t) y).trans (placed128 (e := .f32) (ref18 (P m)) t (onBlk m out0_31 t) (fun r c =>
    (congrFun (whole128 (e := .f32) _) (ix2 r c)).trans ((blk31_at (blkZ m t) (iblk m 0 5 t) (iblk m 0 6 t) (iblk m 0 7 t) (iblk m 0 8 t) (iblk m 0 9 t) r c).trans ((tabA_eq m t r 128 3584 (by omega) (by decide) (by decide) c).trans (ref18_at (P m) (rowOf t r) c).symm))) y)) cover128
theorem result32 : (dats m 0 0).arrAt 32 cfg0.N = ref19 (P m) :=
  joined m 32 (ref19 (P m)) flush0_32 (fun t y => (congrFun (after0_32 m 0 t) y).trans (placed128 (e := .f32) (ref19 (P m)) t (onBlk m out0_32 t) (fun r c =>
    (congrFun (whole128 (e := .f32) _) (ix2 r c)).trans ((blk32_at (blkZ m t) (iblk m 0 5 t) (iblk m 0 6 t) r c).trans ((blkH_eq m t r _).trans (ref19_at (P m) (rowOf t r) c).symm))) y)) cover128

set_option maxHeartbeats 4000000 in
/-- The kernel's run leaves its blocks' rows in the results, and the arguments as they were. -/
theorem run_kernel5Ideal (ρ : Dev nD → PrngReg) : θ_run defs (onTc (τ := τ) (main (F := Ideal))) ⟨m, fun _ => 0, ρ⟩ fun r => ∀ c : Dev nD,
      r.2.mem ((c.tc : Thread nD τ).loc main_v70_0) = (dats m 0 c).arrAt 13 cfg0.N
      ∧ r.2.mem ((c.tc : Thread nD τ).loc main_v70_1) = (dats m 0 c).arrAt 14 cfg0.N
      ∧ r.2.mem ((c.tc : Thread nD τ).loc main_v70_2) = (dats m 0 c).arrAt 15 cfg0.N
      ∧ r.2.mem ((c.tc : Thread nD τ).loc main_v70_3) = (dats m 0 c).arrAt 16 cfg0.N
      ∧ r.2.mem ((c.tc : Thread nD τ).loc main_v70_4) = (dats m 0 c).arrAt 17 cfg0.N
      ∧ r.2.mem ((c.tc : Thread nD τ).loc main_v70_5) = (dats m 0 c).arrAt 18 cfg0.N
      ∧ r.2.mem ((c.tc : Thread nD τ).loc main_v70_6) = (dats m 0 c).arrAt 19 cfg0.N
      ∧ r.2.mem ((c.tc : Thread nD τ).loc main_v70_7) = (dats m 0 c).arrAt 20 cfg0.N
      ∧ r.2.mem ((c.tc : Thread nD τ).loc main_v70_8) = (dats m 0 c).arrAt 21 cfg0.N
      ∧ r.2.mem ((c.tc : Thread nD τ).loc main_v70_9) = (dats m 0 c).arrAt 22 cfg0.N
      ∧ r.2.mem ((c.tc : Thread nD τ).loc main_v70_10) = (dats m 0 c).arrAt 23 cfg0.N
      ∧ r.2.mem ((c.tc : Thread nD τ).loc main_v70_11) = (dats m 0 c).arrAt 24 cfg0.N
      ∧ r.2.mem ((c.tc : Thread nD τ).loc main_v70_12) = (dats m 0 c).arrAt 25 cfg0.N
      ∧ r.2.mem ((c.tc : Thread nD τ).loc main_v70_13) = (dats m 0 c).arrAt 26 cfg0.N
      ∧ r.2.mem ((c.tc : Thread nD τ).loc main_v70_14) = (dats m 0 c).arrAt 27 cfg0.N
      ∧ r.2.mem ((c.tc : Thread nD τ).loc main_v70_15) = (dats m 0 c).arrAt 28 cfg0.N
      ∧ r.2.mem ((c.tc : Thread nD τ).loc main_v70_16) = (dats m 0 c).arrAt 29 cfg0.N
      ∧ r.2.mem ((c.tc : Thread nD τ).loc main_v70_17) = (dats m 0 c).arrAt 30 cfg0.N
      ∧ r.2.mem ((c.tc : Thread nD τ).loc main_v70_18) = (dats m 0 c).arrAt 31 cfg0.N
      ∧ r.2.mem ((c.tc : Thread nD τ).loc main_v70_19) = (dats m 0 c).arrAt 32 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 13, (h.1 c).1 14, (h.1 c).1 15, (h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, (h.1 c).1 29, (h.1 c).1 30, (h.1 c).1 31, (h.1 c).1 32, h.2 c⟩) (θ_run_and (run_main m ρ) (unchanged m ρ))

theorem frame_kernel5 : Cert.quiescent_Kernel5 := fun m ρ _ => Exact.frame m ρ
theorem frame_kernel5Ideal : Cert.quiescent_Kernel5Ideal := fun m ρ _ => frame m ρ
theorem frame_reference5Ideal : Cert.quiescent_Reference5Ideal := fun m ρ _ =>
  (θ_run Cert.Reference5Ideal.defs _ _).mono (fun r q => ⟨fun c => (q c).2.2.2.2.2.2.2.2.2.2.2.2.2.2.2.2.2.2.2.2, sem_eq_zero_of_no_sems (by decide) r.2⟩) (run_reference5 m ρ)

set_option maxHeartbeats 4000000 in
theorem algebraic5 : Cert.algebraic_Kernel5Ideal_Reference5Ideal := fun m g m' g' _ hag => by
  refine ⟨fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N, fun c => (dats m 0 c).arrAt 23 cfg0.N, fun c => (dats m 0 c).arrAt 24 cfg0.N, fun c => (dats m 0 c).arrAt 25 cfg0.N, fun c => (dats m 0 c).arrAt 26 cfg0.N, fun c => (dats m 0 c).arrAt 27 cfg0.N, fun c => (dats m 0 c).arrAt 28 cfg0.N, fun c => (dats m 0 c).arrAt 29 cfg0.N, fun c => (dats m 0 c).arrAt 30 cfg0.N, fun c => (dats m 0 c).arrAt 31 cfg0.N, fun c => (dats m 0 c).arrAt 32 cfg0.N, run_kernel5Ideal m g,
    (θ_run Cert.Reference5Ideal.defs _ _).mono (fun r q c => ?_) (run_reference5 m' g')⟩
  obtain rfl : c = (0 : Dev nD) := Subsingleton.elim _ _
  obtain ⟨h0, h1, h2, h3, h4, h5, h6⟩ := hag 0
  have eN : runN m' 0 = N m := by
    unfold runN N
    exact congr (congr (congr (congr (congrArg Combine.refOut h0) h1) h2) h3) h4
  have eP : runP m' 0 = P m := by
    unfold runP P
    exact congr (congr (congrArg refP eN) h5) h6
  obtain ⟨q0, q1, q2, q3, q4, q5, q6, q7, q8, q9, q10, q11, q12, q13, q14, q15, q16, q17, q18, q19, qs⟩ := q 0
  exact ⟨q0.trans (eN.trans (result13 m).symm), q1.trans ((congrArg ref1 eP).trans (result14 m).symm),
    q2.trans ((congrArg ref2 eP).trans (result15 m).symm),
    q3.trans ((congrArg ref3 eP).trans (result16 m).symm),
    q4.trans ((congrArg ref4 eP).trans (result17 m).symm),
    q5.trans ((congrArg ref5 eP).trans (result18 m).symm),
    q6.trans ((congrArg ref6 eP).trans (result19 m).symm),
    q7.trans ((congrArg ref7 eP).trans (result20 m).symm),
    q8.trans ((congrArg ref8 eP).trans (result21 m).symm),
    q9.trans ((congrArg ref9 eP).trans (result22 m).symm),
    q10.trans ((congrArg ref10 eP).trans (result23 m).symm),
    q11.trans ((congrArg ref11 eP).trans (result24 m).symm),
    q12.trans ((congrArg ref12 eP).trans (result25 m).symm),
    q13.trans ((congrArg ref13 eP).trans (result26 m).symm),
    q14.trans ((congrArg ref14 eP).trans (result27 m).symm),
    q15.trans ((congrArg ref15 eP).trans (result28 m).symm),
    q16.trans ((congrArg ref16 eP).trans (result29 m).symm),
    q17.trans ((congrArg ref17 eP).trans (result30 m).symm),
    q18.trans ((congrArg ref18 eP).trans (result31 m).symm),
    q19.trans ((congrArg ref19 eP).trans (result32 m).symm), qs⟩

end Cert.Proof.Mixer

end
-- ==== Proof.lean ====
/-
  The certificate of five calls. The experts' row gather: its four frames, and that its result is the reference's array, at
  the ideal instance and on the bits; the launch's run is Proof/Launch.lean's `run_main`, the equation of the two arrays
  Proof/Value.lean's `value_eq`. The experts' feed-forward: its three frames, and that its result is the reference's array
  over the reals; the run is Proof/Expert/Run.lean's `run_counted`, the equation Proof/Expert/Result.lean's `result_same`.
  The last combine and norm: its three frames, and that its result is the reference's array over the reals, by
  Proof/Combine/Result.lean's `result_same`. The first input projection: its three frames, and that its seven results are the
  reference's arrays over the reals, by Proof/Project/Result.lean's `result6` to `result12`. The combine fused with an odd layer's
  projection: its three frames, and that its twenty results are the reference's arrays over the reals, by
  Proof/Mixer/Result.lean's `result13` to `result32`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_idx_in_rows
public import proofs.«01_k».proof.Proof.Gen.Reference.Run
public import proofs.«01_k».proof.Proof.Gen.ReferenceIdeal.Run
public import proofs.«01_k».proof.Proof.Launch
public import proofs.«01_k».proof.Proof.Value
public import proofs.«01_k».proof.Proof.Expert.Result
public import proofs.«01_k».proof.Proof.Combine.Result
public import proofs.«01_k».proof.Proof.Project.Result
public import proofs.«01_k».proof.Proof.Mixer.Result
public import proofs.«01_k».proof.Proof.Gen.Kernel4
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_routed
public import proofs.«01_k».proof.Proof.Gen.Kernel2Ideal
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Gather (PreOK QC run_main Rv aLoc bLoc rLoc lt_of_bit value_eq)

/-- The precondition, word by word: every index names a row. -/
theorem ok_ideal (m : (ℓ : Loc Cert.KernelIdeal.nD Cert.KernelIdeal.τ Cert.KernelIdeal.sig) → Buf (Elt Ideal) ℓ) (h : Cert.Pre_KernelIdeal m) :
    PreOK (F := Ideal) m := fun d j => lt_of_bit _ (congrFun (h d) j)
theorem ok_bits (m : (ℓ : Loc Cert.Kernel.nD Cert.Kernel.τ Cert.Kernel.sig) → Buf (Elt Bits) ℓ) (h : Cert.Pre_Kernel m) :
    PreOK (F := Bits) m := fun d j => lt_of_bit _ (congrFun (h d) j)

theorem frame_kernel : Cert.quiescent_Kernel := fun m ρ h =>
  (θ_run Cert.KernelIdeal.defs _ _).mono (fun _ q => ⟨fun c => (q.1 c).2, q.2⟩) (run_main (F := Bits) m ρ (ok_bits m h))
theorem frame_kernelIdeal : Cert.quiescent_KernelIdeal := fun m ρ h =>
  (θ_run Cert.KernelIdeal.defs _ _).mono (fun _ q => ⟨fun c => (q.1 c).2, q.2⟩) (run_main (F := Ideal) m ρ (ok_ideal m h))
theorem frame_referenceIdeal : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)
theorem frame_reference : Cert.quiescent_Reference := fun m ρ _ =>
  (θ_run Cert.Reference.defs _ _).mono (fun r q => ⟨fun c => (q c).2, sem_eq_zero_of_no_sems (by decide) r.2⟩)
    (Cert.Reference.Value.run (F := Bits) m ρ)

theorem algebraic : Cert.algebraic_KernelIdeal_ReferenceIdeal := fun m g m' g' h hag =>
  ⟨fun c => Rv (F := Ideal) m c,
    (θ_run Cert.KernelIdeal.defs _ _).mono (fun _ q c => q.1 c) (run_main (F := Ideal) m g (ok_ideal m h)),
    (θ_run Cert.ReferenceIdeal.defs _ _).mono (fun r q c => ⟨(q c).1.trans (by
      rw [(hag c).1, (hag c).2]
      exact (value_eq (F := Ideal) _ _ _ _ (fun _ => rfl) (fun j => ok_ideal m h c j) _ _ _ _ _ _).symm), (q c).2⟩)
      (Cert.ReferenceIdeal.Value.run (F := Ideal) m' g')⟩
theorem bitexact : Cert.bitexact_Kernel_Reference := fun m g m' g' h hag =>
  ⟨fun c => Rv (F := Bits) m c,
    (θ_run Cert.KernelIdeal.defs _ _).mono (fun _ q c => q.1 c) (run_main (F := Bits) m g (ok_bits m h)),
    (θ_run Cert.Reference.defs _ _).mono (fun r q c => ⟨(q c).1.trans (by
      rw [(hag c).1, (hag c).2]
      exact (value_eq (F := Bits) _ _ _ _ (fun _ => rfl) (fun j => ok_bits m h c j) _ _ _ _ _ _).symm), (q c).2⟩)
      (Cert.Reference.Value.run (F := Bits) m' g')⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_idx_in_rows.Gen.facts, Cert.Pre_routed.Gen.facts,
  frame_kernel, frame_kernelIdeal, frame_referenceIdeal, frame_reference, Expert.frame_kernel2, Expert.frame_kernel2Ideal, Expert.frame_reference2Ideal,
  Combine.frame_kernel3, Combine.frame_kernel3Ideal, Combine.frame_reference3Ideal,
  Project.frame_kernel4, Project.frame_kernel4Ideal, Project.frame_reference4Ideal,
  Mixer.frame_kernel5, Mixer.frame_kernel5Ideal, Mixer.frame_reference5Ideal,
  trivial, algebraic, bitexact, trivial, Expert.algebraic2, trivial, Combine.algebraic3, trivial, Project.algebraic4, trivial, Mixer.algebraic5⟩

end Cert.Proof

end
